-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_tiles_ok : Cert.Pre_tiles_ok.Facts] (m : (ℓ : Loc Cert.Experts.nD Cert.Experts.τ Cert.Experts.sig) → Buf (Elt Bits) ℓ) : Prop :=
  ∀ c : Dev Cert.Experts.nD,
    (Cert.Pre_tiles_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tiles_ok : Cert.Pre_tiles_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tiles_ok [hPre_tiles_ok : Cert.Pre_tiles_ok.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiles_ok.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OddPrep (m : (ℓ : Loc Cert.OddPrep.nD Cert.OddPrep.τ Cert.OddPrep.sig) → Buf (Elt Bits) ℓ) : Prop :=
  True

def Pre_OddPrepIdeal (m : (ℓ : Loc Cert.OddPrepIdeal.nD Cert.OddPrepIdeal.τ Cert.OddPrepIdeal.sig) → Buf (Elt Ideal) ℓ) : Prop :=
  True

def Pre_OddPrepIdeal_keys_finite [hPre_keys_finite : Cert.Pre_keys_finite.Facts] (m : (ℓ : Loc Cert.OddPrepIdeal.nD Cert.OddPrepIdeal.τ Cert.OddPrepIdeal.sig) → Buf (Elt Ideal) ℓ) : Prop :=
  ∀ c : Dev Cert.OddPrepIdeal.nD,
    (Cert.Pre_keys_finite.fn (F := Ideal) (m ((c.tc : Thread Cert.OddPrepIdeal.nD Cert.OddPrepIdeal.τ).loc Cert.OddPrepIdeal.main_arg0)) (m ((c.tc : Thread Cert.OddPrepIdeal.nD Cert.OddPrepIdeal.τ).loc Cert.OddPrepIdeal.main_arg1)) (m ((c.tc : Thread Cert.OddPrepIdeal.nD Cert.OddPrepIdeal.τ).loc Cert.OddPrepIdeal.main_arg2))) = (fun _ => 1#1)

def Pre_OddPrepReferenceIdeal (m : (ℓ : Loc Cert.OddPrepReferenceIdeal.nD Cert.OddPrepReferenceIdeal.τ Cert.OddPrepReferenceIdeal.sig) → Buf (Elt Ideal) ℓ) : Prop :=
  True

def Pre_OddPrepReferenceIdeal_keys_finite [hPre_keys_finite : Cert.Pre_keys_finite.Facts] (m : (ℓ : Loc Cert.OddPrepReferenceIdeal.nD Cert.OddPrepReferenceIdeal.τ Cert.OddPrepReferenceIdeal.sig) → Buf (Elt Ideal) ℓ) : Prop :=
  ∀ c : Dev Cert.OddPrepReferenceIdeal.nD,
    (Cert.Pre_keys_finite.fn (F := Ideal) (m ((c.tc : Thread Cert.OddPrepReferenceIdeal.nD Cert.OddPrepReferenceIdeal.τ).loc Cert.OddPrepReferenceIdeal.main_arg0)) (m ((c.tc : Thread Cert.OddPrepReferenceIdeal.nD Cert.OddPrepReferenceIdeal.τ).loc Cert.OddPrepReferenceIdeal.main_arg1)) (m ((c.tc : Thread Cert.OddPrepReferenceIdeal.nD Cert.OddPrepReferenceIdeal.τ).loc Cert.OddPrepReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_tiles_ok : Cert.Pre_tiles_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tiles_ok : Cert.Pre_tiles_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_tiles_ok [hExpertsReferenceIdeal : Cert.ExpertsReferenceIdeal.Facts] [hPre_tiles_ok : Cert.Pre_tiles_ok.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tiles_ok m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_OddPrep [hOddPrep : Cert.OddPrep.Facts] : Prop :=
  ∀ (m : (ℓ : Loc Cert.OddPrep.nD Cert.OddPrep.τ Cert.OddPrep.sig) → Buf (Elt Bits) ℓ) (g : Dev Cert.OddPrep.nD → PrngReg), Pre_OddPrep m →
    θ_run (Cert.OddPrep.defs (F := Bits)) (onTc (τ := Cert.OddPrep.τ) (Cert.OddPrep.main (F := Bits))) ⟨m, fun _ => 0, g⟩ (fun r => (∀ c : Dev Cert.OddPrep.nD,
      r.2.mem ((c.tc : Thread Cert.OddPrep.nD Cert.OddPrep.τ).loc Cert.OddPrep.main_arg0) = m ((c.tc : Thread Cert.OddPrep.nD Cert.OddPrep.τ).loc Cert.OddPrep.main_arg0)
      ∧ r.2.mem ((c.tc : Thread Cert.OddPrep.nD Cert.OddPrep.τ).loc Cert.OddPrep.main_arg1) = m ((c.tc : Thread Cert.OddPrep.nD Cert.OddPrep.τ).loc Cert.OddPrep.main_arg1)
      ∧ r.2.mem ((c.tc : Thread Cert.OddPrep.nD Cert.OddPrep.τ).loc Cert.OddPrep.main_arg2) = m ((c.tc : Thread Cert.OddPrep.nD Cert.OddPrep.τ).loc Cert.OddPrep.main_arg2))
      ∧ r.2.sem = fun _ => 0)

def quiescent_OddPrepIdeal [hOddPrepIdeal : Cert.OddPrepIdeal.Facts] : Prop :=
  ∀ (m : (ℓ : Loc Cert.OddPrepIdeal.nD Cert.OddPrepIdeal.τ Cert.OddPrepIdeal.sig) → Buf (Elt Ideal) ℓ) (g : Dev Cert.OddPrepIdeal.nD → PrngReg), Pre_OddPrepIdeal m →
    θ_run (Cert.OddPrepIdeal.defs (F := Ideal)) (onTc (τ := Cert.OddPrepIdeal.τ) (Cert.OddPrepIdeal.main (F := Ideal))) ⟨m, fun _ => 0, g⟩ (fun r => (∀ c : Dev Cert.OddPrepIdeal.nD,
      r.2.mem ((c.tc : Thread Cert.OddPrepIdeal.nD Cert.OddPrepIdeal.τ).loc Cert.OddPrepIdeal.main_arg0) = m ((c.tc : Thread Cert.OddPrepIdeal.nD Cert.OddPrepIdeal.τ).loc Cert.OddPrepIdeal.main_arg0)
      ∧ r.2.mem ((c.tc : Thread Cert.OddPrepIdeal.nD Cert.OddPrepIdeal.τ).loc Cert.OddPrepIdeal.main_arg1) = m ((c.tc : Thread Cert.OddPrepIdeal.nD Cert.OddPrepIdeal.τ).loc Cert.OddPrepIdeal.main_arg1)
      ∧ r.2.mem ((c.tc : Thread Cert.OddPrepIdeal.nD Cert.OddPrepIdeal.τ).loc Cert.OddPrepIdeal.main_arg2) = m ((c.tc : Thread Cert.OddPrepIdeal.nD Cert.OddPrepIdeal.τ).loc Cert.OddPrepIdeal.main_arg2))
      ∧ r.2.sem = fun _ => 0)

def quiescent_OddPrepIdeal_pre_keys_finite [hOddPrepIdeal : Cert.OddPrepIdeal.Facts] [hPre_keys_finite : Cert.Pre_keys_finite.Facts] : Prop :=
  ∀ (m : (ℓ : Loc Cert.OddPrepIdeal.nD Cert.OddPrepIdeal.τ Cert.OddPrepIdeal.sig) → Buf (Elt Ideal) ℓ) (g : Dev Cert.OddPrepIdeal.nD → PrngReg), Pre_OddPrepIdeal_keys_finite m →
    θ_run (Cert.OddPrepIdeal.defs (F := Ideal)) (onTc (τ := Cert.OddPrepIdeal.τ) (Cert.OddPrepIdeal.main (F := Ideal))) ⟨m, fun _ => 0, g⟩ (fun r => (∀ c : Dev Cert.OddPrepIdeal.nD,
      r.2.mem ((c.tc : Thread Cert.OddPrepIdeal.nD Cert.OddPrepIdeal.τ).loc Cert.OddPrepIdeal.main_arg0) = m ((c.tc : Thread Cert.OddPrepIdeal.nD Cert.OddPrepIdeal.τ).loc Cert.OddPrepIdeal.main_arg0)
      ∧ r.2.mem ((c.tc : Thread Cert.OddPrepIdeal.nD Cert.OddPrepIdeal.τ).loc Cert.OddPrepIdeal.main_arg1) = m ((c.tc : Thread Cert.OddPrepIdeal.nD Cert.OddPrepIdeal.τ).loc Cert.OddPrepIdeal.main_arg1)
      ∧ r.2.mem ((c.tc : Thread Cert.OddPrepIdeal.nD Cert.OddPrepIdeal.τ).loc Cert.OddPrepIdeal.main_arg2) = m ((c.tc : Thread Cert.OddPrepIdeal.nD Cert.OddPrepIdeal.τ).loc Cert.OddPrepIdeal.main_arg2))
      ∧ r.2.sem = fun _ => 0)

def quiescent_OddPrepReferenceIdeal [hOddPrepReferenceIdeal : Cert.OddPrepReferenceIdeal.Facts] : Prop :=
  ∀ (m : (ℓ : Loc Cert.OddPrepReferenceIdeal.nD Cert.OddPrepReferenceIdeal.τ Cert.OddPrepReferenceIdeal.sig) → Buf (Elt Ideal) ℓ) (g : Dev Cert.OddPrepReferenceIdeal.nD → PrngReg), Pre_OddPrepReferenceIdeal m →
    θ_run (Cert.OddPrepReferenceIdeal.defs (F := Ideal)) (onTc (τ := Cert.OddPrepReferenceIdeal.τ) (Cert.OddPrepReferenceIdeal.main (F := Ideal))) ⟨m, fun _ => 0, g⟩ (fun r => (∀ c : Dev Cert.OddPrepReferenceIdeal.nD,
      r.2.mem ((c.tc : Thread Cert.OddPrepReferenceIdeal.nD Cert.OddPrepReferenceIdeal.τ).loc Cert.OddPrepReferenceIdeal.main_arg0) = m ((c.tc : Thread Cert.OddPrepReferenceIdeal.nD Cert.OddPrepReferenceIdeal.τ).loc Cert.OddPrepReferenceIdeal.main_arg0)
      ∧ r.2.mem ((c.tc : Thread Cert.OddPrepReferenceIdeal.nD Cert.OddPrepReferenceIdeal.τ).loc Cert.OddPrepReferenceIdeal.main_arg1) = m ((c.tc : Thread Cert.OddPrepReferenceIdeal.nD Cert.OddPrepReferenceIdeal.τ).loc Cert.OddPrepReferenceIdeal.main_arg1)
      ∧ r.2.mem ((c.tc : Thread Cert.OddPrepReferenceIdeal.nD Cert.OddPrepReferenceIdeal.τ).loc Cert.OddPrepReferenceIdeal.main_arg2) = m ((c.tc : Thread Cert.OddPrepReferenceIdeal.nD Cert.OddPrepReferenceIdeal.τ).loc Cert.OddPrepReferenceIdeal.main_arg2))
      ∧ r.2.sem = fun _ => 0)

def quiescent_OddPrepReferenceIdeal_pre_keys_finite [hOddPrepReferenceIdeal : Cert.OddPrepReferenceIdeal.Facts] [hPre_keys_finite : Cert.Pre_keys_finite.Facts] : Prop :=
  ∀ (m : (ℓ : Loc Cert.OddPrepReferenceIdeal.nD Cert.OddPrepReferenceIdeal.τ Cert.OddPrepReferenceIdeal.sig) → Buf (Elt Ideal) ℓ) (g : Dev Cert.OddPrepReferenceIdeal.nD → PrngReg), Pre_OddPrepReferenceIdeal_keys_finite m →
    θ_run (Cert.OddPrepReferenceIdeal.defs (F := Ideal)) (onTc (τ := Cert.OddPrepReferenceIdeal.τ) (Cert.OddPrepReferenceIdeal.main (F := Ideal))) ⟨m, fun _ => 0, g⟩ (fun r => (∀ c : Dev Cert.OddPrepReferenceIdeal.nD,
      r.2.mem ((c.tc : Thread Cert.OddPrepReferenceIdeal.nD Cert.OddPrepReferenceIdeal.τ).loc Cert.OddPrepReferenceIdeal.main_arg0) = m ((c.tc : Thread Cert.OddPrepReferenceIdeal.nD Cert.OddPrepReferenceIdeal.τ).loc Cert.OddPrepReferenceIdeal.main_arg0)
      ∧ r.2.mem ((c.tc : Thread Cert.OddPrepReferenceIdeal.nD Cert.OddPrepReferenceIdeal.τ).loc Cert.OddPrepReferenceIdeal.main_arg1) = m ((c.tc : Thread Cert.OddPrepReferenceIdeal.nD Cert.OddPrepReferenceIdeal.τ).loc Cert.OddPrepReferenceIdeal.main_arg1)
      ∧ r.2.mem ((c.tc : Thread Cert.OddPrepReferenceIdeal.nD Cert.OddPrepReferenceIdeal.τ).loc Cert.OddPrepReferenceIdeal.main_arg2) = m ((c.tc : Thread Cert.OddPrepReferenceIdeal.nD Cert.OddPrepReferenceIdeal.τ).loc Cert.OddPrepReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tiles_ok : Cert.Pre_tiles_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v34) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v39) = v0 c
          ∧ r.2.mem ((c.tc : Thread Cert.InProjReferenceIdeal.nD Cert.InProjReferenceIdeal.τ).loc Cert.InProjReferenceIdeal.main_v40) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_OddPrep_OddPrepIdeal : Prop :=
  True

def algebraic_OddPrepIdeal_OddPrepReferenceIdeal_pre_keys_finite [hOddPrepIdeal : Cert.OddPrepIdeal.Facts] [hOddPrepReferenceIdeal : Cert.OddPrepReferenceIdeal.Facts] [hPre_keys_finite : Cert.Pre_keys_finite.Facts] : Prop :=
  ∀ (m : (ℓ : Loc Cert.OddPrepIdeal.nD Cert.OddPrepIdeal.τ Cert.OddPrepIdeal.sig) → Buf (Elt Ideal) ℓ) (g : Dev Cert.OddPrepIdeal.nD → PrngReg)
    (m' : (ℓ : Loc Cert.OddPrepReferenceIdeal.nD Cert.OddPrepReferenceIdeal.τ Cert.OddPrepReferenceIdeal.sig) → Buf (Elt Ideal) ℓ) (g' : Dev Cert.OddPrepReferenceIdeal.nD → PrngReg), Pre_OddPrepIdeal_keys_finite m →
    (∀ c : Dev Cert.OddPrepIdeal.nD,
      m' ((c.tc : Thread Cert.OddPrepReferenceIdeal.nD Cert.OddPrepReferenceIdeal.τ).loc Cert.OddPrepReferenceIdeal.main_arg0) = m ((c.tc : Thread Cert.OddPrepIdeal.nD Cert.OddPrepIdeal.τ).loc Cert.OddPrepIdeal.main_arg0)
      ∧ m' ((c.tc : Thread Cert.OddPrepReferenceIdeal.nD Cert.OddPrepReferenceIdeal.τ).loc Cert.OddPrepReferenceIdeal.main_arg1) = m ((c.tc : Thread Cert.OddPrepIdeal.nD Cert.OddPrepIdeal.τ).loc Cert.OddPrepIdeal.main_arg1)
      ∧ m' ((c.tc : Thread Cert.OddPrepReferenceIdeal.nD Cert.OddPrepReferenceIdeal.τ).loc Cert.OddPrepReferenceIdeal.main_arg2) = m ((c.tc : Thread Cert.OddPrepIdeal.nD Cert.OddPrepIdeal.τ).loc Cert.OddPrepIdeal.main_arg2)) →
    ∃ (v0 : (c : Dev Cert.OddPrepIdeal.nD) → Buf (Elt Ideal) ((c.tc : Thread Cert.OddPrepIdeal.nD Cert.OddPrepIdeal.τ).loc Cert.OddPrepIdeal.main_v55_2)),
      θ_run (Cert.OddPrepIdeal.defs (F := Ideal)) (onTc (τ := Cert.OddPrepIdeal.τ) (Cert.OddPrepIdeal.main (F := Ideal))) ⟨m, fun _ => 0, g⟩ (fun r => ∀ c : Dev Cert.OddPrepIdeal.nD,
          r.2.mem ((c.tc : Thread Cert.OddPrepIdeal.nD Cert.OddPrepIdeal.τ).loc Cert.OddPrepIdeal.main_v55_2) = v0 c
          ∧ r.2.mem ((c.tc : Thread Cert.OddPrepIdeal.nD Cert.OddPrepIdeal.τ).loc Cert.OddPrepIdeal.main_arg0) = m ((c.tc : Thread Cert.OddPrepIdeal.nD Cert.OddPrepIdeal.τ).loc Cert.OddPrepIdeal.main_arg0)
          ∧ r.2.mem ((c.tc : Thread Cert.OddPrepIdeal.nD Cert.OddPrepIdeal.τ).loc Cert.OddPrepIdeal.main_arg1) = m ((c.tc : Thread Cert.OddPrepIdeal.nD Cert.OddPrepIdeal.τ).loc Cert.OddPrepIdeal.main_arg1)
          ∧ r.2.mem ((c.tc : Thread Cert.OddPrepIdeal.nD Cert.OddPrepIdeal.τ).loc Cert.OddPrepIdeal.main_arg2) = m ((c.tc : Thread Cert.OddPrepIdeal.nD Cert.OddPrepIdeal.τ).loc Cert.OddPrepIdeal.main_arg2))
      ∧ θ_run (Cert.OddPrepReferenceIdeal.defs (F := Ideal)) (onTc (τ := Cert.OddPrepReferenceIdeal.τ) (Cert.OddPrepReferenceIdeal.main (F := Ideal))) ⟨m', fun _ => 0, g'⟩ (fun r => ∀ c : Dev Cert.OddPrepReferenceIdeal.nD,
          r.2.mem ((c.tc : Thread Cert.OddPrepReferenceIdeal.nD Cert.OddPrepReferenceIdeal.τ).loc Cert.OddPrepReferenceIdeal.main_v17) = v0 c
          ∧ r.2.mem ((c.tc : Thread Cert.OddPrepReferenceIdeal.nD Cert.OddPrepReferenceIdeal.τ).loc Cert.OddPrepReferenceIdeal.main_arg0) = m' ((c.tc : Thread Cert.OddPrepReferenceIdeal.nD Cert.OddPrepReferenceIdeal.τ).loc Cert.OddPrepReferenceIdeal.main_arg0)
          ∧ r.2.mem ((c.tc : Thread Cert.OddPrepReferenceIdeal.nD Cert.OddPrepReferenceIdeal.τ).loc Cert.OddPrepReferenceIdeal.main_arg1) = m' ((c.tc : Thread Cert.OddPrepReferenceIdeal.nD Cert.OddPrepReferenceIdeal.τ).loc Cert.OddPrepReferenceIdeal.main_arg1)
          ∧ r.2.mem ((c.tc : Thread Cert.OddPrepReferenceIdeal.nD Cert.OddPrepReferenceIdeal.τ).loc Cert.OddPrepReferenceIdeal.main_arg2) = m' ((c.tc : Thread Cert.OddPrepReferenceIdeal.nD Cert.OddPrepReferenceIdeal.τ).loc Cert.OddPrepReferenceIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInProj : Cert.InProj.Facts) (hInProjIdeal : Cert.InProjIdeal.Facts) (hInProjReferenceIdeal : Cert.InProjReferenceIdeal.Facts) (hOddPrep : Cert.OddPrep.Facts) (hOddPrepIdeal : Cert.OddPrepIdeal.Facts) (hOddPrepReferenceIdeal : Cert.OddPrepReferenceIdeal.Facts) (hPre_in_range : Cert.Pre_in_range.Facts) (hPre_tiles_ok : Cert.Pre_tiles_ok.Facts) (hPre_keys_finite : Cert.Pre_keys_finite.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Experts (hExperts := hExperts) (hPre_tiles_ok := hPre_tiles_ok)
    ∧ quiescent_ExpertsIdeal (hExpertsIdeal := hExpertsIdeal) (hPre_tiles_ok := hPre_tiles_ok)
    ∧ quiescent_ExpertsReferenceIdeal (hExpertsReferenceIdeal := hExpertsReferenceIdeal)
    ∧ quiescent_ExpertsReferenceIdeal_pre_tiles_ok (hExpertsReferenceIdeal := hExpertsReferenceIdeal) (hPre_tiles_ok := hPre_tiles_ok)
    ∧ quiescent_InProj (hInProj := hInProj)
    ∧ quiescent_InProjIdeal (hInProjIdeal := hInProjIdeal)
    ∧ quiescent_InProjReferenceIdeal (hInProjReferenceIdeal := hInProjReferenceIdeal)
    ∧ quiescent_OddPrep (hOddPrep := hOddPrep)
    ∧ quiescent_OddPrepIdeal (hOddPrepIdeal := hOddPrepIdeal)
    ∧ quiescent_OddPrepIdeal_pre_keys_finite (hOddPrepIdeal := hOddPrepIdeal) (hPre_keys_finite := hPre_keys_finite)
    ∧ quiescent_OddPrepReferenceIdeal (hOddPrepReferenceIdeal := hOddPrepReferenceIdeal)
    ∧ quiescent_OddPrepReferenceIdeal_pre_keys_finite (hOddPrepReferenceIdeal := hOddPrepReferenceIdeal) (hPre_keys_finite := hPre_keys_finite)
    ∧ preserves_Kernel_KernelIdeal
    ∧ algebraic_KernelIdeal_ReferenceIdeal (hKernelIdeal := hKernelIdeal) (hReferenceIdeal := hReferenceIdeal) (hPre_in_range := hPre_in_range)
    ∧ preserves_Experts_ExpertsIdeal
    ∧ algebraic_ExpertsIdeal_ExpertsReferenceIdeal (hExpertsIdeal := hExpertsIdeal) (hExpertsReferenceIdeal := hExpertsReferenceIdeal) (hPre_tiles_ok := hPre_tiles_ok)
    ∧ preserves_InProj_InProjIdeal
    ∧ algebraic_InProjIdeal_InProjReferenceIdeal (hInProjIdeal := hInProjIdeal) (hInProjReferenceIdeal := hInProjReferenceIdeal)
    ∧ preserves_OddPrep_OddPrepIdeal
    ∧ algebraic_OddPrepIdeal_OddPrepReferenceIdeal_pre_keys_finite (hOddPrepIdeal := hOddPrepIdeal) (hOddPrepReferenceIdeal := hOddPrepReferenceIdeal) (hPre_keys_finite := hPre_keys_finite)
-- ==== Pre_in_range.lean ====
abbrev S32768 : Shape := ⟨1, ![32768]⟩
abbrev S8192x1024 : Shape := ⟨2, ![8192, 1024]⟩
abbrev S8192x128 : Shape := ⟨2, ![8192, 128]⟩
abbrev S8x1x6144 : Shape := ⟨3, ![8, 1, 6144]⟩
abbrev S49152x1024 : Shape := ⟨2, ![49152, 1024]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S32768 32) (main_arg1 : FVec F S8192x1024 .f32) (main_arg2 : FVec F S8192x128 .f32) (main_arg3 : FVec F S8x1x6144 .f32) (main_arg4 : FVec F S49152x1024 .f32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 49152#32
  let main_v2 : IVec S32768 32 := broadcastInDim S32768 ![] bcast_S_S32768 main_c_0
  let main_v3 : IVec S32768 1 := cmpi .slt main_arg0 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Pre_keys_finite.lean ====
abbrev S8192x1536 : Shape := ⟨2, ![8192, 1536]⟩
abbrev S2x64 : Shape := ⟨2, ![2, 64]⟩
abbrev S8192x512 : Shape := ⟨2, ![8192, 512]⟩
abbrev S_ : Shape := ⟨0, ![]⟩

class Facts : Prop where
  slices_S8192x1536_S8192x512_0_512 : S8192x1536.Slices ![0, 512] S8192x512
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x1536 .f32) (main_arg1 : FVec F S8192x1536 .f32) (main_arg2 : FVec F S2x64 .f32) : IVec S_ 1 :=
  let main_v0 : FVec F S8192x512 .f32 := (extractStridedSlice S8192x512 ![0, 512] · slices_S8192x1536_S8192x512_0_512) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  main_v4
-- ==== Pre_tiles_ok.lean ====
abbrev S96 : Shape := ⟨1, ![96]⟩
abbrev S1 : Shape := ⟨1, ![1]⟩
abbrev S49152x1024 : Shape := ⟨2, ![49152, 1024]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel
  shapeCasts_S1_S_ : S1.ShapeCasts S_

variable [Facts]

def fn {F : FTy → Type} [FloatOps F] (main_arg0 : IVec S96 32) (main_arg1 : IVec S1 32) (main_arg2 : FVec F S49152x1024 .f32) (main_arg3 : FVec F S64x1024x2048 .f32) (main_arg4 : FVec F S64x1x2048 .f32) (main_arg5 : FVec F S64x1024x1024 .f32) (main_arg6 : FVec F S64x1x1024 .f32) : IVec S_ 1 :=
  let main_c : IVec S_ 32 := constantI S_ 32 0#32
  let main_v0 : IVec S96 32 := broadcastInDim S96 ![] bcast_S_S96 main_c
  let main_v1 : IVec S96 1 := cmpi .sge main_arg0 main_v0
  let main_c_0 : IVec S_ 32 := constantI S_ 32 64#32
  let main_v2 : IVec S96 32 := broadcastInDim S96 ![] bcast_S_S96 main_c_0
  let main_v3 : IVec S96 1 := cmpi .slt main_arg0 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S32768 : Shape := ⟨1, ![32768]⟩
abbrev S8192x1024 : Shape := ⟨2, ![8192, 1024]⟩
abbrev S8192x128 : Shape := ⟨2, ![8192, 128]⟩
abbrev S8x1x6144 : Shape := ⟨3, ![8, 1, 6144]⟩
abbrev S49152x1024 : Shape := ⟨2, ![49152, 1024]⟩
abbrev S4096x1024 : Shape := ⟨2, ![4096, 1024]⟩
abbrev S256x1024 : Shape := ⟨2, ![256, 1024]⟩
abbrev S256x128 : Shape := ⟨2, ![256, 128]⟩
abbrev S1x1x6144 : Shape := ⟨3, ![1, 1, 6144]⟩
abbrev S2x4x256x1024 : Shape := ⟨4, ![2, 4, 256, 1024]⟩
abbrev S2 : Shape := ⟨1, ![2]⟩
abbrev S1 : Shape := ⟨1, ![1]⟩
abbrev S_ : Shape := ⟨0, ![]⟩
abbrev S1x1x256x1024 : Shape := ⟨4, ![1, 1, 256, 1024]⟩
abbrev S1x1024 : Shape := ⟨2, ![1, 1024]⟩
abbrev S256x1 : Shape := ⟨2, ![256, 1]⟩
abbrev S1x6144 : Shape := ⟨2, ![1, 6144]⟩

abbrev nBuf : Space → Nat
  | .hbm => 6
  | .vmem => 11
  | .smem => 1
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8x1x6144, .f32⟩
  | .hbm, ⟨3, _⟩ => ⟨S49152x1024, .f32⟩
  | .hbm, ⟨4, _⟩ => ⟨S4096x1024, .f32⟩
  | .hbm, ⟨5, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S1x1x6144, .f32⟩
  | .local _ .vmem, ⟨5, _⟩ => ⟨S1x1x6144, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S2x4x256x1024, .f32⟩
  | .local _ .smem, ⟨0, _⟩ => ⟨S32768, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_29 : BitVec 32 := 0#32
  let c256_i32_30 : BitVec 32 := 256#32
  let v59 : BitVec 32 := Scalar.addi c0_i32_29 c256_i32_30
  let c1_i32_31 : BitVec 32 := 1#32
  ⟨c0_i32_29, v59, c1_i32_31⟩
def k0_off1 (k0_t1 : Fin k0_t1_loop.trips) : Fin 1 → Nat :=
  let c0_i32_33 : BitVec 32 := 0#32
  let c0_i32_29 : BitVec 32 := 0#32
  let c1_i32_31 : BitVec 32 := 1#32
  let arg10 : BitVec 32 := Scf.iv c0_i32_29 c1_i32_31 k0_t1
  let c4_i32 : BitVec 32 := 4#32
  let v60 : BitVec 32 := Scalar.muli arg10 c4_i32
  let v61 : BitVec 32 := Scalar.addi c0_i32_33 v60
  let c0_i32_34 : BitVec 32 := 0#32
  let v62 : BitVec 32 := Scalar.addi v61 c0_i32_34
  let v63 : Index := Scalar.indexCast v62
  ![v63.toNat]
def k0_off2 (k0_t1 : Fin k0_t1_loop.trips) : Fin 2 → Nat :=
  let c0_i32_29 : BitVec 32 := 0#32
  let c1_i32_31 : BitVec 32 := 1#32
  let arg10 : BitVec 32 := Scf.iv c0_i32_29 c1_i32_31 k0_t1
  let c0_i32_40 : BitVec 32 := 0#32
  ![arg10.toNat, 0]
def k0_off3 (v64 : BitVec 32) : Fin 2 → Nat :=
  let c0_i32_41 : BitVec 32 := 0#32
  ![v64.toNat, 0]

def k0_chk1 (i : grid0.Coords) (v64 : BitVec 32) : Prop :=
  (∀ (k0_h1 : k0_cond1 i = 1#1), ∀ a, (k0_off3 v64) a + S1x1024.size a ≤ S49152x1024.size a)
theorem k0_off3_inb : ∀ (i : grid0.Coords) (v64 : BitVec 32) (k0_hw1 : k0_chk1 i v64), ∀ (k0_h1 : k0_cond1 i = 1#1), ∀ a, (k0_off3 v64) a + S1x1024.size a ≤ S49152x1024.size a := fun i v64 k0_hw1 k0_h1 => k0_hw1 k0_h1

def k0_off4 (k0_t1 : Fin k0_t1_loop.trips) : Fin 1 → Nat :=
  let c0_i32_43 : BitVec 32 := 0#32
  let c0_i32_29 : BitVec 32 := 0#32
  let c1_i32_31 : BitVec 32 := 1#32
  let arg10 : BitVec 32 := Scf.iv c0_i32_29 c1_i32_31 k0_t1
  let c4_i32_42 : BitVec 32 := 4#32
  let v71 : BitVec 32 := Scalar.muli arg10 c4_i32_42
  let v72 : BitVec 32 := Scalar.addi c0_i32_43 v71
  let c1_i32_44 : BitVec 32 := 1#32
  let v73 : BitVec 32 := Scalar.addi v72 c1_i32_44
  let v74 : Index := Scalar.indexCast v73
  ![v74.toNat]
def k0_off5 (k0_t1 : Fin k0_t1_loop.trips) : Fin 2 → Nat :=
  let c0_i32_29 : BitVec 32 := 0#32
  let c1_i32_31 : BitVec 32 := 1#32
  let arg10 : BitVec 32 := Scf.iv c0_i32_29 c1_i32_31 k0_t1
  let c0_i32_50 : BitVec 32 := 0#32
  ![arg10.toNat, 0]
def k0_off6 (v75 : BitVec 32) : Fin 2 → Nat :=
  let c0_i32_51 : BitVec 32 := 0#32
  ![v75.toNat, 0]

def k0_chk2 (i : grid0.Coords) (v75 : BitVec 32) : Prop :=
  (∀ (k0_h1 : k0_cond1 i = 1#1), ∀ a, (k0_off6 v75) a + S1x1024.size a ≤ S49152x1024.size a)
theorem k0_off6_inb : ∀ (i : grid0.Coords) (v75 : BitVec 32) (k0_hw2 : k0_chk2 i v75), ∀ (k0_h1 : k0_cond1 i = 1#1), ∀ a, (k0_off6 v75) a + S1x1024.size a ≤ S49152x1024.size a := fun i v75 k0_hw2 k0_h1 => k0_hw2 k0_h1

def k0_off7 (k0_t1 : Fin k0_t1_loop.trips) : Fin 1 → Nat :=
  let c0_i32_53 : BitVec 32 := 0#32
  let c0_i32_29 : BitVec 32 := 0#32
  let c1_i32_31 : BitVec 32 := 1#32
  let arg10 : BitVec 32 := Scf.iv c0_i32_29 c1_i32_31 k0_t1
  let c4_i32_52 : BitVec 32 := 4#32
  let v82 : BitVec 32 := Scalar.muli arg10 c4_i32_52
  let v83 : BitVec 32 := Scalar.addi c0_i32_53 v82
  let c2_i32_54 : BitVec 32 := 2#32
  let v84 : BitVec 32 := Scalar.addi v83 c2_i32_54
  let v85 : Index := Scalar.indexCast v84
  ![v85.toNat]
def k0_off8 (k0_t1 : Fin k0_t1_loop.trips) : Fin 2 → Nat :=
  let c0_i32_29 : BitVec 32 := 0#32
  let c1_i32_31 : BitVec 32 := 1#32
  let arg10 : BitVec 32 := Scf.iv c0_i32_29 c1_i32_31 k0_t1
  let c0_i32_60 : BitVec 32 := 0#32
  ![arg10.toNat, 0]
def k0_off9 (v86 : BitVec 32) : Fin 2 → Nat :=
  let c0_i32_61 : BitVec 32 := 0#32
  ![v86.toNat, 0]

def k0_chk3 (i : grid0.Coords) (v86 : BitVec 32) : Prop :=
  (∀ (k0_h1 : k0_cond1 i = 1#1), ∀ a, (k0_off9 v86) a + S1x1024.size a ≤ S49152x1024.size a)
theorem k0_off9_inb : ∀ (i : grid0.Coords) (v86 : BitVec 32) (k0_hw3 : k0_chk3 i v86), ∀ (k0_h1 : k0_cond1 i = 1#1), ∀ a, (k0_off9 v86) a + S1x1024.size a ≤ S49152x1024.size a := fun i v86 k0_hw3 k0_h1 => k0_hw3 k0_h1

def k0_off10 (k0_t1 : Fin k0_t1_loop.trips) : Fin 1 → Nat :=
  let c0_i32_63 : BitVec 32 := 0#32
  let c0_i32_29 : BitVec 32 := 0#32
  let c1_i32_31 : BitVec 32 := 1#32
  let arg10 : BitVec 32 := Scf.iv c0_i32_29 c1_i32_31 k0_t1
  let c4_i32_62 : BitVec 32 := 4#32
  let v93 : BitVec 32 := Scalar.muli arg10 c4_i32_62
  let v94 : BitVec 32 := Scalar.addi c0_i32_63 v93
  let c3_i32 : BitVec 32 := 3#32
  let v95 : BitVec 32 := Scalar.addi v94 c3_i32
  let v96 : Index := Scalar.indexCast v95
  ![v96.toNat]
def k0_off11 (k0_t1 : Fin k0_t1_loop.trips) : Fin 2 → Nat :=
  let c0_i32_29 : BitVec 32 := 0#32
  let c1_i32_31 : BitVec 32 := 1#32
  let arg10 : BitVec 32 := Scf.iv c0_i32_29 c1_i32_31 k0_t1
  let c0_i32_69 : BitVec 32 := 0#32
  ![arg10.toNat, 0]
def k0_off12 (v97 : BitVec 32) : Fin 2 → Nat :=
  let c0_i32_70 : BitVec 32 := 0#32
  ![v97.toNat, 0]

def k0_chk4 (i : grid0.Coords) (v97 : BitVec 32) : Prop :=
  (∀ (k0_h1 : k0_cond1 i = 1#1), ∀ a, (k0_off12 v97) a + S1x1024.size a ≤ S49152x1024.size a)
theorem k0_off12_inb : ∀ (i : grid0.Coords) (v97 : BitVec 32) (k0_hw4 : k0_chk4 i v97), ∀ (k0_h1 : k0_cond1 i = 1#1), ∀ a, (k0_off12 v97) a + S1x1024.size a ≤ S49152x1024.size a := fun i v97 k0_hw4 k0_h1 => k0_hw4 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c32_i32 : BitVec 32 := 32#32
  let v14 : BitVec 1 := Scalar.cmpi .slt v13 c32_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_31 : BitVec 32 := 0#32
  let c256_i32_32 : BitVec 32 := 256#32
  let v62 : BitVec 32 := Scalar.addi c0_i32_31 c256_i32_32
  let c1_i32_33 : BitVec 32 := 1#32
  ⟨c0_i32_31, v62, c1_i32_33⟩
def k0_off13 (i : grid0.Coords) (k0_t2 : Fin k0_t2_loop.trips) : Fin 1 → Nat :=
  let arg0 : BitVec 32 := BitVec.ofNat 32 (i 0).val
  let c1_i32_29 : BitVec 32 := 1#32
  let v59 : BitVec 32 := Scalar.addi arg0 c1_i32_29
  let c1024_i32 : BitVec 32 := 1024#32
  let v61 : BitVec 32 := Scalar.muli v59 c1024_i32
  let c0_i32_31 : BitVec 32 := 0#32
  let c1_i32_33 : BitVec 32 := 1#32
  let arg10 : BitVec 32 := Scf.iv c0_i32_31 c1_i32_33 k0_t2
  let c4_i32 : BitVec 32 := 4#32
  let v63 : BitVec 32 := Scalar.muli arg10 c4_i32
  let v64 : BitVec 32 := Scalar.addi v61 v63
  let c0_i32_35 : BitVec 32 := 0#32
  let v65 : BitVec 32 := Scalar.addi v64 c0_i32_35
  let v66 : Index := Scalar.indexCast v65
  ![v66.toNat]
def k0_off14 (i : grid0.Coords) : Fin 1 → Nat :=
  let c1_i32_30 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_30 v9
  ![v60.toNat]
def k0_off15 (i : grid0.Coords) : Fin 4 → Nat :=
  let c1_i32_30 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_30 v9
  let c0_i32_36 : BitVec 32 := 0#32
  let c0_i32_37 : BitVec 32 := 0#32
  let c0_i32_38 : BitVec 32 := 0#32
  ![v60.toNat, 0, 0, 0]
def k0_off16 (k0_t2 : Fin k0_t2_loop.trips) : Fin 2 → Nat :=
  let c0_i32_31 : BitVec 32 := 0#32
  let c1_i32_33 : BitVec 32 := 1#32
  let arg10 : BitVec 32 := Scf.iv c0_i32_31 c1_i32_33 k0_t2
  let c0_i32_39 : BitVec 32 := 0#32
  ![arg10.toNat, 0]
def k0_off17 (v67 : BitVec 32) : Fin 2 → Nat :=
  let c0_i32_40 : BitVec 32 := 0#32
  ![v67.toNat, 0]

def k0_chk5 (i : grid0.Coords) (v67 : BitVec 32) : Prop :=
  (∀ (k0_h2 : k0_cond2 i = 1#1), ∀ a, (k0_off17 v67) a + S1x1024.size a ≤ S49152x1024.size a)
theorem k0_off17_inb : ∀ (i : grid0.Coords) (v67 : BitVec 32) (k0_hw5 : k0_chk5 i v67), ∀ (k0_h2 : k0_cond2 i = 1#1), ∀ a, (k0_off17 v67) a + S1x1024.size a ≤ S49152x1024.size a := fun i v67 k0_hw5 k0_h2 => k0_hw5 k0_h2

def k0_off18 (i : grid0.Coords) (k0_t2 : Fin k0_t2_loop.trips) : Fin 1 → Nat :=
  let arg0 : BitVec 32 := BitVec.ofNat 32 (i 0).val
  let c1_i32_29 : BitVec 32 := 1#32
  let v59 : BitVec 32 := Scalar.addi arg0 c1_i32_29
  let c1024_i32 : BitVec 32 := 1024#32
  let v61 : BitVec 32 := Scalar.muli v59 c1024_i32
  let c0_i32_31 : BitVec 32 := 0#32
  let c1_i32_33 : BitVec 32 := 1#32
  let arg10 : BitVec 32 := Scf.iv c0_i32_31 c1_i32_33 k0_t2
  let c4_i32_41 : BitVec 32 := 4#32
  let v74 : BitVec 32 := Scalar.muli arg10 c4_i32_41
  let v75 : BitVec 32 := Scalar.addi v61 v74
  let c1_i32_42 : BitVec 32 := 1#32
  let v76 : BitVec 32 := Scalar.addi v75 c1_i32_42
  let v77 : Index := Scalar.indexCast v76
  ![v77.toNat]
def k0_off19 (i : grid0.Coords) : Fin 1 → Nat :=
  let c1_i32_30 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_30 v9
  ![v60.toNat]
def k0_off20 (i : grid0.Coords) : Fin 4 → Nat :=
  let c1_i32_30 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_30 v9
  let c1_i32_43 : BitVec 32 := 1#32
  let c0_i32_44 : BitVec 32 := 0#32
  let c0_i32_45 : BitVec 32 := 0#32
  ![v60.toNat, 1, 0, 0]
def k0_off21 (k0_t2 : Fin k0_t2_loop.trips) : Fin 2 → Nat :=
  let c0_i32_31 : BitVec 32 := 0#32
  let c1_i32_33 : BitVec 32 := 1#32
  let arg10 : BitVec 32 := Scf.iv c0_i32_31 c1_i32_33 k0_t2
  let c0_i32_46 : BitVec 32 := 0#32
  ![arg10.toNat, 0]
def k0_off22 (v78 : BitVec 32) : Fin 2 → Nat :=
  let c0_i32_47 : BitVec 32 := 0#32
  ![v78.toNat, 0]

def k0_chk6 (i : grid0.Coords) (v78 : BitVec 32) : Prop :=
  (∀ (k0_h2 : k0_cond2 i = 1#1), ∀ a, (k0_off22 v78) a + S1x1024.size a ≤ S49152x1024.size a)
theorem k0_off22_inb : ∀ (i : grid0.Coords) (v78 : BitVec 32) (k0_hw6 : k0_chk6 i v78), ∀ (k0_h2 : k0_cond2 i = 1#1), ∀ a, (k0_off22 v78) a + S1x1024.size a ≤ S49152x1024.size a := fun i v78 k0_hw6 k0_h2 => k0_hw6 k0_h2

def k0_off23 (i : grid0.Coords) (k0_t2 : Fin k0_t2_loop.trips) : Fin 1 → Nat :=
  let arg0 : BitVec 32 := BitVec.ofNat 32 (i 0).val
  let c1_i32_29 : BitVec 32 := 1#32
  let v59 : BitVec 32 := Scalar.addi arg0 c1_i32_29
  let c1024_i32 : BitVec 32 := 1024#32
  let v61 : BitVec 32 := Scalar.muli v59 c1024_i32
  let c0_i32_31 : BitVec 32 := 0#32
  let c1_i32_33 : BitVec 32 := 1#32
  let arg10 : BitVec 32 := Scf.iv c0_i32_31 c1_i32_33 k0_t2
  let c4_i32_48 : BitVec 32 := 4#32
  let v85 : BitVec 32 := Scalar.muli arg10 c4_i32_48
  let v86 : BitVec 32 := Scalar.addi v61 v85
  let c2_i32_49 : BitVec 32 := 2#32
  let v87 : BitVec 32 := Scalar.addi v86 c2_i32_49
  let v88 : Index := Scalar.indexCast v87
  ![v88.toNat]
def k0_off24 (i : grid0.Coords) : Fin 1 → Nat :=
  let c1_i32_30 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_30 v9
  ![v60.toNat]
def k0_off25 (i : grid0.Coords) : Fin 4 → Nat :=
  let c1_i32_30 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_30 v9
  let c2_i32_50 : BitVec 32 := 2#32
  let c0_i32_51 : BitVec 32 := 0#32
  let c0_i32_52 : BitVec 32 := 0#32
  ![v60.toNat, 2, 0, 0]
def k0_off26 (k0_t2 : Fin k0_t2_loop.trips) : Fin 2 → Nat :=
  let c0_i32_31 : BitVec 32 := 0#32
  let c1_i32_33 : BitVec 32 := 1#32
  let arg10 : BitVec 32 := Scf.iv c0_i32_31 c1_i32_33 k0_t2
  let c0_i32_53 : BitVec 32 := 0#32
  ![arg10.toNat, 0]
def k0_off27 (v89 : BitVec 32) : Fin 2 → Nat :=
  let c0_i32_54 : BitVec 32 := 0#32
  ![v89.toNat, 0]

def k0_chk7 (i : grid0.Coords) (v89 : BitVec 32) : Prop :=
  (∀ (k0_h2 : k0_cond2 i = 1#1), ∀ a, (k0_off27 v89) a + S1x1024.size a ≤ S49152x1024.size a)
theorem k0_off27_inb : ∀ (i : grid0.Coords) (v89 : BitVec 32) (k0_hw7 : k0_chk7 i v89), ∀ (k0_h2 : k0_cond2 i = 1#1), ∀ a, (k0_off27 v89) a + S1x1024.size a ≤ S49152x1024.size a := fun i v89 k0_hw7 k0_h2 => k0_hw7 k0_h2

def k0_off28 (i : grid0.Coords) (k0_t2 : Fin k0_t2_loop.trips) : Fin 1 → Nat :=
  let arg0 : BitVec 32 := BitVec.ofNat 32 (i 0).val
  let c1_i32_29 : BitVec 32 := 1#32
  let v59 : BitVec 32 := Scalar.addi arg0 c1_i32_29
  let c1024_i32 : BitVec 32 := 1024#32
  let v61 : BitVec 32 := Scalar.muli v59 c1024_i32
  let c0_i32_31 : BitVec 32 := 0#32
  let c1_i32_33 : BitVec 32 := 1#32
  let arg10 : BitVec 32 := Scf.iv c0_i32_31 c1_i32_33 k0_t2
  let c4_i32_55 : BitVec 32 := 4#32
  let v96 : BitVec 32 := Scalar.muli arg10 c4_i32_55
  let v97 : BitVec 32 := Scalar.addi v61 v96
  let c3_i32 : BitVec 32 := 3#32
  let v98 : BitVec 32 := Scalar.addi v97 c3_i32
  let v99 : Index := Scalar.indexCast v98
  ![v99.toNat]
def k0_off29 (i : grid0.Coords) : Fin 1 → Nat :=
  let c1_i32_30 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_30 v9
  ![v60.toNat]
def k0_off30 (i : grid0.Coords) : Fin 4 → Nat :=
  let c1_i32_30 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : BitVec 32 := Scalar.subi c1_i32_30 v9
  let c3_i32_56 : BitVec 32 := 3#32
  let c0_i32_57 : BitVec 32 := 0#32
  let c0_i32_58 : BitVec 32 := 0#32
  ![v60.toNat, 3, 0, 0]
def k0_off31 (k0_t2 : Fin k0_t2_loop.trips) : Fin 2 → Nat :=
  let c0_i32_31 : BitVec 32 := 0#32
  let c1_i32_33 : BitVec 32 := 1#32
  let arg10 : BitVec 32 := Scf.iv c0_i32_31 c1_i32_33 k0_t2
  let c0_i32_59 : BitVec 32 := 0#32
  ![arg10.toNat, 0]
def k0_off32 (v100 : BitVec 32) : Fin 2 → Nat :=
  let c0_i32_60 : BitVec 32 := 0#32
  ![v100.toNat, 0]

def k0_chk8 (i : grid0.Coords) (v100 : BitVec 32) : Prop :=
  (∀ (k0_h2 : k0_cond2 i = 1#1), ∀ a, (k0_off32 v100) a + S1x1024.size a ≤ S49152x1024.size a)
theorem k0_off32_inb : ∀ (i : grid0.Coords) (v100 : BitVec 32) (k0_hw8 : k0_chk8 i v100), ∀ (k0_h2 : k0_cond2 i = 1#1), ∀ a, (k0_off32 v100) a + S1x1024.size a ≤ S49152x1024.size a := fun i v100 k0_hw8 k0_h2 => k0_hw8 k0_h2

@[reducible] def k0_t3_loop : Scf.Loop 32 :=
  let c0_i32_8 : BitVec 32 := 0#32
  let c256_i32 : BitVec 32 := 256#32
  let v17 : BitVec 32 := Scalar.addi c0_i32_8 c256_i32
  let c1_i32_9 : BitVec 32 := 1#32
  ⟨c0_i32_8, v17, c1_i32_9⟩
def k0_off33 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off34 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let c0_i32_29 : BitVec 32 := 0#32
  let c0_i32_30 : BitVec 32 := 0#32
  ![v9.toNat, 0, 0, 0]
def k0_off35 (k0_t3 : Fin k0_t3_loop.trips) : Fin 2 → Nat :=
  let c0_i32_8 : BitVec 32 := 0#32
  let c1_i32_9 : BitVec 32 := 1#32
  let arg10 : BitVec 32 := Scf.iv c0_i32_8 c1_i32_9 k0_t3
  let c0_i32_31 : BitVec 32 := 0#32
  ![arg10.toNat, 0]
def k0_off36 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : Index := Scalar.indexCast v9
  let c0_12 : Index := 0#32
  let c0_13 : Index := 0#32
  let c0_14 : Index := 0#32
  ![v20.toNat, 0, 0, 0]
def k0_off37 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c1 : Index := 1#32
  let c0_15 : Index := 0#32
  let c0_16 : Index := 0#32
  ![v26.toNat, 1, 0, 0]
def k0_off38 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c2 : Index := 2#32
  let c0_17 : Index := 0#32
  let c0_18 : Index := 0#32
  ![v33.toNat, 2, 0, 0]
def k0_off39 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : Index := Scalar.indexCast v9
  let c3 : Index := 3#32
  let c0_19 : Index := 0#32
  let c0_20 : Index := 0#32
  ![v40.toNat, 3, 0, 0]
def k0_cond3 (i : grid0.Coords) : BitVec 1 :=
  let arg0 : BitVec 32 := BitVec.ofNat 32 (i 0).val
  let c16_i32 : BitVec 32 := 16#32
  let v53 : BitVec 1 := Scalar.cmpi .slt arg0 c16_i32
  let v54 : BitVec 32 := Scalar.extui v53
  let c0_i32_26 : BitVec 32 := 0#32
  let v55 : BitVec 1 := Scalar.cmpi .ne v54 c0_i32_26
  v55

def k0_cond4 (i : grid0.Coords) : BitVec 1 :=
  let arg0 : BitVec 32 := BitVec.ofNat 32 (i 0).val
  let c16_i32_27 : BitVec 32 := 16#32
  let v56 : BitVec 1 := Scalar.cmpi .sge arg0 c16_i32_27
  let v57 : BitVec 32 := Scalar.extui v56
  let c0_i32_28 : BitVec 32 := 0#32
  let v58 : BitVec 1 := Scalar.cmpi .ne v57 c0_i32_28
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768 : Shape := ⟨1, ![32768]⟩
abbrev S8192x1024 : Shape := ⟨2, ![8192, 1024]⟩
abbrev S8192x128 : Shape := ⟨2, ![8192, 128]⟩
abbrev S8x1x6144 : Shape := ⟨3, ![8, 1, 6144]⟩
abbrev S49152x1024 : Shape := ⟨2, ![49152, 1024]⟩
abbrev S8192x4 : Shape := ⟨2, ![8192, 4]⟩
abbrev S32768x1 : Shape := ⟨2, ![32768, 1]⟩
abbrev S32768x1024 : Shape := ⟨2, ![32768, 1024]⟩
abbrev S8192x4x1024 : Shape := ⟨3, ![8192, 4, 1024]⟩
abbrev S8192x4x1 : Shape := ⟨3, ![8192, 4, 1]⟩
abbrev S_ : Shape := ⟨0, ![]⟩
abbrev S8x1x1024 : Shape := ⟨3, ![8, 1, 1024]⟩
abbrev S8x1024 : Shape := ⟨2, ![8, 1024]⟩
abbrev S1x1024 : Shape := ⟨2, ![1, 1024]⟩
abbrev S4096x1024 : Shape := ⟨2, ![4096, 1024]⟩
abbrev S4x1024 : Shape := ⟨2, ![4, 1024]⟩
abbrev S4x1024x1024 : Shape := ⟨3, ![4, 1024, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32768, .i32⟩
  | .hbm, ⟨1, _⟩ => ⟨S8192x1024, .f32⟩
  | .hbm, ⟨2, _⟩ => ⟨S8192x128, .f32⟩
  | .hbm, ⟨3, _⟩ => ⟨S8x1x6144, .f32⟩
  | .hbm, ⟨4, _⟩ => ⟨S49152x1024, .f32⟩
  | .hbm, ⟨5, _⟩ => ⟨S8192x4, .i32⟩
  | .hbm, ⟨6, _⟩ => ⟨S32768, .i32⟩
  | .hbm, ⟨7, _⟩ => ⟨S32768x1, .i32⟩
  | .hbm, ⟨8, _⟩ => ⟨S32768x1024, .f32⟩
  | .hbm, ⟨9, _⟩ => ⟨S8192x4x1024, .f32⟩
  | .hbm, ⟨10, _⟩ => ⟨S8192x4, .f32⟩
  | .hbm, ⟨11, _⟩ => ⟨S8192x4x1, .f32⟩
  | .hbm, ⟨12, _⟩ => ⟨S8192x4x1024, .f32⟩
  | .hbm, ⟨13, _⟩ => ⟨S8192x4x1024, .f32⟩
  | .hbm, ⟨14, _⟩ => ⟨S_, .f32⟩
  | .hbm, ⟨15, _⟩ => ⟨S8192x1024, .f32⟩
  | .hbm, ⟨16, _⟩ => ⟨S8x1x1024, .f32⟩
  | .hbm, ⟨17, _⟩ => ⟨S8x1024, .f32⟩
  | .hbm, ⟨18, _⟩ => ⟨S1x1024, .f32⟩
  | .hbm, ⟨19, _⟩ => ⟨S4096x1024, .f32⟩
  | .hbm, ⟨20, _⟩ => ⟨S4x1024, .f32⟩
  | .hbm, ⟨21, _⟩ => ⟨S4x1024x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Experts.lean ====
abbrev S96 : Shape := ⟨1, ![96]⟩
abbrev S1 : Shape := ⟨1, ![1]⟩
abbrev S49152x1024 : Shape := ⟨2, ![49152, 1024]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S512x1024 : Shape := ⟨2, ![512, 1024]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2 : Shape := ⟨1, ![2]⟩
abbrev S1024x2048 : Shape := ⟨2, ![1024, 2048]⟩
abbrev S2x1024x1024 : Shape := ⟨3, ![2, 1024, 1024]⟩
abbrev S1024x1024 : Shape := ⟨2, ![1024, 1024]⟩
abbrev S_ : Shape := ⟨0, ![]⟩
abbrev S1x128x2048 : Shape := ⟨3, ![1, 128, 2048]⟩
abbrev S128x2048 : Shape := ⟨2, ![128, 2048]⟩
abbrev S1x1024x2048 : Shape := ⟨3, ![1, 1024, 2048]⟩
abbrev S1x128x1024 : Shape := ⟨3, ![1, 128, 1024]⟩
abbrev S128x1024 : Shape := ⟨2, ![128, 1024]⟩
abbrev S1x1024x1024 : Shape := ⟨3, ![1, 1024, 1024]⟩
abbrev S1x1024 : Shape := ⟨2, ![1, 1024]⟩
abbrev S1024x512 : Shape := ⟨2, ![1024, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 12
  | .smem => 4
  | _ => 0

abbrev bufTy : (tb : Table) → Fin (tcTables nBuf tb) → BufTy
  | .hbm, ⟨0, _⟩ => ⟨S49152x1024, .f32⟩
  | .hbm, ⟨1, _⟩ => ⟨S64x1024x2048, .f32⟩
  | .hbm, ⟨2, _⟩ => ⟨S64x1x2048, .f32⟩
  | .hbm, ⟨3, _⟩ => ⟨S64x1024x1024, .f32⟩
  | .hbm, ⟨4, _⟩ => ⟨S64x1x1024, .f32⟩
  | .hbm, ⟨5, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S2x1024x2048, .f32⟩
  | .local _ .vmem, ⟨9, _⟩ => ⟨S1024x2048, .bf16⟩
  | .local _ .vmem, ⟨10, _⟩ => ⟨S2x1024x1024, .f32⟩
  | .local _ .vmem, ⟨11, _⟩ => ⟨S1024x1024, .bf16⟩
  | .local _ .smem, ⟨0, _⟩ => ⟨S96, .i32⟩
  | .local _ .smem, ⟨1, _⟩ => ⟨S1, .i32⟩
  | .local _ .smem, ⟨2, _⟩ => ⟨S1, .i32⟩
  | .local _ .smem, ⟨3, _⟩ => ⟨S1, .i32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch2 : Ref sig .tc := ⟨.vmem, 9, rfl⟩
abbrev cc0_scratch4 : Ref sig .tc := ⟨.vmem, 10, rfl⟩
abbrev cc0_scratch6 : Ref sig .tc := ⟨.vmem, 11, rfl⟩
abbrev cc0_scratch3 : Ref sig .tc := ⟨.smem, 2, rfl⟩
abbrev cc0_scratch7 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![96], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off2 (v40 : BitVec 32) : Fin 3 → Nat :=
  let c0_i32_19 : BitVec 32 := 0#32
  let c0_i32_20 : BitVec 32 := 0#32
  ![v40.toNat, 0, 0]

def k0_off3 (v40 : BitVec 32) : Fin 3 → Nat :=
  let c128_i32_24 : BitVec 32 := 128#32
  let c0_i32_25 : BitVec 32 := 0#32
  ![v40.toNat, 128, 0]
def k0_off4 (v40 : BitVec 32) : Fin 3 → Nat :=
  let c256_i32_29 : BitVec 32 := 256#32
  let c0_i32_30 : BitVec 32 := 0#32
  ![v40.toNat, 256, 0]
def k0_off5 (v40 : BitVec 32) : Fin 3 → Nat :=
  let c384_i32_34 : BitVec 32 := 384#32
  let c0_i32_35 : BitVec 32 := 0#32
  ![v40.toNat, 384, 0]
def k0_off6 (v40 : BitVec 32) : Fin 3 → Nat :=
  let c512_i32_39 : BitVec 32 := 512#32
  let c0_i32_40 : BitVec 32 := 0#32
  ![v40.toNat, 512, 0]
def k0_off7 (v40 : BitVec 32) : Fin 3 → Nat :=
  let c640_i32_44 : BitVec 32 := 640#32
  let c0_i32_45 : BitVec 32 := 0#32
  ![v40.toNat, 640, 0]
def k0_off8 (v40 : BitVec 32) : Fin 3 → Nat :=
  let c768_i32_49 : BitVec 32 := 768#32
  let c0_i32_50 : BitVec 32 := 0#32
  ![v40.toNat, 768, 0]
def k0_off9 (v40 : BitVec 32) : Fin 3 → Nat :=
  let c896_i32_54 : BitVec 32 := 896#32
  let c0_i32_55 : BitVec 32 := 0#32
  ![v40.toNat, 896, 0]

def k0_chk1 (i : grid0.Coords) (v40 : BitVec 32) : Prop :=
  (∀ (k0_h1 : k0_cond1 i = 1#1), ∀ a, (k0_off2 v40) a + S1x128x2048.size a ≤ S64x1024x2048.size a) ∧
  (∀ (k0_h1 : k0_cond1 i = 1#1), ∀ a, (k0_off3 v40) a + S1x128x2048.size a ≤ S64x1024x2048.size a) ∧
  (∀ (k0_h1 : k0_cond1 i = 1#1), ∀ a, (k0_off4 v40) a + S1x128x2048.size a ≤ S64x1024x2048.size a) ∧
  (∀ (k0_h1 : k0_cond1 i = 1#1), ∀ a, (k0_off5 v40) a + S1x128x2048.size a ≤ S64x1024x2048.size a) ∧
  (∀ (k0_h1 : k0_cond1 i = 1#1), ∀ a, (k0_off6 v40) a + S1x128x2048.size a ≤ S64x1024x2048.size a) ∧
  (∀ (k0_h1 : k0_cond1 i = 1#1), ∀ a, (k0_off7 v40) a + S1x128x2048.size a ≤ S64x1024x2048.size a) ∧
  (∀ (k0_h1 : k0_cond1 i = 1#1), ∀ a, (k0_off8 v40) a + S1x128x2048.size a ≤ S64x1024x2048.size a) ∧
  (∀ (k0_h1 : k0_cond1 i = 1#1), ∀ a, (k0_off9 v40) a + S1x128x2048.size a ≤ S64x1024x2048.size a)
theorem k0_off2_inb : ∀ (i : grid0.Coords) (v40 : BitVec 32) (k0_hw1 : k0_chk1 i v40), ∀ (k0_h1 : k0_cond1 i = 1#1), ∀ a, (k0_off2 v40) a + S1x128x2048.size a ≤ S64x1024x2048.size a := fun i v40 k0_hw1 k0_h1 => k0_hw1.1 k0_h1
theorem k0_off3_inb : ∀ (i : grid0.Coords) (v40 : BitVec 32) (k0_hw1 : k0_chk1 i v40), ∀ (k0_h1 : k0_cond1 i = 1#1), ∀ a, (k0_off3 v40) a + S1x128x2048.size a ≤ S64x1024x2048.size a := fun i v40 k0_hw1 k0_h1 => k0_hw1.2.1 k0_h1
theorem k0_off4_inb : ∀ (i : grid0.Coords) (v40 : BitVec 32) (k0_hw1 : k0_chk1 i v40), ∀ (k0_h1 : k0_cond1 i = 1#1), ∀ a, (k0_off4 v40) a + S1x128x2048.size a ≤ S64x1024x2048.size a := fun i v40 k0_hw1 k0_h1 => k0_hw1.2.2.1 k0_h1
theorem k0_off5_inb : ∀ (i : grid0.Coords) (v40 : BitVec 32) (k0_hw1 : k0_chk1 i v40), ∀ (k0_h1 : k0_cond1 i = 1#1), ∀ a, (k0_off5 v40) a + S1x128x2048.size a ≤ S64x1024x2048.size a := fun i v40 k0_hw1 k0_h1 => k0_hw1.2.2.2.1 k0_h1
theorem k0_off6_inb : ∀ (i : grid0.Coords) (v40 : BitVec 32) (k0_hw1 : k0_chk1 i v40), ∀ (k0_h1 : k0_cond1 i = 1#1), ∀ a, (k0_off6 v40) a + S1x128x2048.size a ≤ S64x1024x2048.size a := fun i v40 k0_hw1 k0_h1 => k0_hw1.2.2.2.2.1 k0_h1
theorem k0_off7_inb : ∀ (i : grid0.Coords) (v40 : BitVec 32) (k0_hw1 : k0_chk1 i v40), ∀ (k0_h1 : k0_cond1 i = 1#1), ∀ a, (k0_off7 v40) a + S1x128x2048.size a ≤ S64x1024x2048.size a := fun i v40 k0_hw1 k0_h1 => k0_hw1.2.2.2.2.2.1 k0_h1
theorem k0_off8_inb : ∀ (i : grid0.Coords) (v40 : BitVec 32) (k0_hw1 : k0_chk1 i v40), ∀ (k0_h1 : k0_cond1 i = 1#1), ∀ a, (k0_off8 v40) a + S1x128x2048.size a ≤ S64x1024x2048.size a := fun i v40 k0_hw1 k0_h1 => k0_hw1.2.2.2.2.2.2.1 k0_h1
theorem k0_off9_inb : ∀ (i : grid0.Coords) (v40 : BitVec 32) (k0_hw1 : k0_chk1 i v40), ∀ (k0_h1 : k0_cond1 i = 1#1), ∀ a, (k0_off9 v40) a + S1x128x2048.size a ≤ S64x1024x2048.size a := fun i v40 k0_hw1 k0_h1 => k0_hw1.2.2.2.2.2.2.2 k0_h1

def k0_off10 (i : grid0.Coords) : Fin 1 → Nat :=
  let arg0 : BitVec 32 := BitVec.ofNat 32 (i 0).val
  let c1_i32 : BitVec 32 := 1#32
  let v7 : BitVec 32 := Scalar.subi arg0 c1_i32
  let c0_i32_2 : BitVec 32 := 0#32
  let v8 : BitVec 32 := Scalar.maxsi v7 c0_i32_2
  let v9 : Index := Scalar.indexCast v8
  ![v9.toNat]
@[reducible] def k0_t1_loop : Scf.Loop 32 :=
  let c0_i32_19 : BitVec 32 := 0#32
  let c96_i32 : BitVec 32 := 96#32
  let v52 : BitVec 32 := Scalar.addi c0_i32_19 c96_i32
  let c1_i32_20 : BitVec 32 := 1#32
  ⟨c0_i32_19, v52, c1_i32_20⟩
def k0_off11 (k0_t1 : Fin k0_t1_loop.trips) : Fin 1 → Nat :=
  let c0_i32_19 : BitVec 32 := 0#32
  let c1_i32_20 : BitVec 32 := 1#32
  let arg17 : BitVec 32 := Scf.iv c0_i32_19 c1_i32_20 k0_t1
  let v116 : Index := Scalar.indexCast arg17
  ![v116.toNat]
def k0_off12 (i : grid0.Coords) : Fin 1 → Nat :=
  let arg0 : BitVec 32 := BitVec.ofNat 32 (i 0).val
  let v118 : Index := Scalar.indexCast arg0
  ![v118.toNat]
def k0_off13 (v53 : BitVec 32) : Fin 1 → Nat :=
  let c95_i32 : BitVec 32 := 95#32
  let v115 : BitVec 32 := Scalar.minsi v53 c95_i32
  let v116 : Index := Scalar.indexCast v115
  ![v116.toNat]
def k0_cond2 (i : grid0.Coords) (v0 : BitVec 32) (v6 : BitVec 32) (v10 : BitVec 32) : BitVec 1 :=
  let arg0 : BitVec 32 := BitVec.ofNat 32 (i 0).val
  let c0_i32_1 : BitVec 32 := 0#32
  let v4 : BitVec 1 := Scalar.cmpi .eq arg0 c0_i32_1
  let v11 : BitVec 1 := Scalar.cmpi .ne v6 v10
  let v12 : BitVec 1 := Scalar.ori v4 v11
  let v13 : BitVec 1 := Scalar.cmpi .slt arg0 v0
  let v14 : BitVec 1 := Scalar.andi v12 v13
  let v15 : BitVec 32 := Scalar.extui v14
  let c0_i32_3 : BitVec 32 := 0#32
  let v16 : BitVec 1 := Scalar.cmpi .ne v15 c0_i32_3
  v16

def k0_cond3 (v0 : BitVec 32) (v53 : BitVec 32) : BitVec 1 :=
  let v54 : BitVec 1 := Scalar.cmpi .slt v53 v0
  let v55 : BitVec 32 := Scalar.extui v54
  let c0_i32_22 : BitVec 32 := 0#32
  let v56 : BitVec 1 := Scalar.cmpi .ne v55 c0_i32_22
  v56

def k0_off14 (v39 : BitVec 32) : Fin 1 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  ![v118.toNat]
def k0_off15 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c0_i32_64 : BitVec 32 := 0#32
  let c0_i32_65 : BitVec 32 := 0#32
  ![v118.toNat, 0, 0]
def k0_off16 (v117 : BitVec 32) : Fin 3 → Nat :=
  let c0_i32_66 : BitVec 32 := 0#32
  let c0_i32_67 : BitVec 32 := 0#32
  ![v117.toNat, 0, 0]

def k0_off17 (v39 : BitVec 32) : Fin 1 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  ![v118.toNat]
def k0_off18 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c128_i32_68 : BitVec 32 := 128#32
  let c0_i32_69 : BitVec 32 := 0#32
  ![v118.toNat, 128, 0]
def k0_off19 (v117 : BitVec 32) : Fin 3 → Nat :=
  let c128_i32_70 : BitVec 32 := 128#32
  let c0_i32_71 : BitVec 32 := 0#32
  ![v117.toNat, 128, 0]
def k0_off20 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c256_i32_72 : BitVec 32 := 256#32
  let c0_i32_73 : BitVec 32 := 0#32
  ![v118.toNat, 256, 0]
def k0_off21 (v117 : BitVec 32) : Fin 3 → Nat :=
  let c256_i32_74 : BitVec 32 := 256#32
  let c0_i32_75 : BitVec 32 := 0#32
  ![v117.toNat, 256, 0]
def k0_off22 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c384_i32_76 : BitVec 32 := 384#32
  let c0_i32_77 : BitVec 32 := 0#32
  ![v118.toNat, 384, 0]
def k0_off23 (v117 : BitVec 32) : Fin 3 → Nat :=
  let c384_i32_78 : BitVec 32 := 384#32
  let c0_i32_79 : BitVec 32 := 0#32
  ![v117.toNat, 384, 0]
def k0_off24 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c512_i32_80 : BitVec 32 := 512#32
  let c0_i32_81 : BitVec 32 := 0#32
  ![v118.toNat, 512, 0]
def k0_off25 (v117 : BitVec 32) : Fin 3 → Nat :=
  let c512_i32_82 : BitVec 32 := 512#32
  let c0_i32_83 : BitVec 32 := 0#32
  ![v117.toNat, 512, 0]
def k0_off26 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c640_i32_84 : BitVec 32 := 640#32
  let c0_i32_85 : BitVec 32 := 0#32
  ![v118.toNat, 640, 0]
def k0_off27 (v117 : BitVec 32) : Fin 3 → Nat :=
  let c640_i32_86 : BitVec 32 := 640#32
  let c0_i32_87 : BitVec 32 := 0#32
  ![v117.toNat, 640, 0]
def k0_off28 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c768_i32_88 : BitVec 32 := 768#32
  let c0_i32_89 : BitVec 32 := 0#32
  ![v118.toNat, 768, 0]
def k0_off29 (v117 : BitVec 32) : Fin 3 → Nat :=
  let c768_i32_90 : BitVec 32 := 768#32
  let c0_i32_91 : BitVec 32 := 0#32
  ![v117.toNat, 768, 0]
def k0_off30 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c896_i32_92 : BitVec 32 := 896#32
  let c0_i32_93 : BitVec 32 := 0#32
  ![v118.toNat, 896, 0]

def k0_chk2 (i : grid0.Coords) (v0 : BitVec 32) (v6 : BitVec 32) (v10 : BitVec 32) (v39 : BitVec 32) (v53 : BitVec 32) : Prop :=
  (∀ (k0_h2 : k0_cond2 i v0 v6 v10 = 1#1), ∀ (k0_h3 : k0_cond3 v0 v53 = 1#1), ∀ a, (k0_off13 v53) a + S1.size a ≤ S96.size a) ∧
  (∀ (k0_h2 : k0_cond2 i v0 v6 v10 = 1#1), ∀ (k0_h3 : k0_cond3 v0 v53 = 1#1), ∀ a, (k0_off14 v39) a + S1.size a ≤ S2.size a) ∧
  (∀ (k0_h2 : k0_cond2 i v0 v6 v10 = 1#1), ∀ (k0_h3 : k0_cond3 v0 v53 = 1#1), ∀ a, (k0_off15 v39) a + S1x128x2048.size a ≤ S2x1024x2048.size a) ∧
  (∀ (k0_h2 : k0_cond2 i v0 v6 v10 = 1#1), ∀ (k0_h3 : k0_cond3 v0 v53 = 1#1), ∀ a, (k0_off17 v39) a + S1.size a ≤ S2.size a) ∧
  (∀ (k0_h2 : k0_cond2 i v0 v6 v10 = 1#1), ∀ (k0_h3 : k0_cond3 v0 v53 = 1#1), ∀ a, (k0_off18 v39) a + S1x128x2048.size a ≤ S2x1024x2048.size a) ∧
  (∀ (k0_h2 : k0_cond2 i v0 v6 v10 = 1#1), ∀ (k0_h3 : k0_cond3 v0 v53 = 1#1), ∀ a, (k0_off20 v39) a + S1x128x2048.size a ≤ S2x1024x2048.size a) ∧
  (∀ (k0_h2 : k0_cond2 i v0 v6 v10 = 1#1), ∀ (k0_h3 : k0_cond3 v0 v53 = 1#1), ∀ a, (k0_off22 v39) a + S1x128x2048.size a ≤ S2x1024x2048.size a) ∧
  (∀ (k0_h2 : k0_cond2 i v0 v6 v10 = 1#1), ∀ (k0_h3 : k0_cond3 v0 v53 = 1#1), ∀ a, (k0_off24 v39) a + S1x128x2048.size a ≤ S2x1024x2048.size a) ∧
  (∀ (k0_h2 : k0_cond2 i v0 v6 v10 = 1#1), ∀ (k0_h3 : k0_cond3 v0 v53 = 1#1), ∀ a, (k0_off26 v39) a + S1x128x2048.size a ≤ S2x1024x2048.size a) ∧
  (∀ (k0_h2 : k0_cond2 i v0 v6 v10 = 1#1), ∀ (k0_h3 : k0_cond3 v0 v53 = 1#1), ∀ a, (k0_off28 v39) a + S1x128x2048.size a ≤ S2x1024x2048.size a) ∧
  (∀ (k0_h2 : k0_cond2 i v0 v6 v10 = 1#1), ∀ (k0_h3 : k0_cond3 v0 v53 = 1#1), ∀ a, (k0_off30 v39) a + S1x128x2048.size a ≤ S2x1024x2048.size a)
theorem k0_off13_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off13 v53) a + S1.size a ≤ S96.size a := fun i v0 v6 v10 v39 v53 k0_hw2 k0_h2 k0_h3 => k0_hw2.1 k0_h2 k0_h3
theorem k0_off14_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off14 v39) a + S1.size a ≤ S2.size a := fun i v0 v6 v10 v39 v53 k0_hw2 k0_h2 k0_h3 => k0_hw2.2.1 k0_h2 k0_h3
theorem k0_off15_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off15 v39) a + S1x128x2048.size a ≤ S2x1024x2048.size a := fun i v0 v6 v10 v39 v53 k0_hw2 k0_h2 k0_h3 => k0_hw2.2.2.1 k0_h2 k0_h3
theorem k0_off17_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off17 v39) a + S1.size a ≤ S2.size a := fun i v0 v6 v10 v39 v53 k0_hw2 k0_h2 k0_h3 => k0_hw2.2.2.2.1 k0_h2 k0_h3
theorem k0_off18_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off18 v39) a + S1x128x2048.size a ≤ S2x1024x2048.size a := fun i v0 v6 v10 v39 v53 k0_hw2 k0_h2 k0_h3 => k0_hw2.2.2.2.2.1 k0_h2 k0_h3
theorem k0_off20_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off20 v39) a + S1x128x2048.size a ≤ S2x1024x2048.size a := fun i v0 v6 v10 v39 v53 k0_hw2 k0_h2 k0_h3 => k0_hw2.2.2.2.2.2.1 k0_h2 k0_h3
theorem k0_off22_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off22 v39) a + S1x128x2048.size a ≤ S2x1024x2048.size a := fun i v0 v6 v10 v39 v53 k0_hw2 k0_h2 k0_h3 => k0_hw2.2.2.2.2.2.2.1 k0_h2 k0_h3
theorem k0_off24_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off24 v39) a + S1x128x2048.size a ≤ S2x1024x2048.size a := fun i v0 v6 v10 v39 v53 k0_hw2 k0_h2 k0_h3 => k0_hw2.2.2.2.2.2.2.2.1 k0_h2 k0_h3
theorem k0_off26_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off26 v39) a + S1x128x2048.size a ≤ S2x1024x2048.size a := fun i v0 v6 v10 v39 v53 k0_hw2 k0_h2 k0_h3 => k0_hw2.2.2.2.2.2.2.2.2.1 k0_h2 k0_h3
theorem k0_off28_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off28 v39) a + S1x128x2048.size a ≤ S2x1024x2048.size a := fun i v0 v6 v10 v39 v53 k0_hw2 k0_h2 k0_h3 => k0_hw2.2.2.2.2.2.2.2.2.2.1 k0_h2 k0_h3
theorem k0_off30_inb : ∀ (i : grid0.Coords) (v0 : BitVec 32) (v6 : BitVec 32) (v10 : BitVec 32) (v39 : BitVec 32) (v53 : BitVec 32) (k0_hw2 : k0_chk2 i v0 v6 v10 v39 v53), ∀ (k0_h2 : k0_cond2 i v0 v6 v10 = 1#1), ∀ (k0_h3 : k0_cond3 v0 v53 = 1#1), ∀ a, (k0_off30 v39) a + S1x128x2048.size a ≤ S2x1024x2048.size a := fun i v0 v6 v10 v39 v53 k0_hw2 k0_h2 k0_h3 => k0_hw2.2.2.2.2.2.2.2.2.2.2 k0_h2 k0_h3

def k0_off31 (v117 : BitVec 32) : Fin 3 → Nat :=
  let c896_i32_94 : BitVec 32 := 896#32
  let c0_i32_95 : BitVec 32 := 0#32
  ![v117.toNat, 896, 0]

def k0_chk3 (i : grid0.Coords) (v0 : BitVec 32) (v6 : BitVec 32) (v10 : BitVec 32) (v53 : BitVec 32) (v117 : BitVec 32) : Prop :=
  (∀ (k0_h2 : k0_cond2 i v0 v6 v10 = 1#1), ∀ (k0_h3 : k0_cond3 v0 v53 = 1#1), ∀ a, (k0_off16 v117) a + S1x128x2048.size a ≤ S64x1024x2048.size a) ∧
  (∀ (k0_h2 : k0_cond2 i v0 v6 v10 = 1#1), ∀ (k0_h3 : k0_cond3 v0 v53 = 1#1), ∀ a, (k0_off19 v117) a + S1x128x2048.size a ≤ S64x1024x2048.size a) ∧
  (∀ (k0_h2 : k0_cond2 i v0 v6 v10 = 1#1), ∀ (k0_h3 : k0_cond3 v0 v53 = 1#1), ∀ a, (k0_off21 v117) a + S1x128x2048.size a ≤ S64x1024x2048.size a) ∧
  (∀ (k0_h2 : k0_cond2 i v0 v6 v10 = 1#1), ∀ (k0_h3 : k0_cond3 v0 v53 = 1#1), ∀ a, (k0_off23 v117) a + S1x128x2048.size a ≤ S64x1024x2048.size a) ∧
  (∀ (k0_h2 : k0_cond2 i v0 v6 v10 = 1#1), ∀ (k0_h3 : k0_cond3 v0 v53 = 1#1), ∀ a, (k0_off25 v117) a + S1x128x2048.size a ≤ S64x1024x2048.size a) ∧
  (∀ (k0_h2 : k0_cond2 i v0 v6 v10 = 1#1), ∀ (k0_h3 : k0_cond3 v0 v53 = 1#1), ∀ a, (k0_off27 v117) a + S1x128x2048.size a ≤ S64x1024x2048.size a) ∧
  (∀ (k0_h2 : k0_cond2 i v0 v6 v10 = 1#1), ∀ (k0_h3 : k0_cond3 v0 v53 = 1#1), ∀ a, (k0_off29 v117) a + S1x128x2048.size a ≤ S64x1024x2048.size a) ∧
  (∀ (k0_h2 : k0_cond2 i v0 v6 v10 = 1#1), ∀ (k0_h3 : k0_cond3 v0 v53 = 1#1), ∀ a, (k0_off31 v117) a + S1x128x2048.size a ≤ S64x1024x2048.size a)
theorem k0_off16_inb : ∀ (i : grid0.Coords) (v0 : BitVec 32) (v6 : BitVec 32) (v10 : BitVec 32) (v53 : BitVec 32) (v117 : BitVec 32) (k0_hw3 : k0_chk3 i v0 v6 v10 v53 v117), ∀ (k0_h2 : k0_cond2 i v0 v6 v10 = 1#1), ∀ (k0_h3 : k0_cond3 v0 v53 = 1#1), ∀ a, (k0_off16 v117) a + S1x128x2048.size a ≤ S64x1024x2048.size a := fun i v0 v6 v10 v53 v117 k0_hw3 k0_h2 k0_h3 => k0_hw3.1 k0_h2 k0_h3
theorem k0_off19_inb : ∀ (i : grid0.Coords) (v0 : BitVec 32) (v6 : BitVec 32) (v10 : BitVec 32) (v53 : BitVec 32) (v117 : BitVec 32) (k0_hw3 : k0_chk3 i v0 v6 v10 v53 v117), ∀ (k0_h2 : k0_cond2 i v0 v6 v10 = 1#1), ∀ (k0_h3 : k0_cond3 v0 v53 = 1#1), ∀ a, (k0_off19 v117) a + S1x128x2048.size a ≤ S64x1024x2048.size a := fun i v0 v6 v10 v53 v117 k0_hw3 k0_h2 k0_h3 => k0_hw3.2.1 k0_h2 k0_h3
theorem k0_off21_inb : ∀ (i : grid0.Coords) (v0 : BitVec 32) (v6 : BitVec 32) (v10 : BitVec 32) (v53 : BitVec 32) (v117 : BitVec 32) (k0_hw3 : k0_chk3 i v0 v6 v10 v53 v117), ∀ (k0_h2 : k0_cond2 i v0 v6 v10 = 1#1), ∀ (k0_h3 : k0_cond3 v0 v53 = 1#1), ∀ a, (k0_off21 v117) a + S1x128x2048.size a ≤ S64x1024x2048.size a := fun i v0 v6 v10 v53 v117 k0_hw3 k0_h2 k0_h3 => k0_hw3.2.2.1 k0_h2 k0_h3
theorem k0_off23_inb : ∀ (i : grid0.Coords) (v0 : BitVec 32) (v6 : BitVec 32) (v10 : BitVec 32) (v53 : BitVec 32) (v117 : BitVec 32) (k0_hw3 : k0_chk3 i v0 v6 v10 v53 v117), ∀ (k0_h2 : k0_cond2 i v0 v6 v10 = 1#1), ∀ (k0_h3 : k0_cond3 v0 v53 = 1#1), ∀ a, (k0_off23 v117) a + S1x128x2048.size a ≤ S64x1024x2048.size a := fun i v0 v6 v10 v53 v117 k0_hw3 k0_h2 k0_h3 => k0_hw3.2.2.2.1 k0_h2 k0_h3
theorem k0_off25_inb : ∀ (i : grid0.Coords) (v0 : BitVec 32) (v6 : BitVec 32) (v10 : BitVec 32) (v53 : BitVec 32) (v117 : BitVec 32) (k0_hw3 : k0_chk3 i v0 v6 v10 v53 v117), ∀ (k0_h2 : k0_cond2 i v0 v6 v10 = 1#1), ∀ (k0_h3 : k0_cond3 v0 v53 = 1#1), ∀ a, (k0_off25 v117) a + S1x128x2048.size a ≤ S64x1024x2048.size a := fun i v0 v6 v10 v53 v117 k0_hw3 k0_h2 k0_h3 => k0_hw3.2.2.2.2.1 k0_h2 k0_h3
theorem k0_off27_inb : ∀ (i : grid0.Coords) (v0 : BitVec 32) (v6 : BitVec 32) (v10 : BitVec 32) (v53 : BitVec 32) (v117 : BitVec 32) (k0_hw3 : k0_chk3 i v0 v6 v10 v53 v117), ∀ (k0_h2 : k0_cond2 i v0 v6 v10 = 1#1), ∀ (k0_h3 : k0_cond3 v0 v53 = 1#1), ∀ a, (k0_off27 v117) a + S1x128x2048.size a ≤ S64x1024x2048.size a := fun i v0 v6 v10 v53 v117 k0_hw3 k0_h2 k0_h3 => k0_hw3.2.2.2.2.2.1 k0_h2 k0_h3
theorem k0_off29_inb : ∀ (i : grid0.Coords) (v0 : BitVec 32) (v6 : BitVec 32) (v10 : BitVec 32) (v53 : BitVec 32) (v117 : BitVec 32) (k0_hw3 : k0_chk3 i v0 v6 v10 v53 v117), ∀ (k0_h2 : k0_cond2 i v0 v6 v10 = 1#1), ∀ (k0_h3 : k0_cond3 v0 v53 = 1#1), ∀ a, (k0_off29 v117) a + S1x128x2048.size a ≤ S64x1024x2048.size a := fun i v0 v6 v10 v53 v117 k0_hw3 k0_h2 k0_h3 => k0_hw3.2.2.2.2.2.2.1 k0_h2 k0_h3
theorem k0_off31_inb : ∀ (i : grid0.Coords) (v0 : BitVec 32) (v6 : BitVec 32) (v10 : BitVec 32) (v53 : BitVec 32) (v117 : BitVec 32) (k0_hw3 : k0_chk3 i v0 v6 v10 v53 v117), ∀ (k0_h2 : k0_cond2 i v0 v6 v10 = 1#1), ∀ (k0_h3 : k0_cond3 v0 v53 = 1#1), ∀ a, (k0_off31 v117) a + S1x128x2048.size a ≤ S64x1024x2048.size a := fun i v0 v6 v10 v53 v117 k0_hw3 k0_h2 k0_h3 => k0_hw3.2.2.2.2.2.2.2 k0_h2 k0_h3

def k0_off32 (v39 : BitVec 32) : Fin 1 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  ![v49.toNat]

def k0_off33 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c0_i32_24 : BitVec 32 := 0#32
  let c0_i32_25 : BitVec 32 := 0#32
  ![v49.toNat, 0, 0]
def k0_off34 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c128_i32 : BitVec 32 := 128#32
  let c0_i32_29 : BitVec 32 := 0#32
  ![v49.toNat, 128, 0]
def k0_off35 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c256_i32 : BitVec 32 := 256#32
  let c0_i32_33 : BitVec 32 := 0#32
  ![v49.toNat, 256, 0]
def k0_off36 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c384_i32 : BitVec 32 := 384#32
  let c0_i32_37 : BitVec 32 := 0#32
  ![v49.toNat, 384, 0]
def k0_off37 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c512_i32 : BitVec 32 := 512#32
  let c0_i32_41 : BitVec 32 := 0#32
  ![v49.toNat, 512, 0]
def k0_off38 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c640_i32 : BitVec 32 := 640#32
  let c0_i32_45 : BitVec 32 := 0#32
  ![v49.toNat, 640, 0]
def k0_off39 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c768_i32 : BitVec 32 := 768#32
  let c0_i32_49 : BitVec 32 := 0#32
  ![v49.toNat, 768, 0]
def k0_off40 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c896_i32 : BitVec 32 := 896#32
  let c0_i32_53 : BitVec 32 := 0#32
  ![v49.toNat, 896, 0]
def k0_off41 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v105 : Index := Scalar.indexCast v49
  let c0_56 : Index := 0#32
  let c0_57 : Index := 0#32
  ![v105.toNat, 0, 0]

def k0_chk4 (i : grid0.Coords) (v0 : BitVec 32) (v6 : BitVec 32) (v10 : BitVec 32) (v39 : BitVec 32) : Prop :=
  (∀ (k0_h2 : k0_cond2 i v0 v6 v10 = 1#1), ∀ a, (k0_off32 v39) a + S1.size a ≤ S2.size a) ∧
  (∀ (k0_h2 : k0_cond2 i v0 v6 v10 = 1#1), ∀ a, (k0_off33 v39) a + S1x128x2048.size a ≤ S2x1024x2048.size a) ∧
  (∀ (k0_h2 : k0_cond2 i v0 v6 v10 = 1#1), ∀ a, (k0_off34 v39) a + S1x128x2048.size a ≤ S2x1024x2048.size a) ∧
  (∀ (k0_h2 : k0_cond2 i v0 v6 v10 = 1#1), ∀ a, (k0_off35 v39) a + S1x128x2048.size a ≤ S2x1024x2048.size a) ∧
  (∀ (k0_h2 : k0_cond2 i v0 v6 v10 = 1#1), ∀ a, (k0_off36 v39) a + S1x128x2048.size a ≤ S2x1024x2048.size a) ∧
  (∀ (k0_h2 : k0_cond2 i v0 v6 v10 = 1#1), ∀ a, (k0_off37 v39) a + S1x128x2048.size a ≤ S2x1024x2048.size a) ∧
  (∀ (k0_h2 : k0_cond2 i v0 v6 v10 = 1#1), ∀ a, (k0_off38 v39) a + S1x128x2048.size a ≤ S2x1024x2048.size a) ∧
  (∀ (k0_h2 : k0_cond2 i v0 v6 v10 = 1#1), ∀ a, (k0_off39 v39) a + S1x128x2048.size a ≤ S2x1024x2048.size a) ∧
  (∀ (k0_h2 : k0_cond2 i v0 v6 v10 = 1#1), ∀ a, (k0_off40 v39) a + S1x128x2048.size a ≤ S2x1024x2048.size a) ∧
  (∀ (k0_h2 : k0_cond2 i v0 v6 v10 = 1#1), ∀ a, (k0_off41 v39) a + S1x1024x2048.size a ≤ S2x1024x2048.size a)
theorem k0_off32_inb : ∀ (i : grid0.Coords) (v0 : BitVec 32) (v6 : BitVec 32) (v10 : BitVec 32) (v39 : BitVec 32) (k0_hw4 : k0_chk4 i v0 v6 v10 v39), ∀ (k0_h2 : k0_cond2 i v0 v6 v10 = 1#1), ∀ a, (k0_off32 v39) a + S1.size a ≤ S2.size a := fun i v0 v6 v10 v39 k0_hw4 k0_h2 => k0_hw4.1 k0_h2
theorem k0_off33_inb : ∀ (i : grid0.Coords) (v0 : BitVec 32) (v6 : BitVec 32) (v10 : BitVec 32) (v39 : BitVec 32) (k0_hw4 : k0_chk4 i v0 v6 v10 v39), ∀ (k0_h2 : k0_cond2 i v0 v6 v10 = 1#1), ∀ a, (k0_off33 v39) a + S1x128x2048.size a ≤ S2x1024x2048.size a := fun i v0 v6 v10 v39 k0_hw4 k0_h2 => k0_hw4.2.1 k0_h2
theorem k0_off34_inb : ∀ (i : grid0.Coords) (v0 : BitVec 32) (v6 : BitVec 32) (v10 : BitVec 32) (v39 : BitVec 32) (k0_hw4 : k0_chk4 i v0 v6 v10 v39), ∀ (k0_h2 : k0_cond2 i v0 v6 v10 = 1#1), ∀ a, (k0_off34 v39) a + S1x128x2048.size a ≤ S2x1024x2048.size a := fun i v0 v6 v10 v39 k0_hw4 k0_h2 => k0_hw4.2.2.1 k0_h2
theorem k0_off35_inb : ∀ (i : grid0.Coords) (v0 : BitVec 32) (v6 : BitVec 32) (v10 : BitVec 32) (v39 : BitVec 32) (k0_hw4 : k0_chk4 i v0 v6 v10 v39), ∀ (k0_h2 : k0_cond2 i v0 v6 v10 = 1#1), ∀ a, (k0_off35 v39) a + S1x128x2048.size a ≤ S2x1024x2048.size a := fun i v0 v6 v10 v39 k0_hw4 k0_h2 => k0_hw4.2.2.2.1 k0_h2
theorem k0_off36_inb : ∀ (i : grid0.Coords) (v0 : BitVec 32) (v6 : BitVec 32) (v10 : BitVec 32) (v39 : BitVec 32) (k0_hw4 : k0_chk4 i v0 v6 v10 v39), ∀ (k0_h2 : k0_cond2 i v0 v6 v10 = 1#1), ∀ a, (k0_off36 v39) a + S1x128x2048.size a ≤ S2x1024x2048.size a := fun i v0 v6 v10 v39 k0_hw4 k0_h2 => k0_hw4.2.2.2.2.1 k0_h2
theorem k0_off37_inb : ∀ (i : grid0.Coords) (v0 : BitVec 32) (v6 : BitVec 32) (v10 : BitVec 32) (v39 : BitVec 32) (k0_hw4 : k0_chk4 i v0 v6 v10 v39), ∀ (k0_h2 : k0_cond2 i v0 v6 v10 = 1#1), ∀ a, (k0_off37 v39) a + S1x128x2048.size a ≤ S2x1024x2048.size a := fun i v0 v6 v10 v39 k0_hw4 k0_h2 => k0_hw4.2.2.2.2.2.1 k0_h2
theorem k0_off38_inb : ∀ (i : grid0.Coords) (v0 : BitVec 32) (v6 : BitVec 32) (v10 : BitVec 32) (v39 : BitVec 32) (k0_hw4 : k0_chk4 i v0 v6 v10 v39), ∀ (k0_h2 : k0_cond2 i v0 v6 v10 = 1#1), ∀ a, (k0_off38 v39) a + S1x128x2048.size a ≤ S2x1024x2048.size a := fun i v0 v6 v10 v39 k0_hw4 k0_h2 => k0_hw4.2.2.2.2.2.2.1 k0_h2
theorem k0_off39_inb : ∀ (i : grid0.Coords) (v0 : BitVec 32) (v6 : BitVec 32) (v10 : BitVec 32) (v39 : BitVec 32) (k0_hw4 : k0_chk4 i v0 v6 v10 v39), ∀ (k0_h2 : k0_cond2 i v0 v6 v10 = 1#1), ∀ a, (k0_off39 v39) a + S1x128x2048.size a ≤ S2x1024x2048.size a := fun i v0 v6 v10 v39 k0_hw4 k0_h2 => k0_hw4.2.2.2.2.2.2.2.1 k0_h2
theorem k0_off40_inb : ∀ (i : grid0.Coords) (v0 : BitVec 32) (v6 : BitVec 32) (v10 : BitVec 32) (v39 : BitVec 32) (k0_hw4 : k0_chk4 i v0 v6 v10 v39), ∀ (k0_h2 : k0_cond2 i v0 v6 v10 = 1#1), ∀ a, (k0_off40 v39) a + S1x128x2048.size a ≤ S2x1024x2048.size a := fun i v0 v6 v10 v39 k0_hw4 k0_h2 => k0_hw4.2.2.2.2.2.2.2.2.1 k0_h2
theorem k0_off41_inb : ∀ (i : grid0.Coords) (v0 : BitVec 32) (v6 : BitVec 32) (v10 : BitVec 32) (v39 : BitVec 32) (k0_hw4 : k0_chk4 i v0 v6 v10 v39), ∀ (k0_h2 : k0_cond2 i v0 v6 v10 = 1#1), ∀ a, (k0_off41 v39) a + S1x1024x2048.size a ≤ S2x1024x2048.size a := fun i v0 v6 v10 v39 k0_hw4 k0_h2 => k0_hw4.2.2.2.2.2.2.2.2.2 k0_h2

def k0_cond4 (i : grid0.Coords) : BitVec 1 :=
  let arg0 : BitVec 32 := BitVec.ofNat 32 (i 0).val
  let c0_i32_4 : BitVec 32 := 0#32
  let v17 : BitVec 1 := Scalar.cmpi .eq arg0 c0_i32_4
  let v18 : BitVec 32 := Scalar.extui v17
  let c0_i32_5 : BitVec 32 := 0#32
  let v19 : BitVec 1 := Scalar.cmpi .ne v18 c0_i32_5
  v19

def k0_off42 (v40 : BitVec 32) : Fin 3 → Nat :=
  let c0_i32_19 : BitVec 32 := 0#32
  let c0_i32_20 : BitVec 32 := 0#32
  ![v40.toNat, 0, 0]

def k0_off43 (v40 : BitVec 32) : Fin 3 → Nat :=
  let c128_i32_24 : BitVec 32 := 128#32
  let c0_i32_25 : BitVec 32 := 0#32
  ![v40.toNat, 128, 0]
def k0_off44 (v40 : BitVec 32) : Fin 3 → Nat :=
  let c256_i32_29 : BitVec 32 := 256#32
  let c0_i32_30 : BitVec 32 := 0#32
  ![v40.toNat, 256, 0]
def k0_off45 (v40 : BitVec 32) : Fin 3 → Nat :=
  let c384_i32_34 : BitVec 32 := 384#32
  let c0_i32_35 : BitVec 32 := 0#32
  ![v40.toNat, 384, 0]
def k0_off46 (v40 : BitVec 32) : Fin 3 → Nat :=
  let c512_i32_39 : BitVec 32 := 512#32
  let c0_i32_40 : BitVec 32 := 0#32
  ![v40.toNat, 512, 0]
def k0_off47 (v40 : BitVec 32) : Fin 3 → Nat :=
  let c640_i32_44 : BitVec 32 := 640#32
  let c0_i32_45 : BitVec 32 := 0#32
  ![v40.toNat, 640, 0]
def k0_off48 (v40 : BitVec 32) : Fin 3 → Nat :=
  let c768_i32_49 : BitVec 32 := 768#32
  let c0_i32_50 : BitVec 32 := 0#32
  ![v40.toNat, 768, 0]
def k0_off49 (v40 : BitVec 32) : Fin 3 → Nat :=
  let c896_i32_54 : BitVec 32 := 896#32
  let c0_i32_55 : BitVec 32 := 0#32
  ![v40.toNat, 896, 0]

def k0_chk5 (i : grid0.Coords) (v40 : BitVec 32) : Prop :=
  (∀ (k0_h4 : k0_cond4 i = 1#1), ∀ a, (k0_off42 v40) a + S1x128x1024.size a ≤ S64x1024x1024.size a) ∧
  (∀ (k0_h4 : k0_cond4 i = 1#1), ∀ a, (k0_off43 v40) a + S1x128x1024.size a ≤ S64x1024x1024.size a) ∧
  (∀ (k0_h4 : k0_cond4 i = 1#1), ∀ a, (k0_off44 v40) a + S1x128x1024.size a ≤ S64x1024x1024.size a) ∧
  (∀ (k0_h4 : k0_cond4 i = 1#1), ∀ a, (k0_off45 v40) a + S1x128x1024.size a ≤ S64x1024x1024.size a) ∧
  (∀ (k0_h4 : k0_cond4 i = 1#1), ∀ a, (k0_off46 v40) a + S1x128x1024.size a ≤ S64x1024x1024.size a) ∧
  (∀ (k0_h4 : k0_cond4 i = 1#1), ∀ a, (k0_off47 v40) a + S1x128x1024.size a ≤ S64x1024x1024.size a) ∧
  (∀ (k0_h4 : k0_cond4 i = 1#1), ∀ a, (k0_off48 v40) a + S1x128x1024.size a ≤ S64x1024x1024.size a) ∧
  (∀ (k0_h4 : k0_cond4 i = 1#1), ∀ a, (k0_off49 v40) a + S1x128x1024.size a ≤ S64x1024x1024.size a)
theorem k0_off42_inb : ∀ (i : grid0.Coords) (v40 : BitVec 32) (k0_hw5 : k0_chk5 i v40), ∀ (k0_h4 : k0_cond4 i = 1#1), ∀ a, (k0_off42 v40) a + S1x128x1024.size a ≤ S64x1024x1024.size a := fun i v40 k0_hw5 k0_h4 => k0_hw5.1 k0_h4
theorem k0_off43_inb : ∀ (i : grid0.Coords) (v40 : BitVec 32) (k0_hw5 : k0_chk5 i v40), ∀ (k0_h4 : k0_cond4 i = 1#1), ∀ a, (k0_off43 v40) a + S1x128x1024.size a ≤ S64x1024x1024.size a := fun i v40 k0_hw5 k0_h4 => k0_hw5.2.1 k0_h4
theorem k0_off44_inb : ∀ (i : grid0.Coords) (v40 : BitVec 32) (k0_hw5 : k0_chk5 i v40), ∀ (k0_h4 : k0_cond4 i = 1#1), ∀ a, (k0_off44 v40) a + S1x128x1024.size a ≤ S64x1024x1024.size a := fun i v40 k0_hw5 k0_h4 => k0_hw5.2.2.1 k0_h4
theorem k0_off45_inb : ∀ (i : grid0.Coords) (v40 : BitVec 32) (k0_hw5 : k0_chk5 i v40), ∀ (k0_h4 : k0_cond4 i = 1#1), ∀ a, (k0_off45 v40) a + S1x128x1024.size a ≤ S64x1024x1024.size a := fun i v40 k0_hw5 k0_h4 => k0_hw5.2.2.2.1 k0_h4
theorem k0_off46_inb : ∀ (i : grid0.Coords) (v40 : BitVec 32) (k0_hw5 : k0_chk5 i v40), ∀ (k0_h4 : k0_cond4 i = 1#1), ∀ a, (k0_off46 v40) a + S1x128x1024.size a ≤ S64x1024x1024.size a := fun i v40 k0_hw5 k0_h4 => k0_hw5.2.2.2.2.1 k0_h4
theorem k0_off47_inb : ∀ (i : grid0.Coords) (v40 : BitVec 32) (k0_hw5 : k0_chk5 i v40), ∀ (k0_h4 : k0_cond4 i = 1#1), ∀ a, (k0_off47 v40) a + S1x128x1024.size a ≤ S64x1024x1024.size a := fun i v40 k0_hw5 k0_h4 => k0_hw5.2.2.2.2.2.1 k0_h4
theorem k0_off48_inb : ∀ (i : grid0.Coords) (v40 : BitVec 32) (k0_hw5 : k0_chk5 i v40), ∀ (k0_h4 : k0_cond4 i = 1#1), ∀ a, (k0_off48 v40) a + S1x128x1024.size a ≤ S64x1024x1024.size a := fun i v40 k0_hw5 k0_h4 => k0_hw5.2.2.2.2.2.2.1 k0_h4
theorem k0_off49_inb : ∀ (i : grid0.Coords) (v40 : BitVec 32) (k0_hw5 : k0_chk5 i v40), ∀ (k0_h4 : k0_cond4 i = 1#1), ∀ a, (k0_off49 v40) a + S1x128x1024.size a ≤ S64x1024x1024.size a := fun i v40 k0_hw5 k0_h4 => k0_hw5.2.2.2.2.2.2.2 k0_h4

def k0_off50 (i : grid0.Coords) : Fin 1 → Nat :=
  let arg0 : BitVec 32 := BitVec.ofNat 32 (i 0).val
  let v21 : Index := Scalar.indexCast arg0
  ![v21.toNat]
def k0_off51 (i : grid0.Coords) : Fin 1 → Nat :=
  let arg0 : BitVec 32 := BitVec.ofNat 32 (i 0).val
  let c1_i32_7 : BitVec 32 := 1#32
  let v23 : BitVec 32 := Scalar.subi arg0 c1_i32_7
  let c0_i32_8 : BitVec 32 := 0#32
  let v24 : BitVec 32 := Scalar.maxsi v23 c0_i32_8
  let v25 : Index := Scalar.indexCast v24
  ![v25.toNat]
@[reducible] def k0_t2_loop : Scf.Loop 32 :=
  let c0_i32_19 : BitVec 32 := 0#32
  let c96_i32 : BitVec 32 := 96#32
  let v52 : BitVec 32 := Scalar.addi c0_i32_19 c96_i32
  let c1_i32_20 : BitVec 32 := 1#32
  ⟨c0_i32_19, v52, c1_i32_20⟩
def k0_off52 (k0_t2 : Fin k0_t2_loop.trips) : Fin 1 → Nat :=
  let c0_i32_19 : BitVec 32 := 0#32
  let c1_i32_20 : BitVec 32 := 1#32
  let arg17 : BitVec 32 := Scf.iv c0_i32_19 c1_i32_20 k0_t2
  let v116 : Index := Scalar.indexCast arg17
  ![v116.toNat]
def k0_off53 (i : grid0.Coords) : Fin 1 → Nat :=
  let arg0 : BitVec 32 := BitVec.ofNat 32 (i 0).val
  let v118 : Index := Scalar.indexCast arg0
  ![v118.toNat]
def k0_off54 (v53 : BitVec 32) : Fin 1 → Nat :=
  let c95_i32 : BitVec 32 := 95#32
  let v115 : BitVec 32 := Scalar.minsi v53 c95_i32
  let v116 : Index := Scalar.indexCast v115
  ![v116.toNat]
def k0_cond5 (i : grid0.Coords) (v0 : BitVec 32) (v22 : BitVec 32) (v26 : BitVec 32) : BitVec 1 :=
  let arg0 : BitVec 32 := BitVec.ofNat 32 (i 0).val
  let c0_i32_6 : BitVec 32 := 0#32
  let v20 : BitVec 1 := Scalar.cmpi .eq arg0 c0_i32_6
  let v27 : BitVec 1 := Scalar.cmpi .ne v22 v26
  let v28 : BitVec 1 := Scalar.ori v20 v27
  let v29 : BitVec 1 := Scalar.cmpi .slt arg0 v0
  let v30 : BitVec 1 := Scalar.andi v28 v29
  let v31 : BitVec 32 := Scalar.extui v30
  let c0_i32_9 : BitVec 32 := 0#32
  let v32 : BitVec 1 := Scalar.cmpi .ne v31 c0_i32_9
  v32

def k0_cond6 (v0 : BitVec 32) (v53 : BitVec 32) : BitVec 1 :=
  let v54 : BitVec 1 := Scalar.cmpi .slt v53 v0
  let v55 : BitVec 32 := Scalar.extui v54
  let c0_i32_22 : BitVec 32 := 0#32
  let v56 : BitVec 1 := Scalar.cmpi .ne v55 c0_i32_22
  v56

def k0_off55 (v39 : BitVec 32) : Fin 1 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  ![v118.toNat]
def k0_off56 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c0_i32_64 : BitVec 32 := 0#32
  let c0_i32_65 : BitVec 32 := 0#32
  ![v118.toNat, 0, 0]
def k0_off57 (v117 : BitVec 32) : Fin 3 → Nat :=
  let c0_i32_66 : BitVec 32 := 0#32
  let c0_i32_67 : BitVec 32 := 0#32
  ![v117.toNat, 0, 0]

def k0_off58 (v39 : BitVec 32) : Fin 1 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  ![v118.toNat]
def k0_off59 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c128_i32_68 : BitVec 32 := 128#32
  let c0_i32_69 : BitVec 32 := 0#32
  ![v118.toNat, 128, 0]
def k0_off60 (v117 : BitVec 32) : Fin 3 → Nat :=
  let c128_i32_70 : BitVec 32 := 128#32
  let c0_i32_71 : BitVec 32 := 0#32
  ![v117.toNat, 128, 0]
def k0_off61 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c256_i32_72 : BitVec 32 := 256#32
  let c0_i32_73 : BitVec 32 := 0#32
  ![v118.toNat, 256, 0]
def k0_off62 (v117 : BitVec 32) : Fin 3 → Nat :=
  let c256_i32_74 : BitVec 32 := 256#32
  let c0_i32_75 : BitVec 32 := 0#32
  ![v117.toNat, 256, 0]
def k0_off63 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c384_i32_76 : BitVec 32 := 384#32
  let c0_i32_77 : BitVec 32 := 0#32
  ![v118.toNat, 384, 0]
def k0_off64 (v117 : BitVec 32) : Fin 3 → Nat :=
  let c384_i32_78 : BitVec 32 := 384#32
  let c0_i32_79 : BitVec 32 := 0#32
  ![v117.toNat, 384, 0]
def k0_off65 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c512_i32_80 : BitVec 32 := 512#32
  let c0_i32_81 : BitVec 32 := 0#32
  ![v118.toNat, 512, 0]
def k0_off66 (v117 : BitVec 32) : Fin 3 → Nat :=
  let c512_i32_82 : BitVec 32 := 512#32
  let c0_i32_83 : BitVec 32 := 0#32
  ![v117.toNat, 512, 0]
def k0_off67 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c640_i32_84 : BitVec 32 := 640#32
  let c0_i32_85 : BitVec 32 := 0#32
  ![v118.toNat, 640, 0]
def k0_off68 (v117 : BitVec 32) : Fin 3 → Nat :=
  let c640_i32_86 : BitVec 32 := 640#32
  let c0_i32_87 : BitVec 32 := 0#32
  ![v117.toNat, 640, 0]
def k0_off69 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c768_i32_88 : BitVec 32 := 768#32
  let c0_i32_89 : BitVec 32 := 0#32
  ![v118.toNat, 768, 0]
def k0_off70 (v117 : BitVec 32) : Fin 3 → Nat :=
  let c768_i32_90 : BitVec 32 := 768#32
  let c0_i32_91 : BitVec 32 := 0#32
  ![v117.toNat, 768, 0]
def k0_off71 (v39 : BitVec 32) : Fin 3 → Nat :=
  let c1_i32_63 : BitVec 32 := 1#32
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v118 : BitVec 32 := Scalar.subi c1_i32_63 v49
  let c896_i32_92 : BitVec 32 := 896#32
  let c0_i32_93 : BitVec 32 := 0#32
  ![v118.toNat, 896, 0]

def k0_chk6 (i : grid0.Coords) (v0 : BitVec 32) (v22 : BitVec 32) (v26 : BitVec 32) (v39 : BitVec 32) (v53 : BitVec 32) : Prop :=
  (∀ (k0_h5 : k0_cond5 i v0 v22 v26 = 1#1), ∀ (k0_h6 : k0_cond6 v0 v53 = 1#1), ∀ a, (k0_off54 v53) a + S1.size a ≤ S96.size a) ∧
  (∀ (k0_h5 : k0_cond5 i v0 v22 v26 = 1#1), ∀ (k0_h6 : k0_cond6 v0 v53 = 1#1), ∀ a, (k0_off55 v39) a + S1.size a ≤ S2.size a) ∧
  (∀ (k0_h5 : k0_cond5 i v0 v22 v26 = 1#1), ∀ (k0_h6 : k0_cond6 v0 v53 = 1#1), ∀ a, (k0_off56 v39) a + S1x128x1024.size a ≤ S2x1024x1024.size a) ∧
  (∀ (k0_h5 : k0_cond5 i v0 v22 v26 = 1#1), ∀ (k0_h6 : k0_cond6 v0 v53 = 1#1), ∀ a, (k0_off58 v39) a + S1.size a ≤ S2.size a) ∧
  (∀ (k0_h5 : k0_cond5 i v0 v22 v26 = 1#1), ∀ (k0_h6 : k0_cond6 v0 v53 = 1#1), ∀ a, (k0_off59 v39) a + S1x128x1024.size a ≤ S2x1024x1024.size a) ∧
  (∀ (k0_h5 : k0_cond5 i v0 v22 v26 = 1#1), ∀ (k0_h6 : k0_cond6 v0 v53 = 1#1), ∀ a, (k0_off61 v39) a + S1x128x1024.size a ≤ S2x1024x1024.size a) ∧
  (∀ (k0_h5 : k0_cond5 i v0 v22 v26 = 1#1), ∀ (k0_h6 : k0_cond6 v0 v53 = 1#1), ∀ a, (k0_off63 v39) a + S1x128x1024.size a ≤ S2x1024x1024.size a) ∧
  (∀ (k0_h5 : k0_cond5 i v0 v22 v26 = 1#1), ∀ (k0_h6 : k0_cond6 v0 v53 = 1#1), ∀ a, (k0_off65 v39) a + S1x128x1024.size a ≤ S2x1024x1024.size a) ∧
  (∀ (k0_h5 : k0_cond5 i v0 v22 v26 = 1#1), ∀ (k0_h6 : k0_cond6 v0 v53 = 1#1), ∀ a, (k0_off67 v39) a + S1x128x1024.size a ≤ S2x1024x1024.size a) ∧
  (∀ (k0_h5 : k0_cond5 i v0 v22 v26 = 1#1), ∀ (k0_h6 : k0_cond6 v0 v53 = 1#1), ∀ a, (k0_off69 v39) a + S1x128x1024.size a ≤ S2x1024x1024.size a) ∧
  (∀ (k0_h5 : k0_cond5 i v0 v22 v26 = 1#1), ∀ (k0_h6 : k0_cond6 v0 v53 = 1#1), ∀ a, (k0_off71 v39) a + S1x128x1024.size a ≤ S2x1024x1024.size a)
theorem k0_off54_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off54 v53) a + S1.size a ≤ S96.size a := fun i v0 v22 v26 v39 v53 k0_hw6 k0_h5 k0_h6 => k0_hw6.1 k0_h5 k0_h6
theorem k0_off55_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off55 v39) a + S1.size a ≤ S2.size a := fun i v0 v22 v26 v39 v53 k0_hw6 k0_h5 k0_h6 => k0_hw6.2.1 k0_h5 k0_h6
theorem k0_off56_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off56 v39) a + S1x128x1024.size a ≤ S2x1024x1024.size a := fun i v0 v22 v26 v39 v53 k0_hw6 k0_h5 k0_h6 => k0_hw6.2.2.1 k0_h5 k0_h6
theorem k0_off58_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off58 v39) a + S1.size a ≤ S2.size a := fun i v0 v22 v26 v39 v53 k0_hw6 k0_h5 k0_h6 => k0_hw6.2.2.2.1 k0_h5 k0_h6
theorem k0_off59_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off59 v39) a + S1x128x1024.size a ≤ S2x1024x1024.size a := fun i v0 v22 v26 v39 v53 k0_hw6 k0_h5 k0_h6 => k0_hw6.2.2.2.2.1 k0_h5 k0_h6
theorem k0_off61_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off61 v39) a + S1x128x1024.size a ≤ S2x1024x1024.size a := fun i v0 v22 v26 v39 v53 k0_hw6 k0_h5 k0_h6 => k0_hw6.2.2.2.2.2.1 k0_h5 k0_h6
theorem k0_off63_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off63 v39) a + S1x128x1024.size a ≤ S2x1024x1024.size a := fun i v0 v22 v26 v39 v53 k0_hw6 k0_h5 k0_h6 => k0_hw6.2.2.2.2.2.2.1 k0_h5 k0_h6
theorem k0_off65_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off65 v39) a + S1x128x1024.size a ≤ S2x1024x1024.size a := fun i v0 v22 v26 v39 v53 k0_hw6 k0_h5 k0_h6 => k0_hw6.2.2.2.2.2.2.2.1 k0_h5 k0_h6
theorem k0_off67_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off67 v39) a + S1x128x1024.size a ≤ S2x1024x1024.size a := fun i v0 v22 v26 v39 v53 k0_hw6 k0_h5 k0_h6 => k0_hw6.2.2.2.2.2.2.2.2.1 k0_h5 k0_h6
theorem k0_off69_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off69 v39) a + S1x128x1024.size a ≤ S2x1024x1024.size a := fun i v0 v22 v26 v39 v53 k0_hw6 k0_h5 k0_h6 => k0_hw6.2.2.2.2.2.2.2.2.2.1 k0_h5 k0_h6
theorem k0_off71_inb : ∀ (i : grid0.Coords) (v0 : BitVec 32) (v22 : BitVec 32) (v26 : BitVec 32) (v39 : BitVec 32) (v53 : BitVec 32) (k0_hw6 : k0_chk6 i v0 v22 v26 v39 v53), ∀ (k0_h5 : k0_cond5 i v0 v22 v26 = 1#1), ∀ (k0_h6 : k0_cond6 v0 v53 = 1#1), ∀ a, (k0_off71 v39) a + S1x128x1024.size a ≤ S2x1024x1024.size a := fun i v0 v22 v26 v39 v53 k0_hw6 k0_h5 k0_h6 => k0_hw6.2.2.2.2.2.2.2.2.2.2 k0_h5 k0_h6

def k0_off72 (v117 : BitVec 32) : Fin 3 → Nat :=
  let c896_i32_94 : BitVec 32 := 896#32
  let c0_i32_95 : BitVec 32 := 0#32
  ![v117.toNat, 896, 0]

def k0_chk7 (i : grid0.Coords) (v0 : BitVec 32) (v22 : BitVec 32) (v26 : BitVec 32) (v53 : BitVec 32) (v117 : BitVec 32) : Prop :=
  (∀ (k0_h5 : k0_cond5 i v0 v22 v26 = 1#1), ∀ (k0_h6 : k0_cond6 v0 v53 = 1#1), ∀ a, (k0_off57 v117) a + S1x128x1024.size a ≤ S64x1024x1024.size a) ∧
  (∀ (k0_h5 : k0_cond5 i v0 v22 v26 = 1#1), ∀ (k0_h6 : k0_cond6 v0 v53 = 1#1), ∀ a, (k0_off60 v117) a + S1x128x1024.size a ≤ S64x1024x1024.size a) ∧
  (∀ (k0_h5 : k0_cond5 i v0 v22 v26 = 1#1), ∀ (k0_h6 : k0_cond6 v0 v53 = 1#1), ∀ a, (k0_off62 v117) a + S1x128x1024.size a ≤ S64x1024x1024.size a) ∧
  (∀ (k0_h5 : k0_cond5 i v0 v22 v26 = 1#1), ∀ (k0_h6 : k0_cond6 v0 v53 = 1#1), ∀ a, (k0_off64 v117) a + S1x128x1024.size a ≤ S64x1024x1024.size a) ∧
  (∀ (k0_h5 : k0_cond5 i v0 v22 v26 = 1#1), ∀ (k0_h6 : k0_cond6 v0 v53 = 1#1), ∀ a, (k0_off66 v117) a + S1x128x1024.size a ≤ S64x1024x1024.size a) ∧
  (∀ (k0_h5 : k0_cond5 i v0 v22 v26 = 1#1), ∀ (k0_h6 : k0_cond6 v0 v53 = 1#1), ∀ a, (k0_off68 v117) a + S1x128x1024.size a ≤ S64x1024x1024.size a) ∧
  (∀ (k0_h5 : k0_cond5 i v0 v22 v26 = 1#1), ∀ (k0_h6 : k0_cond6 v0 v53 = 1#1), ∀ a, (k0_off70 v117) a + S1x128x1024.size a ≤ S64x1024x1024.size a) ∧
  (∀ (k0_h5 : k0_cond5 i v0 v22 v26 = 1#1), ∀ (k0_h6 : k0_cond6 v0 v53 = 1#1), ∀ a, (k0_off72 v117) a + S1x128x1024.size a ≤ S64x1024x1024.size a)
theorem k0_off57_inb : ∀ (i : grid0.Coords) (v0 : BitVec 32) (v22 : BitVec 32) (v26 : BitVec 32) (v53 : BitVec 32) (v117 : BitVec 32) (k0_hw7 : k0_chk7 i v0 v22 v26 v53 v117), ∀ (k0_h5 : k0_cond5 i v0 v22 v26 = 1#1), ∀ (k0_h6 : k0_cond6 v0 v53 = 1#1), ∀ a, (k0_off57 v117) a + S1x128x1024.size a ≤ S64x1024x1024.size a := fun i v0 v22 v26 v53 v117 k0_hw7 k0_h5 k0_h6 => k0_hw7.1 k0_h5 k0_h6
theorem k0_off60_inb : ∀ (i : grid0.Coords) (v0 : BitVec 32) (v22 : BitVec 32) (v26 : BitVec 32) (v53 : BitVec 32) (v117 : BitVec 32) (k0_hw7 : k0_chk7 i v0 v22 v26 v53 v117), ∀ (k0_h5 : k0_cond5 i v0 v22 v26 = 1#1), ∀ (k0_h6 : k0_cond6 v0 v53 = 1#1), ∀ a, (k0_off60 v117) a + S1x128x1024.size a ≤ S64x1024x1024.size a := fun i v0 v22 v26 v53 v117 k0_hw7 k0_h5 k0_h6 => k0_hw7.2.1 k0_h5 k0_h6
theorem k0_off62_inb : ∀ (i : grid0.Coords) (v0 : BitVec 32) (v22 : BitVec 32) (v26 : BitVec 32) (v53 : BitVec 32) (v117 : BitVec 32) (k0_hw7 : k0_chk7 i v0 v22 v26 v53 v117), ∀ (k0_h5 : k0_cond5 i v0 v22 v26 = 1#1), ∀ (k0_h6 : k0_cond6 v0 v53 = 1#1), ∀ a, (k0_off62 v117) a + S1x128x1024.size a ≤ S64x1024x1024.size a := fun i v0 v22 v26 v53 v117 k0_hw7 k0_h5 k0_h6 => k0_hw7.2.2.1 k0_h5 k0_h6
theorem k0_off64_inb : ∀ (i : grid0.Coords) (v0 : BitVec 32) (v22 : BitVec 32) (v26 : BitVec 32) (v53 : BitVec 32) (v117 : BitVec 32) (k0_hw7 : k0_chk7 i v0 v22 v26 v53 v117), ∀ (k0_h5 : k0_cond5 i v0 v22 v26 = 1#1), ∀ (k0_h6 : k0_cond6 v0 v53 = 1#1), ∀ a, (k0_off64 v117) a + S1x128x1024.size a ≤ S64x1024x1024.size a := fun i v0 v22 v26 v53 v117 k0_hw7 k0_h5 k0_h6 => k0_hw7.2.2.2.1 k0_h5 k0_h6
theorem k0_off66_inb : ∀ (i : grid0.Coords) (v0 : BitVec 32) (v22 : BitVec 32) (v26 : BitVec 32) (v53 : BitVec 32) (v117 : BitVec 32) (k0_hw7 : k0_chk7 i v0 v22 v26 v53 v117), ∀ (k0_h5 : k0_cond5 i v0 v22 v26 = 1#1), ∀ (k0_h6 : k0_cond6 v0 v53 = 1#1), ∀ a, (k0_off66 v117) a + S1x128x1024.size a ≤ S64x1024x1024.size a := fun i v0 v22 v26 v53 v117 k0_hw7 k0_h5 k0_h6 => k0_hw7.2.2.2.2.1 k0_h5 k0_h6
theorem k0_off68_inb : ∀ (i : grid0.Coords) (v0 : BitVec 32) (v22 : BitVec 32) (v26 : BitVec 32) (v53 : BitVec 32) (v117 : BitVec 32) (k0_hw7 : k0_chk7 i v0 v22 v26 v53 v117), ∀ (k0_h5 : k0_cond5 i v0 v22 v26 = 1#1), ∀ (k0_h6 : k0_cond6 v0 v53 = 1#1), ∀ a, (k0_off68 v117) a + S1x128x1024.size a ≤ S64x1024x1024.size a := fun i v0 v22 v26 v53 v117 k0_hw7 k0_h5 k0_h6 => k0_hw7.2.2.2.2.2.1 k0_h5 k0_h6
theorem k0_off70_inb : ∀ (i : grid0.Coords) (v0 : BitVec 32) (v22 : BitVec 32) (v26 : BitVec 32) (v53 : BitVec 32) (v117 : BitVec 32) (k0_hw7 : k0_chk7 i v0 v22 v26 v53 v117), ∀ (k0_h5 : k0_cond5 i v0 v22 v26 = 1#1), ∀ (k0_h6 : k0_cond6 v0 v53 = 1#1), ∀ a, (k0_off70 v117) a + S1x128x1024.size a ≤ S64x1024x1024.size a := fun i v0 v22 v26 v53 v117 k0_hw7 k0_h5 k0_h6 => k0_hw7.2.2.2.2.2.2.1 k0_h5 k0_h6
theorem k0_off72_inb : ∀ (i : grid0.Coords) (v0 : BitVec 32) (v22 : BitVec 32) (v26 : BitVec 32) (v53 : BitVec 32) (v117 : BitVec 32) (k0_hw7 : k0_chk7 i v0 v22 v26 v53 v117), ∀ (k0_h5 : k0_cond5 i v0 v22 v26 = 1#1), ∀ (k0_h6 : k0_cond6 v0 v53 = 1#1), ∀ a, (k0_off72 v117) a + S1x128x1024.size a ≤ S64x1024x1024.size a := fun i v0 v22 v26 v53 v117 k0_hw7 k0_h5 k0_h6 => k0_hw7.2.2.2.2.2.2.2 k0_h5 k0_h6

def k0_off73 (v39 : BitVec 32) : Fin 1 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  ![v49.toNat]

def k0_off74 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c0_i32_24 : BitVec 32 := 0#32
  let c0_i32_25 : BitVec 32 := 0#32
  ![v49.toNat, 0, 0]
def k0_off75 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c128_i32 : BitVec 32 := 128#32
  let c0_i32_29 : BitVec 32 := 0#32
  ![v49.toNat, 128, 0]
def k0_off76 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c256_i32 : BitVec 32 := 256#32
  let c0_i32_33 : BitVec 32 := 0#32
  ![v49.toNat, 256, 0]
def k0_off77 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c384_i32 : BitVec 32 := 384#32
  let c0_i32_37 : BitVec 32 := 0#32
  ![v49.toNat, 384, 0]
def k0_off78 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c512_i32 : BitVec 32 := 512#32
  let c0_i32_41 : BitVec 32 := 0#32
  ![v49.toNat, 512, 0]
def k0_off79 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c640_i32 : BitVec 32 := 640#32
  let c0_i32_45 : BitVec 32 := 0#32
  ![v49.toNat, 640, 0]
def k0_off80 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c768_i32 : BitVec 32 := 768#32
  let c0_i32_49 : BitVec 32 := 0#32
  ![v49.toNat, 768, 0]
def k0_off81 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let c896_i32 : BitVec 32 := 896#32
  let c0_i32_53 : BitVec 32 := 0#32
  ![v49.toNat, 896, 0]
def k0_off82 (v39 : BitVec 32) : Fin 3 → Nat :=
  let c2_i32 : BitVec 32 := 2#32
  let c0_i32_13 : BitVec 32 := 0#32
  let v40 : BitVec 1 := Scalar.cmpi .eq c2_i32 c0_i32_13
  let c1_i32_14 : BitVec 32 := 1#32
  let v41 : BitVec 32 := Scalar.select v40 c1_i32_14 c2_i32
  let v42 : BitVec 32 := Scalar.remsi v39 v41
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let c0_i32_15 : BitVec 32 := 0#32
  let v43 : BitVec 1 := Scalar.cmpi .ne v42 c0_i32_15
  let v47 : BitVec 1 := Scalar.andi v46 v43
  let v48 : BitVec 32 := Scalar.addi v42 v41
  let v49 : BitVec 32 := Scalar.select v47 v48 v42
  let v105 : Index := Scalar.indexCast v49
  let c0_56 : Index := 0#32
  let c0_57 : Index := 0#32
  ![v105.toNat, 0, 0]

def k0_chk8 (i : grid0.Coords) (v0 : BitVec 32) (v22 : BitVec 32) (v26 : BitVec 32) (v39 : BitVec 32) : Prop :=
  (∀ (k0_h5 : k0_cond5 i v0 v22 v26 = 1#1), ∀ a, (k0_off73 v39) a + S1.size a ≤ S2.size a) ∧
  (∀ (k0_h5 : k0_cond5 i v0 v22 v26 = 1#1), ∀ a, (k0_off74 v39) a + S1x128x1024.size a ≤ S2x1024x1024.size a) ∧
  (∀ (k0_h5 : k0_cond5 i v0 v22 v26 = 1#1), ∀ a, (k0_off75 v39) a + S1x128x1024.size a ≤ S2x1024x1024.size a) ∧
  (∀ (k0_h5 : k0_cond5 i v0 v22 v26 = 1#1), ∀ a, (k0_off76 v39) a + S1x128x1024.size a ≤ S2x1024x1024.size a) ∧
  (∀ (k0_h5 : k0_cond5 i v0 v22 v26 = 1#1), ∀ a, (k0_off77 v39) a + S1x128x1024.size a ≤ S2x1024x1024.size a) ∧
  (∀ (k0_h5 : k0_cond5 i v0 v22 v26 = 1#1), ∀ a, (k0_off78 v39) a + S1x128x1024.size a ≤ S2x1024x1024.size a) ∧
  (∀ (k0_h5 : k0_cond5 i v0 v22 v26 = 1#1), ∀ a, (k0_off79 v39) a + S1x128x1024.size a ≤ S2x1024x1024.size a) ∧
  (∀ (k0_h5 : k0_cond5 i v0 v22 v26 = 1#1), ∀ a, (k0_off80 v39) a + S1x128x1024.size a ≤ S2x1024x1024.size a) ∧
  (∀ (k0_h5 : k0_cond5 i v0 v22 v26 = 1#1), ∀ a, (k0_off81 v39) a + S1x128x1024.size a ≤ S2x1024x1024.size a) ∧
  (∀ (k0_h5 : k0_cond5 i v0 v22 v26 = 1#1), ∀ a, (k0_off82 v39) a + S1x1024x1024.size a ≤ S2x1024x1024.size a)
theorem k0_off73_inb : ∀ (i : grid0.Coords) (v0 : BitVec 32) (v22 : BitVec 32) (v26 : BitVec 32) (v39 : BitVec 32) (k0_hw8 : k0_chk8 i v0 v22 v26 v39), ∀ (k0_h5 : k0_cond5 i v0 v22 v26 = 1#1), ∀ a, (k0_off73 v39) a + S1.size a ≤ S2.size a := fun i v0 v22 v26 v39 k0_hw8 k0_h5 => k0_hw8.1 k0_h5
theorem k0_off74_inb : ∀ (i : grid0.Coords) (v0 : BitVec 32) (v22 : BitVec 32) (v26 : BitVec 32) (v39 : BitVec 32) (k0_hw8 : k0_chk8 i v0 v22 v26 v39), ∀ (k0_h5 : k0_cond5 i v0 v22 v26 = 1#1), ∀ a, (k0_off74 v39) a + S1x128x1024.size a ≤ S2x1024x1024.size a := fun i v0 v22 v26 v39 k0_hw8 k0_h5 => k0_hw8.2.1 k0_h5
theorem k0_off75_inb : ∀ (i : grid0.Coords) (v0 : BitVec 32) (v22 : BitVec 32) (v26 : BitVec 32) (v39 : BitVec 32) (k0_hw8 : k0_chk8 i v0 v22 v26 v39), ∀ (k0_h5 : k0_cond5 i v0 v22 v26 = 1#1), ∀ a, (k0_off75 v39) a + S1x128x1024.size a ≤ S2x1024x1024.size a := fun i v0 v22 v26 v39 k0_hw8 k0_h5 => k0_hw8.2.2.1 k0_h5
theorem k0_off76_inb : ∀ (i : grid0.Coords) (v0 : BitVec 32) (v22 : BitVec 32) (v26 : BitVec 32) (v39 : BitVec 32) (k0_hw8 : k0_chk8 i v0 v22 v26 v39), ∀ (k0_h5 : k0_cond5 i v0 v22 v26 = 1#1), ∀ a, (k0_off76 v39) a + S1x128x1024.size a ≤ S2x1024x1024.size a := fun i v0 v22 v26 v39 k0_hw8 k0_h5 => k0_hw8.2.2.2.1 k0_h5
theorem k0_off77_inb : ∀ (i : grid0.Coords) (v0 : BitVec 32) (v22 : BitVec 32) (v26 : BitVec 32) (v39 : BitVec 32) (k0_hw8 : k0_chk8 i v0 v22 v26 v39), ∀ (k0_h5 : k0_cond5 i v0 v22 v26 = 1#1), ∀ a, (k0_off77 v39) a + S1x128x1024.size a ≤ S2x1024x1024.size a := fun i v0 v22 v26 v39 k0_hw8 k0_h5 => k0_hw8.2.2.2.2.1 k0_h5
theorem k0_off78_inb : ∀ (i : grid0.Coords) (v0 : BitVec 32) (v22 : BitVec 32) (v26 : BitVec 32) (v39 : BitVec 32) (k0_hw8 : k0_chk8 i v0 v22 v26 v39), ∀ (k0_h5 : k0_cond5 i v0 v22 v26 = 1#1), ∀ a, (k0_off78 v39) a + S1x128x1024.size a ≤ S2x1024x1024.size a := fun i v0 v22 v26 v39 k0_hw8 k0_h5 => k0_hw8.2.2.2.2.2.1 k0_h5
theorem k0_off79_inb : ∀ (i : grid0.Coords) (v0 : BitVec 32) (v22 : BitVec 32) (v26 : BitVec 32) (v39 : BitVec 32) (k0_hw8 : k0_chk8 i v0 v22 v26 v39), ∀ (k0_h5 : k0_cond5 i v0 v22 v26 = 1#1), ∀ a, (k0_off79 v39) a + S1x128x1024.size a ≤ S2x1024x1024.size a := fun i v0 v22 v26 v39 k0_hw8 k0_h5 => k0_hw8.2.2.2.2.2.2.1 k0_h5
theorem k0_off80_inb : ∀ (i : grid0.Coords) (v0 : BitVec 32) (v22 : BitVec 32) (v26 : BitVec 32) (v39 : BitVec 32) (k0_hw8 : k0_chk8 i v0 v22 v26 v39), ∀ (k0_h5 : k0_cond5 i v0 v22 v26 = 1#1), ∀ a, (k0_off80 v39) a + S1x128x1024.size a ≤ S2x1024x1024.size a := fun i v0 v22 v26 v39 k0_hw8 k0_h5 => k0_hw8.2.2.2.2.2.2.2.1 k0_h5
theorem k0_off81_inb : ∀ (i : grid0.Coords) (v0 : BitVec 32) (v22 : BitVec 32) (v26 : BitVec 32) (v39 : BitVec 32) (k0_hw8 : k0_chk8 i v0 v22 v26 v39), ∀ (k0_h5 : k0_cond5 i v0 v22 v26 = 1#1), ∀ a, (k0_off81 v39) a + S1x128x1024.size a ≤ S2x1024x1024.size a := fun i v0 v22 v26 v39 k0_hw8 k0_h5 => k0_hw8.2.2.2.2.2.2.2.2.1 k0_h5
theorem k0_off82_inb : ∀ (i : grid0.Coords) (v0 : BitVec 32) (v22 : BitVec 32) (v26 : BitVec 32) (v39 : BitVec 32) (k0_hw8 : k0_chk8 i v0 v22 v26 v39), ∀ (k0_h5 : k0_cond5 i v0 v22 v26 = 1#1), ∀ a, (k0_off82 v39) a + S1x1024x1024.size a ≤ S2x1024x1024.size a := fun i v0 v22 v26 v39 k0_hw8 k0_h5 => k0_hw8.2.2.2.2.2.2.2.2.2 k0_h5

def k0_cond7 (i : grid0.Coords) (v0 : BitVec 32) : BitVec 1 :=
  let arg0 : BitVec 32 := BitVec.ofNat 32 (i 0).val
  let v33 : BitVec 1 := Scalar.cmpi .slt arg0 v0
  let v34 : BitVec 32 := Scalar.extui v33
  let c0_i32_10 : BitVec 32 := 0#32
  let v35 : BitVec 1 := Scalar.cmpi .ne v34 c0_i32_10
  v35

def k0_cond8 (i : grid0.Coords) (v0 : BitVec 32) : BitVec 1 :=
  let arg0 : BitVec 32 := BitVec.ofNat 32 (i 0).val
  let v36 : BitVec 1 := Scalar.cmpi .sge arg0 v0
  let v37 : BitVec 32 := Scalar.extui v36
  let c0_i32_11 : BitVec 32 := 0#32
  let v38 : BitVec 1 := Scalar.cmpi .ne v37 c0_i32_11
  v38

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S96 : Shape := ⟨1, ![96]⟩
abbrev S1 : Shape := ⟨1, ![1]⟩
abbrev S49152x1024 : Shape := ⟨2, ![49152, 1024]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S96x512x1024 : Shape := ⟨3, ![96, 512, 1024]⟩
abbrev S96x1 : Shape := ⟨2, ![96, 1]⟩
abbrev S96x1024x2048 : Shape := ⟨3, ![96, 1024, 2048]⟩
abbrev S96x1x2048 : Shape := ⟨3, ![96, 1, 2048]⟩
abbrev S96x1024x1024 : Shape := ⟨3, ![96, 1024, 1024]⟩
abbrev S96x1x1024 : Shape := ⟨3, ![96, 1, 1024]⟩
abbrev S96x512x2048 : Shape := ⟨3, ![96, 512, 2048]⟩
abbrev S_ : Shape := ⟨0, ![]⟩
abbrev S96x1x1 : Shape := ⟨3, ![96, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S96, .i32⟩
  | .hbm, ⟨1, _⟩ => ⟨S1, .i32⟩
  | .hbm, ⟨2, _⟩ => ⟨S49152x1024, .f32⟩
  | .hbm, ⟨3, _⟩ => ⟨S64x1024x2048, .f32⟩
  | .hbm, ⟨4, _⟩ => ⟨S64x1x2048, .f32⟩
  | .hbm, ⟨5, _⟩ => ⟨S64x1024x1024, .f32⟩
  | .hbm, ⟨6, _⟩ => ⟨S64x1x1024, .f32⟩
  | .hbm, ⟨7, _⟩ => ⟨S96x512x1024, .f32⟩
  | .hbm, ⟨8, _⟩ => ⟨S96x1, .i32⟩
  | .hbm, ⟨9, _⟩ => ⟨S96x1024x2048, .f32⟩
  | .hbm, ⟨10, _⟩ => ⟨S96x1, .i32⟩
  | .hbm, ⟨11, _⟩ => ⟨S96x1x2048, .f32⟩
  | .hbm, ⟨12, _⟩ => ⟨S96x1, .i32⟩
  | .hbm, ⟨13, _⟩ => ⟨S96x1024x1024, .f32⟩
  | .hbm, ⟨14, _⟩ => ⟨S96x1, .i32⟩
  | .hbm, ⟨15, _⟩ => ⟨S96x1x1024, .f32⟩
  | .hbm, ⟨16, _⟩ => ⟨S96x512x2048, .f32⟩
  | .hbm, ⟨17, _⟩ => ⟨S96x512x2048, .f32⟩
  | .hbm, ⟨18, _⟩ => ⟨S96x512x2048, .f32⟩
  | .hbm, ⟨19, _⟩ => ⟨S96x512x1024, .f32⟩
  | .hbm, ⟨20, _⟩ => ⟨S_, .f32⟩
  | .hbm, ⟨21, _⟩ => ⟨S96x512x1024, .f32⟩
  | .hbm, ⟨22, _⟩ => ⟨S96x512x1024, .f32⟩
  | .hbm, ⟨23, _⟩ => ⟨S96x512x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S96x512x1024, .f32⟩
  | .hbm, ⟨28, _⟩ => ⟨S96x512x1024, .f32⟩
  | .hbm, ⟨29, _⟩ => ⟨S_, .f32⟩
  | .hbm, ⟨30, _⟩ => ⟨S96x512x1024, .f32⟩
  | .hbm, ⟨31, _⟩ => ⟨S96x512x1024, .f32⟩
  | .hbm, ⟨32, _⟩ => ⟨S_, .f32⟩
  | .hbm, ⟨33, _⟩ => ⟨S96x512x1024, .f32⟩
  | .hbm, ⟨34, _⟩ => ⟨S96x512x1024, .f32⟩
  | .hbm, ⟨35, _⟩ => ⟨S96x512x1024, .f32⟩
  | .hbm, ⟨36, _⟩ => ⟨S_, .f32⟩
  | .hbm, ⟨37, _⟩ => ⟨S96x512x1024, .f32⟩
  | .hbm, ⟨38, _⟩ => ⟨S96x512x1024, .f32⟩
  | .hbm, ⟨39, _⟩ => ⟨S96x512x1024, .f32⟩
  | .hbm, ⟨40, _⟩ => ⟨S96x512x1024, .f32⟩
  | .hbm, ⟨41, _⟩ => ⟨S_, .f32⟩
  | .hbm, ⟨42, _⟩ => ⟨S96x512x1024, .f32⟩
  | .hbm, ⟨43, _⟩ => ⟨S96x512x1024, .f32⟩
  | .hbm, ⟨44, _⟩ => ⟨S_, .f32⟩
  | .hbm, ⟨45, _⟩ => ⟨S96x512x1024, .f32⟩
  | .hbm, ⟨46, _⟩ => ⟨S96x512x1024, .f32⟩
  | .hbm, ⟨47, _⟩ => ⟨S96x512x1024, .f32⟩
  | .hbm, ⟨48, _⟩ => ⟨S96x512x1024, .f32⟩
  | .hbm, ⟨49, _⟩ => ⟨S96x512x1024, .f32⟩
  | .hbm, ⟨50, _⟩ => ⟨S96x512x1024, .f32⟩
  | .hbm, ⟨51, _⟩ => ⟨S96, .i32⟩
  | .hbm, ⟨52, _⟩ => ⟨S_, .i32⟩
  | .hbm, ⟨53, _⟩ => ⟨S96, .i32⟩
  | .hbm, ⟨54, _⟩ => ⟨S96, .i1⟩
  | .hbm, ⟨55, _⟩ => ⟨S96x1x1, .i1⟩
  | .hbm, ⟨56, _⟩ => ⟨S_, .f32⟩
  | .hbm, ⟨57, _⟩ => ⟨S_, .f32⟩
  | .hbm, ⟨58, _⟩ => ⟨S96x512x1024, .i1⟩
  | .hbm, ⟨59, _⟩ => ⟨S96x512x1024, .f32⟩
  | .hbm, ⟨60, _⟩ => ⟨S96x512x1024, .f32⟩
  | .hbm, ⟨61, _⟩ => ⟨S49152x1024, .f32⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_call1_v0 : Ref sig .tc := ⟨.hbm, 10, rfl⟩
abbrev main_v2 : Ref sig .tc := ⟨.hbm, 11, rfl⟩
abbrev main_call2_v0 : Ref sig .tc := ⟨.hbm, 12, rfl⟩
abbrev main_v3 : Ref sig .tc := ⟨.hbm, 13, rfl⟩
abbrev main_call3_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_cst_1 : Ref sig .tc := ⟨.hbm, 25, rfl⟩
abbrev main_call4_v0 : Ref sig .tc := ⟨.hbm, 26, rfl⟩
abbrev main_call4_v1 : Ref sig .tc := ⟨.hbm, 27, rfl⟩
abbrev main_call4_v2 : Ref sig .tc := ⟨.hbm, 28, rfl⟩
abbrev main_call4_v3 : Ref sig .tc := ⟨.hbm, 29, rfl⟩
abbrev main_call4_v4 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_call5_v0 : Ref sig .tc := ⟨.hbm, 57, rfl⟩
abbrev main_call5_v1 : Ref sig .tc := ⟨.hbm, 58, rfl⟩
abbrev main_call5_v2 : Ref sig .tc := ⟨.hbm, 59, rfl⟩
abbrev main_v33 : Ref sig .tc := ⟨.hbm, 60, rfl⟩
abbrev main_v34 : Ref sig .tc := ⟨.hbm, 61, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S8x1x6144 : Shape := ⟨3, ![8, 1, 6144]⟩
abbrev S1024x3072 : Shape := ⟨2, ![1024, 3072]⟩
abbrev S1x1024 : Shape := ⟨2, ![1, 1024]⟩
abbrev S8192x1536 : Shape := ⟨2, ![8192, 1536]⟩
abbrev S256x1024 : Shape := ⟨2, ![256, 1024]⟩
abbrev S1x1x6144 : Shape := ⟨3, ![1, 1, 6144]⟩
abbrev S256x1536 : Shape := ⟨2, ![256, 1536]⟩
abbrev S1x6144 : Shape := ⟨2, ![1, 6144]⟩
abbrev S256 : Shape := ⟨1, ![256]⟩
abbrev S256x1 : Shape := ⟨2, ![256, 1]⟩
abbrev S1024x1536 : Shape := ⟨2, ![1024, 1536]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1x6144, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S8192x1536, .f32⟩
  | .hbm, ⟨7, _⟩ => ⟨S8192x1536, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x6144, .f32⟩
  | .local _ .vmem, ⟨4, _⟩ => ⟨S1x1x6144, .f32⟩
  | .local _ .vmem, ⟨5, _⟩ => ⟨S1024x3072, .bf16⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjReferenceIdeal.lean ====
abbrev S8192x1024 : Shape := ⟨2, ![8192, 1024]⟩
abbrev S1024 : Shape := ⟨1, ![1024]⟩
abbrev S8x1x6144 : Shape := ⟨3, ![8, 1, 6144]⟩
abbrev S1024x3072 : Shape := ⟨2, ![1024, 3072]⟩
abbrev S8x1x1024 : Shape := ⟨3, ![8, 1, 1024]⟩
abbrev S8x1024 : Shape := ⟨2, ![8, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩
abbrev S4x1024 : Shape := ⟨2, ![4, 1024]⟩
abbrev S4x1024x1024 : Shape := ⟨3, ![4, 1024, 1024]⟩
abbrev S8192x3072 : Shape := ⟨2, ![8192, 3072]⟩
abbrev S8192x1536 : Shape := ⟨2, ![8192, 1536]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8x1x6144, .f32⟩
  | .hbm, ⟨3, _⟩ => ⟨S1024x3072, .f32⟩
  | .hbm, ⟨4, _⟩ => ⟨S8x1x1024, .f32⟩
  | .hbm, ⟨5, _⟩ => ⟨S8x1024, .f32⟩
  | .hbm, ⟨6, _⟩ => ⟨S8x1x1024, .f32⟩
  | .hbm, ⟨7, _⟩ => ⟨S8x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S4096x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4x1024, .f32⟩
  | .hbm, ⟨36, _⟩ => ⟨S4x1024x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4x1024, .f32⟩
  | .hbm, ⟨43, _⟩ => ⟨S4x1024x1024, .f32⟩
  | .hbm, ⟨44, _⟩ => ⟨S4096x1024, .f32⟩
  | .hbm, ⟨45, _⟩ => ⟨S4096x1024, .f32⟩
  | .hbm, ⟨46, _⟩ => ⟨S8192x1024, .f32⟩
  | .hbm, ⟨47, _⟩ => ⟨S8192x3072, .f32⟩
  | .hbm, ⟨48, _⟩ => ⟨S8192x1536, .f32⟩
  | .hbm, ⟨49, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== OddPrep.lean ====
abbrev S8192x1536 : Shape := ⟨2, ![8192, 1536]⟩
abbrev S2x64 : Shape := ⟨2, ![2, 64]⟩
abbrev S1024 : Shape := ⟨1, ![1024]⟩
abbrev S_ : Shape := ⟨0, ![]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S1024x64 : Shape := ⟨2, ![1024, 64]⟩
abbrev S1x1024x1x64 : Shape := ⟨4, ![1, 1024, 1, 64]⟩
abbrev S1x1024x8x64 : Shape := ⟨4, ![1, 1024, 8, 64]⟩
abbrev S1024x512 : Shape := ⟨2, ![1024, 512]⟩
abbrev S256x512 : Shape := ⟨2, ![256, 512]⟩
abbrev S1280x512 : Shape := ⟨2, ![1280, 512]⟩
abbrev S1x2x1x64 : Shape := ⟨4, ![1, 2, 1, 64]⟩
abbrev S1x2x8x64 : Shape := ⟨4, ![1, 2, 8, 64]⟩
abbrev S2x512 : Shape := ⟨2, ![2, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8192x512 : Shape := ⟨2, ![8192, 512]⟩
abbrev S256x1024 : Shape := ⟨2, ![256, 1024]⟩

abbrev nBuf : Space → Nat
  | .hbm => 121
  | .vmem => 18
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S2x64, .f32⟩
  | .hbm, ⟨3, _⟩ => ⟨S1024, .i32⟩
  | .hbm, ⟨4, _⟩ => ⟨S_, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S_, .i1⟩
  | .hbm, ⟨39, _⟩ => ⟨S1024, .i1⟩
  | .hbm, ⟨40, _⟩ => ⟨S1024, .i1⟩
  | .hbm, ⟨41, _⟩ => ⟨S1024, .i1⟩
  | .hbm, ⟨42, _⟩ => ⟨S1024, .i32⟩
  | .hbm, ⟨43, _⟩ => ⟨S1024, .i32⟩
  | .hbm, ⟨44, _⟩ => ⟨S1024, .i32⟩
  | .hbm, ⟨45, _⟩ => ⟨S1024, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S1024x1, .f32⟩
  | .hbm, ⟨55, _⟩ => ⟨S1x16, .f32⟩
  | .hbm, ⟨56, _⟩ => ⟨S1024x16, .f32⟩
  | .hbm, ⟨57, _⟩ => ⟨S1024x16, .f32⟩
  | .hbm, ⟨58, _⟩ => ⟨S1024x16, .f32⟩
  | .hbm, ⟨59, _⟩ => ⟨S1024x1, .f32⟩
  | .hbm, ⟨60, _⟩ => ⟨S1x16, .f32⟩
  | .hbm, ⟨61, _⟩ => ⟨S1024x16, .f32⟩
  | .hbm, ⟨62, _⟩ => ⟨S1024x16, .f32⟩
  | .hbm, ⟨63, _⟩ => ⟨S1024x16, .f32⟩
  | .hbm, ⟨64, _⟩ => ⟨S1024x16, .f32⟩
  | .hbm, ⟨65, _⟩ => ⟨S1024x16, .f32⟩
  | .hbm, ⟨66, _⟩ => ⟨S1024x16, .f32⟩
  | .hbm, ⟨67, _⟩ => ⟨S1024x16, .f32⟩
  | .hbm, ⟨68, _⟩ => ⟨S1024x64, .f32⟩
  | .hbm, ⟨69, _⟩ => ⟨S1024x16, .f32⟩
  | .hbm, ⟨70, _⟩ => ⟨S1024x16, .f32⟩
  | .hbm, ⟨71, _⟩ => ⟨S1024x16, .f32⟩
  | .hbm, ⟨72, _⟩ => ⟨S1024x16, .f32⟩
  | .hbm, ⟨73, _⟩ => ⟨S1024x16, .f32⟩
  | .hbm, ⟨74, _⟩ => ⟨S1024x16, .f32⟩
  | .hbm, ⟨75, _⟩ => ⟨S1024x64, .f32⟩
  | .hbm, ⟨76, _⟩ => ⟨S1x1024x1x64, .f32⟩
  | .hbm, ⟨77, _⟩ => ⟨S1x1024x8x64, .f32⟩
  | .hbm, ⟨78, _⟩ => ⟨S1024x512, .f32⟩
  | .hbm, ⟨79, _⟩ => ⟨S1x1024x1x64, .f32⟩
  | .hbm, ⟨80, _⟩ => ⟨S1x1024x8x64, .f32⟩
  | .hbm, ⟨81, _⟩ => ⟨S1024x512, .f32⟩
  | .hbm, ⟨82, _⟩ => ⟨S_, .f32⟩
  | .hbm, ⟨83, _⟩ => ⟨S256x512, .f32⟩
  | .hbm, ⟨84, _⟩ => ⟨S1280x512, .f32⟩
  | .hbm, ⟨85, _⟩ => ⟨S_, .f32⟩
  | .hbm, ⟨86, _⟩ => ⟨S256x512, .f32⟩
  | .hbm, ⟨87, _⟩ => ⟨S1280x512, .f32⟩
  | .hbm, ⟨88, _⟩ => ⟨S1x2x1x64, .f32⟩
  | .hbm, ⟨89, _⟩ => ⟨S1x2x8x64, .f32⟩
  | .hbm, ⟨90, _⟩ => ⟨S2x512, .f32⟩
  | .hbm, ⟨91, _⟩ => ⟨S512, .i32⟩
  | .hbm, ⟨92, _⟩ => ⟨S_, .i32⟩
  | .hbm, ⟨93, _⟩ => ⟨S_, .i32⟩
  | .hbm, ⟨94, _⟩ => ⟨S512, .i32⟩
  | .hbm, ⟨95, _⟩ => ⟨S512, .i32⟩
  | .hbm, ⟨96, _⟩ => ⟨S512, .i32⟩
  | .hbm, ⟨97, _⟩ => ⟨S_, .i32⟩
  | .hbm, ⟨98, _⟩ => ⟨S512, .i32⟩
  | .hbm, ⟨99, _⟩ => ⟨S512, .i1⟩
  | .hbm, ⟨100, _⟩ => ⟨S512, .i32⟩
  | .hbm, ⟨101, _⟩ => ⟨S512, .i32⟩
  | .hbm, ⟨102, _⟩ => ⟨S_, .i32⟩
  | .hbm, ⟨103, _⟩ => ⟨S512, .i32⟩
  | .hbm, ⟨104, _⟩ => ⟨S512, .i1⟩
  | .hbm, ⟨105, _⟩ => ⟨S512, .i1⟩
  | .hbm, ⟨106, _⟩ => ⟨S_, .i32⟩
  | .hbm, ⟨107, _⟩ => ⟨S512, .i32⟩
  | .hbm, ⟨108, _⟩ => ⟨S512, .i32⟩
  | .hbm, ⟨109, _⟩ => ⟨S512, .i32⟩
  | .hbm, ⟨110, _⟩ => ⟨S512x1, .i32⟩
  | .hbm, ⟨111, _⟩ => ⟨S1x512, .i32⟩
  | .hbm, ⟨112, _⟩ => ⟨S512x512, .i32⟩
  | .hbm, ⟨113, _⟩ => ⟨S512x512, .i32⟩
  | .hbm, ⟨114, _⟩ => ⟨S512x512, .i1⟩
  | .hbm, ⟨115, _⟩ => ⟨S512x512, .f32⟩
  | .hbm, ⟨116, _⟩ => ⟨S512x512, .bf16⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S2x512, .f32⟩
  | .local _ .vmem, ⟨9, _⟩ => ⟨S512x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_2 : Ref sig .tc := ⟨.hbm, 82, rfl⟩
abbrev main_v39 : Ref sig .tc := ⟨.hbm, 83, rfl⟩
abbrev main_v40 : Ref sig .tc := ⟨.hbm, 84, rfl⟩
abbrev main_cst_3 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_c_4 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_c : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_0 : Ref sig .tc := ⟨.hbm, 106, rfl⟩
abbrev main_call2_v12 : Ref sig .tc := ⟨.hbm, 107, rfl⟩
abbrev main_call2_v13 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55_0 : Ref sig .tc := ⟨.hbm, 117, rfl⟩
abbrev main_v55_1 : Ref sig .tc := ⟨.hbm, 118, rfl⟩
abbrev main_v55_2 : Ref sig .tc := ⟨.hbm, 119, rfl⟩
abbrev main_v55_3 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_3 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddPrepReferenceIdeal.lean ====
abbrev S8192x1536 : Shape := ⟨2, ![8192, 1536]⟩
abbrev S2x64 : Shape := ⟨2, ![2, 64]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x64 : Shape := ⟨2, ![1, 64]⟩
abbrev S64 : Shape := ⟨1, ![64]⟩
abbrev S1x1x64 : Shape := ⟨3, ![1, 1, 64]⟩

abbrev nBuf : Space → Nat
  | .hbm => 24
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S2x64, .f32⟩
  | .hbm, ⟨3, _⟩ => ⟨S8192x512, .f32⟩
  | .hbm, ⟨4, _⟩ => ⟨S8192x8x64, .f32⟩
  | .hbm, ⟨5, _⟩ => ⟨S8192x8x64, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x64, .f32⟩
  | .hbm, ⟨17, _⟩ => ⟨S8192x8x64, .f32⟩
  | .hbm, ⟨18, _⟩ => ⟨S1x64, .f32⟩
  | .hbm, ⟨19, _⟩ => ⟨S64, .f32⟩
  | .hbm, ⟨20, _⟩ => ⟨S1x1x64, .f32⟩
  | .hbm, ⟨21, _⟩ => ⟨S8192x8x64, .f32⟩
  | .hbm, ⟨22, _⟩ => ⟨S8192x8x64, .f32⟩
  | .hbm, ⟨23, _⟩ => ⟨S8192x512, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Geometry.lean ====
/- Closed forms of the printed offsets of the combine kernel, the cells of its two semaphores, and the rows of its scratch. Hand-written. -/
module

public import proofs.«01_k».proof.Proof.Gen.KernelIdeal.Skeleton
public import proofs.«01_k».proof.Proof.Gen.KernelIdeal.Launch

@[expose] public section

set_option maxRecDepth 16384

noncomputable section

namespace Cert.Combine

open Cert.KernelIdeal Cert.KernelIdeal.Gen
open Idealize.ShloMosaic Idealize.ShloMosaic.TcCoe

variable {F : FTy → Type}

/-! ## Offsets -/

theorem off1_eq : ∀ t : Fin k0_t1_loop.trips, k0_off1 t = ![4 * t.val] := by decide +kernel
theorem off4_eq : ∀ t : Fin k0_t1_loop.trips, k0_off4 t = ![4 * t.val + 1] := by decide +kernel
theorem off7_eq : ∀ t : Fin k0_t1_loop.trips, k0_off7 t = ![4 * t.val + 2] := by decide +kernel
theorem off10_eq : ∀ t : Fin k0_t1_loop.trips, k0_off10 t = ![4 * t.val + 3] := by decide +kernel
theorem off2_eq : ∀ t : Fin k0_t1_loop.trips, k0_off2 t = ![t.val, 0] := by decide +kernel
theorem off16_eq : ∀ t : Fin k0_t2_loop.trips, k0_off16 t = ![t.val, 0] := by decide +kernel
theorem off35_eq : ∀ t : Fin k0_t3_loop.trips, k0_off35 t = ![t.val, 0] := by decide +kernel
theorem off13_eq : ∀ (p : Fin grid0.N) (t : Fin k0_t2_loop.trips), k0_off13 (grid0.coords p) t = ![(p.val + 1) * 1024 + 4 * t.val] := by decide +kernel
theorem off18_eq : ∀ (p : Fin grid0.N) (t : Fin k0_t2_loop.trips), k0_off18 (grid0.coords p) t = ![(p.val + 1) * 1024 + (4 * t.val + 1)] := by decide +kernel
theorem off23_eq : ∀ (p : Fin grid0.N) (t : Fin k0_t2_loop.trips), k0_off23 (grid0.coords p) t = ![(p.val + 1) * 1024 + (4 * t.val + 2)] := by decide +kernel
theorem off28_eq : ∀ (p : Fin grid0.N) (t : Fin k0_t2_loop.trips), k0_off28 (grid0.coords p) t = ![(p.val + 1) * 1024 + (4 * t.val + 3)] := by decide +kernel
theorem off14_eq : ∀ p : Fin grid0.N, k0_off14 (grid0.coords p) = ![(p.val + 1) % 2] := by decide +kernel
theorem off33_eq : ∀ p : Fin grid0.N, k0_off33 (grid0.coords p) = ![p.val % 2] := by decide +kernel
theorem off15_eq : ∀ p : Fin grid0.N, k0_off15 (grid0.coords p) = ![(p.val + 1) % 2, 0, 0, 0] := by decide +kernel
theorem off20_eq : ∀ p : Fin grid0.N, k0_off20 (grid0.coords p) = ![(p.val + 1) % 2, 1, 0, 0] := by decide +kernel
theorem off25_eq : ∀ p : Fin grid0.N, k0_off25 (grid0.coords p) = ![(p.val + 1) % 2, 2, 0, 0] := by decide +kernel
theorem off30_eq : ∀ p : Fin grid0.N, k0_off30 (grid0.coords p) = ![(p.val + 1) % 2, 3, 0, 0] := by decide +kernel
theorem off34_eq : ∀ p : Fin grid0.N, k0_off34 (grid0.coords p) = ![p.val % 2, 0, 0, 0] := by decide +kernel
theorem off36_eq : ∀ p : Fin grid0.N, k0_off36 (grid0.coords p) = ![p.val % 2, 0, 0, 0] := by decide +kernel
theorem off37_eq : ∀ p : Fin grid0.N, k0_off37 (grid0.coords p) = ![p.val % 2, 1, 0, 0] := by decide +kernel
theorem off38_eq : ∀ p : Fin grid0.N, k0_off38 (grid0.coords p) = ![p.val % 2, 2, 0, 0] := by decide +kernel
theorem off39_eq : ∀ p : Fin grid0.N, k0_off39 (grid0.coords p) = ![p.val % 2, 3, 0, 0] := by decide +kernel
theorem cond1_iff : ∀ p : Fin grid0.N, k0_cond1 (grid0.coords p) = 1#1 ↔ p.val = 0 := by decide +kernel
theorem cond2_iff : ∀ p : Fin grid0.N, k0_cond2 (grid0.coords p) = 1#1 ↔ p.val < 31 := by decide +kernel
theorem cond3_iff : ∀ p : Fin grid0.N, k0_cond3 (grid0.coords p) = 1#1 ↔ p.val < 16 := by decide +kernel
theorem cond4_iff : ∀ p : Fin grid0.N, k0_cond4 (grid0.coords p) = 1#1 ↔ 16 ≤ p.val := by decide +kernel
theorem trips1 : k0_t1_loop.trips = 256 := by decide +kernel
theorem trips2 : k0_t2_loop.trips = 256 := by decide +kernel
theorem trips3 : k0_t3_loop.trips = 256 := by decide +kernel
theorem gridN : grid0.N = 32 := by decide +kernel

end Cert.Combine

end
-- ==== Proof.Rows.lean ====
/- The rows the combine kernel's transfers move: the element sets of the views, what lands in them, the cells they complete on. Hand-written. -/
module

public import proofs.«01_k».proof.Proof.Geometry
public import Idealize.ShloMosaic.Lib.ValueLayout
public import Idealize.ShloMosaic.Lib.ValueIdx
public import Idealize.ShloMosaic.Lib.ViewIndex
public import Idealize.ShloMosaic.Lib.Pipeline.FrameBody
public import Idealize.ShloMosaic.Lib.Batch
public import Idealize.ShloMosaic.Lib.Ring
public import Idealize.ShloMosaic.Lib.ShareLeaves
public import Idealize.ShloMosaic.Lib.Tactic

@[expose] public section

set_option maxRecDepth 16384

noncomputable section

namespace Cert.Combine

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The table's words and the rows they name -/

/-- The row number word `n` of the table names. -/
def destN (tab : S32768.Idx → BitVec 32) (n : ℕ) : Fin 49152 :=
  ⟨(tab (ix1 ⟨n % 32768, Nat.mod_lt _ (by decide)⟩)).toNat % 49152, Nat.mod_lt _ (by decide)⟩

/-- The table names rows of the array. -/
def InRange (tab : S32768.Idx → BitVec 32) : Prop := ∀ n, (tab n).toNat < 49152

/-- What slot contents tile `b`'s transfers leave: row `r` of plane `k` is the row of `Y` that word `b * 1024 + (4 * r + k)` names. -/
def gath {α : Type} (tab : S32768.Idx → BitVec 32) (Y : S49152x1024.Idx → α) (b : ℕ) : S2x4x256x1024.Idx → α :=
  fun y => Y (ix2 (destN tab (b * 1024 + (4 * (y 2).val + (y 1).val))) (y 3))

/-! ## Element sets -/

/-- Transfer `t`'s row of slot `s`. -/
def rowOf (s : Fin 2) (t : Fin 1024) : Finset S2x4x256x1024.Idx :=
  Finset.univ.filter fun y => (y 0).val = s.val ∧ 4 * (y 2).val + (y 1).val = t.val
/-- Slot `s`. -/
def slotOf (s : Fin 2) : Finset S2x4x256x1024.Idx := Finset.univ.filter fun y => (y 0).val = s.val
/-- Row `d` of the array the transfers read. -/
def srcRow (d : Fin 49152) : Finset S49152x1024.Idx := Finset.univ.filter fun y => (y 0).val = d.val

theorem mem_rowOf (s : Fin 2) (t : Fin 1024) (y : S2x4x256x1024.Idx) : y ∈ rowOf s t ↔ (y 0).val = s.val ∧ 4 * (y 2).val + (y 1).val = t.val := by
  simp [rowOf]
theorem mem_slotOf (s : Fin 2) (y : S2x4x256x1024.Idx) : y ∈ slotOf s ↔ (y 0).val = s.val := by simp [slotOf]
theorem mem_srcRow (d : Fin 49152) (y : S49152x1024.Idx) : y ∈ srcRow d ↔ (y 0).val = d.val := by simp [srcRow]

theorem rowOf_disjoint (s : Fin 2) : ∀ t t' : Fin 1024, t ≠ t' → Disjoint (rowOf s t) (rowOf s t') := fun t t' h => by
  rw [Finset.disjoint_left]; intro y hy hy'; rw [mem_rowOf] at hy hy'; exact h (Fin.ext (by omega))
theorem rowOf_cover (s : Fin 2) : Finset.univ.biUnion (rowOf s) = slotOf s := by
  ext y
  simp only [Finset.mem_biUnion, Finset.mem_univ, true_and, mem_rowOf, mem_slotOf]
  constructor
  · rintro ⟨t, h, -⟩; exact h
  · intro h
    have h1 : (y 1).val < 4 := (y 1).isLt
    have h2 : (y 2).val < 256 := (y 2).isLt
    exact ⟨⟨4 * (y 2).val + (y 1).val, by omega⟩, h, rfl⟩
theorem slotOf_disjoint : ∀ s s' : Fin 2, s ≠ s' → Disjoint (slotOf s) (slotOf s') := fun s s' h => by
  rw [Finset.disjoint_left]; intro y hy hy'; rw [mem_slotOf] at hy hy'; exact h (Fin.ext (by omega))
theorem slotOf_cover : Finset.univ.biUnion slotOf = Finset.univ := by
  ext y
  simp only [Finset.mem_biUnion, Finset.mem_univ, true_and, mem_slotOf, iff_true]
  exact ⟨y 0, rfl⟩

/-! ## The views the transfers name -/

/-- A transfer's destination row, as the kernel spells it, its offsets variables. -/
abbrev rowMem (o : Fin 4 → ℕ) (ho : ∀ a, o a + S1x1x256x1024.size a ≤ S2x4x256x1024.size a) (p : Fin 2 → ℕ) (hp : ∀ a, p a + S1x1024.size a ≤ S256x1024.size a) :
    Memref sig .tc .vmem S1x1024 .f32 :=
  (((Memref.whole cc0_scratch0).slice (Rect.unit (s := S2x4x256x1024) o S1x1x256x1024.size ho) (fun _ => rfl)).squeeze S256x1024 squeezes_S1x1x256x1024_S256x1024).slice
    (Rect.unit (s := S256x1024) p S1x1024.size hp) (fun _ => rfl)
/-- A transfer's source row, as the kernel spells it. -/
abbrev srcMem (o : Fin 2 → ℕ) (ho : ∀ a, o a + S1x1024.size a ≤ S49152x1024.size a) : Memref sig .tc .hbm S1x1024 .f32 :=
  (Memref.whole main_arg4).slice (Rect.unit (s := S49152x1024) o S1x1024.size ho) (fun _ => rfl)
/-- A semaphore of the pair, as the kernel spells it. -/
abbrev semAt (o : Fin 1 → ℕ) (ho : ∀ a, o a + S1.size a ≤ S2.size a) : DmaSem sig :=
  ((cc0_scratch1.slice (Rect.unit (s := S2) o S1.size ho)).squeeze S_ squeezes_S1_S_).sem

/-- Slot `s`'s semaphore. -/
def cell (s : Fin 2) : DmaSem sig := ⟨10 + s.val, by have := s.isLt; show 10 + s.val < 12; omega⟩

theorem semAt_eq (o : Fin 1 → ℕ) (ho) (s : Fin 2) (h : o = ![s.val]) : semAt o ho = cell s := by
  subst h
  revert ho
  revert s
  decide +kernel

theorem srcMem_emb (o : Fin 2 → ℕ) (ho) (d : Fin 49152) (h : o = ![d.val, 0]) (x : Fin 1) (y : Fin 1024) :
    (srcMem o ho).view.emb (ix2 x y) = ix2 d y := by
  subst h
  funext a
  match a with
  | ⟨0, _⟩ => exact Fin.ext (by show d.val + 1 * x.val = d.val; omega)
  | ⟨1, _⟩ => exact Fin.ext (by show 0 + 1 * y.val = y.val; omega)

theorem rowMem_emb (o : Fin 4 → ℕ) (ho) (p : Fin 2 → ℕ) (hp) (s : Fin 2) (k : Fin 4) (r : Fin 256) (h : o = ![s.val, k.val, 0, 0]) (h' : p = ![r.val, 0])
    (x : Fin 1) (y : Fin 1024) : (rowMem o ho p hp).view.emb (ix2 x y) = ix4 s k r y := by
  subst h; subst h'
  have e1 : (Rect.unit (s := S256x1024) ![r.val, 0] S1x1024.size hp).emb (ix2 x y) = ix2 r y := by
    funext a
    match a with
    | ⟨0, _⟩ => exact Fin.ext (by show r.val + 1 * x.val = r.val; omega)
    | ⟨1, _⟩ => exact Fin.ext (by show 0 + 1 * y.val = y.val; omega)
  show (Rect.unit (s := S2x4x256x1024) ![s.val, k.val, 0, 0] S1x1x256x1024.size ho).emb
      (Shape.reshapeEquiv _ ((Rect.unit (s := S256x1024) ![r.val, 0] S1x1024.size hp).emb (ix2 x y))) = ix4 s k r y
  rw [e1]
  refine (congrArg _ (reshapeEquiv_ix2_11ab _ r y)).trans ?_
  funext a
  match a with
  | ⟨0, _⟩ => exact Fin.ext (by show s.val + 1 * 0 = s.val; omega)
  | ⟨1, _⟩ => exact Fin.ext (by show k.val + 1 * 0 = k.val; omega)
  | ⟨2, _⟩ => exact Fin.ext (by show 0 + 1 * r.val = r.val; omega)
  | ⟨3, _⟩ => exact Fin.ext (by show 0 + 1 * y.val = y.val; omega)

theorem srcMem_set (o : Fin 2 → ℕ) (ho) (d : Fin 49152) (h : o = ![d.val, 0]) : (srcMem o ho).view.set = srcRow d := by
  ext i
  rw [mem_srcRow]
  constructor
  · intro hi
    obtain ⟨j, -, e⟩ := Finset.mem_map.mp hi
    obtain ⟨x, y, rfl⟩ : ∃ x y, j = ix2 x y := ⟨_, _, eq_ix2 j⟩
    rw [← e, srcMem_emb o ho d h]
  · intro hi
    refine Finset.mem_map.mpr ⟨ix2 (0 : Fin 1) (i 1), Finset.mem_univ _, ?_⟩
    refine (srcMem_emb o ho d h 0 (i 1)).trans ?_
    rw [eq_ix2 i]
    exact congrArg (fun z => ix2 z (i 1)) (Fin.ext hi.symm)

theorem rowMem_set (o : Fin 4 → ℕ) (ho) (p : Fin 2 → ℕ) (hp) (s : Fin 2) (k : Fin 4) (r : Fin 256) (t : Fin 1024) (h : o = ![s.val, k.val, 0, 0]) (h' : p = ![r.val, 0])
    (ht : t.val = 4 * r.val + k.val) : (rowMem o ho p hp).view.set = rowOf s t := by
  ext i
  rw [mem_rowOf]
  constructor
  · intro hi
    obtain ⟨j, -, e⟩ := Finset.mem_map.mp hi
    obtain ⟨x, y, rfl⟩ : ∃ x y, j = ix2 x y := ⟨_, _, eq_ix2 j⟩
    rw [← e, rowMem_emb o ho p hp s k r h h']
    exact ⟨rfl, ht.symm⟩
  · rintro ⟨h0, h1⟩
    have h4 : (i 1).val < 4 := (i 1).isLt
    refine Finset.mem_map.mpr ⟨ix2 (0 : Fin 1) (i 3), Finset.mem_univ _, ?_⟩
    refine (rowMem_emb o ho p hp s k r h h' 0 (i 3)).trans ?_
    have hk : k = i 1 := Fin.ext (by omega)
    have hr : r = i 2 := Fin.ext (by omega)
    have hs : s = i 0 := Fin.ext h0.symm
    rw [hk, hr, hs]
    exact (eq_ix4 i).symm

/-- What transfer `t` writes on its row is what tile `b`'s slot contents hold there. -/
theorem write_row (o : Fin 4 → ℕ) (ho) (p : Fin 2 → ℕ) (hp) (q : Fin 2 → ℕ) (hq) (s : Fin 2) (k : Fin 4) (r : Fin 256) (t : Fin 1024)
    (h : o = ![s.val, k.val, 0, 0]) (h' : p = ![r.val, 0]) (ht : t.val = 4 * r.val + k.val)
    (tab : S32768.Idx → BitVec 32) (b : ℕ) (hd : q = ![(destN tab (b * 1024 + t.val)).val, 0]) {c : Dev nD}
    (fd : Buf (Elt F) ((c : Thread nD τ).loc cc0_scratch0)) (Y : Buf (Elt F) ((c : Thread nD τ).loc main_arg4)) :
    ∀ i ∈ rowOf s t, (rowMem o ho p hp).view.write (Elt F) fd ((srcMem q hq).view.read (Elt F) Y) Finset.univ i = gath (α := Elt F .f32) tab Y b i := by
  intro i hi
  rw [← rowMem_set o ho p hp s k r t h h' ht] at hi
  obtain ⟨j, -, e⟩ := Finset.mem_map.mp hi
  obtain ⟨x, y, rfl⟩ : ∃ x y, j = ix2 x y := ⟨_, _, eq_ix2 j⟩
  have e2 := rowMem_emb o ho p hp s k r h h' x y
  have e1 := srcMem_emb q hq _ hd x y
  rw [← e]
  refine ((View.write_emb_of_mem (v := (rowMem o ho p hp).view) fd _ (Finset.mem_univ _)).trans ?_)
  rw [e2]
  refine (show (srcMem q hq).view.read (Elt F) Y (ix2 x y) = Y ((srcMem q hq).view.emb (ix2 x y)) from rfl).trans ?_
  rw [e1]
  unfold gath
  rw [ht]

end Cert.Combine

end
-- ==== Proof.Gather.lean ====
/- One transfer of the combine kernel: reading its word, issuing it against its slot's batch; what a slot holds between points. Hand-written. -/
module

public import proofs.«01_k».proof.Proof.Rows
public import proofs.«01_k».proof.Proof.Gen.KernelIdeal.Loops
public import proofs.«01_k».proof.Proof.Gen.KernelIdeal.Launch

@[expose] public section

set_option maxRecDepth 16384

noncomputable section

namespace Cert.Combine

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- No call of the program varies. -/
abbrev 𝒱₀ : Variants := Variants.none

/-! ## What a slot holds -/

section Names

variable (c : Dev nD) (tab : S32768.Idx → BitVec 32) (Y : S49152x1024.Idx → Elt F .f32)

/-- The share of the rows' array slot `s`'s transfers read under. -/
def qs : Fin 2 → PosShare TreeShare := ![fullShare.left, fullShare.right]
/-- The units one transfer puts on its cell. -/
def NN : ℕ := sig.dmaCredit .tc (Kind.tc.table .vmem) cc0_scratch0.idx S1x1024 .f32
/-- The table of row numbers, as the kernel holds it. -/
def table : sProp 𝕄 := (c : Thread nD τ).loc main_arg0 ↦{fullShare.right} (tab : Buf (Elt F) ((c : Thread nD τ).loc main_arg0))
/-- Elements `S` of the gather buffer. -/
def buf (S : Finset S2x4x256x1024.Idx) (f : S2x4x256x1024.Idx → Elt F .f32) : sProp 𝕄 :=
  (c : Thread nD τ).loc cc0_scratch0 ↦[S]{fullShare} (f : Buf (Elt F) ((c : Thread nD τ).loc cc0_scratch0))
/-- Elements `S` of the rows' array at a share. -/
def rows (S : Finset S49152x1024.Idx) (q : PosShare TreeShare) : sProp 𝕄 :=
  (c : Thread nD τ).loc main_arg4 ↦[S]{q} (Y : Buf (Elt F) ((c : Thread nD τ).loc main_arg4))
/-- The row transfer `t` of tile `b` reads. -/
def rowNo (b : ℕ) (t : Fin 1024) : Fin 49152 := destN tab (b * 1024 + t.val)
/-- The leaf of slot `s`'s share that transfer `t` reads under. -/
def leafOf (s : Fin 2) (t : Fin 1024) : PosShare TreeShare := ShareLeaves.leaf 10 (qs s) t

/-- What transfer `t` of tile `b` into slot `s` starts from. -/
def srcS (s : Fin 2) (b : ℕ) (t : Fin 1024) : sProp 𝕄 := iprop(rows c Y (srcRow (rowNo tab b t)) (leafOf s t) ∗ ∃ f, buf c (rowOf s t) f)
/-- What it delivers. -/
def delD (s : Fin 2) (b : ℕ) (t : Fin 1024) : sProp 𝕄 := iprop(buf c (rowOf s t) (gath tab Y b) ∗ rows c Y (srcRow (rowNo tab b t)) (leafOf s t))
/-- What of its leaf it leaves. -/
def compC (s : Fin 2) (b : ℕ) (t : Fin 1024) : sProp 𝕄 := rows c Y (Finset.univ \ srcRow (rowNo tab b t)) (leafOf s t)

instance delD_storable (s : Fin 2) (b : ℕ) (t : Fin 1024) : Storable (upEmb : UEmb _ 𝕄) (delD c tab Y s b t) := by
  unfold delD buf rows; infer_instance

/-- Slot `s`'s batch for tile `b`, `j` transfers issued and `u` units consumed. -/
def batch (s : Fin 2) (b j u : ℕ) : sProp 𝕄 :=
  Transfers.Batch (countersEmb (U := Pipeline.UD sig nD τ)) (c : Thread nD τ) (.dma (cell s)) () NN (delD c tab Y s b) j u

/-- A slot nothing is in flight into. -/
def idleS (s : Fin 2) : sProp 𝕄 := iprop((∃ f, buf c (slotOf s) f) ∗ semVal ((c : Thread nD τ), SemLoc.dma (cell s)) 0 ∗ rows c Y Finset.univ (qs s))
/-- A slot tile `b`'s transfers are in flight into. -/
def flyS (s : Fin 2) (b : ℕ) : sProp 𝕄 := iprop(batch c tab Y s b 1024 0 ∗ bigSep Finset.univ (compC c tab Y s b))

end Names

/-! ## One transfer -/

theorem NN_pos : 0 < NN := by decide +kernel

theorem row_inb (v : BitVec 32) (h : v.toNat < 49152) : ∀ a, (![v.toNat, 0] : Fin 2 → ℕ) a + S1x1024.size a ≤ S49152x1024.size a := fun a =>
  match a with
  | ⟨0, _⟩ => by show v.toNat + 1 ≤ 49152; omega
  | ⟨1, _⟩ => by show 0 + 1024 ≤ 1024; omega

/-- The word the kernel reads of the table. -/
theorem word_read (o : Fin 1 → ℕ) (ho : ∀ a, o a + S1.size a ≤ S32768.size a) (n : ℕ) (hn : n < 32768) (h : o = ![n])
    (tab : S32768.Idx → BitVec 32) (x : (Rect.unit (s := S32768) o S1.size ho).toLoadRect.shape.Idx) :
    (Memref.whole main_arg0).view.readAt (Elt F) (Rect.unit (s := S32768) o S1.size ho).toLoadRect tab x = tab (ix1 ⟨n, hn⟩) := by
  subst h
  refine congrArg tab (funext fun a => ?_)
  match a with
  | ⟨0, _⟩ =>
    have hx : (x 0).val < 1 := (x 0).isLt
    exact Fin.ext (by show n + 1 * (x 0).val = n; omega)

theorem destN_of (tab : S32768.Idx → BitVec 32) (hR : InRange tab) (n : ℕ) (hn : n < 32768) : (tab (ix1 ⟨n, hn⟩)).toNat = (destN tab n).val := by
  have h1 := hR (ix1 ⟨n, hn⟩)
  unfold destN
  show _ = (tab (ix1 ⟨n % 32768, _⟩)).toNat % 49152
  have e : (⟨n % 32768, Nat.mod_lt _ (by decide)⟩ : Fin 32768) = ⟨n, hn⟩ := Fin.ext (Nat.mod_eq_of_lt hn)
  rw [e, Nat.mod_eq_of_lt h1]

/-- Transfer `j`, from the word that names its row to its issue. -/
theorem issue_step (c : Dev nD) {tab : S32768.Idx → BitVec 32} (hR : InRange tab) {Y : S49152x1024.Idx → Elt F .f32} {s : Fin 2} {b : ℕ} (hb : b < 32)
    {j : ℕ} (hj : j < 1024) (k : Fin 4) (r : Fin 256) (hjr : j = 4 * r.val + k.val)
    {w : Fin 1 → ℕ} {hw : ∀ a, w a + S1.size a ≤ S32768.size a} (hwe : w = ![b * 1024 + j])
    {hl : (Memref.whole main_arg0).view.LoadsAt (Rect.unit (s := S32768) w S1.size hw).toLoadRect} {x : (Rect.unit (s := S32768) w S1.size hw).toLoadRect.shape.Idx}
    (P : BitVec 32 → Prop) (dP : ∀ v, Decidable (P v)) (off : BitVec 32 → Fin 2 → ℕ)
    (inb : ∀ v, P v → ∀ a, off v a + S1x1024.size a ≤ S49152x1024.size a) (hoff : ∀ v, off v = ![v.toNat, 0]) (hP : ∀ v, v.toNat < 49152 → P v)
    {g : Fin 1 → ℕ} {hg : ∀ a, g a + S1.size a ≤ S2.size a} (hge : g = ![s.val])
    {o : Fin 4 → ℕ} {ho : ∀ a, o a + S1x1x256x1024.size a ≤ S2x4x256x1024.size a} (hoe : o = ![s.val, k.val, 0, 0])
    {p : Fin 2 → ℕ} {hp : ∀ a, p a + S1x1024.size a ≤ S256x1024.size a} (hpe : p = ![r.val, 0])
    {h1 : ∀ (v : BitVec 32) (h : P v), (srcMem (off v) (inb v h)).view.WordExact} {h2 : (rowMem o ho p hp).view.WordExact}
    {h3 : DmaTarget.Typed (nD := nD) (p := (c : Thread nD τ).2) .hbm (.dma (semAt g hg)) (.here (rowMem o ho p hp))}
    {kk : PUnit → Prog (TpuEff nD τ sig (Elt F) Λ₀ .tc) Unit} {Q : Unit → sProp 𝕄} :
    iprop(table (F := F) c tab ∗ batch c tab Y s b j 0 ∗ srcS c tab Y s b ⟨j, hj⟩)
      ⊢ iprop((iprop(table (F := F) c tab ∗ batch c tab Y s b (j + 1) 0) -∗ wp frame (wpE defs₀ 𝒱₀ (c : Thread nD τ) none) Set.univ (kk ⟨⟩) Q)
        -∗ wp frame (wpE defs₀ 𝒱₀ (c : Thread nD τ) none) Set.univ
          (.op (.load (Memref.whole main_arg0) (Rect.unit (s := S32768) w S1.size hw).toLoadRect hl) fun f =>
            .op (.assume (P (f x)) (dP (f x))) fun h =>
              .op (.enqueueDma (srcMem (off (f x)) (inb (f x) h.down)) (.here (rowMem o ho p hp)) (.dma (semAt g hg)) (h1 (f x) h.down) h2 h3) kk) Q) := by
  obtain ⟨hge, hoe, hpe⟩ := And.intro hge (And.intro hoe hpe)
  have hn : b * 1024 + j < 32768 := by omega
  have hv := destN_of tab hR _ hn
  have hP' : P (tab (ix1 ⟨b * 1024 + j, hn⟩)) := hP _ (hR _)
  unfold table srcS
  iintro ⟨HT, HB, HS, ⟨%f, HD⟩⟩ Hk
  iapply (wp_load 𝒱₀ (c : Thread nD τ) none Set.univ (m := Memref.whole main_arg0) (r := (Rect.unit (s := S32768) w S1.size hw).toLoadRect) (hl := hl)
    (q := fullShare.right) (f := (tab : Buf (Elt F) ((c : Thread nD τ).loc main_arg0))) (Finset.subset_univ _)) $$ HT
  iintro HT
  rw [word_read w hw _ hn hwe tab x]
  iapply (wp_assume 𝒱₀ (c : Thread nD τ) none Set.univ hP')
  have hq : off (tab (ix1 ⟨b * 1024 + j, hn⟩)) = ![(destN tab (b * 1024 + j)).val, 0] := by rw [hoff, hv]
  have hset := srcMem_set _ (inb _ hP') _ hq
  have hdst := rowMem_set o ho p hp s k r ⟨j, hj⟩ hoe hpe hjr
  unfold batch rows buf
  have hcell := semAt_eq g hg s hge
  rw [← hcell]
  iapply (Transfers.wp_dmaBatch (countersEmb (U := Pipeline.UD sig nD τ)) 𝒱₀ (c : Thread nD τ) none (D := delD c tab Y s b) () NN rfl hdst.le hj (Nat.zero_le _) ?_) $$ [HS HD HB]
  · rw [hset]
    exact sep_mono (Entails.of_eq (pointsTo_congr (write_row o ho p hp _ (inb _ hP') s k r ⟨j, hj⟩ hoe hpe hjr tab b hq (c := c) f Y))) .rfl
  · isplitl [HS]
    · rw [hset]; iexact HS
    isplitl [HD]; · iexact HD
    iexact HB
  iintro HB
  iapply Hk
  isplitl [HT] <;> iassumption

/-- What a tile's issue loop holds before trip `t`: four transfers issued a trip. -/
def issueInv (c : Dev nD) (tab : S32768.Idx → BitVec 32) (Y : S49152x1024.Idx → Elt F .f32) (s : Fin 2) (b : ℕ) (t : ℕ) (_ : Unit) : sProp 𝕄 :=
  iprop(table (F := F) c tab ∗ batch c tab Y s b (4 * t) 0 ∗ bigSep (Transfers.pending (4 * t)) (srcS c tab Y s b))

/-- A trip of the first tile's issue loop. -/
theorem issue1 (c : Dev nD) {tab : S32768.Idx → BitVec 32} (hR : InRange tab) {Y : S49152x1024.Idx → Elt F .f32} (i : grid0.Coords)
    (a1 : Memref sig .tc .vmem S256x1024 .f32) (h1 : a1.IsWhole) (a2 : Memref sig .tc .vmem S256x128 .f32) (h2 : a2.IsWhole)
    (a3 : Memref sig .tc .vmem S1x1x6144 .f32) (h3 : a3.IsWhole) (a5 : Memref sig .tc .vmem S256x1024 .f32) (h5 : a5.IsWhole)
    (a6 : Memref sig .tc .vmem S256x1024 .f32) (h6 : a6.IsWhole)
    (hc : k0_cond1 i = 1#1) (t : Fin k0_t1_loop.trips) (a : Unit) :
    issueInv c tab Y 0 0 t.val a
      ⊢ wp frame (wpE defs₀ 𝒱₀ (c : Thread nD τ) none) Set.univ
          (k0_t1_body (F := F) i (Memref.whole main_arg0) (Memref.isWhole_whole _) a1 h1 a2 h2 a3 h3 (Memref.whole main_arg4) (Memref.isWhole_whole _) a5 h5 a6 h6
            (Memref.whole cc0_scratch0) (Memref.isWhole_whole _) cc0_scratch1 hc t a)
          (fun a' => issueInv c tab Y 0 0 (t.val + 1) a') := by
  have ht : t.val < 256 := trips1 ▸ t.isLt
  unfold issueInv
  sl_unfold [k0_t1_body, k0_part1]
  simp only [k0_part1_eq_skeleton, k0_part1_skel, smemLoad, smemLoadElt, Prog.lift, Prog.bind_op, Prog.bind_ret, pure_bind]
  rw [Transfers.bigSep_pending_step _ (4 * t.val) (by omega), Transfers.bigSep_pending_step _ (4 * t.val + 1) (by omega),
    Transfers.bigSep_pending_step _ (4 * t.val + 1 + 1) (by omega), Transfers.bigSep_pending_step _ (4 * t.val + 1 + 1 + 1) (by omega)]
  iintro ⟨HT, HB, HS0, HS1, HS2, HS3, HS⟩
  iapply (issue_step c hR (s := 0) (b := 0) (by decide) (j := 4 * t.val) (by omega) 0 ⟨t.val, ht⟩ rfl (by rw [off1_eq]; congr 1; omega) (k0_chk1 i) (k0_chk1.dec i)
    k0_off3 (fun v h => k0_off3_inb i v h hc) (fun _ => rfl) (fun v h _ => row_inb v h) rfl rfl (off2_eq t)) $$ [HT HB HS0]
  · iframe
  iintro ⟨HT, HB⟩
  iapply (issue_step c hR (s := 0) (b := 0) (by decide) (j := 4 * t.val + 1) (by omega) 1 ⟨t.val, ht⟩ rfl (by rw [off4_eq]; congr 1; omega) (k0_chk2 i) (k0_chk2.dec i)
    k0_off6 (fun v h => k0_off6_inb i v h hc) (fun _ => rfl) (fun v h _ => row_inb v h) rfl rfl (off2_eq t)) $$ [HT HB HS1]
  · iframe
  iintro ⟨HT, HB⟩
  iapply (issue_step c hR (s := 0) (b := 0) (by decide) (j := 4 * t.val + 1 + 1) (by omega) 2 ⟨t.val, ht⟩ rfl (by rw [off7_eq]; congr 1; omega) (k0_chk3 i) (k0_chk3.dec i)
    k0_off9 (fun v h => k0_off9_inb i v h hc) (fun _ => rfl) (fun v h _ => row_inb v h) rfl rfl (off2_eq t)) $$ [HT HB HS2]
  · iframe
  iintro ⟨HT, HB⟩
  iapply (issue_step c hR (s := 0) (b := 0) (by decide) (j := 4 * t.val + 1 + 1 + 1) (by omega) 3 ⟨t.val, ht⟩ rfl (by rw [off10_eq]; congr 1; omega) (k0_chk4 i) (k0_chk4.dec i)
    k0_off12 (fun v h => k0_off12_inb i v h hc) (fun _ => rfl) (fun v h _ => row_inb v h) rfl rfl (off2_eq t)) $$ [HT HB HS3]
  · iframe
  iintro ⟨HT, HB⟩
  rw [wp_pure, show 4 * (t.val + 1) = 4 * t.val + 1 + 1 + 1 + 1 from rfl]
  imodintro
  iframe

/-- A trip of a later tile's issue loop. -/
theorem issue2 (c : Dev nD) {tab : S32768.Idx → BitVec 32} (hR : InRange tab) {Y : S49152x1024.Idx → Elt F .f32} (p : Fin grid0.N) (s : Fin 2) (hs : s.val = (p.val + 1) % 2)
    (a1 : Memref sig .tc .vmem S256x1024 .f32) (h1 : a1.IsWhole) (a2 : Memref sig .tc .vmem S256x128 .f32) (h2 : a2.IsWhole)
    (a3 : Memref sig .tc .vmem S1x1x6144 .f32) (h3 : a3.IsWhole) (a5 : Memref sig .tc .vmem S256x1024 .f32) (h5 : a5.IsWhole)
    (a6 : Memref sig .tc .vmem S256x1024 .f32) (h6 : a6.IsWhole)
    (hp : p.val < 31) (hc : k0_cond2 (grid0.coords p) = 1#1) (v61 : BitVec 32) (t : Fin k0_t2_loop.trips) (a : Unit) :
    issueInv c tab Y s (p.val + 1) t.val a
      ⊢ wp frame (wpE defs₀ 𝒱₀ (c : Thread nD τ) none) Set.univ
          (k0_t2_body (F := F) (grid0.coords p) (Memref.whole main_arg0) (Memref.isWhole_whole _) a1 h1 a2 h2 a3 h3 (Memref.whole main_arg4) (Memref.isWhole_whole _) a5 h5 a6 h6
            (Memref.whole cc0_scratch0) (Memref.isWhole_whole _) cc0_scratch1 hc v61 t a)
          (fun a' => issueInv c tab Y s (p.val + 1) (t.val + 1) a') := by
  have ht : t.val < 256 := trips2 ▸ t.isLt
  unfold issueInv
  sl_unfold [k0_t2_body, k0_part2]
  simp only [k0_part2_eq_skeleton, k0_part2_skel, smemLoad, smemLoadElt, Prog.lift, Prog.bind_op, Prog.bind_ret, pure_bind]
  rw [Transfers.bigSep_pending_step _ (4 * t.val) (by omega), Transfers.bigSep_pending_step _ (4 * t.val + 1) (by omega),
    Transfers.bigSep_pending_step _ (4 * t.val + 1 + 1) (by omega), Transfers.bigSep_pending_step _ (4 * t.val + 1 + 1 + 1) (by omega)]
  iintro ⟨HT, HB, HS0, HS1, HS2, HS3, HS⟩
  iapply (issue_step c hR (s := s) (b := p.val + 1) (by omega) (j := 4 * t.val) (by omega) 0 ⟨t.val, ht⟩ rfl (off13_eq p t) (k0_chk5 _) (k0_chk5.dec _)
    k0_off17 (fun v h => k0_off17_inb _ v h hc) (fun _ => rfl) (fun v h _ => row_inb v h) (by rw [hs]; exact off14_eq p) (by rw [hs]; exact off15_eq p) (off16_eq t)) $$ [HT HB HS0]
  · iframe
  iintro ⟨HT, HB⟩
  iapply (issue_step c hR (s := s) (b := p.val + 1) (by omega) (j := 4 * t.val + 1) (by omega) 1 ⟨t.val, ht⟩ rfl (off18_eq p t) (k0_chk6 _) (k0_chk6.dec _)
    k0_off22 (fun v h => k0_off22_inb _ v h hc) (fun _ => rfl) (fun v h _ => row_inb v h) (by rw [hs]; exact off14_eq p) (by rw [hs]; exact off20_eq p) (off16_eq t)) $$ [HT HB HS1]
  · iframe
  iintro ⟨HT, HB⟩
  iapply (issue_step c hR (s := s) (b := p.val + 1) (by omega) (j := 4 * t.val + 1 + 1) (by omega) 2 ⟨t.val, ht⟩ rfl (off23_eq p t) (k0_chk7 _) (k0_chk7.dec _)
    k0_off27 (fun v h => k0_off27_inb _ v h hc) (fun _ => rfl) (fun v h _ => row_inb v h) (by rw [hs]; exact off14_eq p) (by rw [hs]; exact off25_eq p) (off16_eq t)) $$ [HT HB HS2]
  · iframe
  iintro ⟨HT, HB⟩
  iapply (issue_step c hR (s := s) (b := p.val + 1) (by omega) (j := 4 * t.val + 1 + 1 + 1) (by omega) 3 ⟨t.val, ht⟩ rfl (off28_eq p t) (k0_chk8 _) (k0_chk8.dec _)
    k0_off32 (fun v h => k0_off32_inb _ v h hc) (fun _ => rfl) (fun v h _ => row_inb v h) (by rw [hs]; exact off14_eq p) (by rw [hs]; exact off30_eq p) (off16_eq t)) $$ [HT HB HS3]
  · iframe
  iintro ⟨HT, HB⟩
  rw [wp_pure, show 4 * (t.val + 1) = 4 * t.val + 1 + 1 + 1 + 1 from rfl]
  imodintro
  iframe

/-! ## Waiting for a tile -/

/-- What a tile's wait loop holds before trip `t`. -/
def waitInv (c : Dev nD) (tab : S32768.Idx → BitVec 32) (Y : S49152x1024.Idx → Elt F .f32) (s : Fin 2) (b : ℕ) (t : ℕ) (_ : Unit) : sProp 𝕄 :=
  iprop((∃ W : Waits sig Unit, owes (c : Thread nD τ) 0 W) ∗ batch c tab Y s b 1024 (4 * t * NN))

/-- One wait. -/
theorem wait_step (c : Dev nD) {tab : S32768.Idx → BitVec 32} {Y : S49152x1024.Idx → Elt F .f32} {s : Fin 2} {b : ℕ} {u : ℕ} (hu : u < 1024)
    {g : Fin 1 → ℕ} {hg : ∀ a, g a + S1.size a ≤ S2.size a} (hge : g = ![s.val])
    {o : Fin 4 → ℕ} {ho : ∀ a, o a + S1x1x256x1024.size a ≤ S2x4x256x1024.size a}
    {p : Fin 2 → ℕ} {hp : ∀ a, p a + S1x1024.size a ≤ S256x1024.size a} {srcw : Memref sig .tc .hbm S1x1024 .f32}
    {h1 : srcw.view.WordExact} {h2 : (rowMem o ho p hp).view.WordExact}
    {kk : PUnit → Prog (TpuEff nD τ sig (Elt F) Λ₀ .tc) Unit} {Q : Unit → sProp 𝕄} :
    iprop((∃ W : Waits sig Unit, owes (c : Thread nD τ) 0 W) ∗ batch c tab Y s b 1024 (u * NN))
      ⊢ iprop((iprop((∃ W : Waits sig Unit, owes (c : Thread nD τ) 0 W) ∗ batch c tab Y s b 1024 ((u + 1) * NN)) -∗ wp frame (wpE defs₀ 𝒱₀ (c : Thread nD τ) none) Set.univ (kk ⟨⟩) Q)
        -∗ wp frame (wpE defs₀ 𝒱₀ (c : Thread nD τ) none) Set.univ (.op (.waitDma2 (semAt g hg) srcw (rowMem o ho p hp) h1 h2) kk) Q) := by
  iintro ⟨⟨%W, HO⟩, HB⟩ Hk
  unfold batch
  have hcell := semAt_eq g hg s hge
  rw [← hcell]
  have hle : u * NN + 1 * NN ≤ NN * 1024 := by rw [← Nat.add_mul, Nat.mul_comm NN]; exact Nat.mul_le_mul_right _ hu
  iapply (Transfers.wp_waitBatchMul (countersEmb (U := Pipeline.UD sig nD τ)) 𝒱₀ (c : Thread nD τ) none () (N := NN) 1 (by rw [Nat.one_mul]; rfl) hle) $$ [HB HO]
  · isplitl [HB] <;> iassumption
  iintro ⟨HB, HO⟩
  iapply Hk
  isplitl [HO]
  · iexists _; iexact HO
  rw [Nat.add_mul]
  iexact HB

/-- A trip of a tile's wait loop. -/
theorem wait3 (c : Dev nD) {tab : S32768.Idx → BitVec 32} {Y : S49152x1024.Idx → Elt F .f32} (p : Fin grid0.N) (s : Fin 2) (hs : s.val = p.val % 2)
    (a1 : Memref sig .tc .vmem S256x1024 .f32) (h1 : a1.IsWhole) (a2 : Memref sig .tc .vmem S256x128 .f32) (h2 : a2.IsWhole)
    (a3 : Memref sig .tc .vmem S1x1x6144 .f32) (h3 : a3.IsWhole) (a5 : Memref sig .tc .vmem S256x1024 .f32) (h5 : a5.IsWhole)
    (a6 : Memref sig .tc .vmem S256x1024 .f32) (h6 : a6.IsWhole) (b : ℕ) (t : Fin k0_t3_loop.trips) (a : Unit) :
    waitInv c tab Y s b t.val a
      ⊢ wp frame (wpE defs₀ 𝒱₀ (c : Thread nD τ) none) Set.univ
          (k0_t3_body (F := F) (grid0.coords p) (Memref.whole main_arg0) (Memref.isWhole_whole _) a1 h1 a2 h2 a3 h3 (Memref.whole main_arg4) (Memref.isWhole_whole _) a5 h5 a6 h6
            (Memref.whole cc0_scratch0) (Memref.isWhole_whole _) cc0_scratch1 t a)
          (fun a' => waitInv c tab Y s b (t.val + 1) a') := by
  have ht : t.val < 256 := trips3 ▸ t.isLt
  unfold waitInv
  sl_unfold [k0_t3_body]
  simp only [Prog.lift, Prog.bind_op, Prog.bind_ret, pure_bind]
  iintro H
  iapply (wait_step c (s := s) (b := b) (u := 4 * t.val) (by omega) (by rw [hs]; exact off33_eq p)) $$ H
  iintro H
  iapply (wait_step c (s := s) (b := b) (u := 4 * t.val + 1) (by omega) (by rw [hs]; exact off33_eq p)) $$ H
  iintro H
  iapply (wait_step c (s := s) (b := b) (u := 4 * t.val + 1 + 1) (by omega) (by rw [hs]; exact off33_eq p)) $$ H
  iintro H
  iapply (wait_step c (s := s) (b := b) (u := 4 * t.val + 1 + 1 + 1) (by omega) (by rw [hs]; exact off33_eq p)) $$ H
  iintro H
  rw [wp_pure, show 4 * (t.val + 1) = 4 * t.val + 1 + 1 + 1 + 1 from rfl]
  imodintro
  iexact H

/-! ## A slot between idle and in flight -/

/-- The rows' array under a slot's share, transfer by transfer: the row it reads and what it leaves. -/
theorem rows_leaves (c : Dev nD) (tab : S32768.Idx → BitVec 32) (Y : S49152x1024.Idx → Elt F .f32) (s : Fin 2) (b : ℕ) :
    (rows c Y Finset.univ (qs s) : sProp 𝕄)
      = iprop(bigSep Finset.univ (fun t => rows c Y (srcRow (rowNo tab b t)) (leafOf s t)) ∗ bigSep Finset.univ (compC c tab Y s b)) := by
  have e1 : (rows c Y Finset.univ (qs s) : sProp 𝕄) = bigSep Finset.univ fun t : Fin 1024 => rows c Y Finset.univ (leafOf s t) :=
    ShareLeaves.pointsTo_leaves (ℓ := (c : Thread nD τ).loc main_arg4) (Finset.univ) (Y : Buf (Elt F) ((c : Thread nD τ).loc main_arg4)) 10 (qs s)
  rw [e1]
  refine Eq.trans ?_ (bigSep_sep _ _ _)
  refine bigSep_congr fun t _ => ?_
  exact Entails.antisymm (pointsTo_split_subset (ℓ := (c : Thread nD τ).loc main_arg4) (Finset.subset_univ _)).1 (pointsTo_split_subset (ℓ := (c : Thread nD τ).loc main_arg4) (Finset.subset_univ _)).2

theorem buf_rows (c : Dev nD) (s : Fin 2) (f : S2x4x256x1024.Idx → Elt F .f32) :
    (buf c (slotOf s) f : sProp 𝕄) = bigSep Finset.univ fun t => buf c (rowOf s t) f :=
  (congrArg (fun S => buf c S f) (rowOf_cover s)).symm.trans
    (pointsTo_biUnion (ℓ := (c : Thread nD τ).loc cc0_scratch0) Finset.univ (rowOf s) fun t _ t' _ h => rowOf_disjoint s t t' h)

/-- An idle slot, its batch for tile `b` allocated. -/
theorem start_tile (c : Dev nD) (tab : S32768.Idx → BitVec 32) (Y : S49152x1024.Idx → Elt F .f32) (s : Fin 2) (b : ℕ) :
    (idleS c Y s : sProp 𝕄) ⊢ |={Set.univ}=> iprop(batch c tab Y s b 0 0 ∗ bigSep (Transfers.pending 0) (srcS c tab Y s b) ∗ bigSep Finset.univ (compC c tab Y s b)) := by
  unfold idleS
  rw [rows_leaves c tab Y s b]
  iintro ⟨⟨%f, HF⟩, HV, HR, HC⟩
  imod (Transfers.batch_alloc' (Lvl := ℕ) (countersEmb (U := Pipeline.UD sig nD τ)) (c : Thread nD τ) () NN (delD c tab Y s b) (sm := SemLoc.dma (cell s)) (E := Set.univ)) $$ HV with HB
  imodintro
  isplitl [HB]; · unfold batch; iexact HB
  isplitl [HF HR]
  · rw [← Transfers.bigSep_pending_zero]
    ihave HF := (Entails.of_eq (buf_rows c s f)) $$ HF
    have e : (iprop(bigSep Finset.univ (fun t => rows c Y (srcRow (rowNo tab b t)) (leafOf s t)) ∗ bigSep Finset.univ (fun t => buf c (rowOf s t) f)) : sProp 𝕄)
        ⊢ bigSep Finset.univ (srcS c tab Y s b) := by
      refine (Entails.of_eq (bigSep_sep _ _ _).symm).trans ?_
      refine bigSep_mono fun t _ => ?_
      show iprop(rows c Y (srcRow (rowNo tab b t)) (leafOf s t) ∗ buf c (rowOf s t) f) ⊢ iprop(rows c Y (srcRow (rowNo tab b t)) (leafOf s t) ∗ ∃ f, buf c (rowOf s t) f)
      iintro ⟨HR, HF⟩
      isplitl [HR]; · iexact HR
      iexists f; iexact HF
    iapply e $$ [HR HF]
    isplitl [HR] <;> iassumption
  iexact HC

/-- A tile landed: the slot at the gathered rows, its cell at zero, the share whole. -/
theorem end_tile (c : Dev nD) (tab : S32768.Idx → BitVec 32) (Y : S49152x1024.Idx → Elt F .f32) (s : Fin 2) (b : ℕ) :
    (iprop(batch c tab Y s b 1024 (1024 * NN) ∗ bigSep Finset.univ (compC c tab Y s b)) : sProp 𝕄)
      ⊢ |={Set.univ}=> iprop(buf c (slotOf s) (gath tab Y b) ∗ semVal ((c : Thread nD τ), SemLoc.dma (cell s)) 0 ∗ rows c Y Finset.univ (qs s)) := by
  rw [rows_leaves c tab Y s b, buf_rows, Nat.mul_comm 1024 NN]
  unfold batch
  iintro ⟨HB, HC⟩
  imod (Transfers.batch_collect' (countersEmb (U := Pipeline.UD sig nD τ)) (c : Thread nD τ) NN_pos) $$ HB with ⟨HD, HV⟩
  imodintro
  have e : (bigSep Finset.univ (delD c tab Y s b) : sProp 𝕄)
      ⊢ iprop(bigSep Finset.univ (fun t => buf c (rowOf s t) (gath tab Y b)) ∗ bigSep Finset.univ (fun t => rows c Y (srcRow (rowNo tab b t)) (leafOf s t))) :=
    Entails.of_eq (bigSep_sep _ _ _)
  ihave HD' := e $$ HD
  icases HD' with ⟨HF, HR⟩
  isplitl [HF]; · iexact HF
  isplitl [HV]; · iexact HV
  isplitl [HR] <;> iassumption

end Cert.Combine

end
-- ==== Proof.Tile.lean ====
/- One grid point of the combine kernel: the next tile's transfers issued, this tile's waited for, its rows combined and stored. Hand-written. -/
module

public import proofs.«01_k».proof.Proof.Gather
public import Idealize.ShloMosaic.Lib.VecWindow
public import Idealize.ShloMosaic.Lib.Scf

@[expose] public section

set_option maxRecDepth 16384

noncomputable section

namespace Cert.Combine

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Loads and stores of a whole staging buffer -/

theorem stage_load (c : Dev nD) {cs : CoreSpace} {sh : Shape} {e : EltTy} {m : Memref sig .tc cs sh e} {off : Fin sh.rank → ℕ} {inb : ∀ a, off a + sh.size a ≤ sh.size a}
    {hl : m.view.LoadsAt (Rect.unit off sh.size inb).toLoadRect} {q : PosShare TreeShare} {X : sh.Idx → Elt F e} {α : Type}
    {k : (sh.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE defs₀ 𝒱₀ (c : Thread nD τ) none) Set.univ (k X) Q)
        -∗ wp frame (wpE defs₀ 𝒱₀ (c : Thread nD τ) none) Set.univ (.op (.load m (Rect.unit off sh.size inb).toLoadRect hl) k) Q) := by
  unfold owns
  iintro ⟨%f, %hf, H⟩ Hk
  subst hf
  iapply (wp_load 𝒱₀ (c : Thread nD τ) none Set.univ (m := m) (r := (Rect.unit off sh.size inb).toLoadRect) (hl := hl) (q := q) (f := f) (S := m.view.set)
    (Finset.map_subset_map.mpr (Finset.subset_univ _))) $$ H
  iintro H
  rw [View.readAt_full m.view f inb]
  iapply Hk
  iexists f
  isplitr
  · ipureintro; rfl
  iexact H

theorem stage_store (c : Dev nD) {cs : CoreSpace} {sh : Shape} {e : EltTy} {m : Memref sig .tc cs sh e} {off : Fin sh.rank → ℕ} {inb : ∀ a, off a + sh.size a ≤ sh.size a}
    {w X : sh.Idx → Elt F e} {hx : (m.access (Rect.unit off sh.size inb)).Stores Finset.univ}
    {hm : (Finset.univ : Finset (Rect.unit off sh.size inb).shape.Idx) = Finset.univ ∨ ∀ a, (Rect.unit off sh.size inb).stride a = 1} {α : Type}
    {k : PUnit → Prog (TpuEff nD τ sig (Elt F) Λ₀ .tc) α} {Q : α → sProp 𝕄} :
    (owns (c : Thread nD τ) m fullShare X : sProp 𝕄)
      ⊢ iprop((owns (c : Thread nD τ) m fullShare w -∗ wp frame (wpE defs₀ 𝒱₀ (c : Thread nD τ) none) Set.univ (k ⟨⟩) Q)
        -∗ wp frame (wpE defs₀ 𝒱₀ (c : Thread nD τ) none) Set.univ (.op (.store m (Rect.unit off sh.size inb) w Finset.univ hx hm) k) Q) := by
  unfold owns
  iintro ⟨%f, -, H⟩ Hk
  iapply (wp_store 𝒱₀ (c : Thread nD τ) none Set.univ (m := m) (r := Rect.unit off sh.size inb) (w := w) (Mk := Finset.univ) (hx := hx) (hm := hm) (f := f)
    (S := m.view.set) (by
      show (m.view.slice (Rect.unit off sh.size inb)).set ⊆ m.view.set
      rw [View.set_slice]; exact Finset.map_subset_map.mpr (Finset.subset_univ _))) $$ H
  iintro H
  iapply Hk
  iexists m.view.writes (Elt F) f [⟨Rect.unit off sh.size inb, w⟩]
  isplitr
  · ipureintro; exact View.read_writes_full m.view f inb w []
  iexact H

/-! ## Loads of the gather buffer -/

/-- Plane `k` of tile `b`'s gathered rows, as the kernel loads it. -/
def gplane (tab : S32768.Idx → BitVec 32) (Y : S49152x1024.Idx → Elt F .f32) (b : ℕ) (k : Fin 4) : Vec F S1x1x256x1024 .f32 :=
  fun y => gath tab Y b (ix4 (0 : Fin 2) k (y 2) (y 3))

theorem scr_load (c : Dev nD) {tab : S32768.Idx → BitVec 32} {Y : S49152x1024.Idx → Elt F .f32} (s : Fin 2) (b : ℕ) (kk : Fin 4)
    {o : Fin 4 → ℕ} {ho : ∀ a, o a + S1x1x256x1024.size a ≤ S2x4x256x1024.size a} (hoe : o = ![s.val, kk.val, 0, 0])
    {hl : (Memref.whole cc0_scratch0).view.LoadsAt (Rect.unit (s := S2x4x256x1024) o S1x1x256x1024.size ho).toLoadRect} {α : Type}
    {k : Vec F S1x1x256x1024 .f32 → Prog (TpuEff nD τ sig (Elt F) Λ₀ .tc) α} {Q : α → sProp 𝕄} :
    (buf c (slotOf s) (gath tab Y b) : sProp 𝕄)
      ⊢ iprop((buf c (slotOf s) (gath tab Y b) -∗ wp frame (wpE defs₀ 𝒱₀ (c : Thread nD τ) none) Set.univ (k (gplane tab Y b kk)) Q)
        -∗ wp frame (wpE defs₀ 𝒱₀ (c : Thread nD τ) none) Set.univ
          (.op (.load (Memref.whole cc0_scratch0) (Rect.unit (s := S2x4x256x1024) o S1x1x256x1024.size ho).toLoadRect hl) k) Q) := by
  have hset : (Memref.whole cc0_scratch0).view.setOn (Rect.unit (s := S2x4x256x1024) o S1x1x256x1024.size ho).toLoadRect.set ⊆ slotOf s := by
    intro y hy
    obtain ⟨z, hz, e⟩ := Finset.mem_map.mp hy
    subst hoe
    have hz0 := Rect.mem_set_unit.mp hz 0
    rw [mem_slotOf, ← e]
    have hj1 : s.val ≤ (z 0).val := hz0.1
    have hj2 : (z 0).val < s.val + 1 := hz0.2
    show (z 0).val = s.val
    omega
  have hval : (Memref.whole cc0_scratch0).view.readAt (Elt F) (Rect.unit (s := S2x4x256x1024) o S1x1x256x1024.size ho).toLoadRect
      (gath tab Y b : Buf (Elt F) ((c : Thread nD τ).loc cc0_scratch0)) = gplane tab Y b kk := by
    subst hoe
    funext x
    have h0 : (x 0).val < 1 := (x 0).isLt
    have h1 : (x 1).val < 1 := (x 1).isLt
    have e1 : ∀ z z' : S2x4x256x1024.Idx, (z 1).val = (z' 1).val → (z 2).val = (z' 2).val → (z 3).val = (z' 3).val → gath tab Y b z = gath tab Y b z' := by
      intro z z' e1 e2 e3
      have e3' : z 3 = z' 3 := Fin.ext e3
      unfold gath
      rw [e1, e2, e3']
    refine e1 _ _ ?_ ?_ ?_
    · show kk.val + 1 * (x 1).val = kk.val; omega
    · show 0 + 1 * (x 2).val = (x 2).val; omega
    · show 0 + 1 * (x 3).val = (x 3).val; omega
  unfold buf
  iintro H Hk
  iapply (wp_load 𝒱₀ (c : Thread nD τ) none Set.univ (m := Memref.whole cc0_scratch0) (r := (Rect.unit (s := S2x4x256x1024) o S1x1x256x1024.size ho).toLoadRect) (hl := hl)
    (q := fullShare) (f := (gath tab Y b : Buf (Elt F) ((c : Thread nD τ).loc cc0_scratch0))) hset) $$ H
  iintro H
  rw [hval]
  iapply Hk
  iexact H

/-! ## The slots between points -/

/-- Tile `t`'s slot. -/
def sl (t : ℕ) : Fin 2 := ⟨t % 2, Nat.mod_lt _ (by decide)⟩

/-- Tile `t`'s slot before point `t`: in flight once the loop is under way. -/
def ahead (c : Dev nD) (tab : S32768.Idx → BitVec 32) (Y : S49152x1024.Idx → Elt F .f32) (t : ℕ) : sProp 𝕄 :=
  if t = 0 ∨ 32 ≤ t then idleS c Y (sl t) else flyS c tab Y (sl t) t
/-- Both slots before point `t`. -/
def slots (c : Dev nD) (tab : S32768.Idx → BitVec 32) (Y : S49152x1024.Idx → Elt F .f32) (t : ℕ) : sProp 𝕄 :=
  iprop(ahead c tab Y t ∗ idleS c Y (sl (t + 1)))

/-- A region under a condition, before the rest of the program. -/
theorem wp_when (c : Dev nD) {P : Prop} [Decidable P] {A R : sProp 𝕄} {α : Type} {x : P → Prog (TpuEff nD τ sig (Elt F) Λ₀ .tc) Unit}
    {k : Unit → Prog (TpuEff nD τ sig (Elt F) Λ₀ .tc) α} {Q : α → sProp 𝕄}
    (hT : ∀ h, A ⊢ wp frame (wpE defs₀ 𝒱₀ (c : Thread nD τ) none) Set.univ (x h) (fun _ => R))
    (hF : ¬ P → A ⊢ R) :
    A ⊢ iprop((R -∗ wp frame (wpE defs₀ 𝒱₀ (c : Thread nD τ) none) Set.univ (k ()) Q)
      -∗ wp frame (wpE defs₀ 𝒱₀ (c : Thread nD τ) none) Set.univ (if h : P then x h >>= k else k ()) Q) := by
  by_cases h : P
  · rw [dif_pos h, wp_bind]
    iintro HA Hk
    iapply (wp_wand _ _ _) $$ [HA]
    · iapply (hT h) $$ HA
    iintro %_ HR
    iapply Hk $$ HR
  · rw [dif_neg h]
    iintro HA Hk
    iapply Hk
    iapply (hF h) $$ HA

section Steps

variable (c : Dev nD) {tab : S32768.Idx → BitVec 32} (hR : InRange tab) {Y : S49152x1024.Idx → Elt F .f32} (p : Fin grid0.N)
  (a1 : Memref sig .tc .vmem S256x1024 .f32) (h1 : a1.IsWhole) (a2 : Memref sig .tc .vmem S256x128 .f32) (h2 : a2.IsWhole)
  (a3 : Memref sig .tc .vmem S1x1x6144 .f32) (h3 : a3.IsWhole) (a5 : Memref sig .tc .vmem S256x1024 .f32) (h5 : a5.IsWhole)
  (a6 : Memref sig .tc .vmem S256x1024 .f32) (h6 : a6.IsWhole)

include hR

/-- The first tile's transfers issued. -/
theorem stepA (hc : k0_cond1 (grid0.coords p) = 1#1) :
    (iprop(table (F := F) c tab ∗ ahead c tab Y p.val) : sProp 𝕄)
      ⊢ wp frame (wpE defs₀ 𝒱₀ (c : Thread nD τ) none) Set.univ
          (Scf.Loop.for k0_t1_loop (k0_t1_ok (grid0.coords p) hc) ⟨⟩ (k0_t1_body (F := F) (grid0.coords p) (Memref.whole main_arg0) (Memref.isWhole_whole _) a1 h1 a2 h2 a3 h3
            (Memref.whole main_arg4) (Memref.isWhole_whole _) a5 h5 a6 h6 (Memref.whole cc0_scratch0) (Memref.isWhole_whole _) cc0_scratch1 hc))
          (fun _ => iprop(table (F := F) c tab ∗ flyS c tab Y (sl p.val) p.val)) := by
  have hp := (cond1_iff p).mp hc
  have e : sl 0 = 0 := rfl
  unfold ahead
  rw [if_pos (Or.inl hp), hp, e]
  iintro ⟨HT, HI⟩
  imod (start_tile c tab Y 0 0) $$ HI with ⟨HB, HS, HC⟩
  iapply (Scf.wp_for _ _ _ _ _ _ _ _ _ (fun t a => issueInv c tab Y 0 0 t a)
    (fun t a => issue1 c hR (grid0.coords p) a1 h1 a2 h2 a3 h3 a5 h5 a6 h6 hc t a))
  isplitl [HT HB HS]
  · unfold issueInv; iframe
  iintro %acc HL
  ihave HL := (show issueInv c tab Y 0 0 k0_t1_loop.trips acc ⊢ issueInv c tab Y 0 0 256 acc from Entails.of_eq (by rw [trips1])) $$ HL
  unfold issueInv flyS
  icases HL with ⟨HT, HB, -⟩
  isplitl [HT]; · iexact HT
  isplitl [HB]; · iexact HB
  iexact HC

/-- The next tile's transfers issued. -/
theorem stepB (hc : k0_cond2 (grid0.coords p) = 1#1) (v61 : BitVec 32) :
    (iprop(table (F := F) c tab ∗ idleS c Y (sl (p.val + 1))) : sProp 𝕄)
      ⊢ wp frame (wpE defs₀ 𝒱₀ (c : Thread nD τ) none) Set.univ
          (Scf.Loop.for k0_t2_loop (k0_t2_ok (grid0.coords p) hc) ⟨⟩ (k0_t2_body (F := F) (grid0.coords p) (Memref.whole main_arg0) (Memref.isWhole_whole _) a1 h1 a2 h2 a3 h3
            (Memref.whole main_arg4) (Memref.isWhole_whole _) a5 h5 a6 h6 (Memref.whole cc0_scratch0) (Memref.isWhole_whole _) cc0_scratch1 hc v61))
          (fun _ => iprop(table (F := F) c tab ∗ ahead c tab Y (p.val + 1))) := by
  have hp := (cond2_iff p).mp hc
  unfold ahead
  rw [if_neg (by omega)]
  iintro ⟨HT, HI⟩
  imod (start_tile c tab Y (sl (p.val + 1)) (p.val + 1)) $$ HI with ⟨HB, HS, HC⟩
  iapply (Scf.wp_for _ _ _ _ _ _ _ _ _ (fun t a => issueInv c tab Y (sl (p.val + 1)) (p.val + 1) t a)
    (fun t a => issue2 c hR p (sl (p.val + 1)) rfl a1 h1 a2 h2 a3 h3 a5 h5 a6 h6 hp hc v61 t a))
  isplitl [HT HB HS]
  · unfold issueInv; iframe
  iintro %acc HL
  ihave HL := (show issueInv c tab Y (sl (p.val + 1)) (p.val + 1) k0_t2_loop.trips acc ⊢ issueInv c tab Y (sl (p.val + 1)) (p.val + 1) 256 acc from Entails.of_eq (by rw [trips2])) $$ HL
  unfold issueInv flyS
  icases HL with ⟨HT, HB, -⟩
  isplitl [HT]; · iexact HT
  isplitl [HB]; · iexact HB
  iexact HC

omit hR

/-- This tile's transfers waited for. -/
theorem stepC :
    (iprop((∃ W : Waits sig Unit, owes (c : Thread nD τ) 0 W) ∗ flyS c tab Y (sl p.val) p.val) : sProp 𝕄)
      ⊢ wp frame (wpE defs₀ 𝒱₀ (c : Thread nD τ) none) Set.univ
          (Scf.Loop.for k0_t3_loop k0_t3_ok ⟨⟩ (k0_t3_body (F := F) (grid0.coords p) (Memref.whole main_arg0) (Memref.isWhole_whole _) a1 h1 a2 h2 a3 h3
            (Memref.whole main_arg4) (Memref.isWhole_whole _) a5 h5 a6 h6 (Memref.whole cc0_scratch0) (Memref.isWhole_whole _) cc0_scratch1))
          (fun _ => iprop((∃ W : Waits sig Unit, owes (c : Thread nD τ) 0 W) ∗ buf c (slotOf (sl p.val)) (gath tab Y p.val)
            ∗ semVal ((c : Thread nD τ), SemLoc.dma (cell (sl p.val))) 0 ∗ rows c Y Finset.univ (qs (sl p.val)))) := by
  unfold flyS
  iintro ⟨HO, HB, HC⟩
  iapply (wp_fupd _ _ _ _ _)
  iapply (Scf.wp_for _ _ _ _ _ _ _ _ _ (fun t a => waitInv c tab Y (sl p.val) p.val t a)
    (fun t a => wait3 c p (sl p.val) rfl a1 h1 a2 h2 a3 h3 a5 h5 a6 h6 p.val t a))
  isplitl [HO HB]
  · unfold waitInv
    rw [Nat.mul_zero, Nat.zero_mul]
    iframe
  iintro %acc HL
  ihave HL := (show waitInv c tab Y (sl p.val) p.val k0_t3_loop.trips acc ⊢ waitInv c tab Y (sl p.val) p.val 256 acc from Entails.of_eq (by rw [trips3])) $$ HL
  unfold waitInv
  icases HL with ⟨HO, HB⟩
  imod (end_tile c tab Y (sl p.val) p.val) $$ [HB HC] with H
  · isplitl [HB] <;> iassumption
  imodintro
  isplitl [HO] <;> iassumption

include hR

/-- What the first part of a point hands on. -/
def partPost (a2 : Memref sig .tc .vmem S256x128 .f32) (X : Vec F S256x128 .f32) (p : Fin grid0.N) (tab : S32768.Idx → BitVec 32) (Y : S49152x1024.Idx → Elt F .f32) : sProp 𝕄 :=
  iprop(table (F := F) c tab ∗ ahead c tab Y (p.val + 1) ∗ (∃ W : Waits sig Unit, owes (c : Thread nD τ) 0 W) ∗ buf c (slotOf (sl p.val)) (gath tab Y p.val)
    ∗ semVal ((c : Thread nD τ), SemLoc.dma (cell (sl p.val))) 0 ∗ rows c Y Finset.univ (qs (sl p.val)) ∗ owns (c : Thread nD τ) a2 fullShare X)

/-- The first part of a point: the transfers, and the first two planes combined. -/
theorem part3_run (X : Vec F S256x128 .f32) :
    (iprop(table (F := F) c tab ∗ slots c tab Y p.val ∗ (∃ W : Waits sig Unit, owes (c : Thread nD τ) 0 W) ∗ owns (c : Thread nD τ) a2 fullShare X) : sProp 𝕄)
      ⊢ wp frame (wpE defs₀ 𝒱₀ (c : Thread nD τ) none) Set.univ
          (k0_part3 (F := F) (grid0.coords p) (Memref.whole main_arg0) (Memref.isWhole_whole _) a1 h1 a2 h2 a3 h3
            (Memref.whole main_arg4) (Memref.isWhole_whole _) a5 h5 a6 h6 (Memref.whole cc0_scratch0) (Memref.isWhole_whole _) cc0_scratch1)
          (fun r => iprop(⌜r.2.2.1 = X ∧ r.2.2.2 = k0_pay2 X (gplane tab Y p.val 0) (gplane tab Y p.val 1)⌝ ∗ partPost c a2 X p tab Y)) := by
  have hN : p.val < 32 := gridN ▸ p.isLt
  unfold slots partPost
  rw [k0_part3_eq_skeleton]
  unfold k0_part3_skel
  iintro ⟨HT, ⟨HA, HI⟩, HO, HX⟩
  iapply (wp_when c (A := iprop(table (F := F) c tab ∗ ahead c tab Y p.val)) (R := iprop(table (F := F) c tab ∗ flyS c tab Y (sl p.val) p.val))
    (fun hc => stepA c hR p a1 h1 a2 h2 a3 h3 a5 h5 a6 h6 hc)
    (fun hc => by
      have hp : p.val ≠ 0 := fun e => hc ((cond1_iff p).mpr e)
      unfold ahead
      rw [if_neg (by omega)])) $$ [HT HA]
  · isplitl [HT] <;> iassumption
  iintro ⟨HT, HA⟩
  iapply (wp_when c (A := iprop(table (F := F) c tab ∗ idleS c Y (sl (p.val + 1)))) (R := iprop(table (F := F) c tab ∗ ahead c tab Y (p.val + 1)))
    (fun hc => stepB c hR p a1 h1 a2 h2 a3 h3 a5 h5 a6 h6 hc _)
    (fun hc => by
      have hp : ¬ p.val < 31 := fun e => hc ((cond2_iff p).mpr e)
      unfold ahead
      rw [if_pos (by omega)])) $$ [HT HI]
  · isplitl [HT] <;> iassumption
  iintro ⟨HT, HI⟩
  rw [wp_bind]
  iapply (wp_wand _ _ _) $$ [HO HA]
  · iapply (stepC c p a1 h1 a2 h2 a3 h3 a5 h5 a6 h6) $$ [HO HA]
    isplitl [HO] <;> iassumption
  iintro %_ ⟨HO, HB, HV, HR⟩
  simp only [Prog.lift, Prog.bind_op, Prog.bind_ret, pure_bind]
  iapply (stage_load c (m := a2)) $$ HX
  iintro HX
  iapply (scr_load c (sl p.val) p.val 0 (off36_eq p)) $$ HB
  iintro HB
  iapply (scr_load c (sl p.val) p.val 1 (off37_eq p)) $$ HB
  iintro HB
  rw [wp_pure]
  imodintro
  isplitr
  · ipureintro; exact ⟨rfl, rfl⟩
  iframe

/-- What point `p` stores: the residual and the scaled combination of its tile's rows. -/
def outBlk (tab : S32768.Idx → BitVec 32) (Y : S49152x1024.Idx → Elt F .f32) (b : ℕ) (Xx : Vec F S256x1024 .f32) (Xg : Vec F S256x128 .f32) (Xm : Vec F S1x1x6144 .f32) : Vec F S256x1024 .f32 :=
  k0_pay1 Xg (k0_pay2 Xg (gplane tab Y b 0) (gplane tab Y b 1)) (gplane tab Y b 2) (gplane tab Y b 3) Xx Xm

/-- A point of the grid. -/
theorem body_run (Xx : Vec F S256x1024 .f32) (Xg : Vec F S256x128 .f32) (Xm : Vec F S1x1x6144 .f32) (Z5 Z6 : Vec F S256x1024 .f32) :
    (iprop(table (F := F) c tab ∗ slots c tab Y p.val ∗ (∃ W : Waits sig Unit, owes (c : Thread nD τ) 0 W)
      ∗ owns (c : Thread nD τ) a1 fullShare Xx ∗ owns (c : Thread nD τ) a2 fullShare Xg ∗ owns (c : Thread nD τ) a3 fullShare Xm
      ∗ owns (c : Thread nD τ) a5 fullShare Z5 ∗ owns (c : Thread nD τ) a6 fullShare Z6) : sProp 𝕄)
      ⊢ wp frame (wpE defs₀ 𝒱₀ (c : Thread nD τ) none) Set.univ
          (cc0_moe_combine (F := F) (grid0.coords p) (Memref.whole main_arg0) (Memref.isWhole_whole _) a1 h1 a2 h2 a3 h3
            (Memref.whole main_arg4) (Memref.isWhole_whole _) a5 h5 a6 h6 (Memref.whole cc0_scratch0) (Memref.isWhole_whole _) cc0_scratch1)
          (fun _ => iprop(table (F := F) c tab ∗ slots c tab Y (p.val + 1) ∗ (∃ W : Waits sig Unit, owes (c : Thread nD τ) 0 W)
            ∗ owns (c : Thread nD τ) a1 fullShare Xx ∗ owns (c : Thread nD τ) a2 fullShare Xg ∗ owns (c : Thread nD τ) a3 fullShare Xm
            ∗ owns (c : Thread nD τ) a5 fullShare (if p.val < 16 then outBlk tab Y p.val Xx Xg Xm else Z5)
            ∗ owns (c : Thread nD τ) a6 fullShare (if p.val < 16 then Z6 else outBlk tab Y p.val Xx Xg Xm))) := by
  have hN : p.val < 32 := gridN ▸ p.isLt
  have esl : sl (p.val + 1 + 1) = sl p.val := Fin.ext (by show (p.val + 1 + 1) % 2 = p.val % 2; omega)
  rw [cc0_moe_combine_eq_skeleton]
  unfold cc0_moe_combine_skel
  rw [wp_bind]
  iintro ⟨HT, HS, HO, Hx, Hg, Hm, H5, H6⟩
  iapply (wp_wand _ _ _) $$ [HT HS HO Hg]
  · iapply (part3_run c hR p a1 h1 a2 h2 a3 h3 a5 h5 a6 h6 Xg) $$ [HT HS HO Hg]
    iframe
  iintro %r ⟨%hr, HP⟩
  obtain ⟨r0, r1, r2, r3⟩ := r
  obtain ⟨e2, e3⟩ := hr
  dsimp only at e2 e3
  subst e2; subst e3
  unfold partPost
  icases HP with ⟨HT, HA, HO, HB, HV, HR, Hg⟩
  simp only [Prog.lift, Prog.bind_op, Prog.bind_ret, pure_bind]
  iapply (scr_load c (sl p.val) p.val 2 (off38_eq p)) $$ HB
  iintro HB
  iapply (scr_load c (sl p.val) p.val 3 (off39_eq p)) $$ HB
  iintro HB
  iapply (stage_load c (m := a1)) $$ Hx
  iintro Hx
  iapply (stage_load c (m := a3)) $$ Hm
  iintro Hm
  have hend : (iprop(table (F := F) c tab ∗ ahead c tab Y (p.val + 1) ∗ (∃ W : Waits sig Unit, owes (c : Thread nD τ) 0 W) ∗ buf c (slotOf (sl p.val)) (gath tab Y p.val)
      ∗ semVal ((c : Thread nD τ), SemLoc.dma (cell (sl p.val))) 0 ∗ rows c Y Finset.univ (qs (sl p.val))) : sProp 𝕄)
      ⊢ iprop(table (F := F) c tab ∗ slots c tab Y (p.val + 1) ∗ (∃ W : Waits sig Unit, owes (c : Thread nD τ) 0 W)) := by
    unfold slots idleS
    rw [esl]
    iintro ⟨HT, HA, HO, HB, HV, HR⟩
    isplitl [HT]; · iexact HT
    isplitr [HO]
    · isplitl [HA]; · iexact HA
      isplitl [HB]; · iexists _; iexact HB
      isplitl [HV] <;> iassumption
    iexact HO
  by_cases h16 : p.val < 16
  · rw [dif_pos ((cond3_iff p).mpr h16), dif_neg (fun h => absurd ((cond4_iff p).mp h) (by omega)), if_pos h16, if_pos h16]
    iapply (stage_load c (m := a5)) $$ H5
    iintro H5
    iapply (stage_store c (m := a5)) $$ H5
    iintro H5
    rw [wp_pure]
    imodintro
    ihave HE := hend $$ [HT HA HO HB HV HR]
    · iframe
    icases HE with ⟨HT, HS, HO⟩
    unfold outBlk
    iframe
  · rw [dif_neg (fun h => h16 ((cond3_iff p).mp h)), dif_pos ((cond4_iff p).mpr (by omega)), if_neg h16, if_neg h16]
    iapply (stage_load c (m := a6)) $$ H6
    iintro H6
    iapply (stage_store c (m := a6)) $$ H6
    iintro H6
    rw [wp_pure]
    imodintro
    ihave HE := hend $$ [HT HA HO HB HV HR]
    · iframe
    icases HE with ⟨HT, HS, HO⟩
    unfold outBlk
    iframe

end Steps

end Cert.Combine

end
-- ==== Proof.Run.lean ====
/- The run of the combine call: the invariant between grid points, the obligation of its body, the launch and the two outputs' final contents. Hand-written. -/
module

public import proofs.«01_k».proof.Proof.Tile
public import Idealize.ShloMosaic.Lib.Pipeline.TableIdle
public import Idealize.ShloMosaic.Lib.Pipeline.FrameBody
public import Idealize.ShloMosaic.Lib.Pipeline.Frame
public import Idealize.ShloMosaic.Lib.Pipeline.Value

@[expose] public section

set_option maxRecDepth 16384

noncomputable section

namespace Cert.Combine

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The output windows' schedule -/

theorem tab3 : ∀ t : Fin grid0.N, (true && (t.val + 1 = grid0.N || decide (∃ h : t.val + 1 < grid0.N, ∃ a : Fin 2,
    cc0_transform_4 (grid0.coords ⟨t.val + 1, h⟩) a ≠ cc0_transform_4 (grid0.coords t) a))) = decide (t.val < 15 ∨ t.val = 31) := by decide +kernel
theorem tab4 : ∀ t : Fin grid0.N, (true && (t.val + 1 = grid0.N || decide (∃ h : t.val + 1 < grid0.N, ∃ a : Fin 2,
    cc0_transform_5 (grid0.coords ⟨t.val + 1, h⟩) a ≠ cc0_transform_5 (grid0.coords t) a))) = decide (16 ≤ t.val) := by decide +kernel

section Schedule

variable (a : (pcfg0 (F := F)).Adm)

theorem flush3 (t : Fin (cfg0 a).N) : ((cfg0 a).win 3).flush t = decide (t.val < 15 ∨ t.val = 31) := by
  rw [Pipeline.Window.flush_eq_flushF]; exact tab3 t
theorem flush4 (t : Fin (cfg0 a).N) : ((cfg0 a).win 4).flush t = decide (16 ≤ t.val) := by
  rw [Pipeline.Window.flush_eq_flushF]; exact tab4 t
theorem idle3 (t : Fin (cfg0 a).N) : (cfg0 a).idle 3 ((cfg0 a).grid.coords t) = decide (16 ≤ t.val) := by
  show (!(k0_cond3 (grid0.coords t) == 1#1)) = _
  by_cases h : t.val < 16
  · rw [(cond3_iff t).mpr h, decide_eq_false (by omega)]; rfl
  · have : ¬ k0_cond3 (grid0.coords t) = 1#1 := fun e => h ((cond3_iff t).mp e)
    rw [decide_eq_true (by omega), beq_eq_false_iff_ne.mpr this]; rfl
theorem idle4 (t : Fin (cfg0 a).N) : (cfg0 a).idle 4 ((cfg0 a).grid.coords t) = decide (t.val < 16) := by
  show (!(k0_cond4 (grid0.coords t) == 1#1)) = _
  by_cases h : 16 ≤ t.val
  · rw [(cond4_iff t).mpr h, decide_eq_false (by omega)]; rfl
  · have : ¬ k0_cond4 (grid0.coords t) = 1#1 := fun e => h ((cond4_iff t).mp e)
    rw [decide_eq_true (by omega), beq_eq_false_iff_ne.mpr this]; rfl

theorem fresh3 (n : ℕ) (hn : n ≤ (cfg0 a).N) : (cfg0 a).fresh 3 n = decide (n ≤ 15 ∨ n = 32) :=
  Pipeline.Cfg.fresh_tab (cfg0 a) 3 (fun n => decide (n ≤ 15 ∨ n = 32)) (by decide) (fun t => by
    have h32 : t.val < 32 := gridN ▸ t.isLt
    rw [flush3, idle3, ← Bool.decide_and, ← Bool.decide_or]
    exact decide_eq_decide.mpr (by omega)) n hn

end Schedule

/-! ## The proof data -/

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

theorem dev_eq (c : Dev nD) : c = (0 : Fin 1) := Fin.ext (by have h : c.val < 1 := c.isLt; show c.val = 0; omega)

/-- The table's contents at the launch. -/
abbrev adm : (p : Fin 1) → (pcfgs (F := F) p).Adm := fun _ => ⟨fun k => V m (0 : Fin 1) (pre0.ref k), trivial⟩

abbrev tabOf (c : Dev nD) : S32768.Idx → BitVec 32 := V m c main_arg0
abbrev rowsOf (c : Dev nD) : S49152x1024.Idx → Elt F .f32 := V m c main_arg4

/-- Input window `w`'s block at point `t`, as its staging buffer holds it. -/
def inb (c : Dev nD) (w : Fin 5) (t : Fin (cfg0 (adm m 0)).N) : ((cfg0 (adm m 0)).win w).block.Idx → Elt F ((cfg0 (adm m 0)).win w).elt :=
  ((cfg0 (adm m 0)).win w).fill ((cfg0 (adm m 0)).grid.coords t) (fun _ => Classical.arbitrary _)
    ((((cfg0 (adm m 0)).win w).blk t).view.read (Elt F) (V m c (Pipeline.arrRef spec0 w)))

/-- What the point stores. -/
def outAt (c : Dev nD) (t : Fin (cfg0 (adm m 0)).N) : Vec F S256x1024 .f32 :=
  outBlk (tabOf m c) (rowsOf m c) t.val (inb m c 0 t) (inb m c 1 t) (inb m c 2 t)

/-- The last point of the first output's run at or before `t`. -/
def pt3 (t : Fin (cfg0 (adm m 0)).N) : Fin (cfg0 (adm m 0)).N := ⟨min t.val 15, lt_of_le_of_lt (Nat.min_le_left _ _) t.isLt⟩

def inv (c : Dev nD) (t : ℕ) : sProp 𝕄 :=
  iprop(slots c (tabOf m c) (rowsOf m c) t ∗ table (F := F) c (tabOf m c) ∗ ∃ r, prngReg c r)

def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => inb m c 0 t
    | ⟨1, _⟩ => inb m c 1 t
    | ⟨2, _⟩ => inb m c 2 t
    | ⟨3, _⟩ => outAt m c (pt3 m t)
    | ⟨4, _⟩ => outAt m c t
  Φ t := inv m c t.val
  q _ := fullShare
  owed _ := 0

theorem A_eq (c : Dev nD) (w : Fin (cfg0 (adm m 0)).W) : (dats m 0 c).A w = V m c (Pipeline.arrRef spec0 w) := by
  dsimp only [dats]
theorem after0 (c : Dev nD) (t) : (dats m 0 c).after 0 t = inb m c 0 t := by dsimp only [dats]; rfl
theorem after1 (c : Dev nD) (t) : (dats m 0 c).after 1 t = inb m c 1 t := by dsimp only [dats]; rfl
theorem after2 (c : Dev nD) (t) : (dats m 0 c).after 2 t = inb m c 2 t := by dsimp only [dats]; rfl
theorem after3 (c : Dev nD) (t) : (dats m 0 c).after 3 t = outAt m c (pt3 m t) := by dsimp only [dats]; rfl
theorem after4 (c : Dev nD) (t) : (dats m 0 c).after 4 t = outAt m c t := by dsimp only [dats]; rfl

theorem before_in (c : Dev nD) (w : Fin 5) (hw : ((cfg0 (adm m 0)).win w).isOut = false) (hl : ∀ i, (cfg0 (adm m 0)).idle w i = false)
    (hc : ∀ i a, ((cfg0 (adm m 0)).win w).clip i a = none)
    (ha : ∀ t, (dats m 0 c).after w t = inb m c w t) (t) (d) : (dats m 0 c).before w t d = inb m c w t := by
  refine ((dats m 0 c).before_in_eq_fetched w hw hl (fun t t' _ => funext fun a => (hc _ a).trans (hc _ a).symm) (fun t => ?_) t d).trans ?_
  · rw [ha]; unfold inb; rw [Pipeline.Window.cut_fill]; rfl
  · unfold Dat.fetched inb; exact Pipeline.fill_of_clip_none (cfg := cfg0 (adm m 0)) w _ (hc _) _ _ _

theorem before3 (c : Dev nD) (t) (h16 : 16 ≤ t.val) (d) : (dats m 0 c).before 3 t d = outAt m c (pt3 m t) := by
  have h32 : t.val < 32 := gridN ▸ t.isLt
  rw [(dats m 0 c).before_out_traj 3 rfl (fun _ _ => rfl) (fun t ht hi _ => by
    have h32 : t.val < 32 := gridN ▸ t.isLt
    rw [idle3] at hi
    have := of_decide_eq_true hi
    rw [after3, after3]
    exact congrArg (outAt m c) (Fin.ext (by show min t.val 15 = min (t.val - 1) 15; omega))) t.val t rfl d, fresh3 _ _ (le_of_lt t.isLt), decide_eq_false (by omega), after3]
  refine (if_neg Bool.false_ne_true).trans ?_
  exact congrArg (outAt m c) (Fin.ext (by show min (t.val - 1) 15 = min t.val 15; omega))

/-! ## The body at a point -/

abbrev st0 (t : Fin (cfg0 (adm m 0)).N) : Memref sig .tc .vmem S256x1024 .f32 := spec0_0.stage ((cfg0 (adm m 0)).slots t 0)
abbrev st1 (t : Fin (cfg0 (adm m 0)).N) : Memref sig .tc .vmem S256x128 .f32 := spec0_1.stage ((cfg0 (adm m 0)).slots t 1)
abbrev st2 (t : Fin (cfg0 (adm m 0)).N) : Memref sig .tc .vmem S1x1x6144 .f32 := spec0_2.stage ((cfg0 (adm m 0)).slots t 2)
abbrev st3 (t : Fin (cfg0 (adm m 0)).N) : Memref sig .tc .vmem S256x1024 .f32 := spec0_3.stage ((cfg0 (adm m 0)).slots t 3)
abbrev st4 (t : Fin (cfg0 (adm m 0)).N) : Memref sig .tc .vmem S256x1024 .f32 := spec0_4.stage ((cfg0 (adm m 0)).slots t 4)

def bodyAt (t : Fin (cfg0 (adm m 0)).N) : Prog (TpuEff nD τ sig (Elt F) Λ₀ .tc) PUnit :=
  cc0_moe_combine (F := F) (grid0.coords t) (Memref.whole main_arg0) (Memref.isWhole_whole _) (st0 m t) (hstage0_0 _) (st1 m t) (hstage0_1 _)
    (st2 m t) (hstage0_2 _) (Memref.whole main_arg4) (Memref.isWhole_whole _) (st3 m t) (hstage0_3 _) (st4 m t) (hstage0_4 _)
    (Memref.whole cc0_scratch0) (Memref.isWhole_whole _) cc0_scratch1

theorem defs₀_row (t : Fin (cfg0 (adm m 0)).N) :
    defs₀ (F := F) .tc (cfg0 (adm m 0)).body ((cfg0 (adm m 0)).bodyArgs t ((cfg0 (adm m 0)).slots t)) = bodyAt m t := by
  unfold defs₀ bodyAt; rw [Defs.onTc_tc]

def bodyPre (c : Dev nD) (t : Fin (cfg0 (adm m 0)).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d)))
def bodyPost (c : Dev nD) (t : Fin (cfg0 (adm m 0)).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ (dats m 0 c).leavesExact 3 t ∗ (dats m 0 c).leavesExact 4 t)

/-- The first output's buffer after a point. -/
theorem leave3 (c : Dev nD) (t : Fin (cfg0 (adm m 0)).N) (d) (Z : Vec F S256x1024 .f32) (hZ : (dats m 0 c).before 3 t d = Z) :
    (owns (c : Thread nD τ) (st3 m t) fullShare (if t.val < 16 then outAt m c t else Z) : sProp 𝕄) ⊢ (dats m 0 c).leavesExact 3 t := by
  unfold Dat.leavesExact
  rw [idle3, flush3]
  by_cases h : t.val < 16
  · rw [decide_eq_false (by omega), if_pos h, after3]
    rw [show pt3 m t = t from Fin.ext (by show min t.val 15 = t.val; omega)]
    exact .rfl
  · rw [decide_eq_true (by omega), if_neg h]
    by_cases h31 : t.val = 31
    · rw [decide_eq_true (by omega), after3, ← hZ, before3 m c t (by omega)]
      exact .rfl
    · rw [decide_eq_false (by omega), ← hZ]
      iintro H
      iexists d
      iexact H

/-- The second output's. -/
theorem leave4 (c : Dev nD) (t : Fin (cfg0 (adm m 0)).N) (d) (Z : Vec F S256x1024 .f32) (hZ : (dats m 0 c).before 4 t d = Z) :
    (owns (c : Thread nD τ) (st4 m t) fullShare (if t.val < 16 then Z else outAt m c t) : sProp 𝕄) ⊢ (dats m 0 c).leavesExact 4 t := by
  unfold Dat.leavesExact
  rw [idle4, flush4]
  by_cases h : t.val < 16
  · rw [decide_eq_true (by omega), decide_eq_false (by omega), if_pos h, ← hZ]
    iintro H
    iexists d
    iexact H
  · rw [decide_eq_false (by omega), if_neg h, after4]
    exact .rfl

theorem sound_body (c : Dev nD) (hR : InRange (tabOf m c)) (t : Fin (cfg0 (adm m 0)).N) :
    bodyPre m c t ⊢ wp frame (wpE (defs₀ (F := F)) 𝒱₀ (c : Thread nD τ) none) Set.univ (bodyAt m t) (fun _ => bodyPost m c t) := by
  unfold bodyPre bodyPost bodyAt
  rw [show (dats m 0 c).Φ t.castSucc = inv m c t.val from rfl, show (dats m 0 c).Φ t.succ = inv m c (t.val + 1) from rfl, after0, after1, after2]
  unfold inv Dat.owesAt Pipeline.owesWithin
  rw [show (dats m 0 c).owed t.castSucc = 0 from rfl, show (dats m 0 c).owed t.succ = 0 from rfl]
  iintro ⟨⟨HS, HT, Hg⟩, ⟨%W, -, HW⟩, ⟨%d0, H0⟩, ⟨%d1, H1⟩, ⟨%d2, H2⟩, ⟨%d3, H3⟩, ⟨%d4, H4⟩⟩
  ihave H0 := (Entails.of_eq (congrArg (owns (c : Thread nD τ) (st0 m t) fullShare) (before_in m c 0 rfl (fun _ => rfl) (fun _ _ => rfl) (after0 m c) t d0))) $$ H0
  ihave H1 := (Entails.of_eq (congrArg (owns (c : Thread nD τ) (st1 m t) fullShare) (before_in m c 1 rfl (fun _ => rfl) (fun _ _ => rfl) (after1 m c) t d1))) $$ H1
  ihave H2 := (Entails.of_eq (congrArg (owns (c : Thread nD τ) (st2 m t) fullShare) (before_in m c 2 rfl (fun _ => rfl) (fun _ _ => rfl) (after2 m c) t d2))) $$ H2
  iapply (wp_wand _ _ _) $$ [HS HT HW H0 H1 H2 H3 H4]
  · iapply (body_run c hR t (st0 m t) (hstage0_0 _) (st1 m t) (hstage0_1 _) (st2 m t) (hstage0_2 _) (st3 m t) (hstage0_3 _) (st4 m t) (hstage0_4 _)
      (inb m c 0 t) (inb m c 1 t) (inb m c 2 t) ((dats m 0 c).before 3 t d3) ((dats m 0 c).before 4 t d4)) $$ [HS HT HW H0 H1 H2 H3 H4]
    isplitl [HT]; · iexact HT
    isplitl [HS]; · iexact HS
    isplitl [HW]; · iexists W; iexact HW
    isplitl [H0]; · iexact H0
    isplitl [H1]; · iexact H1
    isplitl [H2]; · iexact H2
    isplitl [H3]; · iexact H3
    iexact H4
  iintro %r ⟨HT, HS, ⟨%W', HW⟩, H0, H1, H2, H3, H4⟩
  isplitl [HS HT Hg]
  · isplitl [HS]; · iexact HS
    isplitl [HT]; · iexact HT
    iexact Hg
  isplitl [HW]
  · iexists W'; isplitr
    · ipureintro; exact fun _ _ => Or.inl trivial
    iexact HW
  isplitl [H0]; · iexact H0
  isplitl [H1]; · iexact H1
  isplitl [H2]; · iexact H2
  isplitl [H3]
  · iapply (leave3 m c t d3 _ rfl); iexact H3
  iapply (leave4 m c t d4 _ rfl); iexact H4

theorem body_obligation (c : Dev nD) (hR : InRange (tabOf m c)) : BodyObligation (dats (F := F) m 0 c) (defs₀ (F := F)) 𝒱₀ () Set.univ := fun t => by
  rw [bigSep_W0, bigSep_W0, defs₀_row]
  exact triple_restated (sound_body m c hR t) rfl .rfl fun _ => .rfl

/-! ## The launch -/

/-- The kernel's own cells, one a slot. -/
abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl
/-- The array the transfers read. -/
def H0 : Finset (Ref sig .tc) := {main_arg4}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(((c : Thread nD τ).loc main_arg4) ↦{fullShare} V m c main_arg4) :=
  BI.bigSep_eq_bigSepL_of_eq [main_arg4] (by decide) (by decide) _
theorem tables_eq (c : Dev nD) :
    (Pipeline.ΦT pre0 (adm m 0).1 c : sProp 𝕄) = table (F := F) c (tabOf m c) := by
  obtain rfl : c = (0 : Fin 1) := dev_eq c
  exact bigSep_univ_eq_bigSepL [(0 : Fin 1)] (by decide) (by decide) _

theorem rows_halves (c : Dev nD) : (((c : Thread nD τ).loc main_arg4 ↦{fullShare} V m c main_arg4 : sProp 𝕄))
    ⊣⊢ iprop(rows c (rowsOf m c) Finset.univ (qs 0) ∗ rows c (rowsOf m c) Finset.univ (qs 1)) :=
  pointsTo_share (PosShare.mem_left_op_right fullShare)

theorem start (c : Dev nD) : (iprop(Pipeline.ΦD osem0 spec0 H0 (V m) c ∗ Pipeline.ΦT pre0 (adm m 0).1 c) : sProp 𝕄) ⊢ inv m c 0 := by
  rw [Pipeline.ΦD_eq, scopedRest0_eq, ownSems00_eq, hbmPts0_eq, tables_eq]
  unfold inv slots ahead
  rw [if_pos (Or.inl rfl), show sl 0 = 0 from rfl, show sl (0 + 1) = 1 from rfl]
  unfold idleS
  iintro ⟨⟨⟨%f, HB⟩, Hg, ⟨HV0, HV1⟩, HY⟩, HT⟩
  ihave HB := (show (((c : Thread nD τ).loc cc0_scratch0 ↦{fullShare} f : sProp 𝕄)) ⊢ iprop(buf c (slotOf 0) f ∗ buf c (slotOf 1) f) from by
    refine BIBase.Entails.trans (Entails.of_eq ?_) (Entails.of_eq (BI.bigSep_fin_two fun s => buf (F := F) c (slotOf s) f))
    unfold buf
    rw [← pointsTo_biUnion (ℓ := (c : Thread nD τ).loc cc0_scratch0) Finset.univ slotOf fun t _ t' _ h => slotOf_disjoint t t' h, slotOf_cover]) $$ HB
  icases HB with ⟨HB0, HB1⟩
  ihave HY := (rows_halves m c).1 $$ HY
  icases HY with ⟨HY0, HY1⟩
  isplitr [HT Hg]
  · isplitl [HB0 HV0 HY0]
    · isplitl [HB0]; · iexists f; iexact HB0
      isplitl [HV0]; · iexact HV0
      iexact HY0
    isplitl [HB1]; · iexists f; iexact HB1
    isplitl [HV1]; · iexact HV1
    iexact HY1
  isplitl [HT]; · iexact HT
  iexact Hg

theorem finish (c : Dev nD) : (inv m c 32 : sProp 𝕄) ⊢ Pipeline.ΦD osem0 spec0 H0 (V m) c := by
  rw [Pipeline.ΦD_eq, scopedRest0_eq, ownSems00_eq, hbmPts0_eq]
  unfold inv slots ahead
  rw [if_pos (Or.inr (le_refl _)), show sl 32 = 0 from rfl, show sl (32 + 1) = 1 from rfl]
  unfold idleS
  iintro ⟨⟨⟨⟨%f, HB0⟩, HV0, HY0⟩, ⟨%g, HB1⟩, HV1, HY1⟩, -, Hg⟩
  isplitl [HB0 HB1]
  · ihave HB := (show (iprop(buf c (slotOf 0) f ∗ buf c (slotOf 1) g) : sProp 𝕄) ⊢ iprop(∃ f : Buf (Elt F) ((c : Thread nD τ).loc cc0_scratch0), ((c : Thread nD τ).loc cc0_scratch0) ↦{fullShare} f) from by
      refine BIBase.Entails.trans (Entails.of_eq (BI.bigSep_fin_two fun s => buf (F := F) c (slotOf s) ((![f, g] : Fin 2 → _) s)).symm) ?_
      unfold buf
      refine (pointsTo_biUnion_join (ℓ := (c : Thread nD τ).loc cc0_scratch0) Finset.univ slotOf (fun s => (![f, g] : Fin 2 → _) s) f fun t _ t' _ h => slotOf_disjoint t t' h).trans ?_
      rw [slotOf_cover]
      iintro ⟨%h, -, H⟩
      iexists h
      iexact H) $$ [HB0 HB1]
    · isplitl [HB0]; · iexact HB0
      iexact HB1
    iexact HB
  isplitl [Hg]; · iexact Hg
  isplitl [HV0 HV1]
  · isplitl [HV0]; · iexact HV0
    iexact HV1
  iapply (rows_halves m c).2
  isplitl [HY0]; · iexact HY0
  iexact HY1

theorem hmain : Pipeline.HMainP (Ix := Unit) (Name := ℕ) (U := Pipeline.UD sig nD τ) (Lvl := ℕ) (pcfgs (F := F)) 0 defs₀ 𝒱₀ m (main (F := F)) (V m) :=
  Pipeline.hmainP_region (pcfgs (F := F)) 0 defs₀ 𝒱₀ m main fun c => (main_chain c).trans rfl

set_option backward.isDefEq.respectTransparency.types false in
theorem run_main (hR : ∀ c, InRange (tabOf m c)) : θ_run (defs (F := F)) (onTc (τ := τ) (main (F := F))) (s₀ m ρ)
    (fun r => Pipeline.FramePost (Pipeline.pin (pcfgs (F := F)) (adm m)) (dats m) 0 (V m) r ∧ r.2.sem = fun _ => 0) :=
  Pipeline.θ_run_frameP_dma (Q' := _) (pcfgs (F := F)) (adm m) (dats m) (0 : Fin 1) launch0 osem0 defs₀ 𝒱₀ ownSemFacts0 H0 H0_sub m ρ main
    (hbody := fun c => (body_obligation m c (hR c)).loose) (hshare := fun c => (dats m 0 c).share_full fun _ => rfl)
    (howed := fun _ _ => rfl) (V := V m) (hmain := hmain m) (hA := A_eq m)
    (hpf := fun c k => by obtain rfl : c = (0 : Fin 1) := dev_eq c; rfl)
    (hin := fun c => start m c) (hout := fun c => finish m c)

end Cert.Combine

end
-- ==== Proof.Value.lean ====
/- What the combine call's two outputs hold, element by element. Hand-written. -/
module

public import proofs.«01_k».proof.Proof.Run
public import Idealize.ShloMosaic.Lib.Pipeline.ValueKit.Geometry

@[expose] public section

set_option maxRecDepth 16384

noncomputable section

namespace Cert.Combine

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem

variable {F : FTy → Type} [FloatOps F]

/-! ## The stored block, element by element -/

/-- One element of the result: the residual plus the scaled sum of the four gated rows' elements. -/
def mix (x g : F .f32) (w r : Fin 4 → F .f32) : F .f32 :=
  FloatOps.addf x (FloatOps.mulf g
    (FloatOps.addf (FloatOps.addf (FloatOps.addf (FloatOps.mulf (w 0) (r 0)) (FloatOps.mulf (w 1) (r 1))) (FloatOps.mulf (w 2) (r 2))) (FloatOps.mulf (w 3) (r 3))))

theorem gate_col (Xg : Vec F S256x128 .f32) (o : ℕ) (ho : o < 128) (h1 : S256x128.Slices ![0, o] S256x1) (h2 : S256x1.Broadcasts S256x1024) (r : Fin 256) (j : Fin 1024) :
    broadcastTo S256x1024 (extractStridedSlice S256x1 ![0, o] Xg h1) h2 (ix2 r j) = Xg (ix2 r ⟨o, ho⟩) := by
  refine (broadcastTo_apply _ h2 (ix2 r j) (ix2 r (0 : Fin 1)) fun a => ?_).trans (extractStridedSlice_apply ![0, o] Xg h1 (ix2 r (0 : Fin 1)) _ fun a => ?_)
  · match a with
    | ⟨0, _⟩ => rfl
    | ⟨1, _⟩ => rfl
  · match a with
    | ⟨0, _⟩ => show r.val = 0 + r.val; omega
    | ⟨1, _⟩ => show o = o + 0; omega

theorem plane_apply (X : Vec F S1x1x256x1024 .f32) (h : S1x1x256x1024.ShapeCasts S256x1024) (r : Fin 256) (j : Fin 1024) :
    shapeCast S256x1024 X h (ix2 r j) = X (ix4 (0 : Fin 1) (0 : Fin 1) r j) := by
  refine shapeCast_apply X h _ _ ?_
  rw [Shape.rowMajor_val_four, Shape.rowMajor_val_two]
  show ((0 * 1 + 0) * 256 + r.val) * 1024 + j.val = r.val * 1024 + j.val
  omega

theorem mod_row (Xm : Vec F S1x1x6144 .f32) (h1 : S1x1x6144.ShapeCasts S1x6144) (h2 : S1x6144.Slices ![0, 5120] S1x1024) (h3 : S1x1024.Broadcasts S256x1024)
    (r : Fin 256) (j : Fin 1024) :
    broadcastTo S256x1024 (extractStridedSlice S1x1024 ![0, 5120] (shapeCast S1x6144 Xm h1) h2) h3 (ix2 r j)
      = Xm (ix3 (0 : Fin 1) (0 : Fin 1) ⟨5120 + j.val, by have := j.isLt; omega⟩) := by
  refine (broadcastTo_apply _ h3 (ix2 r j) (ix2 (0 : Fin 1) j) fun a => ?_).trans
    ((extractStridedSlice_apply ![0, 5120] _ h2 (ix2 (0 : Fin 1) j) (ix2 (0 : Fin 1) (⟨5120 + j.val, by have := j.isLt; omega⟩ : Fin 6144)) fun a => ?_).trans
      (shapeCast_apply Xm h1 _ _ ?_))
  · match a with
    | ⟨0, _⟩ => rfl
    | ⟨1, _⟩ => rfl
  · match a with
    | ⟨0, _⟩ => rfl
    | ⟨1, _⟩ => rfl
  · rw [Shape.rowMajor_val_three, Shape.rowMajor_val_two]
    show (0 * 1 + 0) * 6144 + (5120 + j.val) = 0 * 6144 + (5120 + j.val)
    omega

theorem outBlk_apply (tab : S32768.Idx → BitVec 32) (Y : S49152x1024.Idx → Elt F .f32) (b : ℕ) (Xx : Vec F S256x1024 .f32) (Xg : Vec F S256x128 .f32) (Xm : Vec F S1x1x6144 .f32)
    (r : Fin 256) (j : Fin 1024) :
    outBlk tab Y b Xx Xg Xm (ix2 r j) = mix (Xx (ix2 r j)) (Xm (ix3 (0 : Fin 1) (0 : Fin 1) ⟨5120 + j.val, by have := j.isLt; omega⟩))
      (fun k => Xg (ix2 r ⟨k.val, by have := k.isLt; omega⟩)) (fun k => Y (ix2 (destN tab (b * 1024 + (4 * r.val + k.val))) j)) := by
  have hp : ∀ k : Fin 4, shapeCast S256x1024 (gplane tab Y b k) shapeCasts_S1x1x256x1024_S256x1024 (ix2 r j) = Y (ix2 (destN tab (b * 1024 + (4 * r.val + k.val))) j) :=
    fun k => plane_apply _ _ r j
  unfold outBlk k0_pay1 k0_pay2 mix
  simp only [addf, mulf]
  rw [gate_col Xg 0 (by decide), gate_col Xg 1 (by decide), gate_col Xg 2 (by decide), gate_col Xg 3 (by decide), mod_row, hp 0, hp 1, hp 2, hp 3]
  rfl

/-! ## The input blocks, element by element -/

theorem tabx : ∀ t : Fin grid0.N, ∀ a : Fin 2, cc0_transform_0 (grid0.coords t) a = (![t.val, 0] : Fin 2 → ℕ) a := by decide +kernel
theorem tabg : ∀ t : Fin grid0.N, ∀ a : Fin 2, cc0_transform_1 (grid0.coords t) a = (![t.val, 0] : Fin 2 → ℕ) a := by decide +kernel
theorem tabm : ∀ t : Fin grid0.N, ∀ a : Fin 3, cc0_transform_2 (grid0.coords t) a = (![if t.val < 16 then 0 else 1 + (t.val - 16) / 4, 0, 0] : Fin 3 → ℕ) a := by decide +kernel
theorem tabp : ∀ t : Fin grid0.N, ∀ a : Fin 2, cc0_transform_4 (grid0.coords t) a = (![min t.val 15, 0] : Fin 2 → ℕ) a := by decide +kernel
theorem tabs : ∀ t : Fin grid0.N, ∀ a : Fin 2, cc0_transform_5 (grid0.coords t) a = (![t.val - 16, 0] : Fin 2 → ℕ) a := by decide +kernel

variable (m : (ℓ : Loc nD τ sig) → Buf (Elt F) ℓ)

abbrev resOf (c : Dev nD) : S8192x1024.Idx → Elt F .f32 := V m c main_arg1
abbrev gateOf (c : Dev nD) : S8192x128.Idx → Elt F .f32 := V m c main_arg2
abbrev modOf (c : Dev nD) : S8x1x6144.Idx → Elt F .f32 := V m c main_arg3

/-- The row of the modulation that token `n` uses. -/
def grp (n : Fin 8192) : Fin 8 := ⟨if n.val < 4096 then 0 else 1 + (n.val - 4096) / 1024, by have := n.isLt; split <;> omega⟩

/-- One element of the result, token by token. -/
def res (c : Dev nD) (n : Fin 8192) (j : Fin 1024) : F .f32 :=
  mix (resOf m c (ix2 n j)) (modOf m c (ix3 (grp n) (0 : Fin 1) ⟨5120 + j.val, by have := j.isLt; omega⟩))
    (fun k => gateOf m c (ix2 n ⟨k.val, by have := k.isLt; omega⟩)) (fun k => rowsOf m c (ix2 (destN (tabOf m c) (4 * n.val + k.val)) j))

/-- Row `r` of block `t` as a token. -/
def tok (t : Fin (cfg0 (adm m 0)).N) (r : Fin 256) : Fin 8192 := ⟨t.val * 256 + r.val, by have h32 : t.val < 32 := gridN ▸ t.isLt; have := r.isLt; omega⟩

theorem inb0_apply (c : Dev nD) (t : Fin (cfg0 (adm m 0)).N) (r : Fin 256) (j : Fin 1024) :
    inb m c 0 t (ix2 r j) = resOf m c (ix2 (tok m t r) j) := by
  refine (congrFun (Pipeline.Window.cut_fill ((cfg0 (adm m 0)).win 0) _ _ _) (ix2 r j)).trans ?_
  refine congrArg (resOf m c) (funext fun a => Fin.ext ?_)
  refine (Pipeline.Window.rect_emb_val ((cfg0 (adm m 0)).win 0) t (ix2 r j) a).trans ?_
  refine (congrArg (fun z => z * ((cfg0 (adm m 0)).win 0).size a + (ix2 r j a).val) (tabx t a)).trans ?_
  match a with
  | ⟨0, _⟩ => rfl
  | ⟨1, _⟩ => show 0 * 1024 + j.val = j.val; omega

theorem inb1_apply (c : Dev nD) (t : Fin (cfg0 (adm m 0)).N) (r : Fin 256) (j : Fin 128) :
    inb m c 1 t (ix2 r j) = gateOf m c (ix2 (tok m t r) j) := by
  refine (congrFun (Pipeline.Window.cut_fill ((cfg0 (adm m 0)).win 1) _ _ _) (ix2 r j)).trans ?_
  refine congrArg (gateOf m c) (funext fun a => Fin.ext ?_)
  refine (Pipeline.Window.rect_emb_val ((cfg0 (adm m 0)).win 1) t (ix2 r j) a).trans ?_
  refine (congrArg (fun z => z * ((cfg0 (adm m 0)).win 1).size a + (ix2 r j a).val) (tabg t a)).trans ?_
  match a with
  | ⟨0, _⟩ => rfl
  | ⟨1, _⟩ => show 0 * 128 + j.val = j.val; omega

theorem inb2_apply (c : Dev nD) (t : Fin (cfg0 (adm m 0)).N) (r : Fin 256) (j : Fin 6144) :
    inb m c 2 t (ix3 (0 : Fin 1) (0 : Fin 1) j) = modOf m c (ix3 (grp (tok m t r)) (0 : Fin 1) j) := by
  refine (congrFun (Pipeline.Window.cut_fill ((cfg0 (adm m 0)).win 2) _ _ _) (ix3 (0 : Fin 1) (0 : Fin 1) j)).trans ?_
  refine congrArg (modOf m c) (funext fun a => Fin.ext ?_)
  refine (Pipeline.Window.rect_emb_val ((cfg0 (adm m 0)).win 2) t (ix3 (0 : Fin 1) (0 : Fin 1) j) a).trans ?_
  refine (congrArg (fun z => z * ((cfg0 (adm m 0)).win 2).size a + (ix3 (0 : Fin 1) (0 : Fin 1) j a).val) (tabm t a)).trans ?_
  have hr := r.isLt
  match a with
  | ⟨0, _⟩ =>
    show (if t.val < 16 then 0 else 1 + (t.val - 16) / 4) * 1 + 0 = if t.val * 256 + r.val < 4096 then 0 else 1 + (t.val * 256 + r.val - 4096) / 1024
    split <;> split <;> omega
  | ⟨1, _⟩ => rfl
  | ⟨2, _⟩ => show 0 * 6144 + j.val = j.val; omega

theorem outAt_apply (c : Dev nD) (t : Fin (cfg0 (adm m 0)).N) (r : Fin 256) (j : Fin 1024) :
    outAt m c t (ix2 r j) = res m c (tok m t r) j := by
  unfold outAt res
  rw [outBlk_apply, inb0_apply, inb2_apply m c t r]
  simp only [inb1_apply]
  refine congrArg _ (funext fun k => ?_)
  rw [show t.val * 1024 + (4 * r.val + k.val) = 4 * (tok m t r).val + k.val from by unfold tok; show _ = 4 * (t.val * 256 + r.val) + k.val; omega]

/-! ## The output arrays after the run -/

/-- The first output: the first 4096 tokens. -/
def out3 (c : Dev nD) : S4096x1024.Idx → Elt F .f32 := fun i => res m c ⟨(i 0).val, lt_trans (i 0).isLt (by decide)⟩ (i 1)
/-- The second: the others. -/
def out4 (c : Dev nD) : S4096x1024.Idx → Elt F .f32 := fun i => res m c ⟨4096 + (i 0).val, by have : (i 0).val < 4096 := (i 0).isLt; omega⟩ (i 1)

theorem cover3 (i : S4096x1024.Idx) : ∃ t : Fin (cfg0 (adm m 0)).N, ((cfg0 (adm m 0)).win 3).flush t = true ∧ i ∈ (((cfg0 (adm m 0)).win 3).blk t).view.set := by
  have hi0 : (i 0).val < 4096 := (i 0).isLt
  have hi1 : (i 1).val < 1024 := (i 1).isLt
  let p := (i 0).val / 256
  have hp : p < 16 := by show (i 0).val / 256 < 16; omega
  let t : Fin (cfg0 (adm m 0)).N := ⟨if p < 15 then p else 31, lt_of_lt_of_eq (by split <;> omega : (if p < 15 then p else 31) < 32) gridN.symm⟩
  refine ⟨t, ?_, (Pipeline.Window.emb_mem_blk_iff ((cfg0 (adm m 0)).win 3) t i).mpr fun a => ?_⟩
  · rw [flush3]; refine decide_eq_true ?_
    show (if p < 15 then p else 31) < 15 ∨ (if p < 15 then p else 31) = 31
    split <;> omega
  · have e : ((cfg0 (adm m 0)).win 3).index t a = (![min t.val 15, 0] : Fin 2 → ℕ) a := tabp t a
    rw [e]
    match a with
    | ⟨0, _⟩ =>
      show min (if p < 15 then p else 31) 15 * 256 ≤ (i 0).val ∧ (i 0).val < min (if p < 15 then p else 31) 15 * 256 + 256
      have : p = (i 0).val / 256 := rfl
      split <;> omega
    | ⟨1, _⟩ =>
      show 0 * 1024 ≤ (i 1).val ∧ (i 1).val < 0 * 1024 + 1024
      omega

theorem arr3 (c : Dev nD) : (dats m 0 c).arrAt 3 (cfg0 (adm m 0)).N = out3 m c := by
  refine (dats m 0 c).arrAt_eq_of_emb 3 (out3 m c) (fun t hf (y : S256x1024.Idx) => ?_) (cover3 m)
  have h32 : t.val < 32 := gridN ▸ t.isLt
  rw [flush3] at hf
  have hf := of_decide_eq_true hf
  rw [after3]
  have hy : y = ix2 (y 0 : Fin 256) (y 1 : Fin 1024) := eq_ix2 _
  have e : ∀ a : Fin 2, ((((cfg0 (adm m 0)).win 3).blk t).view.emb y a).val = (![min t.val 15, 0] : Fin 2 → ℕ) a * ((cfg0 (adm m 0)).win 3).size a + (y a).val := fun a =>
    (Pipeline.Window.rect_emb_val ((cfg0 (adm m 0)).win 3) t y a).trans
      (congrArg (fun z => z * ((cfg0 (adm m 0)).win 3).size a + (y a).val) (tabp t a))
  refine ((congrArg (outAt m c (pt3 m t)) hy).trans (outAt_apply m c (pt3 m t) (y 0) (y 1))).trans ?_
  unfold out3
  refine congrArg₂ (res m c) (Fin.ext ?_) (Fin.ext ?_)
  · exact (e 0).symm
  · refine Eq.trans ?_ (e 1).symm
    show (y 1).val = 0 * 1024 + (y 1).val
    omega

theorem cover4 (i : S4096x1024.Idx) : ∃ t : Fin (cfg0 (adm m 0)).N, ((cfg0 (adm m 0)).win 4).flush t = true ∧ i ∈ (((cfg0 (adm m 0)).win 4).blk t).view.set := by
  have hi0 : (i 0).val < 4096 := (i 0).isLt
  have hi1 : (i 1).val < 1024 := (i 1).isLt
  let p := (i 0).val / 256
  have hp : p < 16 := by show (i 0).val / 256 < 16; omega
  let t : Fin (cfg0 (adm m 0)).N := ⟨16 + p, lt_of_lt_of_eq (by omega : 16 + p < 32) gridN.symm⟩
  refine ⟨t, ?_, (Pipeline.Window.emb_mem_blk_iff ((cfg0 (adm m 0)).win 4) t i).mpr fun a => ?_⟩
  · rw [flush4]; refine decide_eq_true ?_
    show 16 ≤ 16 + p
    omega
  · have e : ((cfg0 (adm m 0)).win 4).index t a = (![t.val - 16, 0] : Fin 2 → ℕ) a := tabs t a
    rw [e]
    match a with
    | ⟨0, _⟩ =>
      show (16 + p - 16) * 256 ≤ (i 0).val ∧ (i 0).val < (16 + p - 16) * 256 + 256
      have : p = (i 0).val / 256 := rfl
      omega
    | ⟨1, _⟩ =>
      show 0 * 1024 ≤ (i 1).val ∧ (i 1).val < 0 * 1024 + 1024
      omega

theorem arr4 (c : Dev nD) : (dats m 0 c).arrAt 4 (cfg0 (adm m 0)).N = out4 m c := by
  refine (dats m 0 c).arrAt_eq_of_emb 4 (out4 m c) (fun t hf (y : S256x1024.Idx) => ?_) (cover4 m)
  have h32 : t.val < 32 := gridN ▸ t.isLt
  rw [flush4] at hf
  have hf := of_decide_eq_true hf
  rw [after4]
  have hy : y = ix2 (y 0 : Fin 256) (y 1 : Fin 1024) := eq_ix2 _
  have e : ∀ a : Fin 2, ((((cfg0 (adm m 0)).win 4).blk t).view.emb y a).val = (![t.val - 16, 0] : Fin 2 → ℕ) a * ((cfg0 (adm m 0)).win 4).size a + (y a).val := fun a =>
    (Pipeline.Window.rect_emb_val ((cfg0 (adm m 0)).win 4) t y a).trans
      (congrArg (fun z => z * ((cfg0 (adm m 0)).win 4).size a + (y a).val) (tabs t a))
  refine ((congrArg (outAt m c t) hy).trans (outAt_apply m c t (y 0) (y 1))).trans ?_
  unfold out4
  refine congrArg₂ (res m c) (Fin.ext ?_) (Fin.ext ?_)
  · refine Eq.trans ?_ (congrArg (4096 + ·) (e 0).symm)
    show t.val * 256 + (y 0).val = 4096 + ((t.val - 16) * 256 + (y 0).val)
    omega
  · refine Eq.trans ?_ (e 1).symm
    show (y 1).val = 0 * 1024 + (y 1).val
    omega

end Cert.Combine

end
-- ==== Proof.Ref.lean ====
/- What the reference computes, element by element, at the ideal values. Hand-written. -/
module

public import proofs.«01_k».proof.Proof.Value
public import proofs.«01_k».proof.Proof.Gen.ReferenceIdeal.Run
public import Idealize.ShloMosaic.Lib.Pointwise.Reduce
public import Idealize.ShloMosaic.PureOps.Ideal.Laws
public import Idealize.ShloMosaic.Lib.StableHlo.Predicate

@[expose] public section

set_option maxRecDepth 16384

noncomputable section

namespace Cert.Combine.Ref

open Cert.ReferenceIdeal Cert.ReferenceIdeal.Gen
open Idealize.ShloMosaic hiding ix1 ix2 ix3 ix4
open Idealize.ShloMosaic.TcCoe Idealize.ShloMosaic.ValueIdx

/-! ## The rows taken -/

theorem take_apply (Y : S49152x1024.Idx → Elt Ideal .f32) (idx : IVec S32768x1 32) (n : Fin 32768) (j : Fin 1024) (d : Fin 49152)
    (hd : (idx (ix2 n (0 : Fin 1))).toNat = d.val) :
    Host.gather gather_S49152x1024_S32768x1_S32768x1024_1_0_n_n_0_1_11024 Y idx (ix2 n j) = Y (ix2 d j) := by
  let D := gather_S49152x1024_S32768x1_S32768x1024_1_0_n_n_0_1_11024
  unfold Host.gather
  refine congrArg Y (funext fun a => Fin.ext ?_)
  show D.start (ix2 n j) idx a + D.batchCoord (ix2 n j) a + D.offCoord (ix2 n j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ D.startIndexMap from List.mem_singleton.mpr rfl)]
    have hsi : D.siIdx (ix2 n j) ⟨List.idxOf (⟨0, by decide⟩ : Fin 2) D.startIndexMap, List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    have hlt := d.isLt
    have e : (idx (ix2 n (0 : Fin 1))).toInt = d.val := by
      rw [StableHlo.Predicate.toInt_eq_toNat_of_lt (by rw [hd]; omega), hd]
    show min (idx (ix2 n (0 : Fin 1))).toInt.toNat 49151 + 0 + 0 = d.val
    rw [e]
    omega
  | ⟨1, _⟩ =>
    unfold GatherDims.start
    rw [dif_neg (show (⟨1, by decide⟩ : Fin 2) ∉ D.startIndexMap from by decide)]
    show 0 + 0 + j.val = j.val
    omega

theorem idx_apply (tab : S32768.Idx → BitVec 32) (n : Fin 32768) :
    broadcastInDim S32768x1 ![0] bcast_S32768_S32768x1_0 (shapeCast S32768 (shapeCast S8192x4 tab shapeCasts_S32768_S8192x4) shapeCasts_S8192x4_S32768) (ix2 n (0 : Fin 1)) = tab (ix1 n) := by
  refine (broadcastInDim_apply _ _ _ (ix2 n (0 : Fin 1)) (ix1 n) fun a => ?_).trans ?_
  · match a with
    | ⟨0, _⟩ => rfl
  refine (shapeCast_apply _ _ (ix1 n) (ix2 (⟨n.val / 4, by have := n.isLt; omega⟩ : Fin 8192) (⟨n.val % 4, by omega⟩ : Fin 4)) ?_).trans (shapeCast_apply _ _ _ (ix1 n) ?_)
  all_goals
    rw [Shape.rowMajor_val_two, Shape.rowMajor_val_one]
    first
      | (show n.val / 4 * 4 + n.val % 4 = n.val; omega)
      | (show n.val = n.val / 4 * 4 + n.val % 4; omega)

/-! ## The weighted sum of a token's rows -/

abbrev sumTerm (tab : S32768.Idx → BitVec 32) (tg : FVec Ideal S8192x128 .f32) (Y : FVec Ideal S49152x1024 .f32) : FVec Ideal S8192x1024 .f32 :=
  Host.reduceAdd (mulf (broadcastInDim S8192x4x1024 ![0, 1, 2] bcast_S8192x4x1_S8192x4x1024_0_1_2 (broadcastInDim S8192x4x1 ![0, 1] bcast_S8192x4_S8192x4x1_0_1 (extractStridedSlice S8192x4 ![0, 0] tg slices_S8192x128_S8192x4_0_0)))
    (shapeCast S8192x4x1024 (Host.gather gather_S49152x1024_S32768x1_S32768x1024_1_0_n_n_0_1_11024 Y (broadcastInDim S32768x1 ![0] bcast_S32768_S32768x1_0 (shapeCast S32768 (shapeCast S8192x4 tab shapeCasts_S32768_S8192x4) shapeCasts_S8192x4_S32768))) shapeCasts_S32768x1024_S8192x4x1024))
    (constant S_ .f32 0x00000000#32) reducesTo_S8192x4x1024_S8192x1024_d1 h_S_

theorem gate_apply (tg : FVec Ideal S8192x128 .f32) (n : Fin 8192) (k : Fin 4) (j : Fin 1024) :
    broadcastInDim S8192x4x1024 ![0, 1, 2] bcast_S8192x4x1_S8192x4x1024_0_1_2 (broadcastInDim S8192x4x1 ![0, 1] bcast_S8192x4_S8192x4x1_0_1 (extractStridedSlice S8192x4 ![0, 0] tg slices_S8192x128_S8192x4_0_0)) (ix3 n k j)
      = tg (ix2 n ⟨k.val, by have := k.isLt; omega⟩) := by
  refine (broadcastInDim_apply _ _ _ (ix3 n k j) (ix3 n k (0 : Fin 1)) fun a => ?_).trans
    ((broadcastInDim_apply _ _ _ (ix3 n k (0 : Fin 1)) (ix2 n k) fun a => ?_).trans (extractStridedSlice_apply _ _ _ (ix2 n k) _ fun a => ?_))
  · match a with
    | ⟨0, _⟩ => rfl
    | ⟨1, _⟩ => rfl
    | ⟨2, _⟩ => rfl
  · match a with
    | ⟨0, _⟩ => rfl
    | ⟨1, _⟩ => rfl
  · match a with
    | ⟨0, _⟩ => show n.val = 0 + n.val; omega
    | ⟨1, _⟩ => show k.val = 0 + k.val; omega

theorem row_apply (tab : S32768.Idx → BitVec 32) (hR : InRange tab) (Y : FVec Ideal S49152x1024 .f32) (n : Fin 8192) (k : Fin 4) (j : Fin 1024) :
    shapeCast S8192x4x1024 (Host.gather gather_S49152x1024_S32768x1_S32768x1024_1_0_n_n_0_1_11024 Y (broadcastInDim S32768x1 ![0] bcast_S32768_S32768x1_0 (shapeCast S32768 (shapeCast S8192x4 tab shapeCasts_S32768_S8192x4) shapeCasts_S8192x4_S32768))) shapeCasts_S32768x1024_S8192x4x1024 (ix3 n k j)
      = Y (ix2 (destN tab (4 * n.val + k.val)) j) := by
  have hn := n.isLt
  have hk := k.isLt
  refine (shapeCast_apply _ _ (ix3 n k j) (ix2 (⟨4 * n.val + k.val, by omega⟩ : Fin 32768) j) ?_).trans (take_apply Y _ _ j _ ?_)
  · rw [Shape.rowMajor_val_two, Shape.rowMajor_val_three]
    show (4 * n.val + k.val) * 1024 + j.val = (n.val * 4 + k.val) * 1024 + j.val
    omega
  · rw [idx_apply]
    unfold destN
    show _ = (tab (ix1 ⟨(4 * n.val + k.val) % 32768, _⟩)).toNat % 49152
    rw [Nat.mod_eq_of_lt (hR _)]
    exact congrArg (fun z => (tab (ix1 z)).toNat) (Fin.ext (by show 4 * n.val + k.val = (4 * n.val + k.val) % 32768; omega))

theorem sumTerm_apply (tab : S32768.Idx → BitVec 32) (hR : InRange tab) (tg : FVec Ideal S8192x128 .f32) (Y : FVec Ideal S49152x1024 .f32) (n : Fin 8192) (j : Fin 1024) :
    sumTerm tab tg Y (ix2 n j) = (FloatOps.addf (FloatOps.addf (FloatOps.addf
      (FloatOps.mulf (tg (ix2 n ⟨0, by decide⟩)) (Y (ix2 (destN tab (4 * n.val + 0)) j))) (FloatOps.mulf (tg (ix2 n ⟨1, by decide⟩)) (Y (ix2 (destN tab (4 * n.val + 1)) j))))
      (FloatOps.mulf (tg (ix2 n ⟨2, by decide⟩)) (Y (ix2 (destN tab (4 * n.val + 2)) j)))) (FloatOps.mulf (tg (ix2 n ⟨3, by decide⟩)) (Y (ix2 (destN tab (4 * n.val + 3)) j))) : Ideal .f32) := by
  refine (Ideal.hostReduceAdd_r3_a1 reducesTo_S8192x4x1024_S8192x1024_d1 _ _ (ix2 n j)).trans ?_
  have e : ∀ k : Fin 4, (mulf (broadcastInDim S8192x4x1024 ![0, 1, 2] bcast_S8192x4x1_S8192x4x1024_0_1_2 (broadcastInDim S8192x4x1 ![0, 1] bcast_S8192x4_S8192x4x1_0_1 (extractStridedSlice S8192x4 ![0, 0] tg slices_S8192x128_S8192x4_0_0)))
      (shapeCast S8192x4x1024 (Host.gather gather_S49152x1024_S32768x1_S32768x1024_1_0_n_n_0_1_11024 Y (broadcastInDim S32768x1 ![0] bcast_S32768_S32768x1_0 (shapeCast S32768 (shapeCast S8192x4 tab shapeCasts_S32768_S8192x4) shapeCasts_S8192x4_S32768))) shapeCasts_S32768x1024_S8192x4x1024) : FVec Ideal S8192x4x1024 .f32) (ix3 n k j)
      = (FloatOps.mulf (tg (ix2 n ⟨k.val, by have := k.isLt; omega⟩)) (Y (ix2 (destN tab (4 * n.val + k.val)) j)) : Ideal .f32) := fun k => by
    simp only [mulf]
    rw [gate_apply, row_apply tab hR]
  refine (congrArg₂ (· + ·) Ideal.ofBits_zero_f32 (Finset.sum_congr rfl fun k _ => e k)).trans ?_
  rw [zero_add, Fin.sum_univ_four]
  rfl

/-! ## The two results -/

abbrev modTerm (md : FVec Ideal S8x1x6144 .f32) : FVec Ideal S8x1024 .f32 :=
  shapeCast S8x1024 (extractStridedSlice S8x1x1024 ![0, 0, 5120] md slices_S8x1x6144_S8x1x1024_0_0_5120) shapeCasts_S8x1x1024_S8x1024

theorem modTerm_apply (md : FVec Ideal S8x1x6144 .f32) (g : Fin 8) (j : Fin 1024) :
    modTerm md (ix2 g j) = md (ix3 g (0 : Fin 1) ⟨5120 + j.val, by have := j.isLt; omega⟩) := by
  refine (shapeCast_apply _ _ (ix2 g j) (ix3 g (0 : Fin 1) j) ?_).trans (extractStridedSlice_apply _ _ _ (ix3 g (0 : Fin 1) j) _ fun a => ?_)
  · rw [Shape.rowMajor_val_two, Shape.rowMajor_val_three]
    show (g.val * 1 + 0) * 1024 + j.val = g.val * 1024 + j.val
    omega
  · match a with
    | ⟨0, _⟩ => show g.val = 0 + g.val; omega
    | ⟨1, _⟩ => rfl
    | ⟨2, _⟩ => rfl

/-- The first result. -/
abbrev out0 (tab : S32768.Idx → BitVec 32) (x : FVec Ideal S8192x1024 .f32) (tg : FVec Ideal S8192x128 .f32) (md : FVec Ideal S8x1x6144 .f32) (Y : FVec Ideal S49152x1024 .f32) : FVec Ideal S4096x1024 .f32 :=
  addf (extractStridedSlice S4096x1024 ![0, 0] x slices_S8192x1024_S4096x1024_0_0)
    (mulf (broadcastInDim S4096x1024 ![0, 1] bcast_S1x1024_S4096x1024_0_1 (extractStridedSlice S1x1024 ![0, 0] (modTerm md) slices_S8x1024_S1x1024_0_0))
      (extractStridedSlice S4096x1024 ![0, 0] (sumTerm tab tg Y) slices_S8192x1024_S4096x1024_0_0))

/-- The second result. -/
abbrev out1 (tab : S32768.Idx → BitVec 32) (x : FVec Ideal S8192x1024 .f32) (tg : FVec Ideal S8192x128 .f32) (md : FVec Ideal S8x1x6144 .f32) (Y : FVec Ideal S49152x1024 .f32) : FVec Ideal S4096x1024 .f32 :=
  addf (extractStridedSlice S4096x1024 ![4096, 0] x slices_S8192x1024_S4096x1024_4096_0)
    (mulf (shapeCast S4096x1024 (broadcastInDim S4x1024x1024 ![0, 2] bcast_S4x1024_S4x1024x1024_0_2 (extractStridedSlice S4x1024 ![1, 0] (modTerm md) slices_S8x1024_S4x1024_1_0)) shapeCasts_S4x1024x1024_S4096x1024)
      (extractStridedSlice S4096x1024 ![4096, 0] (sumTerm tab tg Y) slices_S8192x1024_S4096x1024_4096_0))

theorem half_apply {α : Type} (x : S8192x1024.Idx → α) (o : ℕ) (ho : o + 4096 ≤ 8192) (h : S8192x1024.Slices ![o, 0] S4096x1024) (r : Fin 4096) (j : Fin 1024) :
    extractStridedSlice S4096x1024 ![o, 0] x h (ix2 r j) = x (ix2 ⟨o + r.val, by have := r.isLt; omega⟩ j) := by
  refine extractStridedSlice_apply _ _ _ (ix2 r j) _ fun a => ?_
  match a with
  | ⟨0, _⟩ => rfl
  | ⟨1, _⟩ => show j.val = 0 + j.val; omega

theorem out0_apply (tab : S32768.Idx → BitVec 32) (hR : InRange tab) (x : FVec Ideal S8192x1024 .f32) (tg : FVec Ideal S8192x128 .f32) (md : FVec Ideal S8x1x6144 .f32) (Y : FVec Ideal S49152x1024 .f32)
    (r : Fin 4096) (j : Fin 1024) (n : Fin 8192) (hn : n.val = r.val) :
    out0 tab x tg md Y (ix2 r j) = mix (x (ix2 n j)) (md (ix3 (grp n) (0 : Fin 1) ⟨5120 + j.val, by have := j.isLt; omega⟩))
      (fun k => tg (ix2 n ⟨k.val, by have := k.isLt; omega⟩)) (fun k => Y (ix2 (destN tab (4 * n.val + k.val)) j)) := by
  have hr := r.isLt
  have e : (⟨0 + r.val, by omega⟩ : Fin 8192) = n := Fin.ext (by show 0 + r.val = n.val; omega)
  have hg : (⟨0, by decide⟩ : Fin 8) = grp n := Fin.ext (by show 0 = if n.val < 4096 then 0 else _; rw [if_pos (by omega)])
  have hm : broadcastInDim S4096x1024 ![0, 1] bcast_S1x1024_S4096x1024_0_1 (extractStridedSlice S1x1024 ![0, 0] (modTerm md) slices_S8x1024_S1x1024_0_0) (ix2 r j)
      = md (ix3 (grp n) (0 : Fin 1) ⟨5120 + j.val, by have := j.isLt; omega⟩) := by
    rw [← hg, ← modTerm_apply md (⟨0, by decide⟩ : Fin 8) j]
    refine (broadcastInDim_apply _ _ _ (ix2 r j) (ix2 (0 : Fin 1) j) fun a => ?_).trans (extractStridedSlice_apply _ _ _ (ix2 (0 : Fin 1) j) _ fun a => ?_)
    · match a with
      | ⟨0, _⟩ => rfl
      | ⟨1, _⟩ => rfl
    · match a with
      | ⟨0, _⟩ => rfl
      | ⟨1, _⟩ => show j.val = 0 + j.val; omega
  unfold mix
  simp only [out0, addf, mulf]
  rw [hm, half_apply x 0 (by decide), half_apply _ 0 (by decide), e, sumTerm_apply tab hR]
  rfl

theorem out1_apply (tab : S32768.Idx → BitVec 32) (hR : InRange tab) (x : FVec Ideal S8192x1024 .f32) (tg : FVec Ideal S8192x128 .f32) (md : FVec Ideal S8x1x6144 .f32) (Y : FVec Ideal S49152x1024 .f32)
    (r : Fin 4096) (j : Fin 1024) (n : Fin 8192) (hn : n.val = 4096 + r.val) :
    out1 tab x tg md Y (ix2 r j) = mix (x (ix2 n j)) (md (ix3 (grp n) (0 : Fin 1) ⟨5120 + j.val, by have := j.isLt; omega⟩))
      (fun k => tg (ix2 n ⟨k.val, by have := k.isLt; omega⟩)) (fun k => Y (ix2 (destN tab (4 * n.val + k.val)) j)) := by
  have hr := r.isLt
  have e : (⟨4096 + r.val, by omega⟩ : Fin 8192) = n := Fin.ext (by show 4096 + r.val = n.val; omega)
  have hg : (⟨1 + r.val / 1024, by omega⟩ : Fin 8) = grp n := Fin.ext (by
    show 1 + r.val / 1024 = if n.val < 4096 then 0 else 1 + (n.val - 4096) / 1024
    rw [if_neg (by omega)]; omega)
  have hm : shapeCast S4096x1024 (broadcastInDim S4x1024x1024 ![0, 2] bcast_S4x1024_S4x1024x1024_0_2 (extractStridedSlice S4x1024 ![1, 0] (modTerm md) slices_S8x1024_S4x1024_1_0)) shapeCasts_S4x1024x1024_S4096x1024 (ix2 r j)
      = md (ix3 (grp n) (0 : Fin 1) ⟨5120 + j.val, by have := j.isLt; omega⟩) := by
    rw [← hg, ← modTerm_apply md (⟨1 + r.val / 1024, by omega⟩ : Fin 8) j]
    refine (shapeCast_apply _ _ (ix2 r j) (ix3 (⟨r.val / 1024, by omega⟩ : Fin 4) (⟨r.val % 1024, by omega⟩ : Fin 1024) j) ?_).trans
      ((broadcastInDim_apply _ _ _ _ (ix2 (⟨r.val / 1024, by omega⟩ : Fin 4) j) fun a => ?_).trans (extractStridedSlice_apply _ _ _ (ix2 (⟨r.val / 1024, by omega⟩ : Fin 4) j) _ fun a => ?_))
    · rw [Shape.rowMajor_val_two, Shape.rowMajor_val_three]
      show (r.val / 1024 * 1024 + r.val % 1024) * 1024 + j.val = r.val * 1024 + j.val
      omega
    · match a with
      | ⟨0, _⟩ => rfl
      | ⟨1, _⟩ => rfl
    · match a with
      | ⟨0, _⟩ => rfl
      | ⟨1, _⟩ => show j.val = 0 + j.val; omega
  unfold mix
  simp only [out1, addf, mulf]
  rw [hm, half_apply x 4096 (by decide), half_apply _ 4096 (by decide), e, sumTerm_apply tab hR]
  rfl

end Cert.Combine.Ref

end
-- ==== Proof.Same.lean ====
/- The kernel's program, printed twice under two names, is one program. Hand-written. -/
module

public import proofs.«01_k».proof.Proof.Gen.Kernel
public import proofs.«01_k».proof.Proof.Gen.KernelIdeal

@[expose] public section

set_option maxRecDepth 16384
set_option maxHeartbeats 4000000
noncomputable section

namespace Cert.Combine.Same

open Idealize.ShloMosaic

variable {F : FTy → Type} [FloatOps F]

theorem part1 : (Cert.Kernel.k0_part1 (F := F)) = (Cert.KernelIdeal.k0_part1 (F := F)) := rfl
theorem part2 : (Cert.Kernel.k0_part2 (F := F)) = (Cert.KernelIdeal.k0_part2 (F := F)) := rfl
theorem part3 : (Cert.Kernel.k0_part3 (F := F)) = (Cert.KernelIdeal.k0_part3 (F := F)) := rfl
theorem body : (Cert.Kernel.cc0_moe_combine (F := F)) = (Cert.KernelIdeal.cc0_moe_combine (F := F)) := rfl

theorem defs0 : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
theorem defs : Cert.Kernel.defs (F := F) = Cert.KernelIdeal.defs (F := F) := by
  unfold Cert.Kernel.defs Cert.KernelIdeal.defs
  rw [defs0]
  rfl
theorem main : Cert.Kernel.main (F := F) = Cert.KernelIdeal.main (F := F) := rfl

end Cert.Combine.Same

end
-- ==== Proof.Claims.lean ====
/- The claims about the combine call, from its run and the reference's. Hand-written. -/
module

public import proofs.«01_k».proof.Defs
public import proofs.«01_k».proof.Proof.Ref
public import proofs.«01_k».proof.Proof.Same
public import proofs.«01_k».proof.Proof.Gen.Pre_in_range
public import Idealize.ShloMosaic.Lib.ReduceAll

@[expose] public section

set_option maxRecDepth 16384

noncomputable section

namespace Cert.Combine

open Cert.KernelIdeal Cert.KernelIdeal.Gen
open Idealize.ShloMosaic hiding ix1 ix2 ix3 ix4 eq_ix2
open Idealize.ShloMosaic.TcCoe Idealize.ShloMosaic.ValueIdx
open Idealize.SL.Sem

variable {F : FTy → Type} [FloatOps F]

/-! ## What the precondition says -/

theorem and_ones : ∀ p q : BitVec 1, IntOp.andi p q = 1#1 → p = 1#1 ∧ q = 1#1 := by unfold IntOp.andi; decide

theorem inRange_of_pre (tab : IVec S32768 32) (x : FVec F S8192x1024 .f32) (tg : FVec F S8192x128 .f32) (md : FVec F S8x1x6144 .f32) (Y : FVec F S49152x1024 .f32)
    (h : Cert.Pre_in_range.fn (F := F) tab x tg md Y = fun _ => 1#1) : InRange tab := by
  intro n
  have e := congrFun h (fun a => a.elim0)
  have : Subsingleton Cert.Pre_in_range.S_.Idx := ⟨fun a b => funext fun i => i.elim0⟩
  have en := Host.reduce_andi_all _ _ _ _ _ e n
  simp only [andi, cmpi, broadcastInDim, constantI] at en
  obtain ⟨h0, h1⟩ := and_ones _ _ en
  simp only [IntOp.cmpi, StableHlo.Predicate.ofBool_eq_one_iff, BitVec.sle, BitVec.slt, decide_eq_true_eq] at h0 h1
  simp only [BitVec.toInt, BitVec.toNat_ofNat] at h0 h1
  omega

/-! ## The run, read at the arguments and the results -/

variable (m : (ℓ : Loc nD τ sig) → Buf (Elt F) ℓ) (ρ : Dev nD → PrngReg)

theorem run_value (hR : ∀ c, InRange (tabOf m c)) : θ_run (defs (F := F)) (onTc (τ := τ) (main (F := F))) ⟨m, fun _ => 0, ρ⟩
    (fun r => (∀ c : Dev nD, r.2.mem ((c.tc : Thread nD τ).loc main_v0_0) = out3 m c ∧ r.2.mem ((c.tc : Thread nD τ).loc main_v0_1) = out4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ hR)
  have hw := (h.1 c).1
  have hr := (h.1 c).2
  refine ⟨(hw 3).trans (arr3 m c), (hw 4).trans (arr4 m c), hr main_arg0 (Pipeline.mem_restRefs_of _ (by decide) (show ∀ w : Fin 5, (spec0 w).arr.view.ref ≠ main_arg0 by decide)), ?_, ?_, ?_, hr main_arg4 (Pipeline.mem_restRefs_of _ (by decide) (show ∀ w : Fin 5, (spec0 w).arr.view.ref ≠ main_arg4 by decide))⟩
  · exact ((hw 0).trans ((dats m 0 c).arrAt_in 0 rfl _)).trans (A_eq m c 0)
  · exact ((hw 1).trans ((dats m 0 c).arrAt_in 1 rfl _)).trans (A_eq m c 1)
  · exact ((hw 2).trans ((dats m 0 c).arrAt_in 2 rfl _)).trans (A_eq m c 2)

end Cert.Combine

namespace Cert.Proof

open Idealize.ShloMosaic hiding ix1 ix2 ix3 ix4 eq_ix2
open Idealize.ShloMosaic.TcCoe Idealize.ShloMosaic.ValueIdx
open Idealize.SL.Sem
open Cert.Combine

set_option maxHeartbeats 4000000 in
theorem frame_kernel : Cert.quiescent_Kernel := fun m ρ hp => by
  have hR : ∀ c, InRange (tabOf (F := Bits) m c) := fun c => inRange_of_pre (F := Bits) _ _ _ _ _ (hp c)
  have h := (θ_run (Cert.KernelIdeal.defs (F := Bits)) (onTc (τ := Cert.KernelIdeal.τ) (Cert.KernelIdeal.main (F := Bits))) ⟨m, fun _ => 0, ρ⟩).mono
    (fun r h => (⟨fun c => (h.1 c).2.2, h.2⟩ : (∀ c : Dev Cert.KernelIdeal.nD, _) ∧ _)) (run_value (F := Bits) m ρ hR)
  rw [Same.defs, Same.main]
  exact h

theorem frame_kernelIdeal : Cert.quiescent_KernelIdeal := fun m ρ hp =>
  (θ_run Cert.KernelIdeal.defs _ _).mono (fun _ h => ⟨fun c => (h.1 c).2.2, h.2⟩)
    (run_value (F := Ideal) m ρ fun c => inRange_of_pre _ _ _ _ _ (hp c))

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_in_range : Cert.quiescent_ReferenceIdeal_pre_in_range := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal := by
  intro m ρ m' ρ' hp hagree
  have hR : ∀ c, InRange (tabOf m c) := fun c => inRange_of_pre _ _ _ _ _ (hp c)
  refine ⟨out3 m, out4 m, (θ_run Cert.KernelIdeal.defs _ _).mono (fun _ h c => h.1 c) (run_value (F := Ideal) m ρ hR),
    (θ_run Cert.ReferenceIdeal.defs _ _).mono (fun r h c => ⟨(h c).1.trans ?_, (h c).2.1.trans ?_, (h c).2.2⟩) (Cert.ReferenceIdeal.Value.run (F := Ideal) m' ρ')⟩
  all_goals
    obtain ⟨e0, e1, e2, e3, e4⟩ := hagree c
    rw [e0, e1, e2, e3, e4]
    refine funext fun (i : Cert.KernelIdeal.S4096x1024.Idx) => ?_
  · exact (congrArg (Ref.out0 (tabOf m c) (resOf m c) (gateOf m c) (modOf m c) (rowsOf m c)) (eq_ix2 i)).trans
      (Ref.out0_apply (tabOf m c) (hR c) (resOf m c) (gateOf m c) (modOf m c) (rowsOf m c) (i 0) (i 1) ⟨(i 0).val, lt_trans (i 0).isLt (by decide)⟩ rfl)
  · exact (congrArg (Ref.out1 (tabOf m c) (resOf m c) (gateOf m c) (modOf m c) (rowsOf m c)) (eq_ix2 i)).trans
      (Ref.out1_apply (tabOf m c) (hR c) (resOf m c) (gateOf m c) (modOf m c) (rowsOf m c) (i 0) (i 1) ⟨4096 + (i 0).val, by have : (i 0).val < 4096 := (i 0).isLt; omega⟩ rfl)

end Cert.Proof

end
-- ==== Proof.ExpertsFetch.lean ====
/- The transfers of the experts call, for either of its two weight arrays: a slot's eight pieces, their issue against one batch, the waits, and what has landed. Hand-written. -/
module

public import proofs.«01_k».proof.Proof.Gen.ExpertsIdeal.Skeleton
public import proofs.«01_k».proof.Proof.Gen.ExpertsIdeal.Launch
public import Idealize.ShloMosaic.Lib.ValueLayout
public import Idealize.ShloMosaic.Lib.ValueIdx
public import Idealize.ShloMosaic.Lib.ViewIndex
public import Idealize.ShloMosaic.Lib.Pipeline.FrameBody
public import Idealize.ShloMosaic.Lib.Batch
public import Idealize.ShloMosaic.Lib.Tactic

@[expose] public section

set_option maxRecDepth 16384

noncomputable section

namespace Cert.Mlp

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- No call of the program varies. -/
abbrev 𝒱₀ : Variants := Variants.none

/-- A union of images is the image of the union. -/
theorem map_biUnion' {α β : Type} [DecidableEq α] [DecidableEq β] (f : α ↪ β) (S : Fin 8 → Finset α) :
    (Finset.univ.biUnion S).map f = Finset.univ.biUnion fun p => (S p).map f := by
  ext y
  simp only [Finset.mem_map, Finset.mem_biUnion, Finset.mem_univ, true_and]
  exact ⟨fun ⟨x, ⟨p, h⟩, e⟩ => ⟨p, x, h, e⟩, fun ⟨p, x, h, e⟩ => ⟨x, ⟨p, h⟩, e⟩⟩

/-- One weight array's way into the kernel: the array, the two-slot buffer its experts land in, a cell a slot. -/
structure Chan where
  /-- The row length. -/
  n : ℕ
  /-- The array of every expert's weights. -/
  wm : Memref sig .tc .hbm ⟨3, ![64, 1024, n]⟩ .f32
  /-- The buffer. -/
  bm : Memref sig .tc .vmem ⟨3, ![2, 1024, n]⟩ .f32
  /-- The pair of semaphores. -/
  sems : DmaSems sig S2
  /-- Slot `s`'s. -/
  cell : Fin 2 → DmaSem sig
  sq : (⟨3, ![1, 128, n]⟩ : Shape).Squeezes ⟨2, ![128, n]⟩
  cell_eq : ∀ (s : Fin 2) (ho), ((sems.slice (Rect.unit (s := S2) ![s.val] S1.size ho)).squeeze S_ squeezes_S1_S_).sem = cell s

namespace Chan

variable (K : Chan)

/-- The array's shape and the buffer's. -/
abbrev WS : Shape := ⟨3, ![64, 1024, K.n]⟩
abbrev BS : Shape := ⟨3, ![2, 1024, K.n]⟩
abbrev PS : Shape := ⟨3, ![1, 128, K.n]⟩
abbrev RS : Shape := ⟨2, ![128, K.n]⟩

/-- A piece of the buffer, as the kernel spells it. -/
abbrev dstMem (o : Fin 3 → ℕ) (ho : ∀ a, o a + K.PS.size a ≤ K.BS.size a) : Memref sig .tc .vmem K.RS .f32 :=
  (K.bm.slice (Rect.unit (s := K.BS) o K.PS.size ho) (fun _ => rfl)).squeeze K.RS K.sq
/-- A piece of the array. -/
abbrev srcMem (o : Fin 3 → ℕ) (ho : ∀ a, o a + K.PS.size a ≤ K.WS.size a) : Memref sig .tc .hbm K.RS .f32 :=
  (K.wm.slice (Rect.unit (s := K.WS) o K.PS.size ho) (fun _ => rfl)).squeeze K.RS K.sq
/-- A semaphore of the pair. -/
abbrev semAt (o : Fin 1 → ℕ) (ho : ∀ a, o a + S1.size a ≤ S2.size a) : DmaSem sig :=
  ((K.sems.slice (Rect.unit (s := S2) o S1.size ho)).squeeze S_ squeezes_S1_S_).sem

/-- The units one transfer puts on its cell. -/
def NN : ℕ := (K.dstMem (fun _ => 0) (by intro a; fin_cases a <;> simp)).view.dmaCredit

/-- Piece `p` of slot `s`. -/
def pc (s : Fin 2) (p : Fin 8) : Finset K.BS.Idx := Finset.univ.filter fun y => (y 0).val = s.val ∧ (y 1).val / 128 = p.val
/-- Slot `s`. -/
def slotOf (s : Fin 2) : Finset K.BS.Idx := Finset.univ.filter fun y => (y 0).val = s.val
/-- Piece `p` of expert `e`. -/
def wpc (e : Fin 64) (p : Fin 8) : Finset K.WS.Idx := Finset.univ.filter fun y => (y 0).val = e.val ∧ (y 1).val / 128 = p.val
/-- Expert `e`. -/
def wOf (e : Fin 64) : Finset K.WS.Idx := Finset.univ.filter fun y => (y 0).val = e.val

theorem pc_disjoint (s : Fin 2) : ∀ p p' : Fin 8, p ≠ p' → Disjoint (K.pc s p) (K.pc s p') := fun p p' h => by
  rw [Finset.disjoint_left]; intro y hy hy'; simp only [pc, Finset.mem_filter] at hy hy'; exact h (Fin.ext (by omega))
theorem wpc_disjoint (e : Fin 64) : ∀ p p' : Fin 8, p ≠ p' → Disjoint (K.wpc e p) (K.wpc e p') := fun p p' h => by
  rw [Finset.disjoint_left]; intro y hy hy'; simp only [wpc, Finset.mem_filter] at hy hy'; exact h (Fin.ext (by omega))
theorem slotOf_disjoint : ∀ s s' : Fin 2, s ≠ s' → Disjoint (K.slotOf s) (K.slotOf s') := fun s s' h => by
  rw [Finset.disjoint_left]; intro y hy hy'; simp only [slotOf, Finset.mem_filter] at hy hy'; exact h (Fin.ext (by omega))
theorem pc_cover (s : Fin 2) : Finset.univ.biUnion (K.pc s) = K.slotOf s := by
  ext y
  have h1 : (y 1).val < 1024 := (y 1).isLt
  simp only [pc, slotOf, Finset.mem_biUnion, Finset.mem_univ, true_and, Finset.mem_filter]
  exact ⟨fun ⟨_, h, _⟩ => h, fun h => ⟨⟨(y 1).val / 128, by omega⟩, h, rfl⟩⟩
theorem wpc_cover (e : Fin 64) : Finset.univ.biUnion (K.wpc e) = K.wOf e := by
  ext y
  have h1 : (y 1).val < 1024 := (y 1).isLt
  simp only [wpc, wOf, Finset.mem_biUnion, Finset.mem_univ, true_and, Finset.mem_filter]
  exact ⟨fun ⟨_, h, _⟩ => h, fun h => ⟨⟨(y 1).val / 128, by omega⟩, h, rfl⟩⟩
theorem slotOf_cover : Finset.univ.biUnion K.slotOf = Finset.univ := by
  ext y
  simp only [slotOf, Finset.mem_biUnion, Finset.mem_univ, true_and, Finset.mem_filter, iff_true]
  exact ⟨y 0, rfl⟩

theorem dst_emb (o : Fin 3 → ℕ) (ho) (s : Fin 2) (p : Fin 8) (h : o = ![s.val, 128 * p.val, 0]) (r : Fin 128) (y : Fin K.n) :
    (K.dstMem o ho).view.emb (ix2 r y) = K.bm.view.emb (ix3 s (⟨128 * p.val + r.val, by omega⟩ : Fin 1024) y) := by
  subst h
  show K.bm.view.emb ((Rect.unit (s := K.BS) ![s.val, 128 * p.val, 0] K.PS.size ho).emb (Shape.reshapeEquiv _ (ix2 r y))) = _
  refine congrArg K.bm.view.emb ?_
  refine (congrArg _ (reshapeEquiv_ix2_1ab _ r y)).trans ?_
  funext a
  match a with
  | ⟨0, _⟩ => exact Fin.ext (by show s.val + 1 * 0 = s.val; omega)
  | ⟨1, _⟩ => exact Fin.ext (by show 128 * p.val + 1 * r.val = 128 * p.val + r.val; omega)
  | ⟨2, _⟩ => exact Fin.ext (by show 0 + 1 * y.val = y.val; omega)

theorem src_emb (o : Fin 3 → ℕ) (ho) (e : Fin 64) (p : Fin 8) (h : o = ![e.val, 128 * p.val, 0]) (r : Fin 128) (y : Fin K.n) :
    (K.srcMem o ho).view.emb (ix2 r y) = K.wm.view.emb (ix3 e (⟨128 * p.val + r.val, by omega⟩ : Fin 1024) y) := by
  subst h
  show K.wm.view.emb ((Rect.unit (s := K.WS) ![e.val, 128 * p.val, 0] K.PS.size ho).emb (Shape.reshapeEquiv _ (ix2 r y))) = _
  refine congrArg K.wm.view.emb ?_
  refine (congrArg _ (reshapeEquiv_ix2_1ab _ r y)).trans ?_
  funext a
  match a with
  | ⟨0, _⟩ => exact Fin.ext (by show e.val + 1 * 0 = e.val; omega)
  | ⟨1, _⟩ => exact Fin.ext (by show 128 * p.val + 1 * r.val = 128 * p.val + r.val; omega)
  | ⟨2, _⟩ => exact Fin.ext (by show 0 + 1 * y.val = y.val; omega)

theorem dst_set (o : Fin 3 → ℕ) (ho) (s : Fin 2) (p : Fin 8) (h : o = ![s.val, 128 * p.val, 0]) : (K.dstMem o ho).view.set = (K.pc s p).map K.bm.view.emb := by
  ext i
  constructor
  · intro hi
    obtain ⟨j, -, e⟩ := Finset.mem_map.mp hi
    obtain ⟨x, y, rfl⟩ : ∃ x y, j = ix2 x y := ⟨_, _, eq_ix2 j⟩
    rw [← e, K.dst_emb o ho s p h]
    refine Finset.mem_map_of_mem _ ?_
    have hx : x.val < 128 := x.isLt
    simp only [pc, Finset.mem_filter, Finset.mem_univ, true_and]
    refine ⟨rfl, ?_⟩
    show (128 * p.val + x.val) / 128 = p.val
    omega
  · intro hi
    obtain ⟨j, hj, e⟩ := Finset.mem_map.mp hi
    simp only [pc, Finset.mem_filter, Finset.mem_univ, true_and] at hj
    obtain ⟨x, z, y, rfl⟩ : ∃ x z y, j = ix3 x z y := ⟨_, _, _, eq_ix3 j⟩
    obtain ⟨h0, h1⟩ := hj
    change x.val = s.val at h0
    change z.val / 128 = p.val at h1
    have hz : z.val < 1024 := z.isLt
    refine Finset.mem_map.mpr ⟨ix2 (⟨z.val - 128 * p.val, by omega⟩ : Fin 128) y, Finset.mem_univ _, ?_⟩
    refine (K.dst_emb o ho s p h _ y).trans (Eq.trans (congrArg K.bm.view.emb ?_) e)
    obtain rfl : x = s := Fin.ext h0
    exact congrArg (fun w => ix3 x w y) (Fin.ext (by show 128 * p.val + (z.val - 128 * p.val) = z.val; omega))

theorem src_set (o : Fin 3 → ℕ) (ho) (e : Fin 64) (p : Fin 8) (h : o = ![e.val, 128 * p.val, 0]) : (K.srcMem o ho).view.set = (K.wpc e p).map K.wm.view.emb := by
  ext i
  constructor
  · intro hi
    obtain ⟨j, -, e'⟩ := Finset.mem_map.mp hi
    obtain ⟨x, y, rfl⟩ : ∃ x y, j = ix2 x y := ⟨_, _, eq_ix2 j⟩
    rw [← e', K.src_emb o ho e p h]
    refine Finset.mem_map_of_mem _ ?_
    have hx : x.val < 128 := x.isLt
    simp only [wpc, Finset.mem_filter, Finset.mem_univ, true_and]
    refine ⟨rfl, ?_⟩
    show (128 * p.val + x.val) / 128 = p.val
    omega
  · intro hi
    obtain ⟨j, hj, e'⟩ := Finset.mem_map.mp hi
    simp only [wpc, Finset.mem_filter, Finset.mem_univ, true_and] at hj
    obtain ⟨x, z, y, rfl⟩ : ∃ x z y, j = ix3 x z y := ⟨_, _, _, eq_ix3 j⟩
    obtain ⟨h0, h1⟩ := hj
    change x.val = e.val at h0
    change z.val / 128 = p.val at h1
    have hz : z.val < 1024 := z.isLt
    refine Finset.mem_map.mpr ⟨ix2 (⟨z.val - 128 * p.val, by omega⟩ : Fin 128) y, Finset.mem_univ _, ?_⟩
    refine (K.src_emb o ho e p h _ y).trans (Eq.trans (congrArg K.wm.view.emb ?_) e')
    obtain rfl : x = e := Fin.ext h0
    exact congrArg (fun w => ix3 x w y) (Fin.ext (by show 128 * p.val + (z.val - 128 * p.val) = z.val; omega))

section Res

variable (c : Dev nD) (Y : Buf (Elt F) (K.wm.view.loc (c : Thread nD τ)))

/-- Buffer contents whose two slots both hold expert `e`. -/
def G (e : Fin 64) : Buf (Elt F) (K.bm.view.loc (c : Thread nD τ)) :=
  K.bm.view.write (Elt F) (fun _ => Classical.arbitrary _) (fun y => K.wm.view.read (Elt F) Y (ix3 e (y 1) (y 2))) Finset.univ

theorem G_read (e : Fin 64) : K.bm.view.read (Elt F) (K.G c Y e) = fun y => K.wm.view.read (Elt F) Y (ix3 e (y 1) (y 2)) :=
  View.read_write_univ _ _

/-- The share of the array slot `s`'s transfers read under. -/
def qs : Fin 2 → PosShare TreeShare := ![fullShare.left, fullShare.right]
/-- Elements `S` of the buffer. -/
def buf (S : Finset K.BS.Idx) (f : Buf (Elt F) (K.bm.view.loc (c : Thread nD τ))) : sProp 𝕄 := K.bm.view.loc (c : Thread nD τ) ↦[S.map K.bm.view.emb]{fullShare} f
/-- Elements `S` of the array at a share. -/
def rows (S : Finset K.WS.Idx) (q : PosShare TreeShare) : sProp 𝕄 := K.wm.view.loc (c : Thread nD τ) ↦[S.map K.wm.view.emb]{q} Y

/-- What transfer `p` of expert `e` into slot `s` starts from. -/
def srcS (s : Fin 2) (e : Fin 64) (p : Fin 8) : sProp 𝕄 := iprop(K.rows c Y (K.wpc e p) (qs s) ∗ ∃ f, K.buf c (K.pc s p) f)
/-- What it delivers. -/
def delD (s : Fin 2) (e : Fin 64) (p : Fin 8) : sProp 𝕄 := iprop(K.buf c (K.pc s p) (K.G c Y e) ∗ K.rows c Y (K.wpc e p) (qs s))
/-- What of the slot's share of the array expert `e`'s transfers leave. -/
def rest (s : Fin 2) (e : Fin 64) : sProp 𝕄 :=
  K.wm.view.loc (c : Thread nD τ) ↦[(Finset.univ.map K.wm.view.emb) \ ((K.wOf e).map K.wm.view.emb)]{qs s} Y

instance delD_storable (s : Fin 2) (e : Fin 64) (p : Fin 8) : Storable (upEmb : UEmb _ 𝕄) (K.delD c Y s e p) := by
  unfold delD buf rows; infer_instance

/-- Slot `s`'s batch for expert `e`, `j` transfers issued and `u` units consumed. -/
def batch (s : Fin 2) (e : Fin 64) (j u : ℕ) : sProp 𝕄 :=
  Transfers.Batch (countersEmb (U := Pipeline.UD sig nD τ)) (c : Thread nD τ) (.dma (K.cell s)) () K.NN (K.delD c Y s e) j u

/-- A slot nothing is in flight into. -/
def idleS (s : Fin 2) : sProp 𝕄 := iprop((∃ f, K.buf c (K.slotOf s) f) ∗ semVal ((c : Thread nD τ), SemLoc.dma (K.cell s)) 0 ∗ K.rows c Y Finset.univ (qs s))
/-- A slot expert `e`'s transfers are in flight into. -/
def flyS (s : Fin 2) (e : Fin 64) : sProp 𝕄 := iprop(K.batch c Y s e 8 0 ∗ K.rest c Y s e)

/-- A slot with expert `e` landed in it. -/
def landed (s : Fin 2) (e : Fin 64) : sProp 𝕄 :=
  iprop(K.buf c (K.slotOf s) (K.G c Y e) ∗ semVal ((c : Thread nD τ), SemLoc.dma (K.cell s)) 0 ∗ K.rows c Y Finset.univ (qs s))

theorem landed_idle (s : Fin 2) (e : Fin 64) : (K.landed c Y s e : sProp 𝕄) ⊢ K.idleS c Y s := by
  unfold landed idleS
  iintro ⟨H, HV, HR⟩
  isplitl [H]; · iexists _; iexact H
  isplitl [HV] <;> iassumption

/-- What transfer `p` writes on its piece is expert `e` there. -/
theorem write_piece (o : Fin 3 → ℕ) (ho) (q : Fin 3 → ℕ) (hq) (s : Fin 2) (e : Fin 64) (p : Fin 8) (h : o = ![s.val, 128 * p.val, 0]) (h' : q = ![e.val, 128 * p.val, 0])
    (fd : Buf (Elt F) (K.bm.view.loc (c : Thread nD τ))) :
    ∀ i ∈ (K.pc s p).map K.bm.view.emb, (K.dstMem o ho).view.write (Elt F) fd ((K.srcMem q hq).view.read (Elt F) Y) Finset.univ i = K.G c Y e i := by
  intro i hi
  rw [← K.dst_set o ho s p h] at hi
  obtain ⟨j, -, rfl⟩ := Finset.mem_map.mp hi
  have hr : (K.dstMem o ho).view.read (Elt F) ((K.dstMem o ho).view.write (Elt F) fd ((K.srcMem q hq).view.read (Elt F) Y) Finset.univ) j
      = (K.dstMem o ho).view.read (Elt F) (K.G c Y e) j := by
    rw [View.read_write_univ]
    obtain ⟨x, y, rfl⟩ : ∃ x y, j = ix2 x y := ⟨_, _, eq_ix2 j⟩
    have e1 : (K.srcMem q hq).view.read (Elt F) Y (ix2 x y) = K.wm.view.read (Elt F) Y (ix3 e (⟨128 * p.val + x.val, by omega⟩ : Fin 1024) y) := by
      rw [View.read_apply, View.read_apply, K.src_emb q hq e p h' x y]
    have e2 : (K.dstMem o ho).view.read (Elt F) (K.G c Y e) (ix2 x y) = K.bm.view.read (Elt F) (K.G c Y e) (ix3 s (⟨128 * p.val + x.val, by omega⟩ : Fin 1024) y) := by
      rw [View.read_apply, View.read_apply, K.dst_emb o ho s p h x y]
    rw [e1, e2, G_read]
    rfl
  rw [View.read_apply, View.read_apply] at hr
  exact (cast_inj _).mp hr

/-- Transfer `j` issued. -/
theorem issue_step {s : Fin 2} {e : Fin 64} (j : ℕ) (hj : j < 8)
    {g : Fin 1 → ℕ} {hg : ∀ a, g a + S1.size a ≤ S2.size a} (hge : g = ![s.val])
    {o : Fin 3 → ℕ} {ho : ∀ a, o a + K.PS.size a ≤ K.BS.size a} (hoe : o = ![s.val, 128 * j, 0])
    {q : Fin 3 → ℕ} {hq : ∀ a, q a + K.PS.size a ≤ K.WS.size a} (hqe : q = ![e.val, 128 * j, 0])
    {h1 : (K.srcMem q hq).view.WordExact} {h2 : (K.dstMem o ho).view.WordExact}
    {h3 : DmaTarget.Typed (nD := nD) (p := (c : Thread nD τ).2) .hbm (.dma (K.semAt g hg)) (.here (K.dstMem o ho))} {α : Type}
    {kk : PUnit → Prog (TpuEff nD τ sig (Elt F) Λ₀ .tc) α} {Q : α → sProp 𝕄} :
    iprop(K.batch c Y s e j 0 ∗ K.srcS c Y s e ⟨j, hj⟩)
      ⊢ iprop((K.batch c Y s e (j + 1) 0 -∗ wp frame (wpE defs₀ 𝒱₀ (c : Thread nD τ) none) Set.univ (kk ⟨⟩) Q)
        -∗ wp frame (wpE defs₀ 𝒱₀ (c : Thread nD τ) none) Set.univ
          (.op (.enqueueDma (K.srcMem q hq) (.here (K.dstMem o ho)) (.dma (K.semAt g hg)) h1 h2 h3) kk) Q) := by
  subst hge
  have hset := K.src_set q hq e ⟨j, hj⟩ hqe
  have hdst := K.dst_set o ho s ⟨j, hj⟩ hoe
  unfold srcS
  iintro ⟨HB, HS, ⟨%f, HD⟩⟩ Hk
  unfold batch rows buf
  rw [← K.cell_eq s hg, ← hset, ← hdst]
  iapply (Transfers.wp_dmaBatch (countersEmb (U := Pipeline.UD sig nD τ)) 𝒱₀ (c : Thread nD τ) none (D := K.delD c Y s e) () K.NN rfl (le_refl _) hj (Nat.zero_le _) ?_) $$ [HS HD HB]
  · unfold delD buf rows
    rw [hset, hdst]
    exact sep_mono (Entails.of_eq (pointsTo_congr (K.write_piece c Y o ho q hq s e ⟨j, hj⟩ hoe hqe f))) .rfl
  · isplitl [HS]; · iexact HS
    isplitl [HD]; · iexact HD
    iexact HB
  iexact Hk

/-- One wait. -/
theorem wait_step {s : Fin 2} {e : Fin 64} (u : ℕ) (hu : u < 8)
    {g : Fin 1 → ℕ} {hg : ∀ a, g a + S1.size a ≤ S2.size a} (hge : g = ![s.val])
    {o : Fin 3 → ℕ} {ho : ∀ a, o a + K.PS.size a ≤ K.BS.size a} {srcw : Memref sig .tc .hbm K.RS .f32}
    {h1 : srcw.view.WordExact} {h2 : (K.dstMem o ho).view.WordExact} {α : Type}
    {kk : PUnit → Prog (TpuEff nD τ sig (Elt F) Λ₀ .tc) α} {Q : α → sProp 𝕄} :
    iprop((∃ W : Waits sig Unit, owes (c : Thread nD τ) 0 W) ∗ K.batch c Y s e 8 (u * K.NN))
      ⊢ iprop((iprop((∃ W : Waits sig Unit, owes (c : Thread nD τ) 0 W) ∗ K.batch c Y s e 8 ((u + 1) * K.NN)) -∗ wp frame (wpE defs₀ 𝒱₀ (c : Thread nD τ) none) Set.univ (kk ⟨⟩) Q)
        -∗ wp frame (wpE defs₀ 𝒱₀ (c : Thread nD τ) none) Set.univ (.op (.waitDma2 (K.semAt g hg) srcw (K.dstMem o ho) h1 h2) kk) Q) := by
  subst hge
  iintro ⟨⟨%W, HO⟩, HB⟩ Hk
  unfold batch
  rw [← K.cell_eq s hg]
  have hle : u * K.NN + 1 * K.NN ≤ K.NN * 8 := by rw [← Nat.add_mul, Nat.mul_comm K.NN]; exact Nat.mul_le_mul_right _ hu
  iapply (Transfers.wp_waitBatchMul (countersEmb (U := Pipeline.UD sig nD τ)) 𝒱₀ (c : Thread nD τ) none () (N := K.NN) 1 (by rw [Nat.one_mul]; rfl) hle) $$ [HB HO]
  · isplitl [HB] <;> iassumption
  iintro ⟨HB, HO⟩
  iapply Hk
  isplitl [HO]
  · iexists _; iexact HO
  rw [Nat.add_mul]
  iexact HB

theorem rows_pieces (s : Fin 2) (e : Fin 64) :
    (K.rows c Y Finset.univ (qs s) : sProp 𝕄) = iprop(bigSep Finset.univ (fun p => K.rows c Y (K.wpc e p) (qs s)) ∗ K.rest c Y s e) := by
  have e1 : (bigSep Finset.univ (fun p => K.rows c Y (K.wpc e p) (qs s)) : sProp 𝕄) = K.rows c Y (K.wOf e) (qs s) := by
    unfold rows
    rw [← pointsTo_biUnion (ℓ := K.wm.view.loc (c : Thread nD τ)) Finset.univ (fun p => (K.wpc e p).map K.wm.view.emb)
      (fun p _ p' _ h => (Finset.disjoint_map _).mpr (K.wpc_disjoint e p p' h)), ← K.wpc_cover e, map_biUnion']
  rw [e1]
  unfold rows rest
  have hs : (K.wOf e).map K.wm.view.emb ⊆ Finset.univ.map K.wm.view.emb := Finset.map_subset_map.mpr (Finset.subset_univ _)
  exact Entails.antisymm (pointsTo_split_subset (ℓ := K.wm.view.loc (c : Thread nD τ)) hs).1 (pointsTo_split_subset (ℓ := K.wm.view.loc (c : Thread nD τ)) hs).2

theorem buf_pieces (s : Fin 2) (f : Buf (Elt F) (K.bm.view.loc (c : Thread nD τ))) :
    (K.buf c (K.slotOf s) f : sProp 𝕄) = bigSep Finset.univ fun p => K.buf c (K.pc s p) f := by
  unfold buf
  rw [← pointsTo_biUnion (ℓ := K.bm.view.loc (c : Thread nD τ)) Finset.univ (fun p => (K.pc s p).map K.bm.view.emb)
      (fun p _ p' _ h => (Finset.disjoint_map _).mpr (K.pc_disjoint s p p' h)), ← K.pc_cover s, map_biUnion']

/-- An idle slot, its batch for expert `e` allocated. -/
theorem start_fetch (s : Fin 2) (e : Fin 64) :
    (K.idleS c Y s : sProp 𝕄) ⊢ |={Set.univ}=> iprop(K.batch c Y s e 0 0 ∗ bigSep Finset.univ (K.srcS c Y s e) ∗ K.rest c Y s e) := by
  unfold idleS
  rw [K.rows_pieces c Y s e]
  iintro ⟨⟨%f, HF⟩, HV, HR, HC⟩
  imod (Transfers.batch_alloc' (Lvl := ℕ) (countersEmb (U := Pipeline.UD sig nD τ)) (c : Thread nD τ) () K.NN (K.delD c Y s e) (sm := SemLoc.dma (K.cell s)) (E := Set.univ)) $$ HV with HB
  imodintro
  isplitl [HB]; · unfold batch; iexact HB
  isplitl [HF HR]
  · ihave HF := (Entails.of_eq (K.buf_pieces c s f)) $$ HF
    have e : (iprop(bigSep Finset.univ (fun p => K.rows c Y (K.wpc e p) (qs s)) ∗ bigSep Finset.univ (fun p => K.buf c (K.pc s p) f)) : sProp 𝕄)
        ⊢ bigSep Finset.univ (K.srcS c Y s e) := by
      refine (Entails.of_eq (bigSep_sep _ _ _).symm).trans ?_
      refine bigSep_mono fun t _ => ?_
      show iprop(K.rows c Y (K.wpc e t) (qs s) ∗ K.buf c (K.pc s t) f) ⊢ iprop(K.rows c Y (K.wpc e t) (qs s) ∗ ∃ f, K.buf c (K.pc s t) f)
      iintro ⟨HR, HF⟩
      isplitl [HR]; · iexact HR
      iexists f; iexact HF
    iapply e $$ [HR HF]
    isplitl [HR] <;> iassumption
  iexact HC

/-- The eight sources one by one. -/
theorem srcs_eq (s : Fin 2) (e : Fin 64) :
    (bigSep Finset.univ (K.srcS c Y s e) : sProp 𝕄) = iprop(K.srcS c Y s e 0 ∗ K.srcS c Y s e 1 ∗ K.srcS c Y s e 2 ∗ K.srcS c Y s e 3
      ∗ K.srcS c Y s e 4 ∗ K.srcS c Y s e 5 ∗ K.srcS c Y s e 6 ∗ K.srcS c Y s e 7) :=
  bigSep_univ_eq_bigSepL [(0 : Fin 8), 1, 2, 3, 4, 5, 6, 7] (by decide) (by decide) _

/-- A fetch landed. -/
theorem end_fetch (hN : 0 < K.NN) (s : Fin 2) (e : Fin 64) :
    (iprop(K.batch c Y s e 8 (8 * K.NN) ∗ K.rest c Y s e) : sProp 𝕄) ⊢ |={Set.univ}=> K.landed c Y s e := by
  unfold landed
  rw [K.rows_pieces c Y s e, buf_pieces, Nat.mul_comm 8 K.NN]
  unfold batch
  iintro ⟨HB, HC⟩
  imod (Transfers.batch_collect' (countersEmb (U := Pipeline.UD sig nD τ)) (c : Thread nD τ) hN) $$ HB with ⟨HD, HV⟩
  imodintro
  have e : (bigSep Finset.univ (K.delD c Y s e) : sProp 𝕄)
      ⊢ iprop(bigSep Finset.univ (fun p => K.buf c (K.pc s p) (K.G c Y e)) ∗ bigSep Finset.univ (fun p => K.rows c Y (K.wpc e p) (qs s))) :=
    Entails.of_eq (bigSep_sep _ _ _)
  ihave HD' := e $$ HD
  icases HD' with ⟨HF, HR⟩
  isplitl [HF]; · iexact HF
  isplitl [HV]; · iexact HV
  isplitl [HR] <;> iassumption

/-- Expert `e`'s weights, as the kernel loads them off a slot. -/
def expert (e : Fin 64) : (⟨3, ![1, 1024, K.n]⟩ : Shape).Idx → Elt F .f32 := fun y => K.wm.view.read (Elt F) Y (ix3 e (y 1) (y 2))

/-- A landed slot loaded. -/
theorem slot_load {s : Fin 2} {e : Fin 64}
    {o : Fin 3 → ℕ} {ho : ∀ a, o a + (⟨3, ![1, 1024, K.n]⟩ : Shape).size a ≤ K.BS.size a} (hoe : o = ![s.val, 0, 0])
    {hl : K.bm.view.LoadsAt (Rect.unit (s := K.BS) o (⟨3, ![1, 1024, K.n]⟩ : Shape).size ho).toLoadRect} {α : Type}
    {k : ((⟨3, ![1, 1024, K.n]⟩ : Shape).Idx → Elt F .f32) → Prog (TpuEff nD τ sig (Elt F) Λ₀ .tc) α} {Q : α → sProp 𝕄} :
    (K.buf c (K.slotOf s) (K.G c Y e) : sProp 𝕄)
      ⊢ iprop((K.buf c (K.slotOf s) (K.G c Y e) -∗ wp frame (wpE defs₀ 𝒱₀ (c : Thread nD τ) none) Set.univ (k (K.expert c Y e)) Q)
        -∗ wp frame (wpE defs₀ 𝒱₀ (c : Thread nD τ) none) Set.univ
          (.op (.load K.bm (Rect.unit (s := K.BS) o (⟨3, ![1, 1024, K.n]⟩ : Shape).size ho).toLoadRect hl) k) Q) := by
  subst hoe
  have hset : K.bm.view.setOn (Rect.unit (s := K.BS) ![s.val, 0, 0] (⟨3, ![1, 1024, K.n]⟩ : Shape).size ho).toLoadRect.set ⊆ (K.slotOf s).map K.bm.view.emb := by
    intro y hy
    obtain ⟨z, hz, rfl⟩ := Finset.mem_map.mp hy
    refine Finset.mem_map_of_mem _ ?_
    have hz0 := Rect.mem_set_unit.mp hz 0
    have hj1 : s.val ≤ (z 0).val := hz0.1
    have hj2 : (z 0).val < s.val + 1 := hz0.2
    simp only [slotOf, Finset.mem_filter, Finset.mem_univ, true_and]
    omega
  have hval : K.bm.view.readAt (Elt F) (Rect.unit (s := K.BS) ![s.val, 0, 0] (⟨3, ![1, 1024, K.n]⟩ : Shape).size ho).toLoadRect (K.G c Y e) = K.expert c Y e := by
    funext x
    rw [View.readAt_apply, G_read]
    unfold expert
    have h1 : ∀ (a a' : Fin 1024) (b b' : Fin K.n), a = a' → b = b' → K.wm.view.read (Elt F) Y (ix3 e a b) = K.wm.view.read (Elt F) Y (ix3 e a' b') := by
      rintro a _ b _ rfl rfl; rfl
    refine h1 _ _ _ _ (Fin.ext ?_) (Fin.ext ?_)
    · show 0 + 1 * (x 1).val = (x 1).val; omega
    · show 0 + 1 * (x 2).val = (x 2).val; omega
  unfold buf
  iintro H Hk
  iapply (wp_load 𝒱₀ (c : Thread nD τ) none Set.univ (m := K.bm) (r := (Rect.unit (s := K.BS) ![s.val, 0, 0] (⟨3, ![1, 1024, K.n]⟩ : Shape).size ho).toLoadRect) (hl := hl)
    (q := fullShare) (f := K.G c Y e) hset) $$ H
  iintro H
  rw [hval]
  iapply Hk
  iexact H

end Res

end Chan

/-- The first product's weights. -/
abbrev gu : Chan := ⟨2048, Memref.whole main_arg3, Memref.whole cc0_scratch0, cc0_scratch1, fun s => ⟨8 + s.val, by have := s.isLt; show 8 + s.val < 12; omega⟩,
  squeezes_S1x128x2048_S128x2048, by decide +kernel⟩
/-- The second's. -/
abbrev dn : Chan := ⟨1024, Memref.whole main_arg5, Memref.whole cc0_scratch4, cc0_scratch5, fun s => ⟨10 + s.val, by have := s.isLt; show 10 + s.val < 12; omega⟩,
  squeezes_S1x128x1024_S128x1024, by decide +kernel⟩

theorem gu_pos : 0 < gu.NN := by decide +kernel
theorem dn_pos : 0 < dn.NN := by decide +kernel

end Cert.Mlp

end
-- ==== Proof.ExpertsWords.lean ====
/- The words of the experts call: which slot a counter names, what the conditions say, and the search for the next tile of another expert. Hand-written. -/
module

public import proofs.«01_k».proof.Proof.Gen.ExpertsIdeal.Skeleton
public import Idealize.ShloMosaic.Lib.ValueIdx
public import Idealize.ShloMosaic.Lib.Scf

@[expose] public section

set_option maxRecDepth 16384

noncomputable section

namespace Cert.Mlp

open Cert.ExpertsIdeal Cert.ExpertsIdeal.Gen
open Idealize.ShloMosaic Idealize.ShloMosaic.ValueIdx

/-! ## Offsets -/

/-- Where the next expert's pieces go. -/
theorem gu_next : ∀ G : Fin 100,
    k0_off14 (BitVec.ofNat 32 G.val) = ![(G.val + 1) % 2] ∧
    k0_off17 (BitVec.ofNat 32 G.val) = ![(G.val + 1) % 2] ∧
    k0_off15 (BitVec.ofNat 32 G.val) = ![(G.val + 1) % 2, 128 * 0, 0] ∧
    k0_off18 (BitVec.ofNat 32 G.val) = ![(G.val + 1) % 2, 128 * 1, 0] ∧
    k0_off20 (BitVec.ofNat 32 G.val) = ![(G.val + 1) % 2, 128 * 2, 0] ∧
    k0_off22 (BitVec.ofNat 32 G.val) = ![(G.val + 1) % 2, 128 * 3, 0] ∧
    k0_off24 (BitVec.ofNat 32 G.val) = ![(G.val + 1) % 2, 128 * 4, 0] ∧
    k0_off26 (BitVec.ofNat 32 G.val) = ![(G.val + 1) % 2, 128 * 5, 0] ∧
    k0_off28 (BitVec.ofNat 32 G.val) = ![(G.val + 1) % 2, 128 * 6, 0] ∧
    k0_off30 (BitVec.ofNat 32 G.val) = ![(G.val + 1) % 2, 128 * 7, 0] := by decide +kernel
/-- Where this expert's pieces are. -/
theorem gu_cur : ∀ G : Fin 100,
    k0_off32 (BitVec.ofNat 32 G.val) = ![G.val % 2] ∧
    k0_off33 (BitVec.ofNat 32 G.val) = ![G.val % 2, 128 * 0, 0] ∧
    k0_off34 (BitVec.ofNat 32 G.val) = ![G.val % 2, 128 * 1, 0] ∧
    k0_off35 (BitVec.ofNat 32 G.val) = ![G.val % 2, 128 * 2, 0] ∧
    k0_off36 (BitVec.ofNat 32 G.val) = ![G.val % 2, 128 * 3, 0] ∧
    k0_off37 (BitVec.ofNat 32 G.val) = ![G.val % 2, 128 * 4, 0] ∧
    k0_off38 (BitVec.ofNat 32 G.val) = ![G.val % 2, 128 * 5, 0] ∧
    k0_off39 (BitVec.ofNat 32 G.val) = ![G.val % 2, 128 * 6, 0] ∧
    k0_off40 (BitVec.ofNat 32 G.val) = ![G.val % 2, 128 * 7, 0] ∧
    k0_off41 (BitVec.ofNat 32 G.val) = ![G.val % 2, 0, 0] := by decide +kernel
/-- Where the next expert's pieces go. -/
theorem dn_next : ∀ G : Fin 100,
    k0_off55 (BitVec.ofNat 32 G.val) = ![(G.val + 1) % 2] ∧
    k0_off58 (BitVec.ofNat 32 G.val) = ![(G.val + 1) % 2] ∧
    k0_off56 (BitVec.ofNat 32 G.val) = ![(G.val + 1) % 2, 128 * 0, 0] ∧
    k0_off59 (BitVec.ofNat 32 G.val) = ![(G.val + 1) % 2, 128 * 1, 0] ∧
    k0_off61 (BitVec.ofNat 32 G.val) = ![(G.val + 1) % 2, 128 * 2, 0] ∧
    k0_off63 (BitVec.ofNat 32 G.val) = ![(G.val + 1) % 2, 128 * 3, 0] ∧
    k0_off65 (BitVec.ofNat 32 G.val) = ![(G.val + 1) % 2, 128 * 4, 0] ∧
    k0_off67 (BitVec.ofNat 32 G.val) = ![(G.val + 1) % 2, 128 * 5, 0] ∧
    k0_off69 (BitVec.ofNat 32 G.val) = ![(G.val + 1) % 2, 128 * 6, 0] ∧
    k0_off71 (BitVec.ofNat 32 G.val) = ![(G.val + 1) % 2, 128 * 7, 0] := by decide +kernel
/-- Where this expert's pieces are. -/
theorem dn_cur : ∀ G : Fin 100,
    k0_off73 (BitVec.ofNat 32 G.val) = ![G.val % 2] ∧
    k0_off74 (BitVec.ofNat 32 G.val) = ![G.val % 2, 128 * 0, 0] ∧
    k0_off75 (BitVec.ofNat 32 G.val) = ![G.val % 2, 128 * 1, 0] ∧
    k0_off76 (BitVec.ofNat 32 G.val) = ![G.val % 2, 128 * 2, 0] ∧
    k0_off77 (BitVec.ofNat 32 G.val) = ![G.val % 2, 128 * 3, 0] ∧
    k0_off78 (BitVec.ofNat 32 G.val) = ![G.val % 2, 128 * 4, 0] ∧
    k0_off79 (BitVec.ofNat 32 G.val) = ![G.val % 2, 128 * 5, 0] ∧
    k0_off80 (BitVec.ofNat 32 G.val) = ![G.val % 2, 128 * 6, 0] ∧
    k0_off81 (BitVec.ofNat 32 G.val) = ![G.val % 2, 128 * 7, 0] ∧
    k0_off82 (BitVec.ofNat 32 G.val) = ![G.val % 2, 0, 0] := by decide +kernel

theorem gridN : grid0.N = 96 := by decide +kernel
theorem coord : ∀ p : Fin grid0.N, (grid0.coords p 0).val = p.val := by decide +kernel
theorem trips1 : k0_t1_loop.trips = 96 := by decide +kernel
theorem trips2 : k0_t2_loop.trips = 96 := by decide +kernel
theorem off1_eq : ∀ p : Fin grid0.N, k0_off1 (grid0.coords p) = ![p.val] := by decide +kernel
theorem off50_eq : ∀ p : Fin grid0.N, k0_off50 (grid0.coords p) = ![p.val] := by decide +kernel
theorem off10_eq : ∀ p : Fin grid0.N, k0_off10 (grid0.coords p) = ![p.val - 1] := by decide +kernel
theorem off51_eq : ∀ p : Fin grid0.N, k0_off51 (grid0.coords p) = ![p.val - 1] := by decide +kernel
theorem off12_eq : ∀ p : Fin grid0.N, k0_off12 (grid0.coords p) = ![p.val] := by decide +kernel
theorem off53_eq : ∀ p : Fin grid0.N, k0_off53 (grid0.coords p) = ![p.val] := by decide +kernel
theorem off11_eq : ∀ t : Fin k0_t1_loop.trips, k0_off11 t = ![t.val] := by decide +kernel
theorem off52_eq : ∀ t : Fin k0_t2_loop.trips, k0_off52 t = ![t.val] := by decide +kernel
theorem cond1_iff : ∀ p : Fin grid0.N, k0_cond1 (grid0.coords p) = 1#1 ↔ p.val = 0 := by decide +kernel
theorem cond4_iff : ∀ p : Fin grid0.N, k0_cond4 (grid0.coords p) = 1#1 ↔ p.val = 0 := by decide +kernel

/-! ## Conditions -/

theorem nat_toInt (n : ℕ) (h : n < 1000) : (BitVec.ofNat 32 n).toInt = n := by
  have e : (BitVec.ofNat 32 n).toNat = n := by rw [BitVec.toNat_ofNat]; exact Nat.mod_eq_of_lt (by omega)
  rw [BitVec.toInt_eq_toNat_of_lt (by omega), e]

theorem widen_iff (b : Bool) : IntOp.cmpi .ne (Scalar.extui (BitVec.ofBool b)) 0#32 = 1#1 ↔ b = true := by
  revert b; decide
theorem join_iff (a b c : Bool) : IntOp.cmpi .ne (Scalar.extui (IntOp.andi (IntOp.ori (BitVec.ofBool a) (BitVec.ofBool b)) (BitVec.ofBool c))) 0#32 = 1#1
    ↔ (a = true ∨ b = true) ∧ c = true := by
  revert a b c; decide

theorem slt_iff (a b : BitVec 32) : a.slt b = true ↔ a.toInt < b.toInt := BitVec.slt_iff_toInt_lt

theorem cond3_iff (v w : BitVec 32) : k0_cond3 v w = 1#1 ↔ w.toInt < v.toInt :=
  (widen_iff (w.slt v)).trans (slt_iff w v)
theorem cond6_iff (v w : BitVec 32) : k0_cond6 v w = 1#1 ↔ w.toInt < v.toInt :=
  (widen_iff (w.slt v)).trans (slt_iff w v)
theorem cond7_iff (p : Fin grid0.N) (v : BitVec 32) : k0_cond7 (grid0.coords p) v = 1#1 ↔ (p.val : Int) < v.toInt := by
  have hp : p.val < 96 := gridN ▸ p.isLt
  refine ((widen_iff _).trans (slt_iff _ _)).trans ?_
  rw [coord, nat_toInt _ (by omega)]
theorem cond8_iff (p : Fin grid0.N) (v : BitVec 32) : k0_cond8 (grid0.coords p) v = 1#1 ↔ v.toInt ≤ (p.val : Int) := by
  have hp : p.val < 96 := gridN ▸ p.isLt
  refine ((widen_iff _).trans BitVec.sle_iff_toInt_le).trans ?_
  rw [coord, nat_toInt _ (by omega)]
theorem first_iff (p : Fin grid0.N) : (BitVec.ofNat 32 (grid0.coords p 0).val == 0#32) = true ↔ p.val = 0 := by
  revert p; decide +kernel
theorem cond2_iff (p : Fin grid0.N) (v a b : BitVec 32) : k0_cond2 (grid0.coords p) v a b = 1#1 ↔ (p.val = 0 ∨ a ≠ b) ∧ (p.val : Int) < v.toInt := by
  have hp : p.val < 96 := gridN ▸ p.isLt
  refine (join_iff _ _ _).trans ?_
  rw [first_iff, slt_iff, coord, nat_toInt _ (by omega), bne_iff_ne]
theorem cond5_iff (p : Fin grid0.N) (v a b : BitVec 32) : k0_cond5 (grid0.coords p) v a b = 1#1 ↔ (p.val = 0 ∨ a ≠ b) ∧ (p.val : Int) < v.toInt :=
  cond2_iff p v a b

/-! ## The tiles' experts -/

/-- Tile `k`'s word. -/
def te (tab : S96.Idx → BitVec 32) (k : ℕ) : BitVec 32 := tab (ix1 (⟨min k 95, by omega⟩ : Fin 96))
/-- Tile `k`'s expert. -/
def ex (tab : S96.Idx → BitVec 32) (k : ℕ) : Fin 64 := ⟨(te tab k).toNat % 64, Nat.mod_lt _ (by decide)⟩
/-- Every tile names an expert. -/
def InRange (tab : S96.Idx → BitVec 32) : Prop := ∀ k, (tab k).toNat < 64
theorem ex_val (tab : S96.Idx → BitVec 32) (h : InRange tab) (k : ℕ) : (te tab k).toNat = (ex tab k).val :=
  (Nat.mod_eq_of_lt (h _)).symm
theorem ex_congr (tab : S96.Idx → BitVec 32) {j k : ℕ} (h : te tab j = te tab k) : ex tab j = ex tab k := by
  exact Fin.ext (congrArg (fun v : BitVec 32 => v.toNat % 64) h)

/-- The number of tiles that run. -/
def run (nt : BitVec 32) : ℕ := min nt.toInt.toNat 96
theorem lt_run (nt : BitVec 32) (p : ℕ) (hp : p < 96) : p < run nt ↔ (p : Int) < nt.toInt := by unfold run; omega

/-- Before tile `t`, `j` is the next tile that fetches. -/
def Pend (tab : S96.Idx → BitVec 32) (nt : BitVec 32) (t j : ℕ) : Prop :=
  t ≤ j ∧ j < run nt ∧ (t = 0 → j = 0) ∧ (0 < t → te tab j ≠ te tab (t - 1) ∧ ∀ k, t ≤ k → k < j → te tab k = te tab (t - 1))
/-- Before tile `t`, no tile is left that fetches. -/
def NoMore (tab : S96.Idx → BitVec 32) (nt : BitVec 32) (t : ℕ) : Prop := 0 < t ∧ ∀ k, t ≤ k → k < run nt → te tab k = te tab (t - 1)
/-- Tile `t` fetches. -/
def Need (tab : S96.Idx → BitVec 32) (nt : BitVec 32) (t : ℕ) : Prop := t < run nt ∧ (t = 0 ∨ te tab t ≠ te tab (t - 1))

theorem pend_need {tab : S96.Idx → BitVec 32} {nt : BitVec 32} {t j : ℕ} (h : Pend tab nt t j) (hn : Need tab nt t) : j = t := by
  obtain ⟨h1, h2, h3, h4⟩ := h
  rcases hn with ⟨hr, h0 | h0⟩
  · omega
  · by_contra hne
    by_cases ht : t = 0
    · exact hne (by omega)
    · exact h0 ((h4 (by omega)).2 t (le_refl _) (by omega))
theorem nomore_need {tab : S96.Idx → BitVec 32} {nt : BitVec 32} {t : ℕ} (h : NoMore tab nt t) (hn : Need tab nt t) : False := by
  rcases hn with ⟨hr, h0 | h0⟩
  · exact absurd h.1 (by omega)
  · exact h0 (h.2 t (le_refl _) hr)
theorem pend_keep {tab : S96.Idx → BitVec 32} {nt : BitVec 32} {t j : ℕ} (h : Pend tab nt t j) (hn : ¬ Need tab nt t) : Pend tab nt (t + 1) j := by
  obtain ⟨h1, h2, h3, h4⟩ := h
  have ht : 0 < t := by
    rcases Nat.eq_zero_or_pos t with e | e
    · exact absurd ⟨by omega, Or.inl e⟩ hn
    · exact e
  have he : te tab t = te tab (t - 1) := by
    by_contra hne; exact hn ⟨by omega, Or.inr hne⟩
  have hj : j ≠ t := fun e => (h4 ht).1 (e ▸ he)
  refine ⟨by omega, h2, fun e => by omega, fun _ => ?_⟩
  rw [Nat.add_sub_cancel, he]
  exact ⟨(h4 ht).1, fun k hk => (h4 ht).2 k (by omega)⟩
theorem nomore_keep {tab : S96.Idx → BitVec 32} {nt : BitVec 32} {t : ℕ} (h : NoMore tab nt t) (hn : ¬ Need tab nt t) : NoMore tab nt (t + 1) := by
  refine ⟨by omega, fun k hk hr => ?_⟩
  rw [Nat.add_sub_cancel, h.2 k (by omega) hr, h.2 t (le_refl _) (by omega)]
theorem same_keep {tab : S96.Idx → BitVec 32} {nt : BitVec 32} {t : ℕ} (hr : t < run nt) (hn : ¬ Need tab nt t) : 0 < t ∧ te tab t = te tab (t - 1) := by
  refine ⟨?_, by by_contra hne; exact hn ⟨hr, Or.inr hne⟩⟩
  rcases Nat.eq_zero_or_pos t with e | e
  · exact absurd ⟨hr, Or.inl e⟩ hn
  · exact e

/-! ## The search -/

/-- What the search holds after `k` tiles: the limit, or the least later tile of another expert if that is less. -/
def Search (tab : S96.Idx → BitVec 32) (nt : BitVec 32) (t k : ℕ) (acc : BitVec 32) : Prop :=
  ((∀ l, t < l → l < k → te tab l = te tab t) ∧ acc.toInt = max nt.toInt (t + 1)) ∨
  ∃ j, t < j ∧ j < k ∧ te tab j ≠ te tab t ∧ (∀ l, t < l → l < j → te tab l = te tab t) ∧ acc.toInt = min (max nt.toInt (t + 1)) j

theorem maxsi_toInt (a b : BitVec 32) : (IntOp.maxsi a b).toInt = max a.toInt b.toInt := by
  unfold IntOp.maxsi
  by_cases h : b.slt a = true
  · rw [if_pos h]; have := (slt_iff _ _).mp h; omega
  · rw [if_neg h]; have := mt (slt_iff b a).mpr h; omega
theorem minsi_toInt (a b : BitVec 32) : (IntOp.minsi a b).toInt = min a.toInt b.toInt := by
  unfold IntOp.minsi
  by_cases h : a.slt b = true
  · rw [if_pos h]; have := (slt_iff _ _).mp h; omega
  · rw [if_neg h]; have := mt (slt_iff a b).mpr h; omega

theorem search_start (tab : S96.Idx → BitVec 32) (nt : BitVec 32) (t : ℕ) (ht : t < 96) :
    Search tab nt t 0 (Scalar.maxsi nt (Scalar.addi (BitVec.ofNat 32 t) 1#32)) := by
  refine Or.inl ⟨fun l _ h => absurd h (by omega), ?_⟩
  refine (maxsi_toInt _ _).trans ?_
  have e : Scalar.addi (BitVec.ofNat 32 t) 1#32 = BitVec.ofNat 32 (t + 1) := (BitVec.ofNat_add _ _).symm
  rw [e, nat_toInt _ (by omega)]
  push_cast
  rfl

theorem pick_eq {a b : Bool} {x y : BitVec 32} :
    Scalar.select (Scalar.andi (BitVec.ofBool a) (BitVec.ofBool b)) x y = if a = true ∧ b = true then x else y := by
  cases a <;> cases b <;> rfl

theorem search_step {tab : S96.Idx → BitVec 32} {nt : BitVec 32} {t k : ℕ} {acc : BitVec 32} (ht : t < 96) (hk : k < 96) (h : Search tab nt t k acc) :
    Search tab nt t (k + 1) (Scalar.select (Scalar.andi (Scalar.cmpi .sgt (BitVec.ofNat 32 k) (BitVec.ofNat 32 t)) (Scalar.cmpi .ne (te tab k) (te tab t)))
      (Scalar.minsi acc (BitVec.ofNat 32 k)) acc) := by
  rw [show Scalar.cmpi .sgt (BitVec.ofNat 32 k) (BitVec.ofNat 32 t) = BitVec.ofBool ((BitVec.ofNat 32 t).slt (BitVec.ofNat 32 k)) from rfl,
    show Scalar.cmpi .ne (te tab k) (te tab t) = BitVec.ofBool (te tab k != te tab t) from rfl, pick_eq]
  simp only [slt_iff, bne_iff_ne]
  rw [nat_toInt t (by omega), nat_toInt k (by omega)]
  by_cases hc : (t : Int) < k ∧ te tab k ≠ te tab t
  · rw [if_pos hc]
    have hm : (Scalar.minsi acc (BitVec.ofNat 32 k)).toInt = min acc.toInt k := (minsi_toInt _ _).trans (by rw [nat_toInt _ (by omega)])
    rcases h with ⟨h1, h2⟩ | ⟨j, h1, h2, h3, h4, h5⟩
    · exact Or.inr ⟨k, by omega, by omega, hc.2, h1, by rw [hm, h2]⟩
    · exact Or.inr ⟨j, h1, by omega, h3, h4, by rw [hm, h5]; omega⟩
  · rw [if_neg hc]
    rcases h with ⟨h1, h2⟩ | ⟨j, h1, h2, h3, h4, h5⟩
    · refine Or.inl ⟨fun l hl hk' => ?_, h2⟩
      by_cases e : l = k
      · subst e; by_contra hne; exact hc ⟨by omega, hne⟩
      · exact h1 l hl (by omega)
    · exact Or.inr ⟨j, h1, by omega, h3, h4, h5⟩

/-- What the search finds. -/
theorem search_found {tab : S96.Idx → BitVec 32} {nt : BitVec 32} {t : ℕ} {acc : BitVec 32} (ht : t < 96) (h : Search tab nt t 96 acc) (hc : acc.toInt < nt.toInt) :
    ∃ j, acc = BitVec.ofNat 32 j ∧ j < 96 ∧ Pend tab nt (t + 1) j := by
  rcases h with ⟨h1, h2⟩ | ⟨j, h1, h2, h3, h4, h5⟩
  · exact absurd h2 (by omega)
  · have hj : acc.toInt = j := by omega
    refine ⟨j, BitVec.eq_of_toInt_eq (by rw [hj, nat_toInt _ (by omega)]), h2, by omega, (lt_run _ _ h2).mpr (by omega), fun e => by omega, fun _ => ?_⟩
    rw [Nat.add_sub_cancel]
    exact ⟨h3, fun k hk => h4 k (by omega)⟩
theorem search_none {tab : S96.Idx → BitVec 32} {nt : BitVec 32} {t : ℕ} {acc : BitVec 32} (h : Search tab nt t 96 acc) (hc : ¬ acc.toInt < nt.toInt) :
    NoMore tab nt (t + 1) := by
  refine ⟨by omega, fun k hk hr => ?_⟩
  rw [Nat.add_sub_cancel]
  have hk96 : k < 96 := by unfold run at hr; omega
  have hr' := (lt_run _ _ hk96).mp hr
  rcases h with ⟨h1, h2⟩ | ⟨j, h1, h2, h3, h4, h5⟩
  · exact h1 k (by omega) hk96
  · exact h4 k (by omega) (by omega)

theorem off13_eq (j : ℕ) (hj : j < 96) : k0_off13 (BitVec.ofNat 32 j) = ![j] := by
  have h : ∀ j : Fin 96, k0_off13 (BitVec.ofNat 32 j.val) = ![j.val] := by decide +kernel
  exact h ⟨j, hj⟩
theorem off54_eq (j : ℕ) (hj : j < 96) : k0_off54 (BitVec.ofNat 32 j) = ![j] := off13_eq j hj
theorem iv_eq (k : ℕ) : Scf.iv 0#32 1#32 k = BitVec.ofNat 32 k := by unfold Scf.iv; simp

end Cert.Mlp

end
-- ==== Proof.ExpertsSteps.lean ====
/- Single steps of the experts kernel, and what a weight array's slots hold between points. Hand-written. -/
module

public import proofs.«01_k».proof.Proof.ExpertsFetch
public import Idealize.ShloMosaic.Lib.VecWindow
public import proofs.«01_k».proof.Proof.ExpertsWords

@[expose] public section

set_option maxRecDepth 16384

noncomputable section

namespace Cert.Mlp

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Bounds -/

namespace Chan

variable (K : Chan)

theorem inb_dst {o : Fin 3 → ℕ} (s : Fin 2) (p : Fin 8) (h : o = ![s.val, 128 * p.val, 0]) : ∀ a, o a + K.PS.size a ≤ K.BS.size a := by
  subst h
  intro a
  match a with
  | ⟨0, _⟩ => show s.val + 1 ≤ 2; omega
  | ⟨1, _⟩ => show 128 * p.val + 128 ≤ 1024; omega
  | ⟨2, _⟩ => show 0 + K.n ≤ K.n; omega
theorem inb_src {o : Fin 3 → ℕ} (v : ℕ) (hv : v < 64) (p : Fin 8) (h : o = ![v, 128 * p.val, 0]) : ∀ a, o a + K.PS.size a ≤ K.WS.size a := by
  subst h
  intro a
  match a with
  | ⟨0, _⟩ => show v + 1 ≤ 64; omega
  | ⟨1, _⟩ => show 128 * p.val + 128 ≤ 1024; omega
  | ⟨2, _⟩ => show 0 + K.n ≤ K.n; omega
theorem inb_slot {o : Fin 3 → ℕ} (s : Fin 2) (h : o = ![s.val, 0, 0]) : ∀ a, o a + (⟨3, ![1, 1024, K.n]⟩ : Shape).size a ≤ K.BS.size a := by
  subst h
  intro a
  match a with
  | ⟨0, _⟩ => show s.val + 1 ≤ 2; omega
  | ⟨1, _⟩ => show 0 + 1024 ≤ 1024; omega
  | ⟨2, _⟩ => show 0 + K.n ≤ K.n; omega

end Chan

theorem inb_sem {o : Fin 1 → ℕ} (s : Fin 2) (h : o = ![s.val]) : ∀ a, o a + S1.size a ≤ S2.size a := by
  subst h
  intro a
  match a with
  | ⟨0, _⟩ => show s.val + 1 ≤ 2; omega
theorem inb_word {o : Fin 1 → ℕ} (j : ℕ) (hj : j < 96) (h : o = ![j]) : ∀ a, o a + S1.size a ≤ S96.size a := by
  subst h
  intro a
  match a with
  | ⟨0, _⟩ => show j + 1 ≤ 96; omega

/-! ## Words and whole buffers -/

/-- The tiles' words, as the kernel holds them. -/
def table (c : Dev nD) (tab : S96.Idx → BitVec 32) : sProp 𝕄 := (c : Thread nD τ).loc main_arg0 ↦{fullShare.right} (tab : Buf (Elt F) ((c : Thread nD τ).loc main_arg0))
/-- The number of tiles, as the kernel holds it. -/
def count (c : Dev nD) (nw : S1.Idx → BitVec 32) : sProp 𝕄 := (c : Thread nD τ).loc main_arg1 ↦{fullShare.right} (nw : Buf (Elt F) ((c : Thread nD τ).loc main_arg1))

theorem word_load (c : Dev nD) {tab : S96.Idx → BitVec 32} (j : ℕ) (hj : j < 96) {o : Fin 1 → ℕ} {ho : ∀ a, o a + S1.size a ≤ S96.size a} (h : o = ![j])
    {hl : (Memref.whole main_arg0).view.LoadsAt (Rect.unit (s := S96) o S1.size ho).toLoadRect} {α : Type}
    {k : (S1.Idx → BitVec 32) → Prog (TpuEff nD τ sig (Elt F) Λ₀ .tc) α} {Q : α → sProp 𝕄} :
    (table (F := F) c tab : sProp 𝕄)
      ⊢ iprop((table (F := F) c tab -∗ wp frame (wpE defs₀ 𝒱₀ (c : Thread nD τ) none) Set.univ (k fun _ => te tab j) Q)
        -∗ wp frame (wpE defs₀ 𝒱₀ (c : Thread nD τ) none) Set.univ (.op (.load (Memref.whole main_arg0) (Rect.unit (s := S96) o S1.size ho).toLoadRect hl) k) Q) := by
  subst h
  have hv : (Memref.whole main_arg0).view.readAt (Elt F) (Rect.unit (s := S96) ![j] S1.size ho).toLoadRect tab = fun _ => te tab j := by
    funext x
    refine congrArg tab (funext fun a => ?_)
    match a with
    | ⟨0, _⟩ =>
      have hx : (x 0).val < 1 := (x 0).isLt
      exact Fin.ext (by show j + 1 * (x 0).val = min j 95; omega)
  unfold table
  iintro HT Hk
  iapply (wp_load 𝒱₀ (c : Thread nD τ) none Set.univ (m := Memref.whole main_arg0) (r := (Rect.unit (s := S96) ![j] S1.size ho).toLoadRect) (hl := hl)
    (q := fullShare.right) (f := (tab : Buf (Elt F) ((c : Thread nD τ).loc main_arg0))) (Finset.subset_univ _)) $$ HT
  iintro HT
  rw [hv]
  iapply Hk
  iexact HT

theorem count_load (c : Dev nD) {nw : S1.Idx → BitVec 32} {ho : ∀ a, (![0] : Fin 1 → ℕ) a + S1.size a ≤ S1.size a}
    {hl : (Memref.whole main_arg1).view.LoadsAt (Rect.unit (s := S1) ![0] S1.size ho).toLoadRect} {α : Type}
    {k : (S1.Idx → BitVec 32) → Prog (TpuEff nD τ sig (Elt F) Λ₀ .tc) α} {Q : α → sProp 𝕄} :
    (count (F := F) c nw : sProp 𝕄)
      ⊢ iprop((count (F := F) c nw -∗ wp frame (wpE defs₀ 𝒱₀ (c : Thread nD τ) none) Set.univ (k fun _ => nw (ix1 (0 : Fin 1))) Q)
        -∗ wp frame (wpE defs₀ 𝒱₀ (c : Thread nD τ) none) Set.univ (.op (.load (Memref.whole main_arg1) (Rect.unit (s := S1) ![0] S1.size ho).toLoadRect hl) k) Q) := by
  have hv : (Memref.whole main_arg1).view.readAt (Elt F) (Rect.unit (s := S1) ![0] S1.size ho).toLoadRect nw = fun _ => nw (ix1 (0 : Fin 1)) := by
    funext x
    refine congrArg nw (funext fun a => ?_)
    match a with
    | ⟨0, _⟩ =>
      have hx : (x 0).val < 1 := (x 0).isLt
      exact Fin.ext (by show 0 + 1 * (x 0).val = 0; omega)
  unfold count
  iintro HT Hk
  iapply (wp_load 𝒱₀ (c : Thread nD τ) none Set.univ (m := Memref.whole main_arg1) (r := (Rect.unit (s := S1) ![0] S1.size ho).toLoadRect) (hl := hl)
    (q := fullShare.right) (f := (nw : Buf (Elt F) ((c : Thread nD τ).loc main_arg1))) (Finset.subset_univ _)) $$ HT
  iintro HT
  rw [hv]
  iapply Hk
  iexact HT

/-- A rectangle of a buffer held whole, loaded. -/
theorem part_load (c : Dev nD) {cs : CoreSpace} {sh : Shape} {e : EltTy} {m : Memref sig .tc cs sh e} {r : LoadRect sh}
    {hl : m.view.LoadsAt r} {q : PosShare TreeShare} {X : sh.Idx → Elt F e} {α : Type}
    {k : (r.shape.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE defs₀ 𝒱₀ (c : Thread nD τ) none) Set.univ (k fun y => X (r.idx y)) Q)
        -∗ wp frame (wpE defs₀ 𝒱₀ (c : Thread nD τ) none) Set.univ (.op (.load m r hl) k) Q) := by
  unfold owns
  iintro ⟨%f, %hf, H⟩ Hk
  subst hf
  iapply (wp_load 𝒱₀ (c : Thread nD τ) none Set.univ (m := m) (r := r) (hl := hl) (q := q) (f := f) (S := m.view.set)
    (Finset.map_subset_map.mpr (Finset.subset_univ _))) $$ H
  iintro H
  rw [show m.view.readAt (Elt F) r f = fun y => m.view.read (Elt F) f (r.idx y) from funext fun y => View.readAt_apply _ _ _]
  iapply Hk
  iexists f
  isplitr
  · ipureintro; rfl
  iexact H

/-- A whole buffer loaded. -/
theorem whole_load (c : Dev nD) {cs : CoreSpace} {sh : Shape} {e : EltTy} {m : Memref sig .tc cs sh e} {off : Fin sh.rank → ℕ} {inb : ∀ a, off a + sh.size a ≤ sh.size a}
    {hl : m.view.LoadsAt (Rect.unit off sh.size inb).toLoadRect} {q : PosShare TreeShare} {X : sh.Idx → Elt F e} {α : Type}
    {k : (sh.Idx → Elt F e) → Prog (TpuEff nD τ sig (Elt F) Λ₀ .tc) α} {Q : α → sProp 𝕄} :
    (owns (c : Thread nD τ) m q X : sProp 𝕄)
      ⊢ iprop((owns (c : Thread nD τ) m q X -∗ wp frame (wpE defs₀ 𝒱₀ (c : Thread nD τ) none) Set.univ (k X) Q)
        -∗ wp frame (wpE defs₀ 𝒱₀ (c : Thread nD τ) none) Set.univ (.op (.load m (Rect.unit off sh.size inb).toLoadRect hl) k) Q) := by
  unfold owns
  iintro ⟨%f, %hf, H⟩ Hk
  subst hf
  iapply (wp_load 𝒱₀ (c : Thread nD τ) none Set.univ (m := m) (r := (Rect.unit off sh.size inb).toLoadRect) (hl := hl) (q := q) (f := f) (S := m.view.set)
    (Finset.map_subset_map.mpr (Finset.subset_univ _))) $$ H
  iintro H
  rw [View.readAt_full m.view f inb]
  iapply Hk
  iexists f
  isplitr
  · ipureintro; rfl
  iexact H

/-- A whole buffer stored. -/
theorem whole_store (c : Dev nD) {cs : CoreSpace} {sh : Shape} {e : EltTy} {m : Memref sig .tc cs sh e} {off : Fin sh.rank → ℕ} {inb : ∀ a, off a + sh.size a ≤ sh.size a}
    {w X : sh.Idx → Elt F e} {hx : (m.access (Rect.unit off sh.size inb)).Stores Finset.univ}
    {hm : (Finset.univ : Finset (Rect.unit off sh.size inb).shape.Idx) = Finset.univ ∨ ∀ a, (Rect.unit off sh.size inb).stride a = 1} {α : Type}
    {k : PUnit → Prog (TpuEff nD τ sig (Elt F) Λ₀ .tc) α} {Q : α → sProp 𝕄} :
    (owns (c : Thread nD τ) m fullShare X : sProp 𝕄)
      ⊢ iprop((owns (c : Thread nD τ) m fullShare w -∗ wp frame (wpE defs₀ 𝒱₀ (c : Thread nD τ) none) Set.univ (k ⟨⟩) Q)
        -∗ wp frame (wpE defs₀ 𝒱₀ (c : Thread nD τ) none) Set.univ (.op (.store m (Rect.unit off sh.size inb) w Finset.univ hx hm) k) Q) := by
  unfold owns
  iintro ⟨%f, -, H⟩ Hk
  iapply (wp_store 𝒱₀ (c : Thread nD τ) none Set.univ (m := m) (r := Rect.unit off sh.size inb) (w := w) (Mk := Finset.univ) (hx := hx) (hm := hm) (f := f)
    (S := m.view.set) (by
      show (m.view.slice (Rect.unit off sh.size inb)).set ⊆ m.view.set
      rw [View.set_slice]; exact Finset.map_subset_map.mpr (Finset.subset_univ _))) $$ H
  iintro H
  iapply Hk
  iexists m.view.writes (Elt F) f [⟨Rect.unit off sh.size inb, w⟩]
  isplitr
  · ipureintro; exact View.read_writes_full m.view f inb w []
  iexact H

/-! ## What a weight array's slots hold -/

/-- The slot counter `G` names. -/
def sl (G : ℕ) : Fin 2 := ⟨G % 2, Nat.mod_lt _ (by decide)⟩
theorem sl_two (G : ℕ) : sl (G + 1 + 1) = sl G := Fin.ext (by show (G + 1 + 1) % 2 = G % 2; omega)

namespace Chan

variable (K : Chan) (c : Dev nD) (Y : Buf (Elt F) (K.wm.view.loc (c : Thread nD τ))) (tab : S96.Idx → BitVec 32) (nt : BitVec 32) (cm : Memref sig .tc .smem S1 .i32)

/-- Slot `s` before tile `t`: the next fetch in flight, or nothing left to fetch. -/
def ahead (t : ℕ) (s : Fin 2) : sProp 𝕄 :=
  iprop((∃ j, ⌜Pend tab nt t j⌝ ∗ K.flyS c Y s (ex tab j)) ∨ (⌜NoMore tab nt t⌝ ∗ K.idleS c Y s))
/-- The slots and their counter before tile `t`'s fetch is waited for. -/
def ready (t : ℕ) : sProp 𝕄 :=
  iprop(∃ G : ℕ, ⌜G ≤ t⌝ ∗ owns (c : Thread nD τ) cm fullShare (fun _ => BitVec.ofNat 32 G : S1.Idx → Elt F .i32) ∗ K.ahead c Y tab nt t (sl G) ∗ K.idleS c Y (sl (G + 1)))
/-- Before point `t`: at the first nothing has been issued. -/
def before (t : ℕ) : sProp 𝕄 :=
  if t = 0 then iprop((∃ X, owns (c : Thread nD τ) cm fullShare (X : S1.Idx → Elt F .i32)) ∗ K.idleS c Y 0 ∗ K.idleS c Y 1) else K.ready c Y tab nt cm t

theorem before_ready (t : ℕ) (h : t ≠ 0) : (K.before c Y tab nt cm t : sProp 𝕄) ⊢ K.ready c Y tab nt cm t := by
  unfold before; rw [if_neg h]
theorem ready_before (t : ℕ) : (K.ready c Y tab nt cm (t + 1) : sProp 𝕄) ⊢ K.before c Y tab nt cm (t + 1) := by
  unfold before; rw [if_neg (Nat.succ_ne_zero t)]

/-- A tile that fetches has its fetch in flight. -/
theorem ready_need (t : ℕ) (h : Need tab nt t) : (K.ready c Y tab nt cm t : sProp 𝕄)
    ⊢ iprop(∃ G : ℕ, ⌜G ≤ t⌝ ∗ owns (c : Thread nD τ) cm fullShare (fun _ => BitVec.ofNat 32 G : S1.Idx → Elt F .i32) ∗ K.flyS c Y (sl G) (ex tab t) ∗ K.idleS c Y (sl (G + 1))) := by
  unfold ready ahead
  iintro ⟨%G, %hG, HC, HA, HI⟩
  icases HA with (⟨%j, %hj, HF⟩ | ⟨%hn, -⟩)
  · obtain rfl := pend_need hj h
    iexists G
    isplitr; · ipureintro; exact hG
    iframe
  · exact absurd h fun h => nomore_need hn h
/-- A tile that fetches nothing leaves the slots as they are. -/
theorem ready_keep (t : ℕ) (h : ¬ Need tab nt t) : (K.ready c Y tab nt cm t : sProp 𝕄) ⊢ K.ready c Y tab nt cm (t + 1) := by
  unfold ready ahead
  iintro ⟨%G, %hG, HC, HA, HI⟩
  iexists G
  isplitr; · ipureintro; omega
  isplitl [HC]; · iexact HC
  isplitl [HA]
  · icases HA with (⟨%j, %hj, HF⟩ | ⟨%hn, HF⟩)
    · ileft
      iexists j
      isplitr; · ipureintro; exact pend_keep hj h
      iexact HF
    · iright
      isplitr; · ipureintro; exact nomore_keep hn h
      iexact HF
  iexact HI
/-- After the last tile both slots are idle. -/
theorem ready_end : (K.ready c Y tab nt cm 96 : sProp 𝕄) ⊢ iprop((∃ X, owns (c : Thread nD τ) cm fullShare (X : S1.Idx → Elt F .i32)) ∗ K.idleS c Y 0 ∗ K.idleS c Y 1) := by
  unfold ready ahead
  iintro ⟨%G, %hG, HC, HA, HI⟩
  isplitl [HC]; · iexists _; iexact HC
  icases HA with (⟨%j, %hj, HF⟩ | ⟨%hn, HF⟩)
  · exact absurd hj.2.1 (by have := hj.1; unfold run; omega)
  · rcases Nat.mod_two_eq_zero_or_one G with e | e
    · rw [show sl G = 0 from Fin.ext e, show sl (G + 1) = 1 from Fin.ext (by show (G + 1) % 2 = 1; omega)]
      isplitl [HF] <;> iassumption
    · rw [show sl G = 1 from Fin.ext e, show sl (G + 1) = 0 from Fin.ext (by show (G + 1) % 2 = 0; omega)]
      isplitl [HI] <;> iassumption

end Chan

end Cert.Mlp

end
-- ==== Proof.ExpertsGate.lean ====
/- The fetches of the gate and up weights. Hand-written. -/
module

public import proofs.«01_k».proof.Proof.ExpertsSteps
public import Idealize.ShloMosaic.Lib.Scf

@[expose] public section

set_option maxRecDepth 16384

noncomputable section

namespace Cert.Mlp

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Regions

variable (c : Dev nD) {Y : S64x1024x2048.Idx → Elt F .f32} {tab : S96.Idx → BitVec 32} {nt : BitVec 32} (hR : InRange tab) (p : Fin grid0.N)
  (a3 : Memref sig .tc .vmem S512x1024 .f32) (h3 : a3.IsWhole) (a5 : Memref sig .tc .vmem S1x1x2048 .f32) (h5 : a5.IsWhole)
  (a7 : Memref sig .tc .vmem S1x1x1024 .f32) (h7 : a7.IsWhole) (a8 : Memref sig .tc .vmem S512x1024 .f32) (h8 : a8.IsWhole)

include hR

theorem gu_src (j : ℕ) (q : ℕ) : (![(te tab j).toNat, q, 0] : Fin 3 → ℕ) = ![(ex tab j).val, q, 0] :=
  congrArg (fun n => (![n, q, 0] : Fin 3 → ℕ)) (ex_val tab hR j)

/-- The first half of the first fetch issued. -/
theorem gu_part1 (hc : k0_cond1 (grid0.coords p) = 1#1) :
    (iprop(table (F := F) c tab ∗ (∃ X, owns (c : Thread nD τ) (Memref.whole cc0_scratch3) fullShare (X : S1.Idx → Elt F .i32)) ∗ gu.batch c Y 0 (ex tab 0) 0 0
      ∗ gu.srcS c Y 0 (ex tab 0) 0 ∗ gu.srcS c Y 0 (ex tab 0) 1 ∗ gu.srcS c Y 0 (ex tab 0) 2 ∗ gu.srcS c Y 0 (ex tab 0) 3) : sProp 𝕄)
      ⊢ wp frame (wpE defs₀ 𝒱₀ (c : Thread nD τ) none) Set.univ
          (k0_part1 (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) hc)
          (fun r => iprop(⌜r.1 = te tab 0⌝ ∗ table (F := F) c tab ∗ owns (c : Thread nD τ) (Memref.whole cc0_scratch3) fullShare (fun _ => BitVec.ofNat 32 0 : S1.Idx → Elt F .i32) ∗ gu.batch c Y 0 (ex tab 0) 4 0)) := by
  have hP : k0_chk1 (grid0.coords p) (te tab 0) := ⟨fun _ => gu.inb_src _ (hR _) 0 rfl, fun _ => gu.inb_src _ (hR _) 1 rfl, fun _ => gu.inb_src _ (hR _) 2 rfl, fun _ => gu.inb_src _ (hR _) 3 rfl, fun _ => gu.inb_src _ (hR _) 4 rfl, fun _ => gu.inb_src _ (hR _) 5 rfl, fun _ => gu.inb_src _ (hR _) 6 rfl, fun _ => gu.inb_src _ (hR _) 7 rfl⟩
  rw [k0_part1_eq_skeleton]
  unfold k0_part1_skel
  simp only [smemLoad, smemLoadElt, Prog.lift, Prog.bind_op, Prog.bind_ret, pure_bind]
  iintro ⟨HT, ⟨%X, HC⟩, HB, H0, H1, H2, H3⟩
  iapply (whole_load c (m := (Memref.whole cc0_scratch3))) $$ HC
  iintro HC
  iapply (whole_store c (m := (Memref.whole cc0_scratch3))) $$ HC
  iintro HC
  iapply (word_load c 0 (by decide) rfl) $$ HT
  iintro HT
  beta_reduce
  iapply (wp_assume 𝒱₀ (c : Thread nD τ) none Set.univ hP)
  iapply (gu.issue_step c Y (s := 0) (e := ex tab 0) 0 (by decide) rfl rfl (gu_src hR 0 0)) $$ [HB H0]
  · isplitl [HB]; · iexact HB
    iexact H0
  iintro HB
  iapply (gu.issue_step c Y (s := 0) (e := ex tab 0) 1 (by decide) rfl rfl (gu_src hR 0 128)) $$ [HB H1]
  · isplitl [HB]; · iexact HB
    iexact H1
  iintro HB
  iapply (gu.issue_step c Y (s := 0) (e := ex tab 0) 2 (by decide) rfl rfl (gu_src hR 0 256)) $$ [HB H2]
  · isplitl [HB]; · iexact HB
    iexact H2
  iintro HB
  iapply (gu.issue_step c Y (s := 0) (e := ex tab 0) 3 (by decide) rfl rfl (gu_src hR 0 384)) $$ [HB H3]
  · isplitl [HB]; · iexact HB
    iexact H3
  iintro HB
  first | rw [wp_ret] | rw [wp_pure]
  imodintro
  isplitr
  · ipureintro; rfl
  isplitl [HT]; · iexact HT
  isplitl [HC]; · iexact HC
  iexact HB

omit hR in
/-- One step of the search for the next tile that fetches. -/
theorem gu_trip (arg0 v0 v6 v10 : BitVec 32) (ha : arg0 = BitVec.ofNat 32 p.val) (hc : k0_cond2 (grid0.coords p) v0 v6 v10 = 1#1) (t : Fin k0_t1_loop.trips) (acc : BitVec 32) :
    (iprop(table (F := F) c tab ∗ ⌜Search tab nt p.val t.val acc⌝) : sProp 𝕄)
      ⊢ wp frame (wpE defs₀ 𝒱₀ (c : Thread nD τ) none) Set.univ
          (k0_t1_body (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) arg0 v0 v6 v10 hc t acc)
          (fun acc => iprop(table (F := F) c tab ∗ ⌜Search tab nt p.val (t.val + 1) acc⌝)) := by
  have hp : p.val < 96 := gridN ▸ p.isLt
  have ht : t.val < 96 := trips1 ▸ t.isLt
  unfold k0_t1_body
  simp only [smemLoad, smemLoadElt, Prog.lift, Prog.bind_op, Prog.bind_ret, pure_bind]
  iintro ⟨HT, %hS⟩
  iapply (word_load c t.val ht (off11_eq t)) $$ HT
  iintro HT
  iapply (word_load c p.val hp (off12_eq p)) $$ HT
  iintro HT
  beta_reduce
  first | rw [wp_ret] | rw [wp_pure]
  imodintro
  isplitl [HT]; · iexact HT
  ipureintro
  subst ha
  rw [iv_eq]
  exact search_step hp ht hS

/-- The first half of the next fetch issued. -/
theorem gu_part2 (G : ℕ) (hG : G < 100) (j : ℕ) (hj : j < 96) (v0 v6 v10 v49 : BitVec 32) (hc : k0_cond2 (grid0.coords p) v0 v6 v10 = 1#1)
    (hw : k0_chk2 (grid0.coords p) v0 v6 v10 (BitVec.ofNat 32 G) (BitVec.ofNat 32 j)) (hd : k0_cond3 v0 (BitVec.ofNat 32 j) = 1#1) :
    (iprop(table (F := F) c tab ∗ gu.batch c Y (sl (G + 1)) (ex tab j) 0 0
      ∗ gu.srcS c Y (sl (G + 1)) (ex tab j) 0 ∗ gu.srcS c Y (sl (G + 1)) (ex tab j) 1 ∗ gu.srcS c Y (sl (G + 1)) (ex tab j) 2 ∗ gu.srcS c Y (sl (G + 1)) (ex tab j) 3) : sProp 𝕄)
      ⊢ wp frame (wpE defs₀ 𝒱₀ (c : Thread nD τ) none) Set.univ
          (k0_part2 (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) v0 v6 v10 hc (BitVec.ofNat 32 G) v49 (BitVec.ofNat 32 j) hw hd)
          (fun r => iprop(⌜r.1 = te tab j⌝ ∗ table (F := F) c tab ∗ gu.batch c Y (sl (G + 1)) (ex tab j) 4 0)) := by
  have hP : k0_chk3 (grid0.coords p) v0 v6 v10 (BitVec.ofNat 32 j) (te tab j) := ⟨fun _ _ => gu.inb_src _ (hR _) 0 rfl, fun _ _ => gu.inb_src _ (hR _) 1 rfl, fun _ _ => gu.inb_src _ (hR _) 2 rfl, fun _ _ => gu.inb_src _ (hR _) 3 rfl, fun _ _ => gu.inb_src _ (hR _) 4 rfl, fun _ _ => gu.inb_src _ (hR _) 5 rfl, fun _ _ => gu.inb_src _ (hR _) 6 rfl, fun _ _ => gu.inb_src _ (hR _) 7 rfl⟩
  obtain ⟨g0, g1, d0, d1, d2, d3, -⟩ := gu_next ⟨G, hG⟩
  rw [k0_part2_eq_skeleton]
  unfold k0_part2_skel
  simp only [smemLoad, smemLoadElt, Prog.lift, Prog.bind_op, Prog.bind_ret, pure_bind]
  iintro ⟨HT, HB, H0, H1, H2, H3⟩
  iapply (word_load c j hj (off13_eq j hj)) $$ HT
  iintro HT
  beta_reduce
  iapply (wp_assume 𝒱₀ (c : Thread nD τ) none Set.univ hP)
  iapply (gu.issue_step c Y (s := sl (G + 1)) (e := ex tab j) 0 (by decide) g0 d0 (gu_src hR j 0)) $$ [HB H0]
  · isplitl [HB]; · iexact HB
    iexact H0
  iintro HB
  iapply (gu.issue_step c Y (s := sl (G + 1)) (e := ex tab j) 1 (by decide) g1 d1 (gu_src hR j 128)) $$ [HB H1]
  · isplitl [HB]; · iexact HB
    iexact H1
  iintro HB
  iapply (gu.issue_step c Y (s := sl (G + 1)) (e := ex tab j) 2 (by decide) g1 d2 (gu_src hR j 256)) $$ [HB H2]
  · isplitl [HB]; · iexact HB
    iexact H2
  iintro HB
  iapply (gu.issue_step c Y (s := sl (G + 1)) (e := ex tab j) 3 (by decide) g1 d3 (gu_src hR j 384)) $$ [HB H3]
  · isplitl [HB]; · iexact HB
    iexact H3
  iintro HB
  first | rw [wp_ret] | rw [wp_pure]
  imodintro
  isplitr
  · ipureintro; rfl
  isplitl [HT]; · iexact HT
  iexact HB

omit hR in
theorem gu_inb (G : ℕ) (hG : G < 100) (v0 v6 v10 : BitVec 32) : k0_chk4 (grid0.coords p) v0 v6 v10 (BitVec.ofNat 32 G) := by
  obtain ⟨g, d0, d1, d2, d3, d4, d5, d6, d7, dS⟩ := gu_cur ⟨G, hG⟩
  exact ⟨fun _ => inb_sem (sl G) g, fun _ => gu.inb_dst (sl G) 0 d0, fun _ => gu.inb_dst (sl G) 1 d1, fun _ => gu.inb_dst (sl G) 2 d2, fun _ => gu.inb_dst (sl G) 3 d3, fun _ => gu.inb_dst (sl G) 4 d4, fun _ => gu.inb_dst (sl G) 5 d5, fun _ => gu.inb_dst (sl G) 6 d6, fun _ => gu.inb_dst (sl G) 7 d7, fun _ => gu.inb_slot (sl G) dS⟩

/-- The search for the next tile that fetches, its fetch issued, and the first two of this tile's waits. -/
theorem gu_part3 (G : ℕ) (hG : G ≤ p.val) (e : Fin 64) (arg0 v6 v10 : BitVec 32) (ha : arg0 = BitVec.ofNat 32 p.val) (hc : k0_cond2 (grid0.coords p) nt v6 v10 = 1#1) :
    (iprop(table (F := F) c tab ∗ (∃ W : Waits sig Unit, owes (c : Thread nD τ) 0 W) ∗ owns (c : Thread nD τ) (Memref.whole cc0_scratch3) fullShare (fun _ => BitVec.ofNat 32 G : S1.Idx → Elt F .i32) ∗ gu.batch c Y (sl G) e 8 0 ∗ gu.idleS c Y (sl (G + 1))) : sProp 𝕄)
      ⊢ wp frame (wpE defs₀ 𝒱₀ (c : Thread nD τ) none) Set.univ
          (k0_part3 (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) arg0 nt v6 v10 hc)
          (fun r => iprop(⌜r.1 = BitVec.ofNat 32 G⌝ ∗ table (F := F) c tab ∗ (∃ W : Waits sig Unit, owes (c : Thread nD τ) 0 W) ∗ owns (c : Thread nD τ) (Memref.whole cc0_scratch3) fullShare (fun _ => BitVec.ofNat 32 G : S1.Idx → Elt F .i32) ∗ gu.batch c Y (sl G) e 8 (2 * gu.NN) ∗ gu.ahead c Y tab nt (p.val + 1) (sl (G + 1)))) := by
  have hp : p.val < 96 := gridN ▸ p.isLt
  have hG' : G < 100 := by omega
  obtain ⟨g0, g1, d0, d1, d2, d3, d4, d5, d6, d7⟩ := gu_next ⟨G, hG'⟩
  obtain ⟨w, -⟩ := gu_cur ⟨G, hG'⟩
  rw [k0_part3_eq_skeleton]
  unfold k0_part3_skel
  simp only [smemLoad, smemLoadElt, Prog.lift, Prog.bind_op, Prog.bind_ret, pure_bind]
  iintro ⟨HT, HO, HC, HB, HI⟩
  iapply (whole_load c (m := (Memref.whole cc0_scratch3))) $$ HC
  iintro HC
  beta_reduce
  iapply (wp_assume 𝒱₀ (c : Thread nD τ) none Set.univ (gu_inb p G hG' nt v6 v10))
  iapply (Scf.wp_for_bind _ _ _ _ _ _ _ _ _ (fun k acc => iprop(table (F := F) c tab ∗ ⌜Search tab nt p.val k acc⌝))
    (fun t acc => gu_trip (F := F) c p a3 h3 a5 h5 a7 h7 a8 h8 arg0 nt v6 v10 ha hc t acc)) $$ [HT]
  · isplitl [HT]; · iexact HT
    ipureintro
    subst ha
    exact search_start tab nt p.val hp
  iintro %acc ⟨HT, %hS⟩
  replace hS : Search tab nt p.val 96 acc := (congrArg (fun n => Search tab nt p.val n acc) trips1).mp hS
  by_cases hd : k0_cond3 nt acc = 1#1
  · obtain ⟨j, rfl, hj, hjp⟩ := search_found hp hS ((cond3_iff _ _).mp hd)
    have hP : k0_chk2 (grid0.coords p) nt v6 v10 (BitVec.ofNat 32 G) (BitVec.ofNat 32 j) :=
      ⟨fun _ _ => inb_word j hj (off13_eq j hj), fun _ _ => inb_sem (sl (G + 1)) g0, fun _ _ => gu.inb_dst (sl (G + 1)) 0 d0, fun _ _ => inb_sem (sl (G + 1)) g1,
        fun _ _ => gu.inb_dst (sl (G + 1)) 1 d1, fun _ _ => gu.inb_dst (sl (G + 1)) 2 d2, fun _ _ => gu.inb_dst (sl (G + 1)) 3 d3, fun _ _ => gu.inb_dst (sl (G + 1)) 4 d4, fun _ _ => gu.inb_dst (sl (G + 1)) 5 d5, fun _ _ => gu.inb_dst (sl (G + 1)) 6 d6, fun _ _ => gu.inb_dst (sl (G + 1)) 7 d7⟩
    iapply (wp_assume 𝒱₀ (c : Thread nD τ) none Set.univ hP)
    rw [dif_pos hd]
    imod (gu.start_fetch c Y (sl (G + 1)) (ex tab j)) $$ HI with ⟨HN, HS, HR⟩
    ihave HS := (Entails.of_eq (gu.srcs_eq c Y (sl (G + 1)) (ex tab j))) $$ HS
    icases HS with ⟨H0, H1, H2, H3, H4, H5, H6, H7⟩
    rw [wp_bind]
    iapply (wp_wand _ _ _) $$ [HT HN H0 H1 H2 H3]
    · iapply (gu_part2 (F := F) c hR p a3 h3 a5 h5 a7 h7 a8 h8 G hG' j hj nt v6 v10 _ hc hP hd) $$ [HT HN H0 H1 H2 H3]
      iframe
    iintro %r ⟨%hr, HT, HN⟩
    obtain ⟨r0, r1⟩ := r
    dsimp only at hr
    subst hr
    dsimp only
    iapply (gu.issue_step c Y (s := sl (G + 1)) (e := ex tab j) 4 (by decide) g1 d4 (gu_src hR j 512)) $$ [HN H4]
    · isplitl [HN]; · iexact HN
      iexact H4
    iintro HN
    iapply (gu.issue_step c Y (s := sl (G + 1)) (e := ex tab j) 5 (by decide) g1 d5 (gu_src hR j 640)) $$ [HN H5]
    · isplitl [HN]; · iexact HN
      iexact H5
    iintro HN
    iapply (gu.issue_step c Y (s := sl (G + 1)) (e := ex tab j) 6 (by decide) g1 d6 (gu_src hR j 768)) $$ [HN H6]
    · isplitl [HN]; · iexact HN
      iexact H6
    iintro HN
    iapply (gu.issue_step c Y (s := sl (G + 1)) (e := ex tab j) 7 (by decide) g1 d7 (gu_src hR j 896)) $$ [HN H7]
    · isplitl [HN]; · iexact HN
      iexact H7
    iintro HN
    iapply (gu.wait_step c Y (s := sl G) (e := e) 0 (by decide) w) $$ [HO HB]
    · isplitl [HO]; · iexact HO
      rw [Nat.zero_mul]; iexact HB
    iintro ⟨HO, HB⟩
    iapply (gu.wait_step c Y (s := sl G) (e := e) 1 (by decide) w) $$ [HO HB]
    · isplitl [HO]; · iexact HO
      iexact HB
    iintro ⟨HO, HB⟩
    first | rw [wp_ret] | rw [wp_pure]
    imodintro
    isplitr
    · ipureintro; rfl
    isplitl [HT]; · iexact HT
    isplitl [HO]; · iexact HO
    isplitl [HC]; · iexact HC
    isplitl [HB]; · iexact HB
    unfold Chan.ahead Chan.flyS
    ileft
    iexists j
    isplitr
    · ipureintro; exact hjp
    isplitl [HN] <;> iassumption
  · have hP : k0_chk2 (grid0.coords p) nt v6 v10 (BitVec.ofNat 32 G) acc :=
      ⟨fun _ h => absurd h hd, fun _ h => absurd h hd, fun _ h => absurd h hd, fun _ h => absurd h hd, fun _ h => absurd h hd, fun _ h => absurd h hd, fun _ h => absurd h hd, fun _ h => absurd h hd, fun _ h => absurd h hd, fun _ h => absurd h hd, fun _ h => absurd h hd⟩
    iapply (wp_assume 𝒱₀ (c : Thread nD τ) none Set.univ hP)
    rw [dif_neg hd]
    iapply (gu.wait_step c Y (s := sl G) (e := e) 0 (by decide) w) $$ [HO HB]
    · isplitl [HO]; · iexact HO
      rw [Nat.zero_mul]; iexact HB
    iintro ⟨HO, HB⟩
    iapply (gu.wait_step c Y (s := sl G) (e := e) 1 (by decide) w) $$ [HO HB]
    · isplitl [HO]; · iexact HO
      iexact HB
    iintro ⟨HO, HB⟩
    first | rw [wp_ret] | rw [wp_pure]
    imodintro
    isplitr
    · ipureintro; rfl
    isplitl [HT]; · iexact HT
    isplitl [HO]; · iexact HO
    isplitl [HC]; · iexact HC
    isplitl [HB]; · iexact HB
    unfold Chan.ahead
    iright
    isplitr
    · ipureintro; exact search_none hS (fun h => hd ((cond3_iff _ _).mpr h))
    iexact HI

omit hR

/-- Five more of this tile's waits. -/
theorem gu_part4 (G : ℕ) (hG : G ≤ p.val) (e : Fin 64) (v0 v6 v10 : BitVec 32) (hc : k0_cond2 (grid0.coords p) v0 v6 v10 = 1#1) (hw : k0_chk4 (grid0.coords p) v0 v6 v10 (BitVec.ofNat 32 G)) :
    (iprop((∃ W : Waits sig Unit, owes (c : Thread nD τ) 0 W) ∗ gu.batch c Y (sl G) e 8 (2 * gu.NN)) : sProp 𝕄)
      ⊢ wp frame (wpE defs₀ 𝒱₀ (c : Thread nD τ) none) Set.univ
          (k0_part4 (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) v0 v6 v10 hc (BitVec.ofNat 32 G) hw)
          (fun _ => iprop((∃ W : Waits sig Unit, owes (c : Thread nD τ) 0 W) ∗ gu.batch c Y (sl G) e 8 (7 * gu.NN))) := by
  have hp : p.val < 96 := gridN ▸ p.isLt
  have hG' : G < 100 := by omega
  obtain ⟨w, -⟩ := gu_cur ⟨G, hG'⟩
  rw [k0_part4_eq_skeleton]
  unfold k0_part4_skel
  simp only [smemLoad, smemLoadElt, Prog.lift, Prog.bind_op, Prog.bind_ret, pure_bind]
  iintro ⟨HO, HB⟩
  iapply (gu.wait_step c Y (s := sl G) (e := e) 2 (by decide) w) $$ [HO HB]
  · isplitl [HO]; · iexact HO
    iexact HB
  iintro ⟨HO, HB⟩
  iapply (gu.wait_step c Y (s := sl G) (e := e) 3 (by decide) w) $$ [HO HB]
  · isplitl [HO]; · iexact HO
    iexact HB
  iintro ⟨HO, HB⟩
  iapply (gu.wait_step c Y (s := sl G) (e := e) 4 (by decide) w) $$ [HO HB]
  · isplitl [HO]; · iexact HO
    iexact HB
  iintro ⟨HO, HB⟩
  iapply (gu.wait_step c Y (s := sl G) (e := e) 5 (by decide) w) $$ [HO HB]
  · isplitl [HO]; · iexact HO
    iexact HB
  iintro ⟨HO, HB⟩
  iapply (gu.wait_step c Y (s := sl G) (e := e) 6 (by decide) w) $$ [HO HB]
  · isplitl [HO]; · iexact HO
    iexact HB
  iintro ⟨HO, HB⟩
  first | rw [wp_ret] | rw [wp_pure]
  imodintro
  isplitl [HO] <;> iassumption

end Regions

end Cert.Mlp

end
-- ==== Proof.ExpertsDown.lean ====
/- The fetches of the down weights. Hand-written. -/
module

public import proofs.«01_k».proof.Proof.ExpertsSteps
public import Idealize.ShloMosaic.Lib.Scf

@[expose] public section

set_option maxRecDepth 16384

noncomputable section

namespace Cert.Mlp

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Regions

variable (c : Dev nD) {Y : S64x1024x1024.Idx → Elt F .f32} {tab : S96.Idx → BitVec 32} {nt : BitVec 32} (hR : InRange tab) (p : Fin grid0.N)
  (a3 : Memref sig .tc .vmem S512x1024 .f32) (h3 : a3.IsWhole) (a5 : Memref sig .tc .vmem S1x1x2048 .f32) (h5 : a5.IsWhole)
  (a7 : Memref sig .tc .vmem S1x1x1024 .f32) (h7 : a7.IsWhole) (a8 : Memref sig .tc .vmem S512x1024 .f32) (h8 : a8.IsWhole)

include hR

theorem dn_src (j : ℕ) (q : ℕ) : (![(te tab j).toNat, q, 0] : Fin 3 → ℕ) = ![(ex tab j).val, q, 0] :=
  congrArg (fun n => (![n, q, 0] : Fin 3 → ℕ)) (ex_val tab hR j)

/-- The first half of the first fetch issued. -/
theorem dn_part1 (hc : k0_cond4 (grid0.coords p) = 1#1) :
    (iprop(table (F := F) c tab ∗ (∃ X, owns (c : Thread nD τ) (Memref.whole cc0_scratch7) fullShare (X : S1.Idx → Elt F .i32)) ∗ dn.batch c Y 0 (ex tab 0) 0 0
      ∗ dn.srcS c Y 0 (ex tab 0) 0 ∗ dn.srcS c Y 0 (ex tab 0) 1 ∗ dn.srcS c Y 0 (ex tab 0) 2 ∗ dn.srcS c Y 0 (ex tab 0) 3) : sProp 𝕄)
      ⊢ wp frame (wpE defs₀ 𝒱₀ (c : Thread nD τ) none) Set.univ
          (k0_part5 (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) hc)
          (fun r => iprop(⌜r.1 = te tab 0⌝ ∗ table (F := F) c tab ∗ owns (c : Thread nD τ) (Memref.whole cc0_scratch7) fullShare (fun _ => BitVec.ofNat 32 0 : S1.Idx → Elt F .i32) ∗ dn.batch c Y 0 (ex tab 0) 4 0)) := by
  have hP : k0_chk5 (grid0.coords p) (te tab 0) := ⟨fun _ => dn.inb_src _ (hR _) 0 rfl, fun _ => dn.inb_src _ (hR _) 1 rfl, fun _ => dn.inb_src _ (hR _) 2 rfl, fun _ => dn.inb_src _ (hR _) 3 rfl, fun _ => dn.inb_src _ (hR _) 4 rfl, fun _ => dn.inb_src _ (hR _) 5 rfl, fun _ => dn.inb_src _ (hR _) 6 rfl, fun _ => dn.inb_src _ (hR _) 7 rfl⟩
  rw [k0_part5_eq_skeleton]
  unfold k0_part5_skel
  simp only [smemLoad, smemLoadElt, Prog.lift, Prog.bind_op, Prog.bind_ret, pure_bind]
  iintro ⟨HT, ⟨%X, HC⟩, HB, H0, H1, H2, H3⟩
  iapply (whole_load c (m := (Memref.whole cc0_scratch7))) $$ HC
  iintro HC
  iapply (whole_store c (m := (Memref.whole cc0_scratch7))) $$ HC
  iintro HC
  iapply (word_load c 0 (by decide) rfl) $$ HT
  iintro HT
  beta_reduce
  iapply (wp_assume 𝒱₀ (c : Thread nD τ) none Set.univ hP)
  iapply (dn.issue_step c Y (s := 0) (e := ex tab 0) 0 (by decide) rfl rfl (dn_src hR 0 0)) $$ [HB H0]
  · isplitl [HB]; · iexact HB
    iexact H0
  iintro HB
  iapply (dn.issue_step c Y (s := 0) (e := ex tab 0) 1 (by decide) rfl rfl (dn_src hR 0 128)) $$ [HB H1]
  · isplitl [HB]; · iexact HB
    iexact H1
  iintro HB
  iapply (dn.issue_step c Y (s := 0) (e := ex tab 0) 2 (by decide) rfl rfl (dn_src hR 0 256)) $$ [HB H2]
  · isplitl [HB]; · iexact HB
    iexact H2
  iintro HB
  iapply (dn.issue_step c Y (s := 0) (e := ex tab 0) 3 (by decide) rfl rfl (dn_src hR 0 384)) $$ [HB H3]
  · isplitl [HB]; · iexact HB
    iexact H3
  iintro HB
  first | rw [wp_ret] | rw [wp_pure]
  imodintro
  isplitr
  · ipureintro; rfl
  isplitl [HT]; · iexact HT
  isplitl [HC]; · iexact HC
  iexact HB

omit hR in
/-- One step of the search for the next tile that fetches. -/
theorem dn_trip (arg0 v0 v6 v10 : BitVec 32) (ha : arg0 = BitVec.ofNat 32 p.val) (hc : k0_cond5 (grid0.coords p) v0 v6 v10 = 1#1) (t : Fin k0_t2_loop.trips) (acc : BitVec 32) :
    (iprop(table (F := F) c tab ∗ ⌜Search tab nt p.val t.val acc⌝) : sProp 𝕄)
      ⊢ wp frame (wpE defs₀ 𝒱₀ (c : Thread nD τ) none) Set.univ
          (k0_t2_body (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) arg0 v0 v6 v10 hc t acc)
          (fun acc => iprop(table (F := F) c tab ∗ ⌜Search tab nt p.val (t.val + 1) acc⌝)) := by
  have hp : p.val < 96 := gridN ▸ p.isLt
  have ht : t.val < 96 := trips2 ▸ t.isLt
  unfold k0_t2_body
  simp only [smemLoad, smemLoadElt, Prog.lift, Prog.bind_op, Prog.bind_ret, pure_bind]
  iintro ⟨HT, %hS⟩
  iapply (word_load c t.val ht (off52_eq t)) $$ HT
  iintro HT
  iapply (word_load c p.val hp (off53_eq p)) $$ HT
  iintro HT
  beta_reduce
  first | rw [wp_ret] | rw [wp_pure]
  imodintro
  isplitl [HT]; · iexact HT
  ipureintro
  subst ha
  rw [iv_eq]
  exact search_step hp ht hS

/-- The first half of the next fetch issued. -/
theorem dn_part2 (G : ℕ) (hG : G < 100) (j : ℕ) (hj : j < 96) (v0 v6 v10 v49 : BitVec 32) (hc : k0_cond5 (grid0.coords p) v0 v6 v10 = 1#1)
    (hw : k0_chk6 (grid0.coords p) v0 v6 v10 (BitVec.ofNat 32 G) (BitVec.ofNat 32 j)) (hd : k0_cond6 v0 (BitVec.ofNat 32 j) = 1#1) :
    (iprop(table (F := F) c tab ∗ dn.batch c Y (sl (G + 1)) (ex tab j) 0 0
      ∗ dn.srcS c Y (sl (G + 1)) (ex tab j) 0 ∗ dn.srcS c Y (sl (G + 1)) (ex tab j) 1 ∗ dn.srcS c Y (sl (G + 1)) (ex tab j) 2 ∗ dn.srcS c Y (sl (G + 1)) (ex tab j) 3) : sProp 𝕄)
      ⊢ wp frame (wpE defs₀ 𝒱₀ (c : Thread nD τ) none) Set.univ
          (k0_part6 (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) v0 v6 v10 hc (BitVec.ofNat 32 G) v49 (BitVec.ofNat 32 j) hw hd)
          (fun r => iprop(⌜r.1 = te tab j⌝ ∗ table (F := F) c tab ∗ dn.batch c Y (sl (G + 1)) (ex tab j) 4 0)) := by
  have hP : k0_chk7 (grid0.coords p) v0 v6 v10 (BitVec.ofNat 32 j) (te tab j) := ⟨fun _ _ => dn.inb_src _ (hR _) 0 rfl, fun _ _ => dn.inb_src _ (hR _) 1 rfl, fun _ _ => dn.inb_src _ (hR _) 2 rfl, fun _ _ => dn.inb_src _ (hR _) 3 rfl, fun _ _ => dn.inb_src _ (hR _) 4 rfl, fun _ _ => dn.inb_src _ (hR _) 5 rfl, fun _ _ => dn.inb_src _ (hR _) 6 rfl, fun _ _ => dn.inb_src _ (hR _) 7 rfl⟩
  obtain ⟨g0, g1, d0, d1, d2, d3, -⟩ := dn_next ⟨G, hG⟩
  rw [k0_part6_eq_skeleton]
  unfold k0_part6_skel
  simp only [smemLoad, smemLoadElt, Prog.lift, Prog.bind_op, Prog.bind_ret, pure_bind]
  iintro ⟨HT, HB, H0, H1, H2, H3⟩
  iapply (word_load c j hj (off54_eq j hj)) $$ HT
  iintro HT
  beta_reduce
  iapply (wp_assume 𝒱₀ (c : Thread nD τ) none Set.univ hP)
  iapply (dn.issue_step c Y (s := sl (G + 1)) (e := ex tab j) 0 (by decide) g0 d0 (dn_src hR j 0)) $$ [HB H0]
  · isplitl [HB]; · iexact HB
    iexact H0
  iintro HB
  iapply (dn.issue_step c Y (s := sl (G + 1)) (e := ex tab j) 1 (by decide) g1 d1 (dn_src hR j 128)) $$ [HB H1]
  · isplitl [HB]; · iexact HB
    iexact H1
  iintro HB
  iapply (dn.issue_step c Y (s := sl (G + 1)) (e := ex tab j) 2 (by decide) g1 d2 (dn_src hR j 256)) $$ [HB H2]
  · isplitl [HB]; · iexact HB
    iexact H2
  iintro HB
  iapply (dn.issue_step c Y (s := sl (G + 1)) (e := ex tab j) 3 (by decide) g1 d3 (dn_src hR j 384)) $$ [HB H3]
  · isplitl [HB]; · iexact HB
    iexact H3
  iintro HB
  first | rw [wp_ret] | rw [wp_pure]
  imodintro
  isplitr
  · ipureintro; rfl
  isplitl [HT]; · iexact HT
  iexact HB

omit hR in
theorem dn_inb (G : ℕ) (hG : G < 100) (v0 v6 v10 : BitVec 32) : k0_chk8 (grid0.coords p) v0 v6 v10 (BitVec.ofNat 32 G) := by
  obtain ⟨g, d0, d1, d2, d3, d4, d5, d6, d7, dS⟩ := dn_cur ⟨G, hG⟩
  exact ⟨fun _ => inb_sem (sl G) g, fun _ => dn.inb_dst (sl G) 0 d0, fun _ => dn.inb_dst (sl G) 1 d1, fun _ => dn.inb_dst (sl G) 2 d2, fun _ => dn.inb_dst (sl G) 3 d3, fun _ => dn.inb_dst (sl G) 4 d4, fun _ => dn.inb_dst (sl G) 5 d5, fun _ => dn.inb_dst (sl G) 6 d6, fun _ => dn.inb_dst (sl G) 7 d7, fun _ => dn.inb_slot (sl G) dS⟩

/-- The search for the next tile that fetches, its fetch issued, and the first two of this tile's waits. -/
theorem dn_part3 (G : ℕ) (hG : G ≤ p.val) (e : Fin 64) (arg0 v6 v10 : BitVec 32) (ha : arg0 = BitVec.ofNat 32 p.val) (hc : k0_cond5 (grid0.coords p) nt v6 v10 = 1#1) :
    (iprop(table (F := F) c tab ∗ (∃ W : Waits sig Unit, owes (c : Thread nD τ) 0 W) ∗ owns (c : Thread nD τ) (Memref.whole cc0_scratch7) fullShare (fun _ => BitVec.ofNat 32 G : S1.Idx → Elt F .i32) ∗ dn.batch c Y (sl G) e 8 0 ∗ dn.idleS c Y (sl (G + 1))) : sProp 𝕄)
      ⊢ wp frame (wpE defs₀ 𝒱₀ (c : Thread nD τ) none) Set.univ
          (k0_part7 (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) arg0 nt v6 v10 hc)
          (fun r => iprop(⌜r.1 = BitVec.ofNat 32 G⌝ ∗ table (F := F) c tab ∗ (∃ W : Waits sig Unit, owes (c : Thread nD τ) 0 W) ∗ owns (c : Thread nD τ) (Memref.whole cc0_scratch7) fullShare (fun _ => BitVec.ofNat 32 G : S1.Idx → Elt F .i32) ∗ dn.batch c Y (sl G) e 8 (2 * dn.NN) ∗ dn.ahead c Y tab nt (p.val + 1) (sl (G + 1)))) := by
  have hp : p.val < 96 := gridN ▸ p.isLt
  have hG' : G < 100 := by omega
  obtain ⟨g0, g1, d0, d1, d2, d3, d4, d5, d6, d7⟩ := dn_next ⟨G, hG'⟩
  obtain ⟨w, -⟩ := dn_cur ⟨G, hG'⟩
  rw [k0_part7_eq_skeleton]
  unfold k0_part7_skel
  simp only [smemLoad, smemLoadElt, Prog.lift, Prog.bind_op, Prog.bind_ret, pure_bind]
  iintro ⟨HT, HO, HC, HB, HI⟩
  iapply (whole_load c (m := (Memref.whole cc0_scratch7))) $$ HC
  iintro HC
  beta_reduce
  iapply (wp_assume 𝒱₀ (c : Thread nD τ) none Set.univ (dn_inb p G hG' nt v6 v10))
  iapply (Scf.wp_for_bind _ _ _ _ _ _ _ _ _ (fun k acc => iprop(table (F := F) c tab ∗ ⌜Search tab nt p.val k acc⌝))
    (fun t acc => dn_trip (F := F) c p a3 h3 a5 h5 a7 h7 a8 h8 arg0 nt v6 v10 ha hc t acc)) $$ [HT]
  · isplitl [HT]; · iexact HT
    ipureintro
    subst ha
    exact search_start tab nt p.val hp
  iintro %acc ⟨HT, %hS⟩
  replace hS : Search tab nt p.val 96 acc := (congrArg (fun n => Search tab nt p.val n acc) trips2).mp hS
  by_cases hd : k0_cond6 nt acc = 1#1
  · obtain ⟨j, rfl, hj, hjp⟩ := search_found hp hS ((cond6_iff _ _).mp hd)
    have hP : k0_chk6 (grid0.coords p) nt v6 v10 (BitVec.ofNat 32 G) (BitVec.ofNat 32 j) :=
      ⟨fun _ _ => inb_word j hj (off54_eq j hj), fun _ _ => inb_sem (sl (G + 1)) g0, fun _ _ => dn.inb_dst (sl (G + 1)) 0 d0, fun _ _ => inb_sem (sl (G + 1)) g1,
        fun _ _ => dn.inb_dst (sl (G + 1)) 1 d1, fun _ _ => dn.inb_dst (sl (G + 1)) 2 d2, fun _ _ => dn.inb_dst (sl (G + 1)) 3 d3, fun _ _ => dn.inb_dst (sl (G + 1)) 4 d4, fun _ _ => dn.inb_dst (sl (G + 1)) 5 d5, fun _ _ => dn.inb_dst (sl (G + 1)) 6 d6, fun _ _ => dn.inb_dst (sl (G + 1)) 7 d7⟩
    iapply (wp_assume 𝒱₀ (c : Thread nD τ) none Set.univ hP)
    rw [dif_pos hd]
    imod (dn.start_fetch c Y (sl (G + 1)) (ex tab j)) $$ HI with ⟨HN, HS, HR⟩
    ihave HS := (Entails.of_eq (dn.srcs_eq c Y (sl (G + 1)) (ex tab j))) $$ HS
    icases HS with ⟨H0, H1, H2, H3, H4, H5, H6, H7⟩
    rw [wp_bind]
    iapply (wp_wand _ _ _) $$ [HT HN H0 H1 H2 H3]
    · iapply (dn_part2 (F := F) c hR p a3 h3 a5 h5 a7 h7 a8 h8 G hG' j hj nt v6 v10 _ hc hP hd) $$ [HT HN H0 H1 H2 H3]
      iframe
    iintro %r ⟨%hr, HT, HN⟩
    obtain ⟨r0, r1⟩ := r
    dsimp only at hr
    subst hr
    dsimp only
    iapply (dn.issue_step c Y (s := sl (G + 1)) (e := ex tab j) 4 (by decide) g1 d4 (dn_src hR j 512)) $$ [HN H4]
    · isplitl [HN]; · iexact HN
      iexact H4
    iintro HN
    iapply (dn.issue_step c Y (s := sl (G + 1)) (e := ex tab j) 5 (by decide) g1 d5 (dn_src hR j 640)) $$ [HN H5]
    · isplitl [HN]; · iexact HN
      iexact H5
    iintro HN
    iapply (dn.issue_step c Y (s := sl (G + 1)) (e := ex tab j) 6 (by decide) g1 d6 (dn_src hR j 768)) $$ [HN H6]
    · isplitl [HN]; · iexact HN
      iexact H6
    iintro HN
    iapply (dn.issue_step c Y (s := sl (G + 1)) (e := ex tab j) 7 (by decide) g1 d7 (dn_src hR j 896)) $$ [HN H7]
    · isplitl [HN]; · iexact HN
      iexact H7
    iintro HN
    iapply (dn.wait_step c Y (s := sl G) (e := e) 0 (by decide) w) $$ [HO HB]
    · isplitl [HO]; · iexact HO
      rw [Nat.zero_mul]; iexact HB
    iintro ⟨HO, HB⟩
    iapply (dn.wait_step c Y (s := sl G) (e := e) 1 (by decide) w) $$ [HO HB]
    · isplitl [HO]; · iexact HO
      iexact HB
    iintro ⟨HO, HB⟩
    first | rw [wp_ret] | rw [wp_pure]
    imodintro
    isplitr
    · ipureintro; rfl
    isplitl [HT]; · iexact HT
    isplitl [HO]; · iexact HO
    isplitl [HC]; · iexact HC
    isplitl [HB]; · iexact HB
    unfold Chan.ahead Chan.flyS
    ileft
    iexists j
    isplitr
    · ipureintro; exact hjp
    isplitl [HN] <;> iassumption
  · have hP : k0_chk6 (grid0.coords p) nt v6 v10 (BitVec.ofNat 32 G) acc :=
      ⟨fun _ h => absurd h hd, fun _ h => absurd h hd, fun _ h => absurd h hd, fun _ h => absurd h hd, fun _ h => absurd h hd, fun _ h => absurd h hd, fun _ h => absurd h hd, fun _ h => absurd h hd, fun _ h => absurd h hd, fun _ h => absurd h hd, fun _ h => absurd h hd⟩
    iapply (wp_assume 𝒱₀ (c : Thread nD τ) none Set.univ hP)
    rw [dif_neg hd]
    iapply (dn.wait_step c Y (s := sl G) (e := e) 0 (by decide) w) $$ [HO HB]
    · isplitl [HO]; · iexact HO
      rw [Nat.zero_mul]; iexact HB
    iintro ⟨HO, HB⟩
    iapply (dn.wait_step c Y (s := sl G) (e := e) 1 (by decide) w) $$ [HO HB]
    · isplitl [HO]; · iexact HO
      iexact HB
    iintro ⟨HO, HB⟩
    first | rw [wp_ret] | rw [wp_pure]
    imodintro
    isplitr
    · ipureintro; rfl
    isplitl [HT]; · iexact HT
    isplitl [HO]; · iexact HO
    isplitl [HC]; · iexact HC
    isplitl [HB]; · iexact HB
    unfold Chan.ahead
    iright
    isplitr
    · ipureintro; exact search_none hS (fun h => hd ((cond6_iff _ _).mpr h))
    iexact HI

omit hR

/-- Five more of this tile's waits. -/
theorem dn_part4 (G : ℕ) (hG : G ≤ p.val) (e : Fin 64) (v0 v6 v10 : BitVec 32) (hc : k0_cond5 (grid0.coords p) v0 v6 v10 = 1#1) (hw : k0_chk8 (grid0.coords p) v0 v6 v10 (BitVec.ofNat 32 G)) :
    (iprop((∃ W : Waits sig Unit, owes (c : Thread nD τ) 0 W) ∗ dn.batch c Y (sl G) e 8 (2 * dn.NN)) : sProp 𝕄)
      ⊢ wp frame (wpE defs₀ 𝒱₀ (c : Thread nD τ) none) Set.univ
          (k0_part8 (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _) v0 v6 v10 hc (BitVec.ofNat 32 G) hw)
          (fun _ => iprop((∃ W : Waits sig Unit, owes (c : Thread nD τ) 0 W) ∗ dn.batch c Y (sl G) e 8 (7 * dn.NN))) := by
  have hp : p.val < 96 := gridN ▸ p.isLt
  have hG' : G < 100 := by omega
  obtain ⟨w, -⟩ := dn_cur ⟨G, hG'⟩
  rw [k0_part8_eq_skeleton]
  unfold k0_part8_skel
  simp only [smemLoad, smemLoadElt, Prog.lift, Prog.bind_op, Prog.bind_ret, pure_bind]
  iintro ⟨HO, HB⟩
  iapply (dn.wait_step c Y (s := sl G) (e := e) 2 (by decide) w) $$ [HO HB]
  · isplitl [HO]; · iexact HO
    iexact HB
  iintro ⟨HO, HB⟩
  iapply (dn.wait_step c Y (s := sl G) (e := e) 3 (by decide) w) $$ [HO HB]
  · isplitl [HO]; · iexact HO
    iexact HB
  iintro ⟨HO, HB⟩
  iapply (dn.wait_step c Y (s := sl G) (e := e) 4 (by decide) w) $$ [HO HB]
  · isplitl [HO]; · iexact HO
    iexact HB
  iintro ⟨HO, HB⟩
  iapply (dn.wait_step c Y (s := sl G) (e := e) 5 (by decide) w) $$ [HO HB]
  · isplitl [HO]; · iexact HO
    iexact HB
  iintro ⟨HO, HB⟩
  iapply (dn.wait_step c Y (s := sl G) (e := e) 6 (by decide) w) $$ [HO HB]
  · isplitl [HO]; · iexact HO
    iexact HB
  iintro ⟨HO, HB⟩
  first | rw [wp_ret] | rw [wp_pure]
  imodintro
  isplitl [HO] <;> iassumption

end Regions

end Cert.Mlp

end
-- ==== Proof.ExpertsPoint.lean ====
/- A point of the experts kernel. Hand-written. -/
module

public import proofs.«01_k».proof.Proof.ExpertsGate
public import proofs.«01_k».proof.Proof.ExpertsDown

@[expose] public section

set_option maxRecDepth 16384

noncomputable section

namespace Cert.Mlp

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The gate and up weights' cast held for tile `t - 1`. -/
def gateW (c : Dev nD) (Y : S64x1024x2048.Idx → Elt F .f32) (tab : S96.Idx → BitVec 32) (nt : BitVec 32) (t : ℕ) : sProp 𝕄 :=
  iprop(∃ X : Vec F S1024x2048 .bf16, ⌜0 < t → t ≤ run nt → X = k0_pay4 (gu.expert c Y (ex tab (t - 1)))⌝ ∗ owns (c : Thread nD τ) (Memref.whole cc0_scratch2) fullShare X)
/-- The down weights' cast held for tile `t - 1`. -/
def downW (c : Dev nD) (Y : S64x1024x1024.Idx → Elt F .f32) (tab : S96.Idx → BitVec 32) (nt : BitVec 32) (t : ℕ) : sProp 𝕄 :=
  iprop(∃ X : Vec F S1024x1024 .bf16, ⌜0 < t → t ≤ run nt → X = k0_pay5 (dn.expert c Y (ex tab (t - 1)))⌝ ∗ owns (c : Thread nD τ) (Memref.whole cc0_scratch6) fullShare X)

theorem need_iff (tab : S96.Idx → BitVec 32) (nt : BitVec 32) (p : ℕ) (hp : p < 96) :
    Need tab nt p ↔ (p = 0 ∨ te tab p ≠ te tab (p - 1)) ∧ (p : Int) < nt.toInt := by
  unfold Need
  rw [lt_run _ _ hp]
  exact and_comm

/-- Where tile `p` fetches nothing it has the expert of the tile before. -/
theorem same_expert (tab : S96.Idx → BitVec 32) (nt : BitVec 32) (p : ℕ) (h : ¬ Need tab nt p) (hr : p < run nt) : 0 < p ∧ ex tab (p - 1) = ex tab p := by
  unfold Need at h
  have h0 : ¬ p = 0 := fun e => h ⟨hr, Or.inl e⟩
  exact ⟨by omega, ex_congr tab (by_contra fun e => h ⟨hr, Or.inr (Ne.symm e)⟩)⟩

theorem gateW_keep (c : Dev nD) (Y : S64x1024x2048.Idx → Elt F .f32) (tab : S96.Idx → BitVec 32) (nt : BitVec 32) (p : ℕ) (h : ¬ Need tab nt p) :
    (gateW c Y tab nt p : sProp 𝕄) ⊢ gateW c Y tab nt (p + 1) := by
  unfold gateW
  iintro ⟨%X, %hX, H⟩
  iexists X
  isplitr
  · ipureintro
    intro _ hr
    obtain ⟨h0, he⟩ := same_expert tab nt p h (by omega)
    rw [hX h0 (by omega), he, Nat.add_sub_cancel]
  iexact H
theorem downW_keep (c : Dev nD) (Y : S64x1024x1024.Idx → Elt F .f32) (tab : S96.Idx → BitVec 32) (nt : BitVec 32) (p : ℕ) (h : ¬ Need tab nt p) :
    (downW c Y tab nt p : sProp 𝕄) ⊢ downW c Y tab nt (p + 1) := by
  unfold downW
  iintro ⟨%X, %hX, H⟩
  iexists X
  isplitr
  · ipureintro
    intro _ hr
    obtain ⟨h0, he⟩ := same_expert tab nt p h (by omega)
    rw [hX h0 (by omega), he, Nat.add_sub_cancel]
  iexact H

/-- A region under a condition, with what follows it and what it leaves alone. -/
theorem wp_cond (c : Dev nD) {P : Prop} [Decidable P] (A R T : sProp 𝕄) {α : Type} {x : P → Prog (TpuEff nD τ sig (Elt F) Λ₀ .tc) α}
    {k : Prog (TpuEff nD τ sig (Elt F) Λ₀ .tc) α} {Q : α → sProp 𝕄}
    (hT : ∀ h, A ⊢ iprop((R -∗ wp frame (wpE defs₀ 𝒱₀ (c : Thread nD τ) none) Set.univ k Q) -∗ wp frame (wpE defs₀ 𝒱₀ (c : Thread nD τ) none) Set.univ (x h) Q))
    (hF : ¬ P → A ⊢ R) (hk : iprop(R ∗ T) ⊢ wp frame (wpE defs₀ 𝒱₀ (c : Thread nD τ) none) Set.univ k Q) :
    iprop(A ∗ T) ⊢ wp frame (wpE defs₀ 𝒱₀ (c : Thread nD τ) none) Set.univ (if h : P then x h else k) Q := by
  by_cases h : P
  · rw [dif_pos h]
    iintro ⟨HA, HT⟩
    iapply (hT h) $$ HA
    iintro HR
    iapply hk
    isplitl [HR] <;> iassumption
  · rw [dif_neg h]
    iintro ⟨HA, HT⟩
    iapply hk
    isplitl [HA]
    · iapply (hF h) $$ HA
    iexact HT

/-- The output block of a tile that runs. -/
def outBlk (W1 : Vec F S1x1024x2048 .f32) (W2 : Vec F S1x1024x1024 .f32) (Xx : Vec F S512x1024 .f32) (Xg : Vec F S1x1x2048 .f32) (Xd : Vec F S1x1x1024 .f32) : Vec F S512x1024 .f32 :=
  k0_pay6 (k0_pay2 Xx)
    (k0_pay3 Xx Xd
      (fun y => k0_pay4 W1 ((Rect.unit (s := S1024x2048) ![0, 0] S1024x512.size inb_S1024x2048_S1024x512_0_0).toLoadRect.idx y))
      (fun y => Xg ((Rect.unit (s := S1x1x2048) ![0, 0, 0] S1x1x512.size inb_S1x1x2048_S1x1x512_0_0_0).toLoadRect.idx y))
      (fun y => k0_pay4 W1 ((Rect.unit (s := S1024x2048) ![0, 1024] S1024x512.size inb_S1024x2048_S1024x512_0_1024).toLoadRect.idx y))
      (fun y => Xg ((Rect.unit (s := S1x1x2048) ![0, 0, 1024] S1x1x512.size inb_S1x1x2048_S1x1x512_0_0_1024).toLoadRect.idx y))
      (fun y => k0_pay5 W2 ((Rect.unit (s := S1024x1024) ![0, 0] S512x1024.size inb_S1024x1024_S512x1024_0_0).toLoadRect.idx y)))
    (fun y => k0_pay4 W1 ((Rect.unit (s := S1024x2048) ![0, 512] S1024x512.size inb_S1024x2048_S1024x512_0_512).toLoadRect.idx y))
    (fun y => Xg ((Rect.unit (s := S1x1x2048) ![0, 0, 512] S1x1x512.size inb_S1x1x2048_S1x1x512_0_0_512).toLoadRect.idx y))
    (fun y => k0_pay4 W1 ((Rect.unit (s := S1024x2048) ![0, 1536] S1024x512.size inb_S1024x2048_S1024x512_0_1536).toLoadRect.idx y))
    (fun y => Xg ((Rect.unit (s := S1x1x2048) ![0, 0, 1536] S1x1x512.size inb_S1x1x2048_S1x1x512_0_0_1536).toLoadRect.idx y))
    (fun y => k0_pay5 W2 ((Rect.unit (s := S1024x1024) ![512, 0] S512x1024.size inb_S1024x1024_S512x1024_512_0).toLoadRect.idx y))

namespace Chan

variable (K : Chan) (c : Dev nD) (Y : Buf (Elt F) (K.wm.view.loc (c : Thread nD τ))) (tab : S96.Idx → BitVec 32) (nt : BitVec 32) (cm : Memref sig .tc .smem S1 .i32)

theorem before_zero (t : ℕ) (h : t = 0) : (K.before c Y tab nt cm t : sProp 𝕄)
    ⊢ iprop((∃ X, owns (c : Thread nD τ) cm fullShare (X : S1.Idx → Elt F .i32)) ∗ K.idleS c Y 0 ∗ K.idleS c Y 1) := by
  unfold before; rw [if_pos h]
/-- The first fetch issued. -/
theorem first_ready (t : ℕ) (h : t = 0) (hN : 1 ≤ nt.toInt) :
    (iprop(owns (c : Thread nD τ) cm fullShare (fun _ => BitVec.ofNat 32 0 : S1.Idx → Elt F .i32) ∗ K.batch c Y 0 (ex tab 0) 8 0 ∗ K.rest c Y 0 (ex tab 0) ∗ K.idleS c Y 1) : sProp 𝕄)
      ⊢ K.ready c Y tab nt cm t := by
  subst h
  unfold ready ahead flyS
  iintro ⟨HC, HB, HR, HI⟩
  iexists 0
  isplitr; · ipureintro; exact Nat.le_refl 0
  isplitl [HC]; · iexact HC
  isplitr [HI]
  · ileft
    iexists 0
    isplitr
    · ipureintro
      exact ⟨Nat.le_refl 0, (lt_run nt 0 (by decide)).mpr (by omega), fun _ => rfl, fun h => absurd h (by decide)⟩
    isplitl [HB]; · iexact HB
    iexact HR
  iexact HI
/-- The slot read is idle again. -/
theorem next_ready (t G : ℕ) (hG : G ≤ t) :
    (iprop(owns (c : Thread nD τ) cm fullShare (fun _ => Scalar.addi (BitVec.ofNat 32 G) 1#32 : S1.Idx → Elt F .i32) ∗ K.ahead c Y tab nt (t + 1) (sl (G + 1)) ∗ K.landed c Y (sl G) (ex tab t)) : sProp 𝕄)
      ⊢ K.ready c Y tab nt cm (t + 1) := by
  unfold ready
  rw [show Scalar.addi (BitVec.ofNat 32 G) 1#32 = BitVec.ofNat 32 (G + 1) from (BitVec.ofNat_add _ _).symm]
  iintro ⟨HC, HA, HL⟩
  iexists (G + 1)
  isplitr; · ipureintro; omega
  isplitl [HC]; · iexact HC
  isplitl [HA]; · iexact HA
  rw [sl_two]
  iapply (K.landed_idle c Y (sl G) (ex tab t)) $$ HL

end Chan

section Point

variable (c : Dev nD) {Y1 : S64x1024x2048.Idx → Elt F .f32} {Y2 : S64x1024x1024.Idx → Elt F .f32} {tab : S96.Idx → BitVec 32} {nw : S1.Idx → BitVec 32} (hR : InRange tab) (hN : 1 ≤ (nw (ix1 (0 : Fin 1))).toInt) (p : Fin grid0.N)
  (a3 : Memref sig .tc .vmem S512x1024 .f32) (h3 : a3.IsWhole) (a5 : Memref sig .tc .vmem S1x1x2048 .f32) (h5 : a5.IsWhole)
  (a7 : Memref sig .tc .vmem S1x1x1024 .f32) (h7 : a7.IsWhole) (a8 : Memref sig .tc .vmem S512x1024 .f32) (h8 : a8.IsWhole)

/-- What the kernel keeps between points, before point `t`. -/
def kept (Y1 : S64x1024x2048.Idx → Elt F .f32) (Y2 : S64x1024x1024.Idx → Elt F .f32) (tab : S96.Idx → BitVec 32) (nw : S1.Idx → BitVec 32) (t : ℕ) : sProp 𝕄 :=
  iprop(table (F := F) c tab ∗ count (F := F) c nw ∗ gu.before c Y1 tab (nw (ix1 (0 : Fin 1))) (Memref.whole cc0_scratch3) t ∗ dn.before c Y2 tab (nw (ix1 (0 : Fin 1))) (Memref.whole cc0_scratch7) t
    ∗ gateW c Y1 tab (nw (ix1 (0 : Fin 1))) t ∗ downW c Y2 tab (nw (ix1 (0 : Fin 1))) t)

/-- The first loads of a tile that runs. -/
theorem point_loads (W1 : Vec F S1x1024x2048 .f32) (W2 : Vec F S1x1024x1024 .f32) (Xx : Vec F S512x1024 .f32) (Xg : Vec F S1x1x2048 .f32) (Xd : Vec F S1x1x1024 .f32) :
    (iprop(owns (c : Thread nD τ) a3 fullShare Xx ∗ owns (c : Thread nD τ) a5 fullShare Xg ∗ owns (c : Thread nD τ) a7 fullShare Xd
      ∗ owns (c : Thread nD τ) (Memref.whole cc0_scratch2) fullShare (k0_pay4 W1) ∗ owns (c : Thread nD τ) (Memref.whole cc0_scratch6) fullShare (k0_pay5 W2)) : sProp 𝕄)
      ⊢ wp frame (wpE defs₀ 𝒱₀ (c : Thread nD τ) none) Set.univ
          (k0_part9 (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _))
          (fun r => iprop(⌜r.1 = k0_pay2 Xx ∧ r.2 = k0_pay3 Xx Xd
              (fun y => k0_pay4 W1 ((Rect.unit (s := S1024x2048) ![0, 0] S1024x512.size inb_S1024x2048_S1024x512_0_0).toLoadRect.idx y))
              (fun y => Xg ((Rect.unit (s := S1x1x2048) ![0, 0, 0] S1x1x512.size inb_S1x1x2048_S1x1x512_0_0_0).toLoadRect.idx y))
              (fun y => k0_pay4 W1 ((Rect.unit (s := S1024x2048) ![0, 1024] S1024x512.size inb_S1024x2048_S1024x512_0_1024).toLoadRect.idx y))
              (fun y => Xg ((Rect.unit (s := S1x1x2048) ![0, 0, 1024] S1x1x512.size inb_S1x1x2048_S1x1x512_0_0_1024).toLoadRect.idx y))
              (fun y => k0_pay5 W2 ((Rect.unit (s := S1024x1024) ![0, 0] S512x1024.size inb_S1024x1024_S512x1024_0_0).toLoadRect.idx y))⌝
            ∗ owns (c : Thread nD τ) a3 fullShare Xx ∗ owns (c : Thread nD τ) a5 fullShare Xg ∗ owns (c : Thread nD τ) a7 fullShare Xd
            ∗ owns (c : Thread nD τ) (Memref.whole cc0_scratch2) fullShare (k0_pay4 W1) ∗ owns (c : Thread nD τ) (Memref.whole cc0_scratch6) fullShare (k0_pay5 W2))) := by
  rw [k0_part9_eq_skeleton]
  unfold k0_part9_skel
  simp only [Prog.lift, Prog.bind_op, Prog.bind_ret, pure_bind]
  iintro ⟨H3, H5, H7, HG, HD⟩
  iapply (whole_load c (m := a3)) $$ H3
  iintro H3
  iapply (whole_load c (m := a7)) $$ H7
  iintro H7
  iapply (part_load c (m := Memref.whole cc0_scratch2)) $$ HG
  iintro HG
  iapply (part_load c (m := a5)) $$ H5
  iintro H5
  iapply (part_load c (m := Memref.whole cc0_scratch2)) $$ HG
  iintro HG
  iapply (part_load c (m := a5)) $$ H5
  iintro H5
  iapply (part_load c (m := Memref.whole cc0_scratch6)) $$ HD
  iintro HD
  first | rw [wp_ret] | rw [wp_pure]
  imodintro
  isplitr
  · ipureintro; exact ⟨rfl, rfl⟩
  iframe

include hR hN

/-- A point up to its output block. -/
theorem point_main (Xx : Vec F S512x1024 .f32) (Xg : Vec F S1x1x2048 .f32) (Xd : Vec F S1x1x1024 .f32) (Z : Vec F S512x1024 .f32) :
    (iprop(kept c Y1 Y2 tab nw p.val ∗ (∃ W : Waits sig Unit, owes (c : Thread nD τ) 0 W) ∗ owns (c : Thread nD τ) a3 fullShare Xx ∗ owns (c : Thread nD τ) a5 fullShare Xg ∗ owns (c : Thread nD τ) a7 fullShare Xd ∗ owns (c : Thread nD τ) a8 fullShare Z) : sProp 𝕄)
      ⊢ wp frame (wpE defs₀ 𝒱₀ (c : Thread nD τ) none) Set.univ
          (k0_part10 (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _))
          (fun r => iprop(⌜r = nw (ix1 (0 : Fin 1))⌝ ∗ kept c Y1 Y2 tab nw (p.val + 1) ∗ (∃ W : Waits sig Unit, owes (c : Thread nD τ) 0 W) ∗ owns (c : Thread nD τ) a3 fullShare Xx ∗ owns (c : Thread nD τ) a5 fullShare Xg ∗ owns (c : Thread nD τ) a7 fullShare Xd
            ∗ owns (c : Thread nD τ) a8 fullShare (if p.val < run (nw (ix1 (0 : Fin 1))) then outBlk (gu.expert c Y1 (ex tab p.val)) (dn.expert c Y2 (ex tab p.val)) Xx Xg Xd else Z))) := by
  have hp : p.val < 96 := gridN ▸ p.isLt
  obtain ⟨nt, hnt⟩ : ∃ v, v = nw (ix1 (0 : Fin 1)) := ⟨_, rfl⟩
  rw [k0_part10_eq_skeleton]
  unfold k0_part10_skel kept
  simp -zeta only [smemLoad, smemLoadElt, Prog.lift, Prog.bind_op, Prog.bind_ret, pure_bind]
  rw [← hnt] at hN ⊢
  iintro ⟨⟨HT, HN, HG, HD, HX, HY⟩, HO, H3, H5, H7, H8⟩
  iapply (count_load c) $$ HN
  iintro HN
  rw [← hnt]
  beta_reduce
  iapply (wp_cond c iprop(table (F := F) c tab ∗ gu.before c Y1 tab nt (Memref.whole cc0_scratch3) p.val) iprop(table (F := F) c tab ∗ gu.ready c Y1 tab nt (Memref.whole cc0_scratch3) p.val)
    iprop(count (F := F) c nw ∗ dn.before c Y2 tab nt (Memref.whole cc0_scratch7) p.val ∗ gateW c Y1 tab nt p.val ∗ downW c Y2 tab nt p.val ∗ (∃ W : Waits sig Unit, owes (c : Thread nD τ) 0 W) ∗ owns (c : Thread nD τ) a3 fullShare Xx ∗ owns (c : Thread nD τ) a5 fullShare Xg ∗ owns (c : Thread nD τ) a7 fullShare Xd ∗ owns (c : Thread nD τ) a8 fullShare Z)
    ?hT1 ?hF1 ?hk1) $$ [HT HN HG HD HX HY HO H3 H5 H7 H8]
  case hF1 =>
    intro h
    iintro ⟨HT, HB⟩
    isplitl [HT]; · iexact HT
    iapply (gu.before_ready c Y1 tab nt (Memref.whole cc0_scratch3) p.val (fun e => h ((cond1_iff p).mpr e))) $$ HB
  case hT1 =>
    intro h
    have h0 : p.val = 0 := (cond1_iff p).mp h
    iintro ⟨HT, HG⟩ Hk
    ihave HG := (gu.before_zero c Y1 tab nt (Memref.whole cc0_scratch3) p.val h0) $$ HG
    icases HG with ⟨HC, HI0, HI1⟩
    imod (gu.start_fetch c Y1 0 (ex tab 0)) $$ HI0 with ⟨HB, HS, HR⟩
    ihave HS := (Entails.of_eq (gu.srcs_eq c Y1 0 (ex tab 0))) $$ HS
    icases HS with ⟨H0, H1, H2, H3, H4, H5, H6, H7⟩
    rw [wp_bind]
    iapply (wp_wand _ _ _) $$ [HT HC HB H0 H1 H2 H3]
    · iapply (gu_part1 (F := F) c hR p a3 h3 a5 h5 a7 h7 a8 h8 h) $$ [HT HC HB H0 H1 H2 H3]
      iframe
    iintro %r ⟨%hr, HT, HC, HB⟩
    obtain ⟨r0, r1⟩ := r
    dsimp only at hr
    subst hr
    iapply (gu.issue_step c Y1 (s := 0) (e := ex tab 0) 4 (by decide) rfl rfl (gu_src hR 0 512)) $$ [HB H4]
    · isplitl [HB]; · iexact HB
      iexact H4
    iintro HB
    iapply (gu.issue_step c Y1 (s := 0) (e := ex tab 0) 5 (by decide) rfl rfl (gu_src hR 0 640)) $$ [HB H5]
    · isplitl [HB]; · iexact HB
      iexact H5
    iintro HB
    iapply (gu.issue_step c Y1 (s := 0) (e := ex tab 0) 6 (by decide) rfl rfl (gu_src hR 0 768)) $$ [HB H6]
    · isplitl [HB]; · iexact HB
      iexact H6
    iintro HB
    iapply (gu.issue_step c Y1 (s := 0) (e := ex tab 0) 7 (by decide) rfl rfl (gu_src hR 0 896)) $$ [HB H7]
    · isplitl [HB]; · iexact HB
      iexact H7
    iintro HB
    iapply Hk
    isplitl [HT]; · iexact HT
    iapply (gu.first_ready c Y1 tab nt (Memref.whole cc0_scratch3) p.val h0 hN)
    isplitl [HC]; · iexact HC
    isplitl [HB]; · iexact HB
    isplitl [HR]; · iexact HR
    iexact HI1
  rotate_left
  · iframe
  iintro ⟨⟨HT, HG⟩, HN, HD, HX, HY, HO, H3, H5, H7, H8⟩
  iapply (word_load c p.val hp (off1_eq p)) $$ HT
  iintro HT
  iapply (word_load c (p.val - 1) (by omega) (off10_eq p)) $$ HT
  iintro HT
  beta_reduce
  iapply (wp_cond c iprop(table (F := F) c tab ∗ (∃ W : Waits sig Unit, owes (c : Thread nD τ) 0 W) ∗ gu.ready c Y1 tab nt (Memref.whole cc0_scratch3) p.val ∗ gateW c Y1 tab nt p.val)
    iprop(table (F := F) c tab ∗ (∃ W : Waits sig Unit, owes (c : Thread nD τ) 0 W) ∗ gu.ready c Y1 tab nt (Memref.whole cc0_scratch3) (p.val + 1) ∗ gateW c Y1 tab nt (p.val + 1))
    iprop(count (F := F) c nw ∗ dn.before c Y2 tab nt (Memref.whole cc0_scratch7) p.val ∗ downW c Y2 tab nt p.val ∗ owns (c : Thread nD τ) a3 fullShare Xx ∗ owns (c : Thread nD τ) a5 fullShare Xg ∗ owns (c : Thread nD τ) a7 fullShare Xd ∗ owns (c : Thread nD τ) a8 fullShare Z)
    ?hT2 ?hF2 ?hk2) $$ [HT HN HG HD HX HY HO H3 H5 H7 H8]
  case hF2 =>
    intro h
    have hn : ¬ Need tab nt p.val := fun e => h ((cond2_iff p nt _ _).mpr ((need_iff tab nt p.val hp).mp e))
    iintro ⟨HT, HO, HG, HX⟩
    isplitl [HT]; · iexact HT
    isplitl [HO]; · iexact HO
    isplitl [HG]
    · iapply (gu.ready_keep c Y1 tab nt (Memref.whole cc0_scratch3) p.val hn) $$ HG
    iapply (gateW_keep c Y1 tab nt p.val hn) $$ HX
  case hT2 =>
    intro h
    have hn : Need tab nt p.val := (need_iff tab nt p.val hp).mpr ((cond2_iff p nt _ _).mp h)
    iintro ⟨HT, HO, HG, HX⟩ Hk
    ihave HG := (gu.ready_need c Y1 tab nt (Memref.whole cc0_scratch3) p.val hn) $$ HG
    icases HG with ⟨%G, %hG, HC, HF, HI⟩
    ihave HF := (show gu.flyS c Y1 (sl G) (ex tab p.val) ⊢ iprop(gu.batch c Y1 (sl G) (ex tab p.val) 8 0 ∗ gu.rest c Y1 (sl G) (ex tab p.val)) from Entails.rfl) $$ HF
    icases HF with ⟨HB, HR⟩
    rw [wp_bind]
    iapply (wp_wand _ _ _) $$ [HT HO HC HB HI]
    · iapply (gu_part3 (F := F) c hR p a3 h3 a5 h5 a7 h7 a8 h8 G hG (ex tab p.val) _ _ _ (congrArg (BitVec.ofNat 32) (coord p)) h) $$ [HT HO HC HB HI]
      iframe
    iintro %r ⟨%hr, HT, HO, HC, HB, HA⟩
    obtain ⟨r0, r1, r2⟩ := r
    dsimp only at hr
    subst hr
    rw [wp_bind]
    iapply (wp_wand _ _ _) $$ [HO HB]
    · iapply (gu_part4 (F := F) c p a3 h3 a5 h5 a7 h7 a8 h8 G hG (ex tab p.val) nt _ _ h r1) $$ [HO HB]
      isplitl [HO] <;> iassumption
    iintro %_ ⟨HO, HB⟩
    obtain ⟨w, -, -, -, -, -, -, -, -, dS⟩ := gu_cur ⟨G, by omega⟩
    iapply (gu.wait_step c Y1 (s := sl G) (e := ex tab p.val) 7 (by decide) w) $$ [HO HB]
    · isplitl [HO]; · iexact HO
      iexact HB
    iintro ⟨HO, HB⟩
    imod (gu.end_fetch c Y1 gu_pos (sl G) (ex tab p.val)) $$ [HB HR] with HL
    · isplitl [HB]; · iexact HB
      iexact HR
    ihave HL := (show gu.landed c Y1 (sl G) (ex tab p.val) ⊢ iprop(gu.buf c (gu.slotOf (sl G)) (gu.G c Y1 (ex tab p.val)) ∗ (gu.buf c (gu.slotOf (sl G)) (gu.G c Y1 (ex tab p.val)) -∗ gu.landed c Y1 (sl G) (ex tab p.val))) from by
      unfold Chan.landed
      iintro ⟨HB, HV⟩
      isplitl [HB]; · iexact HB
      iintro HB
      isplitl [HB] <;> iassumption) $$ HL
    icases HL with ⟨HB, HL⟩
    iapply (gu.slot_load c Y1 (s := sl G) (e := ex tab p.val) dS) $$ HB
    iintro HB
    ihave HL := HL $$ HB
    ihave HX := (show gateW c Y1 tab nt p.val ⊢ iprop(∃ X, owns (c : Thread nD τ) (Memref.whole cc0_scratch2) fullShare X) from by
      unfold gateW
      iintro ⟨%X, -, H⟩
      iexists X
      iexact H) $$ HX
    icases HX with ⟨%X, HX⟩
    iapply (whole_load c (m := (Memref.whole cc0_scratch2))) $$ HX
    iintro HX
    iapply (whole_store c (m := (Memref.whole cc0_scratch2))) $$ HX
    iintro HX
    iapply (whole_load c (m := (Memref.whole cc0_scratch3))) $$ HC
    iintro HC
    iapply (whole_load c (m := (Memref.whole cc0_scratch3))) $$ HC
    iintro HC
    iapply (whole_store c (m := (Memref.whole cc0_scratch3))) $$ HC
    iintro HC
    iapply Hk
    isplitl [HT]; · iexact HT
    isplitl [HO]; · iexact HO
    isplitl [HC HA HL]
    · iapply (gu.next_ready c Y1 tab nt (Memref.whole cc0_scratch3) p.val G hG)
      isplitl [HC]; · iexact HC
      isplitl [HA]; · iexact HA
      iexact HL
    unfold gateW
    iexists _
    isplitr [HX]
    rotate_left
    · iexact HX
    ipureintro
    intro _ _
    rw [Nat.add_sub_cancel]
  rotate_left
  · iframe
  iintro ⟨⟨HT, HO, HG, HX⟩, HN, HD, HY, H3, H5, H7, H8⟩
  iapply (wp_cond c iprop(table (F := F) c tab ∗ dn.before c Y2 tab nt (Memref.whole cc0_scratch7) p.val) iprop(table (F := F) c tab ∗ dn.ready c Y2 tab nt (Memref.whole cc0_scratch7) p.val)
    iprop(count (F := F) c nw ∗ gu.ready c Y1 tab nt (Memref.whole cc0_scratch3) (p.val + 1) ∗ gateW c Y1 tab nt (p.val + 1) ∗ downW c Y2 tab nt p.val ∗ (∃ W : Waits sig Unit, owes (c : Thread nD τ) 0 W) ∗ owns (c : Thread nD τ) a3 fullShare Xx ∗ owns (c : Thread nD τ) a5 fullShare Xg ∗ owns (c : Thread nD τ) a7 fullShare Xd ∗ owns (c : Thread nD τ) a8 fullShare Z)
    ?hT3 ?hF3 ?hk3) $$ [HT HN HG HD HX HY HO H3 H5 H7 H8]
  case hF3 =>
    intro h
    iintro ⟨HT, HB⟩
    isplitl [HT]; · iexact HT
    iapply (dn.before_ready c Y2 tab nt (Memref.whole cc0_scratch7) p.val (fun e => h ((cond4_iff p).mpr e))) $$ HB
  case hT3 =>
    intro h
    have h0 : p.val = 0 := (cond4_iff p).mp h
    iintro ⟨HT, HG⟩ Hk
    ihave HG := (dn.before_zero c Y2 tab nt (Memref.whole cc0_scratch7) p.val h0) $$ HG
    icases HG with ⟨HC, HI0, HI1⟩
    imod (dn.start_fetch c Y2 0 (ex tab 0)) $$ HI0 with ⟨HB, HS, HR⟩
    ihave HS := (Entails.of_eq (dn.srcs_eq c Y2 0 (ex tab 0))) $$ HS
    icases HS with ⟨H0, H1, H2, H3, H4, H5, H6, H7⟩
    rw [wp_bind]
    iapply (wp_wand _ _ _) $$ [HT HC HB H0 H1 H2 H3]
    · iapply (dn_part1 (F := F) c hR p a3 h3 a5 h5 a7 h7 a8 h8 h) $$ [HT HC HB H0 H1 H2 H3]
      iframe
    iintro %r ⟨%hr, HT, HC, HB⟩
    obtain ⟨r0, r1⟩ := r
    dsimp only at hr
    subst hr
    iapply (dn.issue_step c Y2 (s := 0) (e := ex tab 0) 4 (by decide) rfl rfl (dn_src hR 0 512)) $$ [HB H4]
    · isplitl [HB]; · iexact HB
      iexact H4
    iintro HB
    iapply (dn.issue_step c Y2 (s := 0) (e := ex tab 0) 5 (by decide) rfl rfl (dn_src hR 0 640)) $$ [HB H5]
    · isplitl [HB]; · iexact HB
      iexact H5
    iintro HB
    iapply (dn.issue_step c Y2 (s := 0) (e := ex tab 0) 6 (by decide) rfl rfl (dn_src hR 0 768)) $$ [HB H6]
    · isplitl [HB]; · iexact HB
      iexact H6
    iintro HB
    iapply (dn.issue_step c Y2 (s := 0) (e := ex tab 0) 7 (by decide) rfl rfl (dn_src hR 0 896)) $$ [HB H7]
    · isplitl [HB]; · iexact HB
      iexact H7
    iintro HB
    iapply Hk
    isplitl [HT]; · iexact HT
    iapply (dn.first_ready c Y2 tab nt (Memref.whole cc0_scratch7) p.val h0 hN)
    isplitl [HC]; · iexact HC
    isplitl [HB]; · iexact HB
    isplitl [HR]; · iexact HR
    iexact HI1
  rotate_left
  · iframe
  iintro ⟨⟨HT, HD⟩, HN, HG, HX, HY, HO, H3, H5, H7, H8⟩
  iapply (word_load c p.val hp (off50_eq p)) $$ HT
  iintro HT
  iapply (word_load c (p.val - 1) (by omega) (off51_eq p)) $$ HT
  iintro HT
  beta_reduce
  iapply (wp_cond c iprop(table (F := F) c tab ∗ (∃ W : Waits sig Unit, owes (c : Thread nD τ) 0 W) ∗ dn.ready c Y2 tab nt (Memref.whole cc0_scratch7) p.val ∗ downW c Y2 tab nt p.val)
    iprop(table (F := F) c tab ∗ (∃ W : Waits sig Unit, owes (c : Thread nD τ) 0 W) ∗ dn.ready c Y2 tab nt (Memref.whole cc0_scratch7) (p.val + 1) ∗ downW c Y2 tab nt (p.val + 1))
    iprop(count (F := F) c nw ∗ gu.ready c Y1 tab nt (Memref.whole cc0_scratch3) (p.val + 1) ∗ gateW c Y1 tab nt (p.val + 1) ∗ owns (c : Thread nD τ) a3 fullShare Xx ∗ owns (c : Thread nD τ) a5 fullShare Xg ∗ owns (c : Thread nD τ) a7 fullShare Xd ∗ owns (c : Thread nD τ) a8 fullShare Z)
    ?hT4 ?hF4 ?hk4) $$ [HT HN HG HD HX HY HO H3 H5 H7 H8]
  case hF4 =>
    intro h
    have hn : ¬ Need tab nt p.val := fun e => h ((cond5_iff p nt _ _).mpr ((need_iff tab nt p.val hp).mp e))
    iintro ⟨HT, HO, HG, HX⟩
    isplitl [HT]; · iexact HT
    isplitl [HO]; · iexact HO
    isplitl [HG]
    · iapply (dn.ready_keep c Y2 tab nt (Memref.whole cc0_scratch7) p.val hn) $$ HG
    iapply (downW_keep c Y2 tab nt p.val hn) $$ HX
  case hT4 =>
    intro h
    have hn : Need tab nt p.val := (need_iff tab nt p.val hp).mpr ((cond5_iff p nt _ _).mp h)
    iintro ⟨HT, HO, HG, HX⟩ Hk
    ihave HG := (dn.ready_need c Y2 tab nt (Memref.whole cc0_scratch7) p.val hn) $$ HG
    icases HG with ⟨%G, %hG, HC, HF, HI⟩
    ihave HF := (show dn.flyS c Y2 (sl G) (ex tab p.val) ⊢ iprop(dn.batch c Y2 (sl G) (ex tab p.val) 8 0 ∗ dn.rest c Y2 (sl G) (ex tab p.val)) from Entails.rfl) $$ HF
    icases HF with ⟨HB, HR⟩
    rw [wp_bind]
    iapply (wp_wand _ _ _) $$ [HT HO HC HB HI]
    · iapply (dn_part3 (F := F) c hR p a3 h3 a5 h5 a7 h7 a8 h8 G hG (ex tab p.val) _ _ _ (congrArg (BitVec.ofNat 32) (coord p)) h) $$ [HT HO HC HB HI]
      iframe
    iintro %r ⟨%hr, HT, HO, HC, HB, HA⟩
    obtain ⟨r0, r1, r2⟩ := r
    dsimp only at hr
    subst hr
    rw [wp_bind]
    iapply (wp_wand _ _ _) $$ [HO HB]
    · iapply (dn_part4 (F := F) c p a3 h3 a5 h5 a7 h7 a8 h8 G hG (ex tab p.val) nt _ _ h r1) $$ [HO HB]
      isplitl [HO] <;> iassumption
    iintro %_ ⟨HO, HB⟩
    obtain ⟨w, -, -, -, -, -, -, -, -, dS⟩ := dn_cur ⟨G, by omega⟩
    iapply (dn.wait_step c Y2 (s := sl G) (e := ex tab p.val) 7 (by decide) w) $$ [HO HB]
    · isplitl [HO]; · iexact HO
      iexact HB
    iintro ⟨HO, HB⟩
    imod (dn.end_fetch c Y2 dn_pos (sl G) (ex tab p.val)) $$ [HB HR] with HL
    · isplitl [HB]; · iexact HB
      iexact HR
    ihave HL := (show dn.landed c Y2 (sl G) (ex tab p.val) ⊢ iprop(dn.buf c (dn.slotOf (sl G)) (dn.G c Y2 (ex tab p.val)) ∗ (dn.buf c (dn.slotOf (sl G)) (dn.G c Y2 (ex tab p.val)) -∗ dn.landed c Y2 (sl G) (ex tab p.val))) from by
      unfold Chan.landed
      iintro ⟨HB, HV⟩
      isplitl [HB]; · iexact HB
      iintro HB
      isplitl [HB] <;> iassumption) $$ HL
    icases HL with ⟨HB, HL⟩
    iapply (dn.slot_load c Y2 (s := sl G) (e := ex tab p.val) dS) $$ HB
    iintro HB
    ihave HL := HL $$ HB
    ihave HX := (show downW c Y2 tab nt p.val ⊢ iprop(∃ X, owns (c : Thread nD τ) (Memref.whole cc0_scratch6) fullShare X) from by
      unfold downW
      iintro ⟨%X, -, H⟩
      iexists X
      iexact H) $$ HX
    icases HX with ⟨%X, HX⟩
    iapply (whole_load c (m := (Memref.whole cc0_scratch6))) $$ HX
    iintro HX
    iapply (whole_store c (m := (Memref.whole cc0_scratch6))) $$ HX
    iintro HX
    iapply (whole_load c (m := (Memref.whole cc0_scratch7))) $$ HC
    iintro HC
    iapply (whole_load c (m := (Memref.whole cc0_scratch7))) $$ HC
    iintro HC
    iapply (whole_store c (m := (Memref.whole cc0_scratch7))) $$ HC
    iintro HC
    iapply Hk
    isplitl [HT]; · iexact HT
    isplitl [HO]; · iexact HO
    isplitl [HC HA HL]
    · iapply (dn.next_ready c Y2 tab nt (Memref.whole cc0_scratch7) p.val G hG)
      isplitl [HC]; · iexact HC
      isplitl [HA]; · iexact HA
      iexact HL
    unfold downW
    iexists _
    isplitr [HX]
    rotate_left
    · iexact HX
    ipureintro
    intro _ _
    rw [Nat.add_sub_cancel]
  rotate_left
  · iframe
  iintro ⟨⟨HT, HO, HD, HY⟩, HN, HG, HX, H3, H5, H7, H8⟩
  iapply (wp_cond c iprop((gateW c Y1 tab nt (p.val + 1) ∗ downW c Y2 tab nt (p.val + 1)) ∗ owns (c : Thread nD τ) a3 fullShare Xx ∗ owns (c : Thread nD τ) a5 fullShare Xg ∗ owns (c : Thread nD τ) a7 fullShare Xd ∗ owns (c : Thread nD τ) a8 fullShare Z)
    iprop((gateW c Y1 tab nt (p.val + 1) ∗ downW c Y2 tab nt (p.val + 1)) ∗ owns (c : Thread nD τ) a3 fullShare Xx ∗ owns (c : Thread nD τ) a5 fullShare Xg ∗ owns (c : Thread nD τ) a7 fullShare Xd
      ∗ owns (c : Thread nD τ) a8 fullShare (if p.val < run nt then outBlk (gu.expert c Y1 (ex tab p.val)) (dn.expert c Y2 (ex tab p.val)) Xx Xg Xd else Z))
    iprop(table (F := F) c tab ∗ (∃ W : Waits sig Unit, owes (c : Thread nD τ) 0 W) ∗ count (F := F) c nw ∗ gu.ready c Y1 tab nt (Memref.whole cc0_scratch3) (p.val + 1) ∗ dn.ready c Y2 tab nt (Memref.whole cc0_scratch7) (p.val + 1))
    ?hT5 ?hF5 ?hk5) $$ [HT HN HG HD HX HY HO H3 H5 H7 H8]
  case hF5 =>
    intro h
    rw [if_neg (fun e => h ((cond7_iff p nt).mpr ((lt_run nt p.val hp).mp e)))]
  case hT5 =>
    intro h
    have hr : p.val < run nt := (lt_run nt p.val hp).mpr ((cond7_iff p nt).mp h)
    rw [if_pos hr]
    iintro ⟨⟨HX, HY⟩, H3, H5, H7, H8⟩ Hk
    ihave HX := (show gateW c Y1 tab nt (p.val + 1) ⊢ owns (c : Thread nD τ) (Memref.whole cc0_scratch2) fullShare (k0_pay4 (gu.expert c Y1 (ex tab p.val))) from by
      unfold gateW
      iintro ⟨%X, %hX, H⟩
      obtain rfl := hX (Nat.succ_pos _) hr
      iexact H) $$ HX
    ihave HY := (show downW c Y2 tab nt (p.val + 1) ⊢ owns (c : Thread nD τ) (Memref.whole cc0_scratch6) fullShare (k0_pay5 (dn.expert c Y2 (ex tab p.val))) from by
      unfold downW
      iintro ⟨%X, %hX, H⟩
      obtain rfl := hX (Nat.succ_pos _) hr
      iexact H) $$ HY
    rw [wp_bind]
    iapply (wp_wand _ _ _) $$ [HX HY H3 H5 H7]
    · iapply (point_loads (F := F) c p a3 h3 a5 h5 a7 h7 a8 h8 (gu.expert c Y1 (ex tab p.val)) (dn.expert c Y2 (ex tab p.val)) Xx Xg Xd) $$ [HX HY H3 H5 H7]
      iframe
    iintro %r ⟨%hr, H3, H5, H7, HX, HY⟩
    obtain ⟨r0, r1⟩ := r
    obtain ⟨e0, e1⟩ := hr
    dsimp only at e0 e1
    subst e0; subst e1
    iapply (part_load c (m := Memref.whole cc0_scratch2)) $$ HX
    iintro HX
    iapply (part_load c (m := a5)) $$ H5
    iintro H5
    iapply (part_load c (m := Memref.whole cc0_scratch2)) $$ HX
    iintro HX
    iapply (part_load c (m := a5)) $$ H5
    iintro H5
    iapply (part_load c (m := Memref.whole cc0_scratch6)) $$ HY
    iintro HY
    iapply (whole_load c (m := a8)) $$ H8
    iintro H8
    iapply (whole_store c (m := a8)) $$ H8
    iintro H8
    iapply Hk
    isplitl [HX HY]
    · unfold gateW downW
      isplitl [HX]
      · iexists _
        isplitr [HX]
        rotate_left
        · iexact HX
        ipureintro
        intro _ _
        rw [Nat.add_sub_cancel]
      · iexists _
        isplitr [HY]
        rotate_left
        · iexact HY
        ipureintro
        intro _ _
        rw [Nat.add_sub_cancel]
    isplitl [H3]; · iexact H3
    isplitl [H5]; · iexact H5
    isplitl [H7]; · iexact H7
    iexact H8
  rotate_left
  · iframe
  iintro ⟨⟨⟨HX, HY⟩, H3, H5, H7, H8⟩, HT, HO, HN, HG, HD⟩
  first | rw [wp_ret] | rw [wp_pure]
  imodintro
  isplitr; · ipureintro; rfl
  isplitl [HT HN HG HD HX HY]
  · isplitl [HT]; · iexact HT
    isplitl [HN]; · iexact HN
    isplitl [HG]
    · iapply (gu.ready_before c Y1 tab nt (Memref.whole cc0_scratch3) p.val) $$ HG
    isplitl [HD]
    · iapply (dn.ready_before c Y2 tab nt (Memref.whole cc0_scratch7) p.val) $$ HD
    isplitl [HX]; · iexact HX
    iexact HY
  iframe

/-- A point. -/
theorem body_run (Xx : Vec F S512x1024 .f32) (Xg : Vec F S1x1x2048 .f32) (Xd : Vec F S1x1x1024 .f32) (Z : Vec F S512x1024 .f32) :
    (iprop(kept c Y1 Y2 tab nw p.val ∗ (∃ W : Waits sig Unit, owes (c : Thread nD τ) 0 W) ∗ owns (c : Thread nD τ) a3 fullShare Xx ∗ owns (c : Thread nD τ) a5 fullShare Xg ∗ owns (c : Thread nD τ) a7 fullShare Xd ∗ owns (c : Thread nD τ) a8 fullShare Z) : sProp 𝕄)
      ⊢ wp frame (wpE defs₀ 𝒱₀ (c : Thread nD τ) none) Set.univ
          (cc0_moe_experts (F := F) (grid0.coords p) (Memref.whole main_arg0) (Memref.isWhole_whole _) (Memref.whole main_arg1) (Memref.isWhole_whole _) a3 h3 (Memref.whole main_arg3) (Memref.isWhole_whole _) a5 h5 (Memref.whole main_arg5) (Memref.isWhole_whole _) a7 h7 a8 h8
            (Memref.whole cc0_scratch0) (Memref.isWhole_whole _) cc0_scratch1 (Memref.whole cc0_scratch2) (Memref.isWhole_whole _) (Memref.whole cc0_scratch3) (Memref.isWhole_whole _) (Memref.whole cc0_scratch4) (Memref.isWhole_whole _) cc0_scratch5 (Memref.whole cc0_scratch6) (Memref.isWhole_whole _) (Memref.whole cc0_scratch7) (Memref.isWhole_whole _))
          (fun _ => iprop(kept c Y1 Y2 tab nw (p.val + 1) ∗ (∃ W : Waits sig Unit, owes (c : Thread nD τ) 0 W) ∗ owns (c : Thread nD τ) a3 fullShare Xx ∗ owns (c : Thread nD τ) a5 fullShare Xg ∗ owns (c : Thread nD τ) a7 fullShare Xd
            ∗ owns (c : Thread nD τ) a8 fullShare (if p.val < run (nw (ix1 (0 : Fin 1))) then outBlk (gu.expert c Y1 (ex tab p.val)) (dn.expert c Y2 (ex tab p.val)) Xx Xg Xd else k0_pay1))) := by
  have hp : p.val < 96 := gridN ▸ p.isLt
  rw [cc0_moe_experts_eq_skeleton]
  unfold cc0_moe_experts_skel
  rw [wp_bind]
  iintro H
  iapply (wp_wand _ _ _) $$ [H]
  · iapply (point_main (F := F) c hR hN p a3 h3 a5 h5 a7 h7 a8 h8 Xx Xg Xd Z) $$ H
  iintro %r ⟨%hr, HS, HO, H3, H5, H7, H8⟩
  subst hr
  simp only [Prog.lift, Prog.bind_op, Prog.bind_ret, pure_bind]
  by_cases h : p.val < run (nw (ix1 (0 : Fin 1)))
  · have h7 := (lt_run _ _ hp).mp h
    rw [dif_neg (fun e => absurd ((cond8_iff p _).mp e) (by omega)), if_pos h, if_pos h]
    first | rw [wp_ret] | rw [wp_pure]
    imodintro
    iframe
  · have h7 : ¬ (p.val : Int) < (nw (ix1 (0 : Fin 1))).toInt := fun e => h ((lt_run _ _ hp).mpr e)
    rw [dif_pos ((cond8_iff p _).mpr (by omega)), if_neg h, if_neg h]
    iapply (whole_load c (m := a8)) $$ H8
    iintro H8
    iapply (whole_store c (m := a8)) $$ H8
    iintro H8
    first | rw [wp_ret] | rw [wp_pure]
    imodintro
    iframe

end Point

end Cert.Mlp

end
-- ==== Proof.ExpertsRun.lean ====
/- The run of the experts call: its tables' side condition, the invariant between grid points, the obligation of its body and the launch. Hand-written. -/
module

public import proofs.«01_k».proof.Proof.ExpertsPoint
public import Idealize.ShloMosaic.Lib.Pipeline.TableIdle
public import Idealize.ShloMosaic.Lib.Pipeline.FrameBody
public import Idealize.ShloMosaic.Lib.Pipeline.Frame
public import Idealize.ShloMosaic.Lib.Pipeline.Value

@[expose] public section

set_option maxRecDepth 16384

noncomputable section

namespace Cert.Mlp

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The blocks the tables choose -/

section Tables

variable (pf : pre0.Contents (Elt F))

abbrev pfTab : S96.Idx → BitVec 32 := pf 0
abbrev pfCount : S1.Idx → BitVec 32 := pf 1

theorem te_at (tab : S96.Idx → BitVec 32) (k : Fin 96) : tab (ix1 k) = te tab k.val := by
  unfold te
  exact congrArg (fun x : Fin 96 => tab (ix1 x)) (Fin.ext (by have := k.isLt; show k.val = min k.val 95; omega))

theorem wordIdx (i : grid0.Coords) (h : 0 < (Rect.unit (s := S96) (k0_off1 i) S1.size (k0_off1_inb i)).shape.numel) :
    (Rect.unit (s := S96) (k0_off1 i) S1.size (k0_off1_inb i)).emb (Shape.Idx.first h) = ix1 (⟨(i 0).val, (i 0).isLt⟩ : Fin 96) := by
  funext a
  match a with
  | ⟨0, _⟩ =>
    refine Fin.ext ?_
    exact (Nat.add_zero _).trans (congrFun (k0_off1_eq i) 0)

/-- The tile a point reads its rows from: itself while it runs, the last that runs after. -/
theorem xs_index (i : grid0.Coords) : ∀ a, cc0_transform_0 inb_S1_S1_0 numel1_S1 pf i a
    = (![(IntOp.minsi (BitVec.ofNat 32 (i 0).val) (IntOp.maxsi (IntOp.subi (pfCount pf (ix1 (0 : Fin 1))) 1#32) 0#32)).toNat, 0] : Fin 2 → ℕ) a := fun a => by
  have e : ∀ h : 0 < (Rect.unit (s := S1) ![0] S1.size inb_S1_S1_0).shape.numel, (Rect.unit (s := S1) ![0] S1.size inb_S1_S1_0).emb (Shape.Idx.first h) = ix1 (0 : Fin 1) := fun h => by
    funext b
    match b with
    | ⟨0, _⟩ => exact Fin.ext rfl
  unfold cc0_transform_0
  rw [show pf.at 1 (Rect.unit (s := S1) ![0] S1.size inb_S1_S1_0) numel1_S1 = pfCount pf (ix1 (0 : Fin 1)) from congrArg (pfCount pf) (e _)]
  rfl
theorem gu_index (i : grid0.Coords) : ∀ a, cc0_transform_2 k0_off1_inb numel1_S1 pf i a = (![(te (pfTab pf) (i 0).val).toNat, 0, 0] : Fin 3 → ℕ) a := fun a => by
  unfold cc0_transform_2
  rw [← te_at (pfTab pf) ⟨(i 0).val, (i 0).isLt⟩, ← wordIdx i (numel1_S1 ▸ Nat.one_pos)]
  rfl
theorem dn_index (i : grid0.Coords) : ∀ a, cc0_transform_4 k0_off1_inb numel1_S1 pf i a = (![(te (pfTab pf) (i 0).val).toNat, 0, 0] : Fin 3 → ℕ) a := fun a => by
  unfold cc0_transform_4
  rw [← te_at (pfTab pf) ⟨(i 0).val, (i 0).isLt⟩, ← wordIdx i (numel1_S1 ▸ Nat.one_pos)]
  rfl

theorem xs_tile (k : ℕ) (hk : k < 96) (v : BitVec 32) : (IntOp.minsi (BitVec.ofNat 32 k) (IntOp.maxsi (IntOp.subi v 1#32) 0#32)).toNat ≤ k := by
  have h := minsi_toInt (BitVec.ofNat 32 k) (IntOp.maxsi (IntOp.subi v 1#32) 0#32)
  have h' := maxsi_toInt (IntOp.subi v 1#32) 0#32
  rw [nat_toInt k (by omega)] at h
  have z : (0#32 : BitVec 32).toInt = 0 := by decide
  rw [z] at h'
  have : (IntOp.minsi (BitVec.ofNat 32 k) (IntOp.maxsi (IntOp.subi v 1#32) 0#32)).toInt ≤ k := by omega
  have : 0 ≤ (IntOp.minsi (BitVec.ofNat 32 k) (IntOp.maxsi (IntOp.subi v 1#32) 0#32)).toInt := by omega
  rw [BitVec.toInt_eq_toNat_cond] at *
  split at * <;> omega

/-- A tile that runs reads its own rows. -/
theorem xs_run (k : ℕ) (hk : k < 96) (v : BitVec 32) (h : k < run v) : (IntOp.minsi (BitVec.ofNat 32 k) (IntOp.maxsi (IntOp.subi v 1#32) 0#32)).toNat = k := by
  have hv := (lt_run v k hk).mp h
  have h1 := minsi_toInt (BitVec.ofNat 32 k) (IntOp.maxsi (IntOp.subi v 1#32) 0#32)
  have h2 := maxsi_toInt (IntOp.subi v 1#32) 0#32
  rw [nat_toInt k (by omega)] at h1
  have z : (0#32 : BitVec 32).toInt = 0 := by decide
  rw [z] at h2
  have hs : (IntOp.subi v 1#32).toInt = v.toInt - 1 := by
    show (v - 1#32).toInt = _
    rw [BitVec.toInt_sub]
    have o : (1#32 : BitVec 32).toInt = 1 := by decide
    have u := BitVec.toInt_lt (x := v)
    rw [o]
    refine Int.bmod_eq_of_le (by omega) (by omega)
  have e : (IntOp.minsi (BitVec.ofNat 32 k) (IntOp.maxsi (IntOp.subi v 1#32) 0#32)).toInt = k := by omega
  rw [BitVec.toInt_eq_toNat_cond] at e
  split at e <;> omega

/-- Experts in range keep every block inside its array. -/
theorem ok_of_range (hR : InRange (pfTab pf)) : ok0 pf := by
  refine ⟨fun i => ⟨fun a => ?_, Or.inl rfl⟩, fun i => ⟨fun a => ?_, Or.inl rfl⟩, fun i => ⟨fun a => ?_, Or.inl rfl⟩⟩
  · rw [xs_index]
    have hi : (i 0).val < 96 := (i 0).isLt
    have := xs_tile (i 0).val hi (pfCount pf (ix1 (0 : Fin 1)))
    match a with
    | ⟨0, _⟩ => show ((IntOp.minsi (BitVec.ofNat 32 (i 0).val) (IntOp.maxsi (IntOp.subi (pfCount pf (ix1 (0 : Fin 1))) 1#32) 0#32)).toNat + 1) * 512 ≤ 49152; omega
    | ⟨1, _⟩ => show (0 + 1) * 1024 ≤ 1024; omega
  · rw [gu_index]
    have := hR (ix1 (⟨min (i 0).val 95, by omega⟩ : Fin 96))
    match a with
    | ⟨0, _⟩ => show ((te (pfTab pf) (i 0).val).toNat + 1) * 1 ≤ 64; unfold te; omega
    | ⟨1, _⟩ => show (0 + 1) * 1 ≤ 1; omega
    | ⟨2, _⟩ => show (0 + 1) * 2048 ≤ 2048; omega
  · rw [dn_index]
    have := hR (ix1 (⟨min (i 0).val 95, by omega⟩ : Fin 96))
    match a with
    | ⟨0, _⟩ => show ((te (pfTab pf) (i 0).val).toNat + 1) * 1 ≤ 64; unfold te; omega
    | ⟨1, _⟩ => show (0 + 1) * 1 ≤ 1; omega
    | ⟨2, _⟩ => show (0 + 1) * 1024 ≤ 1024; omega

end Tables

/-! ## The output window's schedule -/

theorem tabo : ∀ t : Fin grid0.N, (true && (t.val + 1 = grid0.N || decide (∃ h : t.val + 1 < grid0.N, ∃ a : Fin 2,
    cc0_transform_5 (grid0.coords ⟨t.val + 1, h⟩) a ≠ cc0_transform_5 (grid0.coords t) a))) = true := by decide +kernel

theorem one_of (p : Fin grid0.N) (v : BitVec 32) : (!(k0_cond7 (grid0.coords p) v == 1#1) && !(k0_cond8 (grid0.coords p) v == 1#1)) = false := by
  by_cases h : (p.val : Int) < v.toInt
  · rw [(cond7_iff p v).mpr h]; rfl
  · rw [(cond8_iff p v).mpr (by omega)]
    cases (k0_cond7 (grid0.coords p) v == 1#1) <;> rfl

section Schedule

variable (a : (pcfg0 (F := F)).Adm)

theorem flush3 (t : Fin (cfg0 a).N) : ((cfg0 a).win 3).flush t = true := by
  rw [Pipeline.Window.flush_eq_flushF]; exact tabo t
theorem idle3 (t : Fin (cfg0 a).N) : (cfg0 a).idle 3 ((cfg0 a).grid.coords t) = false := one_of t _

end Schedule

/-! ## The proof data -/

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

theorem dev_eq (c : Dev nD) : c = (0 : Fin 1) := Fin.ext (by have h : c.val < 1 := c.isLt; show c.val = 0; omega)

abbrev tabOf (c : Dev nD) : S96.Idx → BitVec 32 := V m c main_arg0
abbrev countOf (c : Dev nD) : S1.Idx → BitVec 32 := V m c main_arg1
abbrev guOf (c : Dev nD) : S64x1024x2048.Idx → Elt F .f32 := V m c main_arg3
abbrev dnOf (c : Dev nD) : S64x1024x1024.Idx → Elt F .f32 := V m c main_arg5
/-- The number of tiles to run. -/
abbrev ntOf (c : Dev nD) : BitVec 32 := countOf m c (ix1 (0 : Fin 1))

/-- What the arguments must satisfy. -/
structure Good : Prop where
  range : ∀ c, InRange (tabOf m c)
  some : ∀ c, 1 ≤ (ntOf m c).toInt

variable (hG : Good m)

/-- The tables' contents at the launch. -/
abbrev adm : (p : Fin 1) → (pcfgs (F := F) p).Adm := fun _ => ⟨fun k => V m (0 : Fin 1) (pre0.ref k), ok_of_range _ (hG.range (0 : Fin 1))⟩

/-- Input window `w`'s block at point `t`, as its staging buffer holds it. -/
def inb (c : Dev nD) (w : Fin 4) (t : Fin (cfg0 (adm m hG 0)).N) : ((cfg0 (adm m hG 0)).win w).block.Idx → Elt F ((cfg0 (adm m hG 0)).win w).elt :=
  ((cfg0 (adm m hG 0)).win w).fill ((cfg0 (adm m hG 0)).grid.coords t) (fun _ => Classical.arbitrary _)
    ((((cfg0 (adm m hG 0)).win w).blk t).view.read (Elt F) (V m c (Pipeline.arrRef spec0 w)))

/-- What the point stores. -/
def outAt (c : Dev nD) (t : Fin (cfg0 (adm m hG 0)).N) : Vec F S512x1024 .f32 :=
  if t.val < run (ntOf m c) then
    outBlk (gu.expert c (guOf m c) (ex (tabOf m c) t.val)) (dn.expert c (dnOf m c) (ex (tabOf m c) t.val)) (inb m hG c 0 t) (inb m hG c 1 t) (inb m hG c 2 t)
  else k0_pay1

def inv (c : Dev nD) (t : ℕ) : sProp 𝕄 :=
  iprop(kept c (guOf m c) (dnOf m c) (tabOf m c) (countOf m c) t ∗ ∃ r, prngReg c r)

def dats (p : Fin 1) (c : Dev nD) : Dat τ (Elt F) Unit ℕ (Pipeline.UD sig nD τ) ℕ (Pipeline.pin (pcfgs (F := F)) (adm m hG) p) c where
  A w := V m c (Pipeline.arrRef spec0 w)
  after w t := match w with
    | ⟨0, _⟩ => inb m hG c 0 t
    | ⟨1, _⟩ => inb m hG c 1 t
    | ⟨2, _⟩ => inb m hG c 2 t
    | ⟨3, _⟩ => outAt m hG c t
  Φ t := inv m c t.val
  q _ := fullShare
  owed _ := 0

theorem A_eq (c : Dev nD) (w : Fin (cfg0 (adm m hG 0)).W) : (dats m hG 0 c).A w = V m c (Pipeline.arrRef spec0 w) := by
  dsimp only [dats]
theorem after0 (c : Dev nD) (t) : (dats m hG 0 c).after 0 t = inb m hG c 0 t := by dsimp only [dats]; rfl
theorem after1 (c : Dev nD) (t) : (dats m hG 0 c).after 1 t = inb m hG c 1 t := by dsimp only [dats]; rfl
theorem after2 (c : Dev nD) (t) : (dats m hG 0 c).after 2 t = inb m hG c 2 t := by dsimp only [dats]; rfl
theorem after3 (c : Dev nD) (t) : (dats m hG 0 c).after 3 t = outAt m hG c t := by dsimp only [dats]; rfl

theorem before_in (c : Dev nD) (w : Fin 4) (hw : ((cfg0 (adm m hG 0)).win w).isOut = false) (hl : ∀ i, (cfg0 (adm m hG 0)).idle w i = false)
    (hc : ∀ i a, ((cfg0 (adm m hG 0)).win w).clip i a = none)
    (ha : ∀ t, (dats m hG 0 c).after w t = inb m hG c w t) (t) (d) : (dats m hG 0 c).before w t d = inb m hG c w t := by
  refine ((dats m hG 0 c).before_in_eq_fetched w hw hl (fun t t' _ => funext fun a => (hc _ a).trans (hc _ a).symm) (fun t => ?_) t d).trans ?_
  · rw [ha]; unfold inb; rw [Pipeline.Window.cut_fill]; rfl
  · unfold Dat.fetched inb; exact Pipeline.fill_of_clip_none (cfg := cfg0 (adm m hG 0)) w _ (hc _) _ _ _

/-! ## The body at a point -/

abbrev st0 (t : Fin (cfg0 (adm m hG 0)).N) : Memref sig .tc .vmem S512x1024 .f32 := spec0_0.stage ((cfg0 (adm m hG 0)).slots t 0)
abbrev st1 (t : Fin (cfg0 (adm m hG 0)).N) : Memref sig .tc .vmem S1x1x2048 .f32 := spec0_1.stage ((cfg0 (adm m hG 0)).slots t 1)
abbrev st2 (t : Fin (cfg0 (adm m hG 0)).N) : Memref sig .tc .vmem S1x1x1024 .f32 := spec0_2.stage ((cfg0 (adm m hG 0)).slots t 2)
abbrev st3 (t : Fin (cfg0 (adm m hG 0)).N) : Memref sig .tc .vmem S512x1024 .f32 := spec0_3.stage ((cfg0 (adm m hG 0)).slots t 3)

def bodyAt (t : Fin (cfg0 (adm m hG 0)).N) : Prog (TpuEff nD τ sig (Elt F) Λ₀ .tc) PUnit :=
  cc0_moe_experts (F := F) (grid0.coords t) (Memref.whole main_arg0) (Memref.isWhole_whole _) (Memref.whole main_arg1) (Memref.isWhole_whole _) (st0 m hG t) (hstage0_0 _)
    (Memref.whole main_arg3) (Memref.isWhole_whole _) (st1 m hG t) (hstage0_1 _) (Memref.whole main_arg5) (Memref.isWhole_whole _) (st2 m hG t) (hstage0_2 _) (st3 m hG t) (hstage0_3 _)
    (Memref.whole cc0_scratch0) (Memref.isWhole_whole _) cc0_scratch1 (Memref.whole cc0_scratch2) (Memref.isWhole_whole _) (Memref.whole cc0_scratch3) (Memref.isWhole_whole _)
    (Memref.whole cc0_scratch4) (Memref.isWhole_whole _) cc0_scratch5 (Memref.whole cc0_scratch6) (Memref.isWhole_whole _) (Memref.whole cc0_scratch7) (Memref.isWhole_whole _)

theorem defs₀_row (t : Fin (cfg0 (adm m hG 0)).N) :
    defs₀ (F := F) .tc (cfg0 (adm m hG 0)).body ((cfg0 (adm m hG 0)).bodyArgs t ((cfg0 (adm m hG 0)).slots t)) = bodyAt m hG t := by
  unfold defs₀ bodyAt; rw [Defs.onTc_tc]

def bodyPre (c : Dev nD) (t : Fin (cfg0 (adm m hG 0)).N) : sProp 𝕄 :=
  iprop((dats m hG 0 c).Φ t.castSucc ∗ (dats m hG 0 c).owesAt () t.castSucc
    ∗ (∃ d, owns (c : Thread nD τ) (st0 m hG t) fullShare ((dats m hG 0 c).before 0 t d))
    ∗ (∃ d, owns (c : Thread nD τ) (st1 m hG t) fullShare ((dats m hG 0 c).before 1 t d))
    ∗ (∃ d, owns (c : Thread nD τ) (st2 m hG t) fullShare ((dats m hG 0 c).before 2 t d))
    ∗ (∃ d, owns (c : Thread nD τ) (st3 m hG t) fullShare ((dats m hG 0 c).before 3 t d)))
def bodyPost (c : Dev nD) (t : Fin (cfg0 (adm m hG 0)).N) : sProp 𝕄 :=
  iprop((dats m hG 0 c).Φ t.succ ∗ (dats m hG 0 c).owesAt () t.succ
    ∗ owns (c : Thread nD τ) (st0 m hG t) fullShare ((dats m hG 0 c).after 0 t)
    ∗ owns (c : Thread nD τ) (st1 m hG t) fullShare ((dats m hG 0 c).after 1 t)
    ∗ owns (c : Thread nD τ) (st2 m hG t) fullShare ((dats m hG 0 c).after 2 t)
    ∗ (dats m hG 0 c).leavesExact 3 t)

theorem leave3 (c : Dev nD) (t : Fin (cfg0 (adm m hG 0)).N) :
    (owns (c : Thread nD τ) (st3 m hG t) fullShare (outAt m hG c t) : sProp 𝕄) ⊢ (dats m hG 0 c).leavesExact 3 t := by
  unfold Dat.leavesExact
  rw [idle3, after3]
  exact .rfl

theorem sound_body (c : Dev nD) (t : Fin (cfg0 (adm m hG 0)).N) :
    bodyPre m hG c t ⊢ wp frame (wpE (defs₀ (F := F)) 𝒱₀ (c : Thread nD τ) none) Set.univ (bodyAt m hG t) (fun _ => bodyPost m hG c t) := by
  unfold bodyPre bodyPost bodyAt
  rw [show (dats m hG 0 c).Φ t.castSucc = inv m c t.val from rfl, show (dats m hG 0 c).Φ t.succ = inv m c (t.val + 1) from rfl, after0, after1, after2]
  unfold inv Dat.owesAt Pipeline.owesWithin
  rw [show (dats m hG 0 c).owed t.castSucc = 0 from rfl, show (dats m hG 0 c).owed t.succ = 0 from rfl]
  iintro ⟨⟨HK, Hg⟩, ⟨%W, -, HW⟩, ⟨%d0, H0⟩, ⟨%d1, H1⟩, ⟨%d2, H2⟩, ⟨%d3, H3⟩⟩
  ihave H0 := (Entails.of_eq (congrArg (owns (c : Thread nD τ) (st0 m hG t) fullShare) (before_in m hG c 0 rfl (fun _ => rfl) (fun _ _ => rfl) (after0 m hG c) t d0))) $$ H0
  ihave H1 := (Entails.of_eq (congrArg (owns (c : Thread nD τ) (st1 m hG t) fullShare) (before_in m hG c 1 rfl (fun _ => rfl) (fun _ _ => rfl) (after1 m hG c) t d1))) $$ H1
  ihave H2 := (Entails.of_eq (congrArg (owns (c : Thread nD τ) (st2 m hG t) fullShare) (before_in m hG c 2 rfl (fun _ => rfl) (fun _ _ => rfl) (after2 m hG c) t d2))) $$ H2
  iapply (wp_wand _ _ _) $$ [HK HW H0 H1 H2 H3]
  · iapply (body_run c (hG.range c) (hG.some c) t (st0 m hG t) (hstage0_0 _) (st1 m hG t) (hstage0_1 _) (st2 m hG t) (hstage0_2 _) (st3 m hG t) (hstage0_3 _)
      (inb m hG c 0 t) (inb m hG c 1 t) (inb m hG c 2 t) ((dats m hG 0 c).before 3 t d3)) $$ [HK HW H0 H1 H2 H3]
    isplitl [HK]; · iexact HK
    isplitl [HW]; · iexists W; iexact HW
    isplitl [H0]; · iexact H0
    isplitl [H1]; · iexact H1
    isplitl [H2]; · iexact H2
    iexact H3
  iintro %r ⟨HK, ⟨%W', HW⟩, H0, H1, H2, H3⟩
  isplitl [HK Hg]
  · isplitl [HK]; · iexact HK
    iexact Hg
  isplitl [HW]
  · iexists W'; isplitr
    · ipureintro; exact fun _ _ => Or.inl trivial
    iexact HW
  isplitl [H0]; · iexact H0
  isplitl [H1]; · iexact H1
  isplitl [H2]; · iexact H2
  iapply (leave3 m hG c t); iexact H3

theorem body_obligation (c : Dev nD) : BodyObligation (dats (F := F) m hG 0 c) (defs₀ (F := F)) 𝒱₀ () Set.univ := fun t => by
  rw [bigSep_W0, bigSep_W0, defs₀_row]
  exact triple_restated (sound_body m hG c t) rfl .rfl fun _ => .rfl

/-! ## The launch -/

/-- The kernel's own cells, two a weight array. -/
abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (gu.cell 0)) 0 ∗ semVal ((c : Thread nD τ), SemLoc.dma (gu.cell 1)) 0
          ∗ semVal ((c : Thread nD τ), SemLoc.dma (dn.cell 0)) 0 ∗ semVal ((c : Thread nD τ), SemLoc.dma (dn.cell 1)) 0) := by
  rw [Pipeline.ownSems0_eq_of_list c osem0 [0, 1, 2, 3] (by decide) (by decide)]; rfl
/-- The arrays the transfers read. -/
def H0 : Finset (Ref sig .tc) := {main_arg3, main_arg5}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ ((c : Thread nD τ).loc main_arg5) ↦{fullShare} V m c main_arg5) :=
  BI.bigSep_eq_bigSepL_of_eq [main_arg3, main_arg5] (by decide) (by decide) _
theorem tables_eq (c : Dev nD) :
    (Pipeline.ΦT pre0 (adm m hG 0).1 c : sProp 𝕄) = iprop(table (F := F) c (tabOf m c) ∗ count (F := F) c (countOf m c)) := by
  obtain rfl : c = (0 : Fin 1) := dev_eq c
  exact bigSep_univ_eq_bigSepL [(0 : Fin 2), (1 : Fin 2)] (by decide) (by decide) _

theorem gu_halves (c : Dev nD) : (((c : Thread nD τ).loc main_arg3 ↦{fullShare} V m c main_arg3 : sProp 𝕄))
    ⊣⊢ iprop(gu.rows c (guOf m c) Finset.univ (Chan.qs 0) ∗ gu.rows c (guOf m c) Finset.univ (Chan.qs 1)) := by
  unfold Chan.rows
  rw [show (Finset.univ : Finset gu.WS.Idx).map gu.wm.view.emb = Finset.univ from View.set_whole _]
  exact pointsTo_share (PosShare.mem_left_op_right fullShare)
theorem dn_halves (c : Dev nD) : (((c : Thread nD τ).loc main_arg5 ↦{fullShare} V m c main_arg5 : sProp 𝕄))
    ⊣⊢ iprop(dn.rows c (dnOf m c) Finset.univ (Chan.qs 0) ∗ dn.rows c (dnOf m c) Finset.univ (Chan.qs 1)) := by
  unfold Chan.rows
  rw [show (Finset.univ : Finset dn.WS.Idx).map dn.wm.view.emb = Finset.univ from View.set_whole _]
  exact pointsTo_share (PosShare.mem_left_op_right fullShare)

/-- A buffer of two slots, slot by slot. -/
theorem slots_split (K : Chan) (c : Dev nD) (hw : K.bm.view.set = Finset.univ) (f : Buf (Elt F) (K.bm.view.loc (c : Thread nD τ))) :
    (K.bm.view.loc (c : Thread nD τ) ↦{fullShare} f : sProp 𝕄) ⊢ iprop(K.buf c (K.slotOf 0) f ∗ K.buf c (K.slotOf 1) f) := by
  refine BIBase.Entails.trans (Entails.of_eq ?_) (Entails.of_eq (BI.bigSep_fin_two fun s => K.buf (F := F) c (K.slotOf s) f))
  unfold Chan.buf
  rw [← pointsTo_biUnion (ℓ := K.bm.view.loc (c : Thread nD τ)) Finset.univ (fun s => (K.slotOf s).map K.bm.view.emb)
    fun t _ t' _ h => (Finset.disjoint_map _).mpr (K.slotOf_disjoint t t' h)]
  rw [show Finset.univ.biUnion (fun s => (K.slotOf s).map K.bm.view.emb) = Finset.univ from ?_]
  rw [← hw]
  show _ = Finset.univ.map K.bm.view.emb
  rw [← K.slotOf_cover]
  ext x
  simp only [Finset.mem_biUnion, Finset.mem_map, Finset.mem_univ, true_and]
  constructor
  · rintro ⟨s, y, hy, rfl⟩; exact ⟨y, ⟨s, hy⟩, rfl⟩
  · rintro ⟨y, ⟨s, hy⟩, rfl⟩; exact ⟨s, y, hy, rfl⟩
theorem slots_join (K : Chan) (c : Dev nD) (hw : K.bm.view.set = Finset.univ) (f g : Buf (Elt F) (K.bm.view.loc (c : Thread nD τ))) :
    (iprop(K.buf c (K.slotOf 0) f ∗ K.buf c (K.slotOf 1) g) : sProp 𝕄) ⊢ iprop(∃ f : Buf (Elt F) (K.bm.view.loc (c : Thread nD τ)), K.bm.view.loc (c : Thread nD τ) ↦{fullShare} f) := by
  refine BIBase.Entails.trans (Entails.of_eq (BI.bigSep_fin_two fun s => K.buf (F := F) c (K.slotOf s) ((![f, g] : Fin 2 → _) s)).symm) ?_
  unfold Chan.buf
  refine (pointsTo_biUnion_join (ℓ := K.bm.view.loc (c : Thread nD τ)) Finset.univ (fun s => (K.slotOf s).map K.bm.view.emb) (fun s => (![f, g] : Fin 2 → _) s) f
    fun t _ t' _ h => (Finset.disjoint_map _).mpr (K.slotOf_disjoint t t' h)).trans ?_
  rw [show Finset.univ.biUnion (fun s => (K.slotOf s).map K.bm.view.emb) = Finset.univ from ?_]
  · iintro ⟨%h, -, H⟩
    iexists h
    iexact H
  rw [← hw]
  show _ = Finset.univ.map K.bm.view.emb
  rw [← K.slotOf_cover]
  ext x
  simp only [Finset.mem_biUnion, Finset.mem_map, Finset.mem_univ, true_and]
  constructor
  · rintro ⟨s, y, hy, rfl⟩; exact ⟨y, ⟨s, hy⟩, rfl⟩
  · rintro ⟨y, ⟨s, hy⟩, rfl⟩; exact ⟨s, y, hy, rfl⟩

/-- A whole buffer at some contents, as a memref and back. -/
theorem whole_iff (c : Dev nD) (b : Ref sig .tc) :
    (iprop(∃ f : Buf (Elt F) ((c : Thread nD τ).loc b), ((c : Thread nD τ).loc b) ↦{fullShare} f) : sProp 𝕄)
      ⊣⊢ iprop(∃ X, owns (c : Thread nD τ) (Memref.whole b) fullShare X) := by
  unfold owns
  rw [show (Memref.whole b).view.set = Finset.univ from View.set_whole b]
  constructor
  · iintro ⟨%f, H⟩
    iexists f; iexists f
    isplitr; · ipureintro; rfl
    iexact H
  · iintro ⟨%X, %f, -, H⟩
    iexists f
    iexact H

theorem start (c : Dev nD) : (iprop(Pipeline.ΦD osem0 spec0 H0 (V m) c ∗ Pipeline.ΦT pre0 (adm m hG 0).1 c) : sProp 𝕄) ⊢ inv m c 0 := by
  rw [Pipeline.ΦD_eq, scopedRest0_eq, ownSems00_eq, hbmPts0_eq, tables_eq]
  unfold inv kept Chan.before gateW downW
  rw [if_pos rfl, if_pos rfl]
  unfold Chan.idleS
  iintro ⟨⟨⟨⟨%f, HB⟩, HX, ⟨%g, HE⟩, HY, HC, HD⟩, Hg, ⟨HV0, HV1, HU0, HU1⟩, HG, HN⟩, HT, HK⟩
  ihave HB := (slots_split gu c (View.set_whole _) f) $$ HB
  ihave HE := (slots_split dn c (View.set_whole _) g) $$ HE
  ihave HG := (gu_halves m c).1 $$ HG
  ihave HN := (dn_halves m c).1 $$ HN
  ihave HX := (whole_iff c cc0_scratch2).1 $$ HX
  ihave HY := (whole_iff c cc0_scratch6).1 $$ HY
  ihave HC := (whole_iff c cc0_scratch3).1 $$ HC
  ihave HD := (whole_iff c cc0_scratch7).1 $$ HD
  icases HB with ⟨HB0, HB1⟩
  icases HE with ⟨HE0, HE1⟩
  icases HG with ⟨HG0, HG1⟩
  icases HN with ⟨HN0, HN1⟩
  icases HX with ⟨%X, HX⟩
  icases HY with ⟨%Y, HY⟩
  isplitr [Hg]
  · isplitl [HT]; · iexact HT
    isplitl [HK]; · iexact HK
    isplitl [HC HB0 HV0 HG0 HB1 HV1 HG1]
    · isplitl [HC]; · iexact HC
      isplitl [HB0 HV0 HG0]
      · isplitl [HB0]; · iexists f; iexact HB0
        isplitl [HV0]; · iexact HV0
        iexact HG0
      isplitl [HB1]; · iexists f; iexact HB1
      isplitl [HV1]; · iexact HV1
      iexact HG1
    isplitl [HD HE0 HU0 HN0 HE1 HU1 HN1]
    · isplitl [HD]; · iexact HD
      isplitl [HE0 HU0 HN0]
      · isplitl [HE0]; · iexists g; iexact HE0
        isplitl [HU0]; · iexact HU0
        iexact HN0
      isplitl [HE1]; · iexists g; iexact HE1
      isplitl [HU1]; · iexact HU1
      iexact HN1
    isplitl [HX]
    · iexists X
      isplitr; · ipureintro; exact fun h => absurd h (by decide)
      iexact HX
    iexists Y
    isplitr; · ipureintro; exact fun h => absurd h (by decide)
    iexact HY
  iexact Hg

theorem finish (c : Dev nD) : (inv m c 96 : sProp 𝕄) ⊢ Pipeline.ΦD osem0 spec0 H0 (V m) c := by
  rw [Pipeline.ΦD_eq, scopedRest0_eq, ownSems00_eq, hbmPts0_eq]
  unfold inv kept gateW downW
  iintro ⟨⟨-, -, HA, HZ, ⟨%X, -, HX⟩, ⟨%Y, -, HY⟩⟩, Hg⟩
  ihave HA := (gu.before_ready c _ _ _ _ 96 (by decide)) $$ HA
  ihave HZ := (dn.before_ready c _ _ _ _ 96 (by decide)) $$ HZ
  ihave HA := (gu.ready_end c _ _ _ _) $$ HA
  ihave HZ := (dn.ready_end c _ _ _ _) $$ HZ
  unfold Chan.idleS
  icases HA with ⟨HC, ⟨⟨%f0, HB0⟩, HV0, HG0⟩, ⟨%f1, HB1⟩, HV1, HG1⟩
  icases HZ with ⟨HD, ⟨⟨%g0, HE0⟩, HU0, HN0⟩, ⟨%g1, HE1⟩, HU1, HN1⟩
  isplitl [HB0 HB1 HE0 HE1 HX HY HC HD]
  · isplitl [HB0 HB1]
    · iapply (slots_join gu c (View.set_whole _) f0 f1) $$ [HB0 HB1]
      isplitl [HB0]; · iexact HB0
      iexact HB1
    isplitl [HX]
    · iapply (whole_iff c cc0_scratch2).2; iexists X; iexact HX
    isplitl [HE0 HE1]
    · iapply (slots_join dn c (View.set_whole _) g0 g1) $$ [HE0 HE1]
      isplitl [HE0]; · iexact HE0
      iexact HE1
    isplitl [HY]
    · iapply (whole_iff c cc0_scratch6).2; iexists Y; iexact HY
    isplitl [HC]
    · iapply (whole_iff c cc0_scratch3).2; iexact HC
    iapply (whole_iff c cc0_scratch7).2; iexact HD
  isplitl [Hg]; · iexact Hg
  isplitl [HV0 HV1 HU0 HU1]
  · isplitl [HV0]; · iexact HV0
    isplitl [HV1]; · iexact HV1
    isplitl [HU0]; · iexact HU0
    iexact HU1
  isplitl [HG0 HG1]
  · iapply (gu_halves m c).2
    isplitl [HG0]; · iexact HG0
    iexact HG1
  iapply (dn_halves m c).2
  isplitl [HN0]; · iexact HN0
  iexact HN1

theorem hmain : Pipeline.HMainP (Ix := Unit) (Name := ℕ) (U := Pipeline.UD sig nD τ) (Lvl := ℕ) (pcfgs (F := F)) 0 defs₀ 𝒱₀ m (main (F := F)) (V m) :=
  Pipeline.hmainP_region (pcfgs (F := F)) 0 defs₀ 𝒱₀ m main fun c => (main_chain c).trans rfl

set_option backward.isDefEq.respectTransparency.types false in
theorem run_main : θ_run (defs (F := F)) (onTc (τ := τ) (main (F := F))) (s₀ m ρ)
    (fun r => Pipeline.FramePost (Pipeline.pin (pcfgs (F := F)) (adm m hG)) (dats m hG) 0 (V m) r ∧ r.2.sem = fun _ => 0) :=
  Pipeline.θ_run_frameP_dma (Q' := _) (pcfgs (F := F)) (adm m hG) (dats m hG) (0 : Fin 1) launch0 osem0 defs₀ 𝒱₀ ownSemFacts0 H0 H0_sub m ρ main
    (hbody := fun c => (body_obligation m hG c).loose) (hshare := fun c => (dats m hG 0 c).share_full fun _ => rfl)
    (howed := fun _ _ => rfl) (V := V m) (hmain := hmain m) (hA := A_eq m hG)
    (hpf := fun c k => by obtain rfl : c = (0 : Fin 1) := dev_eq c; rfl)
    (hin := fun c => start m hG c) (hout := fun c => finish m c)

end Cert.Mlp

end
-- ==== Proof.ExpertsValue.lean ====
/- What the experts call's output holds, element by element, at the ideal values. Hand-written. -/
module

public import proofs.«01_k».proof.Proof.ExpertsRun
public import Idealize.ShloMosaic.Lib.Pipeline.ValueKit.Geometry
public import Idealize.ShloMosaic.Lib.MatmulPlain
public import Idealize.ShloMosaic.PureOps.Ideal.Laws

@[expose] public section

set_option maxRecDepth 16384

noncomputable section

namespace Cert.Mlp

open Cert.ExpertsIdeal Cert.ExpertsIdeal.Gen
open Idealize.ShloMosaic Idealize.ShloMosaic.TcCoe Idealize.ShloMosaic.Tactic Idealize.ShloMosaic.ValueIdx
open Idealize.SL Idealize.SL.RA Idealize.SL.Sem

/-! ## A row of the layer -/

/-- The gated unit of a gate value and an up value: the gate cut at 7 from above, the up value to [-7, 7]. -/
def glu (g u : EReal) : EReal :=
  (min (Ideal.ofBits .f32 0x40E00000#32) (max (Ideal.ofBits .f32 0xC0E00000#32) u) + Ideal.ofBits .f32 0x3F800000#32) * min g (Ideal.ofBits .f32 0x40E00000#32)
    * Ideal.logistic (Ideal.ofBits .f32 0x3FD9DB23#32 * min g (Ideal.ofBits .f32 0x40E00000#32))

/-- One column of the first product, with its bias. -/
def lin (x : Fin 1024 → EReal) (w : Fin 1024 → EReal) (b : EReal) : EReal := ∑ k : Fin 1024, x k * w k + b

/-- The hidden value `f`: the gated unit of columns `f` and `1024 + f`. -/
def hid (x : Fin 1024 → EReal) (W : Fin 1024 → Fin 2048 → EReal) (b : Fin 2048 → EReal) (f : ℕ) (hf : f < 1024) : EReal :=
  glu (lin x (fun k => W k ⟨f, by omega⟩) (b ⟨f, by omega⟩)) (lin x (fun k => W k ⟨1024 + f, by omega⟩) (b ⟨1024 + f, by omega⟩))

/-- One column of the layer's result for a row. -/
def col (x : Fin 1024 → EReal) (W : Fin 1024 → Fin 2048 → EReal) (b : Fin 2048 → EReal) (w : Fin 1024 → EReal) (d : EReal) : EReal :=
  ∑ f : Fin 1024, hid x W b f.val f.isLt * w f + d

/-- The sum over the hidden values in two halves, the bias first. -/
theorem col_halves (x : Fin 1024 → EReal) (W : Fin 1024 → Fin 2048 → EReal) (b : Fin 2048 → EReal) (w : Fin 1024 → EReal) (d : EReal) :
    (d + ∑ f : Fin 512, hid x W b f.val (by have := f.isLt; omega) * w ⟨f.val, by have := f.isLt; omega⟩)
      + ∑ f : Fin 512, hid x W b (512 + f.val) (by have := f.isLt; omega) * w ⟨512 + f.val, by have := f.isLt; omega⟩ = col x W b w d := by
  unfold col
  rw [show (∑ f : Fin 1024, hid x W b f.val f.isLt * w f)
      = (∑ f : Fin 512, hid x W b f.val (by have := f.isLt; omega) * w ⟨f.val, by have := f.isLt; omega⟩)
        + ∑ f : Fin 512, hid x W b (512 + f.val) (by have := f.isLt; omega) * w ⟨512 + f.val, by have := f.isLt; omega⟩
    from Fin.sum_univ_add (a := 512) (b := 512) fun f : Fin (512 + 512) => hid x W b f.val f.isLt * w f]
  rw [add_assoc, add_comm]

/-! ## The stored block, element by element -/

theorem first_apply (A : FVec Ideal S512x1024 .bf16) (B : FVec Ideal S1024x512 .bf16) (r f : Fin 512) :
    matmul dot_S512x1024_S1024x512_S512x512_1_0_0_1_n_n none A B (constant S512x512 .f32 0x00000000#32) (ix2 r f)
      = ∑ k : Fin 1024, A (ix2 r k) * B (ix2 k f) :=
  (Ideal.matmul_plain_apply (M := 512) (K := 1024) (N := 512) none A B (constant S512x512 .f32 0x00000000#32) r f).trans
    ((congrArg (· + _) Ideal.ofBits_zero_f32).trans (zero_add _))

theorem second_apply (A : FVec Ideal S512x512 .bf16) (B : FVec Ideal S512x1024 .bf16) (r : Fin 512) (j : Fin 1024) :
    matmul dot_S512x512_S512x1024_S512x1024_1_0_0_1_n_n none A B (constant S512x1024 .f32 0x00000000#32) (ix2 r j)
      = ∑ f : Fin 512, A (ix2 r f) * B (ix2 f j) :=
  (Ideal.matmul_plain_apply (M := 512) (K := 512) (N := 1024) none A B (constant S512x1024 .f32 0x00000000#32) r j).trans
    ((congrArg (· + _) Ideal.ofBits_zero_f32).trans (zero_add _))

theorem bias_apply (b : FVec Ideal S1x1x512 .f32) (r f : Fin 512) :
    broadcastTo S512x512 (shapeCast S1x512 b shapeCasts_S1x1x512_S1x512) broadcasts_S1x512_S512x512 (ix2 r f) = b (ix3 (0 : Fin 1) (0 : Fin 1) f) := by
  refine (broadcastTo_apply _ _ (ix2 r f) (ix2 (0 : Fin 1) f) fun a => ?_).trans (shapeCast_apply b _ _ _ ?_)
  · match a with
    | ⟨0, _⟩ => rfl
    | ⟨1, _⟩ => rfl
  · rw [Shape.rowMajor_val_three, Shape.rowMajor_val_two]
    show (0 * 1 + 0) * 512 + f.val = 0 * 512 + f.val
    omega

theorem bias_down (b : FVec Ideal S1x1x1024 .f32) (r : Fin 512) (j : Fin 1024) :
    broadcastTo S512x1024 (shapeCast S1x1024 b shapeCasts_S1x1x1024_S1x1024) broadcasts_S1x1024_S512x1024 (ix2 r j) = b (ix3 (0 : Fin 1) (0 : Fin 1) j) := by
  refine (broadcastTo_apply _ _ (ix2 r j) (ix2 (0 : Fin 1) j) fun a => ?_).trans (shapeCast_apply b _ _ _ ?_)
  · match a with
    | ⟨0, _⟩ => rfl
    | ⟨1, _⟩ => rfl
  · rw [Shape.rowMajor_val_three, Shape.rowMajor_val_two]
    show (0 * 1 + 0) * 1024 + j.val = 0 * 1024 + j.val
    omega

/-- One half's columns of the first product, with their biases. -/
abbrev half (X : FVec Ideal S512x1024 .bf16) (w : FVec Ideal S1024x512 .bf16) (b : FVec Ideal S1x1x512 .f32) : FVec Ideal S512x512 .f32 :=
  addf (matmul dot_S512x1024_S1024x512_S512x512_1_0_0_1_n_n none X w (constant S512x512 .f32 0x00000000#32))
    (broadcastTo S512x512 (shapeCast S1x512 b shapeCasts_S1x1x512_S1x512) broadcasts_S1x512_S512x512)

theorem half_apply (X : FVec Ideal S512x1024 .bf16) (w : FVec Ideal S1024x512 .bf16) (b : FVec Ideal S1x1x512 .f32) (r f : Fin 512) :
    half X w b (ix2 r f) = lin (fun k => X (ix2 r k)) (fun k => w (ix2 k f)) (b (ix3 (0 : Fin 1) (0 : Fin 1) f)) := by
  unfold half lin
  rw [addf_apply, first_apply, bias_apply]

/-- The gated units of a half. -/
abbrev units (g u : FVec Ideal S512x512 .f32) : FVec Ideal S512x512 .bf16 :=
  truncf .bf16 (mulf (mulf (addf (minimumf (broadcast S512x512 (Scalar.ofBits .f32 0x40E00000#32)) (maximumf (broadcast S512x512 (Scalar.ofBits .f32 0xC0E00000#32)) u)) (broadcast S512x512 (Scalar.ofBits .f32 0x3F800000#32)))
      (minimumf g (broadcast S512x512 (Scalar.ofBits .f32 0x40E00000#32))))
    (logistic (mulf (broadcast S512x512 (Scalar.ofBits .f32 0x3FD9DB23#32)) (minimumf g (broadcast S512x512 (Scalar.ofBits .f32 0x40E00000#32)))))) bitsLt_bf16_f32

theorem units_apply (g u : FVec Ideal S512x512 .f32) (i : S512x512.Idx) : units g u i = glu (g i) (u i) := rfl

theorem pay3_apply (X : Vec Ideal S512x1024 .f32) (d : Vec Ideal S1x1x1024 .f32) (wg : Vec Ideal S1024x512 .bf16) (bg : Vec Ideal S1x1x512 .f32) (wu : Vec Ideal S1024x512 .bf16) (bu : Vec Ideal S1x1x512 .f32) (wd : Vec Ideal S512x1024 .bf16)
    (r : Fin 512) (j : Fin 1024) :
    k0_pay3 (F := Ideal) X d wg bg wu bu wd (ix2 r j) = (d (ix3 (0 : Fin 1) (0 : Fin 1) j) : EReal) + ∑ f : Fin 512,
      glu (lin (fun k => X (ix2 r k)) (fun k => wg (ix2 k f)) (bg (ix3 (0 : Fin 1) (0 : Fin 1) f))) (lin (fun k => X (ix2 r k)) (fun k => wu (ix2 k f)) (bu (ix3 (0 : Fin 1) (0 : Fin 1) f))) * wd (ix2 f j) := by
  show addf (broadcastTo S512x1024 (shapeCast S1x1024 d shapeCasts_S1x1x1024_S1x1024) broadcasts_S1x1024_S512x1024)
    (matmul dot_S512x512_S512x1024_S512x1024_1_0_0_1_n_n none (units (half (k0_pay2 X) wg bg) (half (k0_pay2 X) wu bu)) wd (constant S512x1024 .f32 0x00000000#32)) (ix2 r j) = _
  rw [addf_apply, bias_down, second_apply]
  refine congrArg (_ + ·) (Finset.sum_congr rfl fun f _ => ?_)
  rw [units_apply, half_apply, half_apply]
  rfl

theorem pay6_apply (X : FVec Ideal S512x1024 .bf16) (acc : FVec Ideal S512x1024 .f32) (wg : Vec Ideal S1024x512 .bf16) (bg : Vec Ideal S1x1x512 .f32) (wu : Vec Ideal S1024x512 .bf16) (bu : Vec Ideal S1x1x512 .f32) (wd : Vec Ideal S512x1024 .bf16)
    (r : Fin 512) (j : Fin 1024) :
    k0_pay6 (F := Ideal) X acc wg bg wu bu wd (ix2 r j) = (acc (ix2 r j) : EReal) + ∑ f : Fin 512,
      glu (lin (fun k => X (ix2 r k)) (fun k => wg (ix2 k f)) (bg (ix3 (0 : Fin 1) (0 : Fin 1) f))) (lin (fun k => X (ix2 r k)) (fun k => wu (ix2 k f)) (bu (ix3 (0 : Fin 1) (0 : Fin 1) f))) * wd (ix2 f j) := by
  show addf acc
    (matmul dot_S512x512_S512x1024_S512x1024_1_0_0_1_n_n none (units (half X wg bg) (half X wu bu)) wd (constant S512x1024 .f32 0x00000000#32)) (ix2 r j) = _
  rw [addf_apply, second_apply]
  refine congrArg (_ + ·) (Finset.sum_congr rfl fun f _ => ?_)
  rw [units_apply, half_apply, half_apply]

theorem pay4_apply (W : Vec Ideal S1x1024x2048 .f32) (k : Fin 1024) (f : Fin 2048) : k0_pay4 (F := Ideal) W (ix2 k f) = W (ix3 (0 : Fin 1) k f) := by
  unfold k0_pay4
  refine (shapeCast_apply _ _ (ix2 k f) (ix2 k f) rfl).trans ?_
  rw [truncf_apply]
  refine shapeCast_apply W _ _ _ ?_
  rw [Shape.rowMajor_val_three, Shape.rowMajor_val_two]
  show (0 * 1024 + k.val) * 2048 + f.val = k.val * 2048 + f.val
  omega
theorem pay5_apply (W : Vec Ideal S1x1024x1024 .f32) (f : Fin 1024) (j : Fin 1024) : k0_pay5 (F := Ideal) W (ix2 f j) = W (ix3 (0 : Fin 1) f j) := by
  unfold k0_pay5
  refine (shapeCast_apply _ _ (ix2 f j) (ix2 f j) rfl).trans ?_
  rw [truncf_apply]
  refine shapeCast_apply W _ _ _ ?_
  rw [Shape.rowMajor_val_three, Shape.rowMajor_val_two]
  show (0 * 1024 + f.val) * 1024 + j.val = f.val * 1024 + j.val
  omega

theorem gate_at (W : Vec Ideal S1x1024x2048 .f32) (o : ℕ) (ho : o + 512 ≤ 2048) (h : ∀ a, ![0, o] a + S1024x512.size a ≤ S1024x2048.size a) (k : Fin 1024) (f : Fin 512) :
    k0_pay4 (F := Ideal) W ((Rect.unit (s := S1024x2048) ![0, o] S1024x512.size h).toLoadRect.idx (ix2 k f)) = W (ix3 (0 : Fin 1) k ⟨o + f.val, by have := f.isLt; omega⟩) := by
  refine (congrArg (k0_pay4 (F := Ideal) W) (funext fun a => Fin.ext ?_)).trans (pay4_apply W k ⟨o + f.val, by have := f.isLt; omega⟩)
  match a with
  | ⟨0, _⟩ => show 0 + 1 * k.val = k.val; omega
  | ⟨1, _⟩ => show o + 1 * f.val = o + f.val; omega
theorem down_at (W : Vec Ideal S1x1024x1024 .f32) (o : ℕ) (ho : o + 512 ≤ 1024) (h : ∀ a, ![o, 0] a + S512x1024.size a ≤ S1024x1024.size a) (f : Fin 512) (j : Fin 1024) :
    k0_pay5 (F := Ideal) W ((Rect.unit (s := S1024x1024) ![o, 0] S512x1024.size h).toLoadRect.idx (ix2 f j)) = W (ix3 (0 : Fin 1) ⟨o + f.val, by have := f.isLt; omega⟩ j) := by
  refine (congrArg (k0_pay5 (F := Ideal) W) (funext fun a => Fin.ext ?_)).trans (pay5_apply W ⟨o + f.val, by have := f.isLt; omega⟩ j)
  match a with
  | ⟨0, _⟩ => show o + 1 * f.val = o + f.val; omega
  | ⟨1, _⟩ => show 0 + 1 * j.val = j.val; omega
theorem bias_at (B : Vec Ideal S1x1x2048 .f32) (o : ℕ) (ho : o + 512 ≤ 2048) (h : ∀ a, ![0, 0, o] a + S1x1x512.size a ≤ S1x1x2048.size a) (f : Fin 512) :
    B ((Rect.unit (s := S1x1x2048) ![0, 0, o] S1x1x512.size h).toLoadRect.idx (ix3 (0 : Fin 1) (0 : Fin 1) f)) = B (ix3 (0 : Fin 1) (0 : Fin 1) ⟨o + f.val, by have := f.isLt; omega⟩) := by
  refine congrArg B (funext fun a => Fin.ext ?_)
  match a with
  | ⟨0, _⟩ => rfl
  | ⟨1, _⟩ => rfl
  | ⟨2, _⟩ => show o + 1 * f.val = o + f.val; omega

theorem outBlk_apply (W1 : Vec Ideal S1x1024x2048 .f32) (W2 : Vec Ideal S1x1024x1024 .f32) (X : Vec Ideal S512x1024 .f32) (B : Vec Ideal S1x1x2048 .f32) (D : Vec Ideal S1x1x1024 .f32) (r : Fin 512) (j : Fin 1024) :
    outBlk W1 W2 X B D (ix2 r j) = col (fun k => X (ix2 r k)) (fun k f => W1 (ix3 (0 : Fin 1) k f)) (fun f => B (ix3 (0 : Fin 1) (0 : Fin 1) f)) (fun f => W2 (ix3 (0 : Fin 1) f j)) (D (ix3 (0 : Fin 1) (0 : Fin 1) j)) := by
  rw [← col_halves]
  unfold outBlk
  rw [pay6_apply, pay3_apply]
  refine congrArg₂ (· + ·) (congrArg (_ + ·) (Finset.sum_congr rfl fun f _ => ?_)) (Finset.sum_congr rfl fun f _ => ?_)
  · unfold hid
    simp only [gate_at W1 0 (by decide), gate_at W1 1024 (by decide), bias_at B 0 (by decide), bias_at B 1024 (by decide), down_at W2 0 (by decide), Nat.zero_add]
  · unfold hid
    simp only [gate_at W1 512 (by decide), gate_at W1 1536 (by decide), bias_at B 512 (by decide), bias_at B 1536 (by decide), down_at W2 512 (by decide), ← Nat.add_assoc]
    rfl

/-! ## The input blocks, element by element -/

variable (m : (ℓ : Loc nD τ sig) → Buf (Elt Ideal) ℓ) (hG : Good m)

abbrev xsOf (c : Dev nD) : S49152x1024.Idx → EReal := V m c main_arg2
abbrev bguOf (c : Dev nD) : S64x1x2048.Idx → EReal := V m c main_arg4
abbrev bdnOf (c : Dev nD) : S64x1x1024.Idx → EReal := V m c main_arg6

theorem tabo5 : ∀ t : Fin grid0.N, ∀ a : Fin 2, cc0_transform_5 (grid0.coords t) a = (![t.val, 0] : Fin 2 → ℕ) a := by decide +kernel

/-- Row `r` of tile `t`. -/
def rowN (t : Fin (cfg0 (adm m hG 0)).N) (r : Fin 512) : Fin 49152 := ⟨t.val * 512 + r.val, by have h96 : t.val < 96 := gridN ▸ t.isLt; have := r.isLt; omega⟩

theorem inb0_apply (c : Dev nD) (t : Fin (cfg0 (adm m hG 0)).N) (h : t.val < run (ntOf m c)) (r : Fin 512) (j : Fin 1024) :
    inb m hG c 0 t (ix2 r j) = xsOf m c (ix2 (rowN m hG t r) j) := by
  obtain rfl : c = (0 : Fin 1) := dev_eq c
  have h96 : t.val < 96 := gridN ▸ t.isLt
  refine (congrFun (Pipeline.Window.cut_fill ((cfg0 (adm m hG 0)).win 0) _ _ _) (ix2 r j)).trans ?_
  refine congrArg (xsOf m (0 : Fin 1)) (funext fun a => Fin.ext ?_)
  refine (Pipeline.Window.rect_emb_val ((cfg0 (adm m hG 0)).win 0) t (ix2 r j) a).trans ?_
  refine (congrArg (fun z => z * ((cfg0 (adm m hG 0)).win 0).size a + (ix2 r j a).val) (xs_index (adm m hG 0).1 (grid0.coords t) a)).trans ?_
  match a with
  | ⟨0, _⟩ =>
    show (IntOp.minsi (BitVec.ofNat 32 (grid0.coords t 0).val) (IntOp.maxsi (IntOp.subi (ntOf m (0 : Fin 1)) 1#32) 0#32)).toNat * 512 + r.val = t.val * 512 + r.val
    rw [coord t, xs_run t.val h96 _ h]
  | ⟨1, _⟩ => show 0 * 1024 + j.val = j.val; omega

theorem inb1_apply (c : Dev nD) (t : Fin (cfg0 (adm m hG 0)).N) (j : Fin 2048) :
    inb m hG c 1 t (ix3 (0 : Fin 1) (0 : Fin 1) j) = bguOf m c (ix3 (ex (tabOf m c) t.val) (0 : Fin 1) j) := by
  obtain rfl : c = (0 : Fin 1) := dev_eq c
  refine (congrFun (Pipeline.Window.cut_fill ((cfg0 (adm m hG 0)).win 1) _ _ _) (ix3 (0 : Fin 1) (0 : Fin 1) j)).trans ?_
  refine congrArg (bguOf m (0 : Fin 1)) (funext fun a => Fin.ext ?_)
  refine (Pipeline.Window.rect_emb_val ((cfg0 (adm m hG 0)).win 1) t (ix3 (0 : Fin 1) (0 : Fin 1) j) a).trans ?_
  refine (congrArg (fun z => z * ((cfg0 (adm m hG 0)).win 1).size a + (ix3 (0 : Fin 1) (0 : Fin 1) j a).val) (gu_index (adm m hG 0).1 (grid0.coords t) a)).trans ?_
  match a with
  | ⟨0, _⟩ =>
    show (te (tabOf m (0 : Fin 1)) (grid0.coords t 0).val).toNat * 1 + 0 = (ex (tabOf m (0 : Fin 1)) t.val).val
    rw [coord t, ex_val _ (hG.range _)]
    omega
  | ⟨1, _⟩ => rfl
  | ⟨2, _⟩ => show 0 * 2048 + j.val = j.val; omega

theorem inb2_apply (c : Dev nD) (t : Fin (cfg0 (adm m hG 0)).N) (j : Fin 1024) :
    inb m hG c 2 t (ix3 (0 : Fin 1) (0 : Fin 1) j) = bdnOf m c (ix3 (ex (tabOf m c) t.val) (0 : Fin 1) j) := by
  obtain rfl : c = (0 : Fin 1) := dev_eq c
  refine (congrFun (Pipeline.Window.cut_fill ((cfg0 (adm m hG 0)).win 2) _ _ _) (ix3 (0 : Fin 1) (0 : Fin 1) j)).trans ?_
  refine congrArg (bdnOf m (0 : Fin 1)) (funext fun a => Fin.ext ?_)
  refine (Pipeline.Window.rect_emb_val ((cfg0 (adm m hG 0)).win 2) t (ix3 (0 : Fin 1) (0 : Fin 1) j) a).trans ?_
  refine (congrArg (fun z => z * ((cfg0 (adm m hG 0)).win 2).size a + (ix3 (0 : Fin 1) (0 : Fin 1) j a).val) (dn_index (adm m hG 0).1 (grid0.coords t) a)).trans ?_
  match a with
  | ⟨0, _⟩ =>
    show (te (tabOf m (0 : Fin 1)) (grid0.coords t 0).val).toNat * 1 + 0 = (ex (tabOf m (0 : Fin 1)) t.val).val
    rw [coord t, ex_val _ (hG.range _)]
    omega
  | ⟨1, _⟩ => rfl
  | ⟨2, _⟩ => show 0 * 1024 + j.val = j.val; omega

/-! ## The output array after the run -/

/-- One element of the result: its row through the expert of its tile while the tile runs, zero after. -/
def mlp (tab : S96.Idx → BitVec 32) (nt : BitVec 32) (xs : S49152x1024.Idx → EReal) (wg : S64x1024x2048.Idx → EReal) (bg : S64x1x2048.Idx → EReal) (wd : S64x1024x1024.Idx → EReal) (bd : S64x1x1024.Idx → EReal)
    (t : ℕ) (n : Fin 49152) (j : Fin 1024) : EReal :=
  if t < run nt then col (fun k => xs (ix2 n k)) (fun k f => wg (ix3 (ex tab t) k f)) (fun f => bg (ix3 (ex tab t) (0 : Fin 1) f)) (fun f => wd (ix3 (ex tab t) f j)) (bd (ix3 (ex tab t) (0 : Fin 1) j))
  else 0

theorem outAt_apply (c : Dev nD) (t : Fin (cfg0 (adm m hG 0)).N) (r : Fin 512) (j : Fin 1024) :
    outAt m hG c t (ix2 r j) = mlp (tabOf m c) (ntOf m c) (xsOf m c) (guOf m c) (bguOf m c) (dnOf m c) (bdnOf m c) t.val (rowN m hG t r) j := by
  unfold outAt mlp
  split
  · rename_i h
    rw [outBlk_apply]
    simp only [inb0_apply m hG c t h, inb1_apply, inb2_apply]
    rfl
  · exact Ideal.ofBits_zero_f32

def out3 (c : Dev nD) : S49152x1024.Idx → EReal := fun i =>
  mlp (tabOf m c) (ntOf m c) (xsOf m c) (guOf m c) (bguOf m c) (dnOf m c) (bdnOf m c) ((i 0).val / 512) (i 0) (i 1)

theorem cover3 (i : S49152x1024.Idx) : ∃ t : Fin (cfg0 (adm m hG 0)).N, ((cfg0 (adm m hG 0)).win 3).flush t = true ∧ i ∈ (((cfg0 (adm m hG 0)).win 3).blk t).view.set := by
  have hi0 : (i 0).val < 49152 := (i 0).isLt
  have hi1 : (i 1).val < 1024 := (i 1).isLt
  let t : Fin (cfg0 (adm m hG 0)).N := ⟨(i 0).val / 512, lt_of_lt_of_eq (by omega : (i 0).val / 512 < 96) gridN.symm⟩
  refine ⟨t, flush3 _ t, (Pipeline.Window.emb_mem_blk_iff ((cfg0 (adm m hG 0)).win 3) t i).mpr fun a => ?_⟩
  have e : ((cfg0 (adm m hG 0)).win 3).index t a = (![t.val, 0] : Fin 2 → ℕ) a := tabo5 t a
  rw [e]
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

theorem out3_at (c : Dev nD) (t : Fin (cfg0 (adm m hG 0)).N) (r : Fin 512) (j : Fin 1024) (x : S49152x1024.Idx) (e0 : (x 0).val = t.val * 512 + r.val) (e1 : (x 1).val = j.val) :
    mlp (tabOf m c) (ntOf m c) (xsOf m c) (guOf m c) (bguOf m c) (dnOf m c) (bdnOf m c) t.val (rowN m hG t r) j = out3 m c x := by
  have q0 : rowN m hG t r = x 0 := Fin.ext e0.symm
  have q1 : j = x 1 := Fin.ext e1.symm
  have qt : t.val = (x 0).val / 512 := by have := r.isLt; rw [e0]; omega
  unfold out3
  rw [← qt, ← q0, ← q1]

theorem arr3 (c : Dev nD) : (dats m hG 0 c).arrAt 3 (cfg0 (adm m hG 0)).N = out3 m c := by
  refine (dats m hG 0 c).arrAt_eq_of_emb 3 (out3 m c) (fun t hf (y : S512x1024.Idx) => ?_) (cover3 m hG)
  have h96 : t.val < 96 := gridN ▸ t.isLt
  rw [after3]
  have hy : y = ix2 (y 0 : Fin 512) (y 1 : Fin 1024) := eq_ix2 _
  have hy0 : (y 0).val < 512 := (y 0).isLt
  have e : ∀ a : Fin 2, ((((cfg0 (adm m hG 0)).win 3).blk t).view.emb y a).val = (![t.val, 0] : Fin 2 → ℕ) a * ((cfg0 (adm m hG 0)).win 3).size a + (y a).val := fun a =>
    (Pipeline.Window.rect_emb_val ((cfg0 (adm m hG 0)).win 3) t y a).trans
      (congrArg (fun z => z * ((cfg0 (adm m hG 0)).win 3).size a + (y a).val) (tabo5 t a))
  refine ((congrArg (outAt m hG c t) hy).trans (outAt_apply m hG c t (y 0) (y 1))).trans ?_
  exact out3_at m hG c t (y 0) (y 1) ((((cfg0 (adm m hG 0)).win 3).blk t).view.emb y) (e 0) ((e 1).trans (by show 0 * 1024 + (y 1).val = (y 1).val; omega))

end Cert.Mlp

end
-- ==== Proof.ExpertsRef.lean ====
/- What the experts call's reference computes, element by element, at the ideal values. Hand-written. -/
module

public import proofs.«01_k».proof.Proof.ExpertsValue
public import proofs.«01_k».proof.Proof.Gen.ExpertsReferenceIdeal.Run
public import Idealize.ShloMosaic.Lib.StackMember
public import Idealize.ShloMosaic.Lib.IdealHost
public import Idealize.ShloMosaic.Lib.StableHlo.Predicate

@[expose] public section

set_option maxRecDepth 16384

noncomputable section

namespace Cert.Mlp.Ref

open Cert.ExpertsReferenceIdeal Cert.ExpertsReferenceIdeal.Gen
open Idealize.ShloMosaic
open Idealize.ShloMosaic.TcCoe Idealize.ShloMosaic.ValueIdx

/-! ## The experts' arrays, tile by tile -/

/-- Planes of a stack of 64 taken at 96 indices: at an index in range, the plane it names. -/
theorem planes_apply {a b : ℕ} (w : GatherDims.WF ⟨3, ![64, a, b]⟩ S96x1 ⟨3, ![96, a, b]⟩ [1, 2] [0] [] [0] [] 1 ![1, a, b])
    (Y : (⟨3, ![64, a, b]⟩ : Shape).Idx → EReal) (idx : IVec S96x1 32) (t : Fin 96) (p : Fin a) (q : Fin b) (e : Fin 64)
    (he : (idx (ix2 t (0 : Fin 1))).toNat = e.val) :
    Host.gather (⟨[1, 2], [0], [], [], [0], 1, ![1, a, b], w⟩ : GatherDims _ _ _) Y idx (ix3 t p q) = Y (ix3 e p q) := by
  let D : GatherDims ⟨3, ![64, a, b]⟩ S96x1 ⟨3, ![96, a, b]⟩ := ⟨[1, 2], [0], [], [], [0], 1, ![1, a, b], w⟩
  show Host.gather D Y idx (ix3 t p q) = _
  unfold Host.gather
  refine congrArg Y (funext fun x => Fin.ext ?_)
  show D.start (ix3 t p q) idx x + D.batchCoord (ix3 t p q) x + D.offCoord (ix3 t p q) x = _
  rw [GatherDims.batchCoord_eq_zero _ _ _ List.not_mem_nil]
  match x with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ D.startIndexMap from List.mem_singleton.mpr rfl)]
    have hsi : D.siIdx (ix3 t p q) ⟨List.idxOf (⟨0, by decide⟩ : Fin 3) D.startIndexMap, List.idxOf_lt_length_iff.2 (List.mem_singleton.mpr rfl)⟩ = ix2 t (0 : Fin 1) := by
      funext y; refine Fin.ext ?_
      match y with
      | ⟨0, _⟩ => rfl
      | ⟨1, _⟩ => rfl
    rw [hsi]
    have hlt := e.isLt
    have ei : (idx (ix2 t (0 : Fin 1))).toInt = e.val := by
      rw [StableHlo.Predicate.toInt_eq_toNat_of_lt (by rw [he]; omega), he]
    show min (idx (ix2 t (0 : Fin 1))).toInt.toNat 63 + 0 + 0 = e.val
    rw [ei]
    omega
  | ⟨1, _⟩ =>
    unfold GatherDims.start
    rw [dif_neg (show (⟨1, by decide⟩ : Fin 3) ∉ D.startIndexMap from fun h => absurd (congrArg Fin.val (List.mem_singleton.mp h)) (by decide : ¬ (1 : ℕ) = 0))]
    show 0 + 0 + p.val = p.val
    omega
  | ⟨2, _⟩ =>
    unfold GatherDims.start
    rw [dif_neg (show (⟨2, by decide⟩ : Fin 3) ∉ D.startIndexMap from fun h => absurd (congrArg Fin.val (List.mem_singleton.mp h)) (by decide : ¬ (2 : ℕ) = 0))]
    show 0 + 0 + q.val = q.val
    omega

/-- The experts of the tiles, as a column. -/
abbrev starts (tab : IVec S96 32) : IVec S96x1 32 := broadcastInDim S96x1 ![0] bcast_S96_S96x1_0 tab

theorem starts_apply (tab : IVec S96 32) (hR : InRange tab) (t : Fin 96) : (starts tab (ix2 t (0 : Fin 1))).toNat = (ex tab t.val).val := by
  rw [← ex_val tab hR t.val, ← te_at tab t]
  refine congrArg BitVec.toNat (broadcastInDim_apply _ _ _ (ix2 t (0 : Fin 1)) (ix1 t) fun a => ?_)
  match a with
  | ⟨0, _⟩ => rfl

/-! ## The hidden values -/

abbrev gateUp (tab : IVec S96 32) (xs : FVec Ideal S49152x1024 .f32) (wg : FVec Ideal S64x1024x2048 .f32) (bg : FVec Ideal S64x1x2048 .f32) : FVec Ideal S96x512x2048 .f32 :=
  addf (Host.dotGeneral dot_S96x512x1024_S96x1024x2048_S96x512x2048_2_1_1_2_0_0 none (shapeCast S96x512x1024 xs shapeCasts_S49152x1024_S96x512x1024) (Host.gather gather_S64x1024x2048_S96x1_S96x1024x2048_12_0_n_n_0_1_110242048 wg (starts tab)))
    (broadcastInDim S96x512x2048 ![0, 1, 2] bcast_S96x1x2048_S96x512x2048_0_1_2 (Host.gather gather_S64x1x2048_S96x1_S96x1x2048_12_0_n_n_0_1_112048 bg (starts tab)))

/-- Row `r` of tile `t`. -/
abbrev rowOf (t : Fin 96) (r : Fin 512) : Fin 49152 := ⟨t.val * 512 + r.val, by have := t.isLt; have := r.isLt; omega⟩

theorem tile_apply (xs : FVec Ideal S49152x1024 .f32) (t : Fin 96) (r : Fin 512) (k : Fin 1024) :
    shapeCast S96x512x1024 xs shapeCasts_S49152x1024_S96x512x1024 (ix3 t r k) = xs (ix2 (rowOf t r) k) := by
  refine shapeCast_apply xs _ _ _ ?_
  rw [Shape.rowMajor_val_three, Shape.rowMajor_val_two]
  rfl

theorem gateUp_apply (tab : IVec S96 32) (hR : InRange tab) (xs : FVec Ideal S49152x1024 .f32) (wg : FVec Ideal S64x1024x2048 .f32) (bg : FVec Ideal S64x1x2048 .f32) (t : Fin 96) (r : Fin 512) (f : Fin 2048) :
    gateUp tab xs wg bg (ix3 t r f) = lin (fun k => xs (ix2 (rowOf t r) k)) (fun k => wg (ix3 (ex tab t.val) k f)) (bg (ix3 (ex tab t.val) (0 : Fin 1) f)) := by
  have hs := starts_apply tab hR t
  unfold lin
  rw [gateUp, addf_apply]
  refine congrArg₂ (· + ·) ((StackMember.dotGeneral_stack_apply (G := 96) (m := 512) (k := 1024) (n := 2048) _ none _ _ t r f).trans (Finset.sum_congr rfl fun k _ => ?_)) ?_
  · exact congrArg₂ (· * ·) (tile_apply xs t r k) (planes_apply _ wg (starts tab) t k f _ hs)
  · refine (broadcastInDim_apply _ _ _ (ix3 t r f) (ix3 t (0 : Fin 1) f) fun a => ?_).trans (planes_apply _ bg (starts tab) t (0 : Fin 1) f _ hs)
    match a with
    | ⟨0, _⟩ => rfl
    | ⟨1, _⟩ => rfl
    | ⟨2, _⟩ => rfl

theorem low_apply (g : FVec Ideal S96x512x2048 .f32) (t : Fin 96) (r : Fin 512) (f : Fin 1024) :
    extractStridedSlice S96x512x1024 ![0, 0, 0] g slices_S96x512x2048_S96x512x1024_0_0_0 (ix3 t r f) = g (ix3 t r ⟨f.val, by have := f.isLt; omega⟩) := by
  refine extractStridedSlice_apply _ _ _ (ix3 t r f) _ fun a => ?_
  match a with
  | ⟨0, _⟩ => show t.val = 0 + t.val; omega
  | ⟨1, _⟩ => show r.val = 0 + r.val; omega
  | ⟨2, _⟩ => show f.val = 0 + f.val; omega
theorem high_apply (g : FVec Ideal S96x512x2048 .f32) (t : Fin 96) (r : Fin 512) (f : Fin 1024) :
    extractStridedSlice S96x512x1024 ![0, 0, 1024] g slices_S96x512x2048_S96x512x1024_0_0_1024 (ix3 t r f) = g (ix3 t r ⟨1024 + f.val, by have := f.isLt; omega⟩) := by
  refine extractStridedSlice_apply _ _ _ (ix3 t r f) _ fun a => ?_
  match a with
  | ⟨0, _⟩ => show t.val = 0 + t.val; omega
  | ⟨1, _⟩ => show r.val = 0 + r.val; omega
  | ⟨2, _⟩ => rfl

/-- A number everywhere. -/
abbrev every (b : BitVec 32) : FVec Ideal S96x512x1024 .f32 := broadcastInDim S96x512x1024 ![] bcast_S_S96x512x1024 (constant S_ .f32 b)

abbrev cutGate (g : FVec Ideal S96x512x2048 .f32) : FVec Ideal S96x512x1024 .f32 :=
  minimumf (extractStridedSlice S96x512x1024 ![0, 0, 0] g slices_S96x512x2048_S96x512x1024_0_0_0) (every 0x40E00000#32)

abbrev units (g : FVec Ideal S96x512x2048 .f32) : FVec Ideal S96x512x1024 .f32 :=
  mulf (mulf (addf (minimumf (broadcastInDim S96x512x1024 ![] bcast_S_S96x512x1024 (id (constant S_ .f32 0x40E00000#32))) (maximumf (broadcastInDim S96x512x1024 ![] bcast_S_S96x512x1024 (id (constant S_ .f32 0xC0E00000#32))) (extractStridedSlice S96x512x1024 ![0, 0, 1024] g slices_S96x512x2048_S96x512x1024_0_0_1024)))
      (every 0x3F800000#32)) (cutGate g))
    (Host.divf (every 0x3F800000#32) (addf (every 0x3F800000#32) (Host.exp (Host.negf (mulf (every 0x3FD9DB23#32) (cutGate g))))))

/-- The logistic function, written out. -/
theorem logistic_eq (x : EReal) : Ideal.div (Ideal.ofBits .f32 0x3F800000#32) (Ideal.ofBits .f32 0x3F800000#32 + Ideal.exp (-x)) = Ideal.logistic x := by
  rw [Ideal.ofBits_one_f32]; rfl

theorem units_at (g : FVec Ideal S96x512x2048 .f32) (i : S96x512x1024.Idx) (x y : EReal)
    (hx : extractStridedSlice S96x512x1024 ![0, 0, 0] g slices_S96x512x2048_S96x512x1024_0_0_0 i = x)
    (hy : extractStridedSlice S96x512x1024 ![0, 0, 1024] g slices_S96x512x2048_S96x512x1024_0_0_1024 i = y) : units g i = glu x y := by
  unfold glu
  rw [← logistic_eq, ← hx, ← hy]
  rfl

theorem units_apply (g : FVec Ideal S96x512x2048 .f32) (t : Fin 96) (r : Fin 512) (f : Fin 1024) :
    units g (ix3 t r f) = glu (g (ix3 t r ⟨f.val, by have := f.isLt; omega⟩)) (g (ix3 t r ⟨1024 + f.val, by have := f.isLt; omega⟩)) :=
  units_at g _ _ _ (low_apply g t r f) (high_apply g t r f)

/-! ## The result -/

/-- Every tile's rows through its expert. -/
abbrev full (tab : IVec S96 32) (xs : FVec Ideal S49152x1024 .f32) (wg : FVec Ideal S64x1024x2048 .f32) (bg : FVec Ideal S64x1x2048 .f32) (wd : FVec Ideal S64x1024x1024 .f32) (bd : FVec Ideal S64x1x1024 .f32) : FVec Ideal S96x512x1024 .f32 :=
  addf (Host.dotGeneral dot_S96x512x1024_S96x1024x1024_S96x512x1024_2_1_1_2_0_0 none (units (gateUp tab xs wg bg)) (Host.gather gather_S64x1024x1024_S96x1_S96x1024x1024_12_0_n_n_0_1_110241024 wd (starts tab)))
    (broadcastInDim S96x512x1024 ![0, 1, 2] bcast_S96x1x1024_S96x512x1024_0_1_2 (Host.gather gather_S64x1x1024_S96x1_S96x1x1024_12_0_n_n_0_1_111024 bd (starts tab)))

theorem full_apply (tab : IVec S96 32) (hR : InRange tab) (xs : FVec Ideal S49152x1024 .f32) (wg : FVec Ideal S64x1024x2048 .f32) (bg : FVec Ideal S64x1x2048 .f32) (wd : FVec Ideal S64x1024x1024 .f32) (bd : FVec Ideal S64x1x1024 .f32)
    (t : Fin 96) (r : Fin 512) (j : Fin 1024) :
    full tab xs wg bg wd bd (ix3 t r j) = col (fun k => xs (ix2 (rowOf t r) k)) (fun k f => wg (ix3 (ex tab t.val) k f)) (fun f => bg (ix3 (ex tab t.val) (0 : Fin 1) f)) (fun f => wd (ix3 (ex tab t.val) f j)) (bd (ix3 (ex tab t.val) (0 : Fin 1) j)) := by
  have hs := starts_apply tab hR t
  unfold col
  rw [full, addf_apply]
  refine congrArg₂ (· + ·) ((StackMember.dotGeneral_stack_apply (G := 96) (m := 512) (k := 1024) (n := 1024) _ none _ _ t r j).trans (Finset.sum_congr rfl fun f _ => ?_)) ?_
  · refine congrArg₂ (· * ·) ?_ (planes_apply _ wd (starts tab) t f j _ hs)
    rw [units_apply, gateUp_apply tab hR, gateUp_apply tab hR]
    rfl
  · refine (broadcastInDim_apply _ _ _ (ix3 t r j) (ix3 t (0 : Fin 1) j) fun a => ?_).trans (planes_apply _ bd (starts tab) t (0 : Fin 1) j _ hs)
    match a with
    | ⟨0, _⟩ => rfl
    | ⟨1, _⟩ => rfl
    | ⟨2, _⟩ => rfl

/-- Which tiles run. -/
abbrev runs (nt : IVec S1 32) : IVec S96 1 := cmpi .slt (iotaInDim S96 32 0) (broadcastInDim S96 ![] bcast_S_S96 (shapeCast S_ nt shapeCasts_S1_S_))

theorem runs_apply (nt : IVec S1 32) (t : Fin 96) : runs nt (ix1 t) = 1#1 ↔ t.val < run (nt (ix1 (0 : Fin 1))) := by
  rw [lt_run _ t.val t.isLt]
  have e : broadcastInDim S96 ![] bcast_S_S96 (shapeCast S_ nt shapeCasts_S1_S_) (ix1 t) = nt (ix1 (0 : Fin 1)) := by
    refine (broadcastInDim_apply _ _ _ (ix1 t) (fun a => a.elim0) fun a => a.elim0).trans (shapeCast_apply nt _ _ _ ?_)
    rw [Shape.rowMajor_val_one]
    rfl
  show IntOp.cmpi .slt (BitVec.ofNat 32 t.val) (broadcastInDim S96 ![] bcast_S_S96 (shapeCast S_ nt shapeCasts_S1_S_) (ix1 t)) = 1#1 ↔ _
  rw [e]
  simp only [IntOp.cmpi, StableHlo.Predicate.ofBool_eq_one_iff, BitVec.slt, decide_eq_true_eq]
  rw [nat_toInt t.val (by have := t.isLt; omega)]

/-- The result. -/
abbrev out (tab : IVec S96 32) (nt : IVec S1 32) (xs : FVec Ideal S49152x1024 .f32) (wg : FVec Ideal S64x1024x2048 .f32) (bg : FVec Ideal S64x1x2048 .f32) (wd : FVec Ideal S64x1024x1024 .f32) (bd : FVec Ideal S64x1x1024 .f32) : FVec Ideal S49152x1024 .f32 :=
  shapeCast S49152x1024 (select (broadcastInDim S96x512x1024 ![0, 1, 2] bcast_S96x1x1_S96x512x1024_0_1_2 (broadcastInDim S96x1x1 ![0] bcast_S96_S96x1x1_0 (runs nt))) (full tab xs wg bg wd bd)
    (broadcastInDim S96x512x1024 ![] bcast_S_S96x512x1024 (id (constant S_ .f32 0x00000000#32)))) shapeCasts_S96x512x1024_S49152x1024

theorem out_apply (tab : IVec S96 32) (hR : InRange tab) (nt : IVec S1 32) (xs : FVec Ideal S49152x1024 .f32) (wg : FVec Ideal S64x1024x2048 .f32) (bg : FVec Ideal S64x1x2048 .f32) (wd : FVec Ideal S64x1024x1024 .f32) (bd : FVec Ideal S64x1x1024 .f32)
    (n : Fin 49152) (j : Fin 1024) :
    out tab nt xs wg bg wd bd (ix2 n j) = mlp tab (nt (ix1 (0 : Fin 1))) xs wg bg wd bd (n.val / 512) n j := by
  have hn := n.isLt
  let t : Fin 96 := ⟨n.val / 512, by omega⟩
  let r : Fin 512 := ⟨n.val % 512, by omega⟩
  have hrow : rowOf t r = n := Fin.ext (by show n.val / 512 * 512 + n.val % 512 = n.val; omega)
  refine (shapeCast_apply _ _ (ix2 n j) (ix3 t r j) ?_).trans ?_
  · rw [Shape.rowMajor_val_three, Shape.rowMajor_val_two]
    show (n.val / 512 * 512 + n.val % 512) * 1024 + j.val = n.val * 1024 + j.val
    omega
  have hc : broadcastInDim S96x512x1024 ![0, 1, 2] bcast_S96x1x1_S96x512x1024_0_1_2 (broadcastInDim S96x1x1 ![0] bcast_S96_S96x1x1_0 (runs nt)) (ix3 t r j) = runs nt (ix1 t) := by
    refine (broadcastInDim_apply _ _ _ (ix3 t r j) (ix3 t (0 : Fin 1) (0 : Fin 1)) fun a => ?_).trans (broadcastInDim_apply _ _ _ (ix3 t (0 : Fin 1) (0 : Fin 1)) (ix1 t) fun a => ?_)
    · match a with
      | ⟨0, _⟩ => rfl
      | ⟨1, _⟩ => rfl
      | ⟨2, _⟩ => rfl
    · match a with
      | ⟨0, _⟩ => rfl
  rw [ValueIdx.select_apply, hc, full_apply tab hR, hrow]
  unfold Scalar.select mlp
  by_cases h : n.val / 512 < run (nt (ix1 (0 : Fin 1)))
  · refine (if_pos ((runs_apply nt t).mpr h)).trans ?_
    rw [if_pos h]
  · refine (if_neg (fun e => h ((runs_apply nt t).mp e))).trans ?_
    rw [if_neg h]
    exact Ideal.ofBits_zero_f32

end Cert.Mlp.Ref

end
-- ==== Proof.ExpertsSame.lean ====
/- The experts program, printed twice under two names, is one program. Hand-written. -/
module

public import proofs.«01_k».proof.Proof.Gen.Experts
public import proofs.«01_k».proof.Proof.Gen.ExpertsIdeal

@[expose] public section

set_option maxRecDepth 16384
set_option maxHeartbeats 4000000
noncomputable section

namespace Cert.Mlp.Same

open Idealize.ShloMosaic

variable {F : FTy → Type} [FloatOps F]

theorem part1 : (Cert.Experts.k0_part1 (F := F)) = (Cert.ExpertsIdeal.k0_part1 (F := F)) := rfl
theorem part2 : (Cert.Experts.k0_part2 (F := F)) = (Cert.ExpertsIdeal.k0_part2 (F := F)) := rfl
theorem part3 : (Cert.Experts.k0_part3 (F := F)) = (Cert.ExpertsIdeal.k0_part3 (F := F)) := rfl
theorem part4 : (Cert.Experts.k0_part4 (F := F)) = (Cert.ExpertsIdeal.k0_part4 (F := F)) := rfl
theorem part5 : (Cert.Experts.k0_part5 (F := F)) = (Cert.ExpertsIdeal.k0_part5 (F := F)) := rfl
theorem part6 : (Cert.Experts.k0_part6 (F := F)) = (Cert.ExpertsIdeal.k0_part6 (F := F)) := rfl
theorem part7 : (Cert.Experts.k0_part7 (F := F)) = (Cert.ExpertsIdeal.k0_part7 (F := F)) := rfl
theorem part8 : (Cert.Experts.k0_part8 (F := F)) = (Cert.ExpertsIdeal.k0_part8 (F := F)) := rfl
theorem part9 : (Cert.Experts.k0_part9 (F := F)) = (Cert.ExpertsIdeal.k0_part9 (F := F)) := rfl
theorem part10 : (Cert.Experts.k0_part10 (F := F)) = (Cert.ExpertsIdeal.k0_part10 (F := F)) := rfl
theorem body : (Cert.Experts.cc0_moe_experts (F := F)) = (Cert.ExpertsIdeal.cc0_moe_experts (F := F)) := rfl

theorem defs0 : Cert.Experts.defs₀ (F := F) = Cert.ExpertsIdeal.defs₀ (F := F) := by
  unfold Cert.Experts.defs₀ Cert.ExpertsIdeal.defs₀
  refine congrArg Defs.onTc (funext fun l => funext fun a => ?_)
  match l, a with
  | 0, (t, s) => rfl
theorem defs : Cert.Experts.defs (F := F) = Cert.ExpertsIdeal.defs (F := F) := by
  unfold Cert.Experts.defs Cert.ExpertsIdeal.defs
  rw [defs0]
  rfl
theorem main : Cert.Experts.main (F := F) = Cert.ExpertsIdeal.main (F := F) := rfl

end Cert.Mlp.Same

end
-- ==== Proof.ExpertsClaims.lean ====
/- The claims about the experts call, from its run and the reference's. Hand-written. -/
module

public import proofs.«01_k».proof.Defs
public import proofs.«01_k».proof.Proof.ExpertsRef
public import proofs.«01_k».proof.Proof.ExpertsSame
public import proofs.«01_k».proof.Proof.Gen.Pre_tiles_ok
public import Idealize.ShloMosaic.Lib.ReduceAll

@[expose] public section

set_option maxRecDepth 16384

noncomputable section

namespace Cert.Mlp

open Cert.ExpertsIdeal Cert.ExpertsIdeal.Gen
open Idealize.ShloMosaic Idealize.ShloMosaic.TcCoe Idealize.ShloMosaic.ValueIdx
open Idealize.SL.Sem

variable {F : FTy → Type} [FloatOps F]

/-! ## What the precondition says -/

theorem both_ones : ∀ p q : BitVec 1, IntOp.andi p q = 1#1 → p = 1#1 ∧ q = 1#1 := by unfold IntOp.andi; decide

theorem good_of_pre (tab : IVec S96 32) (nt : IVec S1 32) (xs : FVec F S49152x1024 .f32) (wg : FVec F S64x1024x2048 .f32) (bg : FVec F S64x1x2048 .f32) (wd : FVec F S64x1024x1024 .f32) (bd : FVec F S64x1x1024 .f32)
    (h : Cert.Pre_tiles_ok.fn (F := F) tab nt xs wg bg wd bd = fun _ => 1#1) : InRange tab ∧ 1 ≤ (nt (ix1 (0 : Fin 1))).toInt := by
  have e := congrFun h (fun a => a.elim0)
  have : Subsingleton Cert.Pre_tiles_ok.S_.Idx := ⟨fun a b => funext fun i => i.elim0⟩
  obtain ⟨ha, hb⟩ := both_ones _ _ e
  refine ⟨fun n => ?_, ?_⟩
  · have en := Host.reduce_andi_all _ _ _ _ _ ha n
    simp only [andi, cmpi, broadcastInDim, constantI] at en
    obtain ⟨h0, h1⟩ := both_ones _ _ en
    simp only [IntOp.cmpi, StableHlo.Predicate.ofBool_eq_one_iff, BitVec.sle, BitVec.slt, decide_eq_true_eq] at h0 h1
    simp only [BitVec.toInt, BitVec.toNat_ofNat] at h0 h1
    omega
  · have ec : shapeCast Cert.Pre_tiles_ok.S_ nt Cert.Pre_tiles_ok.Gen.shapeCasts_S1_S_ (fun a => a.elim0) = nt (ix1 (0 : Fin 1)) := by
      refine shapeCast_apply nt _ _ _ ?_
      rw [Shape.rowMajor_val_one]
      rfl
    have hb' : IntOp.cmpi .sge (shapeCast Cert.Pre_tiles_ok.S_ nt Cert.Pre_tiles_ok.Gen.shapeCasts_S1_S_ (fun a => a.elim0)) 1#32 = 1#1 := hb
    rw [ec] at hb'
    simp only [IntOp.cmpi, StableHlo.Predicate.ofBool_eq_one_iff, BitVec.sle, decide_eq_true_eq] at hb'
    exact hb'

/-! ## The run, read at the arguments and the result -/

variable (m : (ℓ : Loc nD τ sig) → Buf (Elt F) ℓ) (ρ : Dev nD → PrngReg)

theorem run_args (hG : Good m) : θ_run (defs (F := F)) (onTc (τ := τ) (main (F := F))) ⟨m, fun _ => 0, ρ⟩
    (fun r => (∀ c : Dev nD, r.2.mem ((c.tc : Thread nD τ).loc main_v0) = (dats m hG 0 c).arrAt 3 (cfg0 (adm m hG 0)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_main m ρ hG)
  have hw := (h.1 c).1
  have hr := (h.1 c).2
  refine ⟨hw 3, hr main_arg0 (Pipeline.mem_restRefs_of _ (by decide) (show ∀ w : Fin 4, (spec0 w).arr.view.ref ≠ main_arg0 by decide)),
    hr main_arg1 (Pipeline.mem_restRefs_of _ (by decide) (show ∀ w : Fin 4, (spec0 w).arr.view.ref ≠ main_arg1 by decide)), ?_,
    hr main_arg3 (Pipeline.mem_restRefs_of _ (by decide) (show ∀ w : Fin 4, (spec0 w).arr.view.ref ≠ main_arg3 by decide)), ?_,
    hr main_arg5 (Pipeline.mem_restRefs_of _ (by decide) (show ∀ w : Fin 4, (spec0 w).arr.view.ref ≠ main_arg5 by decide)), ?_⟩
  · exact ((hw 0).trans ((dats m hG 0 c).arrAt_in 0 rfl _)).trans (A_eq m hG c 0)
  · exact ((hw 1).trans ((dats m hG 0 c).arrAt_in 1 rfl _)).trans (A_eq m hG c 1)
  · exact ((hw 2).trans ((dats m hG 0 c).arrAt_in 2 rfl _)).trans (A_eq m hG c 2)

end Cert.Mlp

namespace Cert.Proof

open Idealize.ShloMosaic Idealize.ShloMosaic.TcCoe Idealize.ShloMosaic.ValueIdx
open Idealize.SL.Sem
open Cert.Mlp

set_option maxHeartbeats 4000000 in
theorem frame_experts : Cert.quiescent_Experts := fun m ρ hp => by
  have hG : Good (F := Bits) m := ⟨fun c => (good_of_pre (F := Bits) _ _ _ _ _ _ _ (hp c)).1, fun c => (good_of_pre (F := Bits) _ _ _ _ _ _ _ (hp c)).2⟩
  have h := (θ_run (Cert.ExpertsIdeal.defs (F := Bits)) (onTc (τ := Cert.ExpertsIdeal.τ) (Cert.ExpertsIdeal.main (F := Bits))) ⟨m, fun _ => 0, ρ⟩).mono
    (fun r h => (⟨fun c => (h.1 c).2, h.2⟩ : (∀ c : Dev Cert.ExpertsIdeal.nD, _) ∧ _)) (run_args (F := Bits) m ρ hG)
  rw [Mlp.Same.defs, Mlp.Same.main]
  exact h

theorem frame_expertsIdeal : Cert.quiescent_ExpertsIdeal := fun m ρ hp =>
  (θ_run Cert.ExpertsIdeal.defs _ _).mono (fun _ h => ⟨fun c => (h.1 c).2, h.2⟩)
    (run_args (F := Ideal) m ρ ⟨fun c => (good_of_pre _ _ _ _ _ _ _ (hp c)).1, fun c => (good_of_pre _ _ _ _ _ _ _ (hp c)).2⟩)

theorem frame_expertsReference : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

theorem frame_expertsReference_tiles_ok : Cert.quiescent_ExpertsReferenceIdeal_pre_tiles_ok := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

theorem algebraic_experts : Cert.algebraic_ExpertsIdeal_ExpertsReferenceIdeal := by
  intro m ρ m' ρ' hp hagree
  have hG : Good m := ⟨fun c => (good_of_pre _ _ _ _ _ _ _ (hp c)).1, fun c => (good_of_pre _ _ _ _ _ _ _ (hp c)).2⟩
  refine ⟨out3 m, (θ_run Cert.ExpertsIdeal.defs _ _).mono (fun _ h c => ⟨(h.1 c).1.trans (arr3 m hG c), (h.1 c).2⟩) (run_args (F := Ideal) m ρ hG),
    (θ_run Cert.ExpertsReferenceIdeal.defs _ _).mono (fun r h c => ⟨(h c).1.trans ?_, (h c).2⟩) (Cert.ExpertsReferenceIdeal.Value.run (F := Ideal) m' ρ')⟩
  obtain ⟨e0, e1, e2, e3, e4, e5, e6⟩ := hagree c
  unfold Cert.ExpertsReferenceIdeal.Value.res_main_v34
  rw [e0, e1, e2, e3, e4, e5, e6]
  refine funext fun (i : Cert.ExpertsIdeal.S49152x1024.Idx) => ?_
  exact (congrArg (Mlp.Ref.out (tabOf m c) (countOf m c) (xsOf m c) (guOf m c) (bguOf m c) (dnOf m c) (bdnOf m c)) (eq_ix2 i)).trans
    (Mlp.Ref.out_apply (tabOf m c) (hG.range c) (countOf m c) (xsOf m c) (guOf m c) (bguOf m c) (dnOf m c) (bdnOf m c) (i 0) (i 1))

end Cert.Proof

end
-- ==== Proof.InProjValue.lean ====
/- What the projection call's outputs hold, element by element, at the ideal values. Hand-written. -/
module

public import proofs.«01_k».proof.Proof.Gen.InProjIdeal.Value
public import Idealize.ShloMosaic.Lib.Pipeline.ValueKit.Geometry
public import Idealize.ShloMosaic.Lib.MatmulPlain
public import Idealize.ShloMosaic.PureOps.Ideal.Laws
public import Idealize.ShloMosaic.Lib.StableHlo.Run

@[expose] public section

set_option maxRecDepth 16384

noncomputable section

namespace Cert.Projection

open Cert.InProjIdeal Cert.InProjIdeal.Gen
open Idealize.ShloMosaic Idealize.ShloMosaic.TcCoe Idealize.ShloMosaic.Tactic Idealize.ShloMosaic.ValueIdx
open Idealize.SL Idealize.SL.RA Idealize.SL.Sem

/-! ## A row of the layer -/

/-- The scale that brings a row to unit mean square. -/
def unitScale (x : Fin 1024 → EReal) : EReal :=
  Ideal.rsqrt (Ideal.div (∑ k : Fin 1024, x k * x k) (Ideal.ofBits .f32 0x44800000#32) + Ideal.ofBits .f32 0x358637BD#32)

/-- A coordinate of the normed and modulated row: gain `g`, scale `sc`, shift `sh`. -/
def modulated (x : Fin 1024 → EReal) (g sc sh : EReal) (k : Fin 1024) : EReal :=
  x k * unitScale x * g * (Ideal.ofBits .f32 0x3F800000#32 + sc) + sh

/-- The row of the modulation that token `n` uses. -/
def grp (n : Fin 8192) : Fin 8 := ⟨if n.val < 4096 then 0 else 1 + (n.val - 4096) / 1024, by have := n.isLt; split <;> omega⟩

/-- The normed and modulated row of token `n`. -/
def tokenRow (x : S8192x1024.Idx → EReal) (g : S1024.Idx → EReal) (md : S8x1x6144.Idx → EReal) (n : Fin 8192) (k : Fin 1024) : EReal :=
  modulated (fun k => x (ix2 n k)) (g (ix1 k)) (md (ix3 (grp n) (0 : Fin 1) ⟨1024 + k.val, by have := k.isLt; omega⟩)) (md (ix3 (grp n) (0 : Fin 1) ⟨k.val, by have := k.isLt; omega⟩)) k

/-- One element of the projection. -/
def proj (x : S8192x1024.Idx → EReal) (g : S1024.Idx → EReal) (md : S8x1x6144.Idx → EReal) (w : S1024x3072.Idx → EReal) (n : Fin 8192) (j : Fin 3072) : EReal :=
  ∑ k : Fin 1024, tokenRow x g md n k * w (ix2 k j)

/-! ## The payloads -/

theorem sums_apply (X : FVec Ideal S256x1024 .f32) (r : Fin 256) :
    shapeCast S256x1 (multiReduction .add [1] S256 (mulf X X) 0x00000000#32 reduces_S256x1024_S256 (.inl rfl) rfl) shapeCasts_S256_S256x1 (ix2 r (0 : Fin 1))
      = ∑ k : Fin 1024, X (ix2 r k) * X (ix2 r k) := by
  refine (shapeCast_apply _ _ (ix2 r (0 : Fin 1)) (ix1 r) ?_).trans ((Ideal.multiReduction_add_single _ _ _ _ _ (ix1 r)).trans ?_)
  · rw [Shape.rowMajor_val_one, Shape.rowMajor_val_two]
    show r.val = r.val * 1 + 0
    omega
  · refine Finset.sum_congr rfl fun (k : Fin 1024) _ => ?_
    have e : (reduces_S256x1024_S256).lift (ix1 r) k = ix2 r k := by
      funext a; refine Fin.ext ?_
      match a with
      | ⟨0, _⟩ => rfl
      | ⟨1, _⟩ => rfl
    rw [e]
    rfl

theorem mod_row {α : Type} (Xm : S1x1x6144.Idx → α) (o : ℕ) (ho : o + 1024 ≤ 6144) (h2 : S1x6144.Slices ![0, o] S1x1024) (j : Fin 1024) :
    extractStridedSlice S1x1024 ![0, o] (shapeCast S1x6144 Xm shapeCasts_S1x1x6144_S1x6144) h2 (ix2 (0 : Fin 1) j)
      = Xm (ix3 (0 : Fin 1) (0 : Fin 1) ⟨o + j.val, by have := j.isLt; omega⟩) := by
  refine (extractStridedSlice_apply ![0, o] _ h2 (ix2 (0 : Fin 1) j) (ix2 (0 : Fin 1) (⟨o + j.val, by have := j.isLt; omega⟩ : Fin 6144)) fun a => ?_).trans
      (shapeCast_apply Xm _ _ _ ?_)
  · match a with
    | ⟨0, _⟩ => rfl
    | ⟨1, _⟩ => rfl
  · rw [Shape.rowMajor_val_three, Shape.rowMajor_val_two]
    show (0 * 1 + 0) * 6144 + (o + j.val) = 0 * 6144 + (o + j.val)
    omega

theorem down_apply {α : Type} (v : S1x1024.Idx → α) (r : Fin 256) (j : Fin 1024) :
    broadcastTo S256x1024 v broadcasts_S1x1024_S256x1024 (ix2 r j) = v (ix2 (0 : Fin 1) j) := by
  refine broadcastTo_apply _ _ (ix2 r j) (ix2 (0 : Fin 1) j) fun a => ?_
  match a with
  | ⟨0, _⟩ => rfl
  | ⟨1, _⟩ => rfl

theorem across_apply {α : Type} (v : S256x1.Idx → α) (r : Fin 256) (j : Fin 1024) :
    broadcastTo S256x1024 v broadcasts_S256x1_S256x1024 (ix2 r j) = v (ix2 r (0 : Fin 1)) := by
  refine broadcastTo_apply _ _ (ix2 r j) (ix2 r (0 : Fin 1)) fun a => ?_
  match a with
  | ⟨0, _⟩ => rfl
  | ⟨1, _⟩ => rfl

theorem pay1_apply (X : Vec Ideal S256x1024 .f32) (M : Vec Ideal S1x1x6144 .f32) (G : Vec Ideal S1x1024 .f32) (r : Fin 256) (k : Fin 1024) :
    k0_pay1 (F := Ideal) X M G (ix2 r k) = modulated (fun k => X (ix2 r k)) (G (ix2 (0 : Fin 1) k))
      (M (ix3 (0 : Fin 1) (0 : Fin 1) ⟨1024 + k.val, by have := k.isLt; omega⟩)) (M (ix3 (0 : Fin 1) (0 : Fin 1) ⟨k.val, by have := k.isLt; omega⟩)) k := by
  have hG : shapeCast S1x1024 G shapeCasts_S1x1024_S1x1024 (ix2 (0 : Fin 1) k) = G (ix2 (0 : Fin 1) k) := shapeCast_apply G _ _ _ rfl
  have h0 := mod_row M 0 (by decide) slices_S1x6144_o0_0_S1x1024 k
  have h1 := mod_row M 1024 (by decide) slices_S1x6144_o0_1024_S1x1024 k
  have hs := sums_apply X r
  unfold k0_pay1 modulated unitScale
  show addf (F := Ideal) (mulf (F := Ideal) _ _) _ (ix2 r k) = _
  simp only [addf, mulf, rsqrt, divf, down_apply, across_apply, broadcast, h0, h1, hG, hs, Nat.zero_add]
  rfl

theorem prod_apply (A : FVec Ideal S256x1024 .bf16) (B : FVec Ideal S1024x1536 .bf16) (r : Fin 256) (j : Fin 1536) :
    matmul dot_S256x1024_S1024x1536_S256x1536_1_0_0_1_n_n none A B (constant S256x1536 .f32 0x00000000#32) (ix2 r j)
      = ∑ k : Fin 1024, A (ix2 r k) * B (ix2 k j) :=
  (Ideal.matmul_plain_apply (M := 256) (K := 1024) (N := 1536) none A B (constant S256x1536 .f32 0x00000000#32) r j).trans
    ((congrArg (· + _) Ideal.ofBits_zero_f32).trans (zero_add _))

theorem pay2_apply (X : Vec Ideal S256x1024 .f32) (M : Vec Ideal S1x1x6144 .f32) (G : Vec Ideal S1x1024 .f32) (W : Vec Ideal S1024x1536 .bf16) (r : Fin 256) (j : Fin 1536) :
    k0_pay2 (F := Ideal) X M G W (ix2 r j) = ∑ k : Fin 1024, k0_pay1 (F := Ideal) X M G (ix2 r k) * W (ix2 k j) := by
  unfold k0_pay2
  refine (prod_apply _ _ r j).trans (Finset.sum_congr rfl fun k _ => ?_)
  exact congrArg (_ * ·) (shapeCast_apply W _ (ix2 k j) (ix2 k j) rfl)

/-! ## The windows' blocks, element by element -/

theorem tab0 : ∀ t : Fin grid0.N, ∀ a : Fin 2, cc0_transform_0 (grid0.coords t) a = (![t.val, 0] : Fin 2 → ℕ) a := by decide +kernel
theorem tab2 : ∀ t : Fin grid0.N, ∀ a : Fin 3, cc0_transform_2 (grid0.coords t) a = (![if t.val < 16 then 0 else 1 + (t.val - 16) / 4, 0, 0] : Fin 3 → ℕ) a := by decide +kernel
theorem tab4 : ∀ t : Fin grid0.N, ∀ a : Fin 2, cc0_transform_4 (grid0.coords t) a = (![t.val, 0] : Fin 2 → ℕ) a := by decide +kernel
theorem tab5 : ∀ t : Fin grid0.N, ∀ a : Fin 2, cc0_transform_5 (grid0.coords t) a = (![t.val, 0] : Fin 2 → ℕ) a := by decide +kernel
theorem gridN : grid0.N = 32 := by decide +kernel

variable (m : (ℓ : Loc nD τ sig) → Buf (Elt Ideal) ℓ)

abbrev xOf (c : Dev nD) : S8192x1024.Idx → EReal := m ((c : Thread nD τ).loc main_arg0)
abbrev gOf (c : Dev nD) : S1024.Idx → EReal := m ((c : Thread nD τ).loc main_arg1)
abbrev modOf (c : Dev nD) : S8x1x6144.Idx → EReal := m ((c : Thread nD τ).loc main_arg2)
abbrev wOf (c : Dev nD) : S1024x3072.Idx → EReal := m ((c : Thread nD τ).loc main_arg3)

theorem V_v0 (c : Dev nD) : V m c main_v0 = (truncf .bf16 (wOf m c : FVec Ideal S1024x3072 .f32) bitsLt_bf16_f32 : FVec Ideal S1024x3072 .bf16) := by
  show StableHlo.after hostOps0 _ (Proc.devRef .tc main_v0) = _
  after_results
theorem V_v1 (c : Dev nD) : V m c main_v1 = (shapeCast S1x1024 (gOf m c) shapeCasts_S1024_S1x1024 : S1x1024.Idx → EReal) := by
  show StableHlo.after hostOps0 _ (Proc.devRef .tc main_v1) = _
  after_results
  rfl

/-- Row `r` of block `t` as a token. -/
def tok (t : Fin cfg0.N) (r : Fin 256) : Fin 8192 := ⟨t.val * 256 + r.val, by have h32 : t.val < 32 := gridN ▸ t.isLt; have := r.isLt; omega⟩

theorem blk0_apply (c : Dev nD) (t : Fin cfg0.N) (r : Fin 256) (k : Fin 1024) : iblk m c 0 t (ix2 r k) = xOf m c (ix2 (tok t r) k) := by
  refine Eq.trans (congrArg (V m c main_arg0) (funext fun a => Fin.ext ?_ : _ = ix2 (tok t r) k)) (congrFun (V_main_arg0 m c) _)
  refine (Pipeline.Window.rect_emb_val (cfg0.win 0) t (ix2 r k) a).trans ?_
  refine (congrArg (fun z => z * (cfg0.win 0).size a + (ix2 r k a).val) (tab0 t a)).trans ?_
  match a with
  | ⟨0, _⟩ => rfl
  | ⟨1, _⟩ => show 0 * 1024 + k.val = k.val; omega

theorem blk1_apply (c : Dev nD) (t : Fin cfg0.N) (k : Fin 1024) : iblk m c 1 t (ix2 (0 : Fin 1) k) = gOf m c (ix1 k) := by
  refine Eq.trans (congrArg (V m c main_v1) (funext fun a => Fin.ext ?_ : _ = ix2 (0 : Fin 1) k)) ?_
  · refine (Pipeline.Window.rect_emb_val (cfg0.win 1) t (ix2 (0 : Fin 1) k) a).trans ?_
    match a with
    | ⟨0, _⟩ => rfl
    | ⟨1, _⟩ => show 0 * 1024 + k.val = k.val; omega
  · rw [V_v1]
    refine shapeCast_apply _ _ _ (ix1 k) ?_
    rw [Shape.rowMajor_val_one, Shape.rowMajor_val_two]
    show k.val = 0 * 1024 + k.val
    omega

theorem blk2_apply (c : Dev nD) (t : Fin cfg0.N) (r : Fin 256) (k : Fin 6144) : iblk m c 2 t (ix3 (0 : Fin 1) (0 : Fin 1) k) = modOf m c (ix3 (grp (tok t r)) (0 : Fin 1) k) := by
  have h32 : t.val < 32 := gridN ▸ t.isLt
  have hr := r.isLt
  refine Eq.trans (congrArg (V m c main_arg2) (funext fun a => Fin.ext ?_ : _ = ix3 (grp (tok t r)) (0 : Fin 1) k)) (congrFun (V_main_arg2 m c) _)
  refine (Pipeline.Window.rect_emb_val (cfg0.win 2) t (ix3 (0 : Fin 1) (0 : Fin 1) k) a).trans ?_
  refine (congrArg (fun z => z * (cfg0.win 2).size a + (ix3 (0 : Fin 1) (0 : Fin 1) k a).val) (tab2 t a)).trans ?_
  match a with
  | ⟨0, _⟩ =>
    show (if t.val < 16 then 0 else 1 + (t.val - 16) / 4) * 1 + 0 = if t.val * 256 + r.val < 4096 then 0 else 1 + (t.val * 256 + r.val - 4096) / 1024
    split <;> split <;> omega
  | ⟨1, _⟩ => rfl
  | ⟨2, _⟩ => show 0 * 6144 + k.val = k.val; omega

theorem blk3_apply (c : Dev nD) (t : Fin cfg0.N) (k : Fin 1024) (j : Fin 3072) : iblk m c 3 t (ix2 k j) = wOf m c (ix2 k j) := by
  refine Eq.trans (congrArg (V m c main_v0) (funext fun a => Fin.ext ?_ : _ = ix2 k j)) ?_
  · refine (Pipeline.Window.rect_emb_val (cfg0.win 3) t (ix2 k j) a).trans ?_
    match a with
    | ⟨0, _⟩ => show 0 * 1024 + k.val = k.val; omega
    | ⟨1, _⟩ => show 0 * 3072 + j.val = j.val; omega
  · rw [V_v0]
    rfl

theorem cols_apply {α : Type} (W : S1024x3072.Idx → α) (o : ℕ) (ho : o + 1536 ≤ 3072) (h : ∀ a, ![0, o] a + S1024x1536.size a ≤ S1024x3072.size a) (k : Fin 1024) (j : Fin 1536) :
    W ((Rect.unit (s := S1024x3072) ![0, o] S1024x1536.size h).idx (ix2 k j)) = W (ix2 k ⟨o + j.val, by have := j.isLt; omega⟩) := by
  refine congrArg W (funext fun a => Fin.ext ?_)
  match a with
  | ⟨0, _⟩ => show 0 + 1 * k.val = k.val; omega
  | ⟨1, _⟩ => show o + 1 * j.val = o + j.val; omega

theorem point_apply (c : Dev nD) (t : Fin cfg0.N) (o : ℕ) (ho : o + 1536 ≤ 3072) (h : ∀ a, ![0, o] a + S1024x1536.size a ≤ S1024x3072.size a) (r : Fin 256) (j : Fin 1536) :
    k0_pay2 (F := Ideal) (iblk m c 0 t) (iblk m c 2 t) (iblk m c 1 t) (View.ld (iblk m c 3 t : Vec Ideal S1024x3072 .bf16) (Rect.unit (s := S1024x3072) ![0, o] S1024x1536.size h)) (ix2 r j)
      = proj (xOf m c) (gOf m c) (modOf m c) (wOf m c) (tok t r) ⟨o + j.val, by have := j.isLt; omega⟩ := by
  refine (pay2_apply _ _ _ _ r j).trans (Finset.sum_congr rfl fun k _ => congrArg₂ (· * ·) ?_ ?_)
  · rw [pay1_apply]
    unfold tokenRow
    simp only [blk0_apply, blk1_apply, blk2_apply m c t r]
  · exact (cols_apply _ o ho h k j).trans (blk3_apply m c t k _)

/-- What point `t` writes to result 0. -/
def pt4 (c : Dev nD) (t : Fin cfg0.N) : S256x1536.Idx → EReal := out0_4 (F := Ideal) (iblk m c 0 t) (iblk m c 1 t) (iblk m c 2 t) (iblk m c 3 t)

theorem after4 (c : Dev nD) (t : Fin cfg0.N) : (dats m 0 c).after 4 t = pt4 m c t := after0_4 m c t

theorem out4_apply (c : Dev nD) (t : Fin cfg0.N) (r : Fin 256) (j : Fin 1536) :
    pt4 m c t (ix2 r j)
      = proj (xOf m c) (gOf m c) (modOf m c) (wOf m c) (tok t r) ⟨0 + j.val, by have := j.isLt; omega⟩ := by
  rw [← point_apply m c t 0 (by decide) inb_S1024x3072_S1024x1536_0_0]
  unfold pt4 out0_4
  rw [View.canon_cons_unit_lit (S := S256x1536) _ _ _ (by decide), View.ld_unit_lit (S := S256x1024) _ _ (by decide), View.ld_unit_lit (S := S1x1x6144) _ _ (by decide), View.ld_unit_lit (S := S1x1024) _ _ (by decide)]
  rfl

/-- What point `t` writes to result 1. -/
def pt5 (c : Dev nD) (t : Fin cfg0.N) : S256x1536.Idx → EReal := out0_5 (F := Ideal) (iblk m c 0 t) (iblk m c 1 t) (iblk m c 2 t) (iblk m c 3 t)

theorem after5 (c : Dev nD) (t : Fin cfg0.N) : (dats m 0 c).after 5 t = pt5 m c t := after0_5 m c t

theorem out5_apply (c : Dev nD) (t : Fin cfg0.N) (r : Fin 256) (j : Fin 1536) :
    pt5 m c t (ix2 r j)
      = proj (xOf m c) (gOf m c) (modOf m c) (wOf m c) (tok t r) ⟨1536 + j.val, by have := j.isLt; omega⟩ := by
  rw [← point_apply m c t 1536 (by decide) inb_S1024x3072_S1024x1536_0_1536]
  unfold pt5 out0_5
  rw [View.canon_cons_unit_lit (S := S256x1536) _ _ _ (by decide), View.ld_unit_lit (S := S256x1024) _ _ (by decide), View.ld_unit_lit (S := S1x1x6144) _ _ (by decide), View.ld_unit_lit (S := S1x1024) _ _ (by decide)]
  rfl

/-! ## The output arrays after the run -/

/-- A result: the projection's columns from `o` on. -/
def outOf (o : ℕ) (ho : o + 1536 ≤ 3072) (c : Dev nD) : S8192x1536.Idx → EReal := fun i =>
  proj (xOf m c) (gOf m c) (modOf m c) (wOf m c) (i 0) ⟨o + (i 1).val, by have h : (i 1).val < 1536 := (i 1).isLt; omega⟩

theorem outOf_at (o : ℕ) (ho : o + 1536 ≤ 3072) (c : Dev nD) (t : Fin cfg0.N) (r : Fin 256) (j : Fin 1536) (x : S8192x1536.Idx) (e0 : (x 0).val = t.val * 256 + r.val) (e1 : (x 1).val = j.val) :
    proj (xOf m c) (gOf m c) (modOf m c) (wOf m c) (tok t r) ⟨o + j.val, by have := j.isLt; omega⟩ = outOf m o ho c x := by
  have q0 : tok t r = x 0 := Fin.ext e0.symm
  have q1 : j = x 1 := Fin.ext e1.symm
  subst q1
  unfold outOf
  rw [← q0]

theorem cover4 (i : S8192x1536.Idx) : ∃ t : Fin cfg0.N, (cfg0.win 4).flush t = true ∧ i ∈ ((cfg0.win 4).blk t).view.set := by
  have hi0 : (i 0).val < 8192 := (i 0).isLt
  have hi1 : (i 1).val < 1536 := (i 1).isLt
  let t : Fin cfg0.N := ⟨(i 0).val / 256, lt_of_lt_of_eq (by omega : (i 0).val / 256 < 32) gridN.symm⟩
  refine ⟨t, flush0_4 t, (Pipeline.Window.emb_mem_blk_iff (cfg0.win 4) t i).mpr fun a => ?_⟩
  have e : (cfg0.win 4).index t a = (![t.val, 0] : Fin 2 → ℕ) a := tab4 t a
  rw [e]
  match a with
  | ⟨0, _⟩ =>
    show (i 0).val / 256 * 256 ≤ (i 0).val ∧ (i 0).val < (i 0).val / 256 * 256 + 256
    omega
  | ⟨1, _⟩ =>
    show 0 * 1536 ≤ (i 1).val ∧ (i 1).val < 0 * 1536 + 1536
    omega

theorem cover5 (i : S8192x1536.Idx) : ∃ t : Fin cfg0.N, (cfg0.win 5).flush t = true ∧ i ∈ ((cfg0.win 5).blk t).view.set := by
  have hi0 : (i 0).val < 8192 := (i 0).isLt
  have hi1 : (i 1).val < 1536 := (i 1).isLt
  let t : Fin cfg0.N := ⟨(i 0).val / 256, lt_of_lt_of_eq (by omega : (i 0).val / 256 < 32) gridN.symm⟩
  refine ⟨t, flush0_5 t, (Pipeline.Window.emb_mem_blk_iff (cfg0.win 5) t i).mpr fun a => ?_⟩
  have e : (cfg0.win 5).index t a = (![t.val, 0] : Fin 2 → ℕ) a := tab5 t a
  rw [e]
  match a with
  | ⟨0, _⟩ =>
    show (i 0).val / 256 * 256 ≤ (i 0).val ∧ (i 0).val < (i 0).val / 256 * 256 + 256
    omega
  | ⟨1, _⟩ =>
    show 0 * 1536 ≤ (i 1).val ∧ (i 1).val < 0 * 1536 + 1536
    omega

theorem pt4_at (c : Dev nD) (t : Fin cfg0.N) (y : S256x1536.Idx) (x : S8192x1536.Idx) (e : ∀ a : Fin 2, (x a).val = (![t.val, 0] : Fin 2 → ℕ) a * (cfg0.win 4).size a + (y a).val) :
    pt4 m c t y = outOf m 0 (by decide) c x := by
  have hy : y = ix2 (y 0 : Fin 256) (y 1 : Fin 1536) := eq_ix2 _
  refine ((congrArg (pt4 m c t) hy).trans (out4_apply m c t (y 0) (y 1))).trans ?_
  exact outOf_at m 0 (by decide) c t (y 0) (y 1) x (e 0) ((e 1).trans (by show 0 * 1536 + (y 1).val = (y 1).val; omega))

theorem arr4 (c : Dev nD) : (dats m 0 c).arrAt 4 cfg0.N = outOf m 0 (by decide) c := by
  refine (dats m 0 c).arrAt_eq_of_emb 4 (outOf m 0 (by decide) c) (fun t hf (y : S256x1536.Idx) => ?_) cover4
  rw [after4]
  refine (cast_eq _ _).trans ((congrArg (pt4 m c t) (funext fun a => Fin.ext rfl : _ = y)).trans (pt4_at m c t y (((cfg0.win 4).blk t).view.emb y) fun a => ?_))
  exact (Pipeline.Window.rect_emb_val (cfg0.win 4) t y a).trans (congrArg (fun z => z * (cfg0.win 4).size a + (y a).val) (tab4 t a))

theorem pt5_at (c : Dev nD) (t : Fin cfg0.N) (y : S256x1536.Idx) (x : S8192x1536.Idx) (e : ∀ a : Fin 2, (x a).val = (![t.val, 0] : Fin 2 → ℕ) a * (cfg0.win 5).size a + (y a).val) :
    pt5 m c t y = outOf m 1536 (by decide) c x := by
  have hy : y = ix2 (y 0 : Fin 256) (y 1 : Fin 1536) := eq_ix2 _
  refine ((congrArg (pt5 m c t) hy).trans (out5_apply m c t (y 0) (y 1))).trans ?_
  exact outOf_at m 1536 (by decide) c t (y 0) (y 1) x (e 0) ((e 1).trans (by show 0 * 1536 + (y 1).val = (y 1).val; omega))

theorem arr5 (c : Dev nD) : (dats m 0 c).arrAt 5 cfg0.N = outOf m 1536 (by decide) c := by
  refine (dats m 0 c).arrAt_eq_of_emb 5 (outOf m 1536 (by decide) c) (fun t hf (y : S256x1536.Idx) => ?_) cover5
  rw [after5]
  refine (cast_eq _ _).trans ((congrArg (pt5 m c t) (funext fun a => Fin.ext rfl : _ = y)).trans (pt5_at m c t y (((cfg0.win 5).blk t).view.emb y) fun a => ?_))
  exact (Pipeline.Window.rect_emb_val (cfg0.win 5) t y a).trans (congrArg (fun z => z * (cfg0.win 5).size a + (y a).val) (tab5 t a))

end Cert.Projection

end
-- ==== Proof.InProjRef.lean ====
/- What the projection call's reference computes, element by element, at the ideal values. Hand-written. -/
module

public import proofs.«01_k».proof.Proof.InProjValue
public import proofs.«01_k».proof.Proof.Gen.InProjReferenceIdeal.Run
public import Idealize.ShloMosaic.Lib.StackMember
public import Idealize.ShloMosaic.Lib.IdealHost
public import Idealize.ShloMosaic.Lib.Pipeline.Value

@[expose] public section

set_option maxRecDepth 16384

noncomputable section

namespace Cert.Projection.Ref

open Cert.InProjReferenceIdeal Cert.InProjReferenceIdeal.Gen
open Idealize.ShloMosaic
open Idealize.ShloMosaic.TcCoe Idealize.ShloMosaic.ValueIdx

/-! ## The normed rows -/

/-- The scale of each row. -/
abbrev scales (x : FVec Ideal S8192x1024 .f32) : FVec Ideal S8192x1 .f32 :=
  Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))

theorem sums_apply (x : FVec Ideal S8192x1024 .f32) (n : Fin 8192) :
    broadcastInDim S8192x1 ![0] bcast_S8192_S8192x1_0 (Host.reduceAdd (mulf x x) (constant S_ .f32 0x00000000#32) reducesTo_S8192x1024_S8192_d1 h_S_) (ix2 n (0 : Fin 1))
      = ∑ k : Fin 1024, x (ix2 n k) * x (ix2 n k) := by
  refine (broadcastInDim_apply _ _ _ (ix2 n (0 : Fin 1)) (ix1 n) fun a => ?_).trans ?_
  · match a with
    | ⟨0, _⟩ => rfl
  · refine (hostReduceAdd_apply _ _ _ _ (ix1 n)).trans ((Ideal.hostReduceAdd_single _ (by decide) _ _ (ix1 n)).trans ((congrArg (· + _) Ideal.ofBits_zero_f32).trans ((zero_add _).trans ?_)))
    refine Finset.sum_congr rfl fun (k : Fin 1024) _ => ?_
    have e : (show S8192x1024.Reduces [1] S8192 by decide).lift (ix1 n) k = ix2 n k := by
      funext a; refine Fin.ext ?_
      match a with
      | ⟨0, _⟩ => rfl
      | ⟨1, _⟩ => rfl
    rw [e]
    rfl

theorem scales_apply (x : FVec Ideal S8192x1024 .f32) (n : Fin 8192) : scales x (ix2 n (0 : Fin 1)) = unitScale (fun k => x (ix2 n k)) := by
  have h := sums_apply x n
  unfold unitScale
  rw [← h]
  rfl

/-- The rows normed and gained. -/
abbrev normed (x : FVec Ideal S8192x1024 .f32) (g : FVec Ideal S1024 .f32) : FVec Ideal S8192x1024 .f32 :=
  mulf (mulf x (broadcastInDim S8192x1024 ![0, 1] bcast_S8192x1_S8192x1024_0_1 (scales x)))
    (broadcastInDim S8192x1024 ![0, 1] bcast_S1x1024_S8192x1024_0_1 (broadcastInDim S1x1024 ![1] bcast_S1024_S1x1024_1 g))

theorem normed_apply (x : FVec Ideal S8192x1024 .f32) (g : FVec Ideal S1024 .f32) (n : Fin 8192) (k : Fin 1024) :
    normed x g (ix2 n k) = x (ix2 n k) * unitScale (fun k => x (ix2 n k)) * g (ix1 k) := by
  refine congrArg₂ (· * ·) (congrArg (x (ix2 n k) * ·) ?_) ?_
  · refine (broadcastInDim_apply _ _ _ (ix2 n k) (ix2 n (0 : Fin 1)) fun a => ?_).trans (scales_apply x n)
    match a with
    | ⟨0, _⟩ => rfl
    | ⟨1, _⟩ => rfl
  · refine (broadcastInDim_apply _ _ _ (ix2 n k) (ix2 (0 : Fin 1) k) fun a => ?_).trans (broadcastInDim_apply _ _ _ (ix2 (0 : Fin 1) k) (ix1 k) fun a => ?_)
    · match a with
      | ⟨0, _⟩ => rfl
      | ⟨1, _⟩ => rfl
    · match a with
      | ⟨0, _⟩ => rfl

/-! ## The modulation -/

theorem part_apply (md : FVec Ideal S8x1x6144 .f32) (o : ℕ) (ho : o + 1024 ≤ 6144) (h : S8x1x6144.Slices ![0, 0, o] S8x1x1024) (g : Fin 8) (j : Fin 1024) :
    shapeCast S8x1024 (extractStridedSlice S8x1x1024 ![0, 0, o] md h) shapeCasts_S8x1x1024_S8x1024 (ix2 g j) = md (ix3 g (0 : Fin 1) ⟨o + j.val, by have := j.isLt; omega⟩) := by
  refine (shapeCast_apply _ _ (ix2 g j) (ix3 g (0 : Fin 1) j) ?_).trans (extractStridedSlice_apply _ _ _ (ix3 g (0 : Fin 1) j) _ fun a => ?_)
  · rw [Shape.rowMajor_val_two, Shape.rowMajor_val_three]
    show (g.val * 1 + 0) * 1024 + j.val = g.val * 1024 + j.val
    omega
  · match a with
    | ⟨0, _⟩ => show g.val = 0 + g.val; omega
    | ⟨1, _⟩ => rfl
    | ⟨2, _⟩ => rfl

theorem first_apply {α : Type} (v : S8x1024.Idx → α) (k : Fin 1024) :
    extractStridedSlice S1x1024 ![0, 0] v slices_S8x1024_S1x1024_0_0 (ix2 (0 : Fin 1) k) = v (ix2 (0 : Fin 8) k) := by
  refine extractStridedSlice_apply _ _ _ (ix2 (0 : Fin 1) k) _ fun a => ?_
  match a with
  | ⟨0, _⟩ => rfl
  | ⟨1, _⟩ => show k.val = 0 + k.val; omega

theorem repeat_apply {α : Type} (v : S8x1024.Idx → α) (r : Fin 4096) (k : Fin 1024) :
    shapeCast S4096x1024 (broadcastInDim S4x1024x1024 ![0, 2] bcast_S4x1024_S4x1024x1024_0_2 (extractStridedSlice S4x1024 ![1, 0] v slices_S8x1024_S4x1024_1_0)) shapeCasts_S4x1024x1024_S4096x1024 (ix2 r k)
      = v (ix2 ⟨1 + r.val / 1024, by have := r.isLt; omega⟩ k) := by
  have hr := r.isLt
  refine (shapeCast_apply _ _ (ix2 r k) (ix3 (⟨r.val / 1024, by omega⟩ : Fin 4) (⟨r.val % 1024, by omega⟩ : Fin 1024) k) ?_).trans
    ((broadcastInDim_apply _ _ _ _ (ix2 (⟨r.val / 1024, by omega⟩ : Fin 4) k) fun a => ?_).trans (extractStridedSlice_apply _ _ _ (ix2 (⟨r.val / 1024, by omega⟩ : Fin 4) k) _ fun a => ?_))
  · rw [Shape.rowMajor_val_two, Shape.rowMajor_val_three]
    show (r.val / 1024 * 1024 + r.val % 1024) * 1024 + k.val = r.val * 1024 + k.val
    omega
  · match a with
    | ⟨0, _⟩ => rfl
    | ⟨1, _⟩ => rfl
  · match a with
    | ⟨0, _⟩ => rfl
    | ⟨1, _⟩ => show k.val = 0 + k.val; omega

theorem row_apply {α : Type} (v : S1x1024.Idx → α) (r : Fin 4096) (k : Fin 1024) :
    broadcastInDim S4096x1024 ![0, 1] bcast_S1x1024_S4096x1024_0_1 v (ix2 r k) = v (ix2 (0 : Fin 1) k) := by
  refine broadcastInDim_apply _ _ _ (ix2 r k) (ix2 (0 : Fin 1) k) fun a => ?_
  match a with
  | ⟨0, _⟩ => rfl
  | ⟨1, _⟩ => rfl

theorem half_apply {α : Type} (x : S8192x1024.Idx → α) (o : ℕ) (ho : o + 4096 ≤ 8192) (h : S8192x1024.Slices ![o, 0] S4096x1024) (r : Fin 4096) (j : Fin 1024) :
    extractStridedSlice S4096x1024 ![o, 0] x h (ix2 r j) = x (ix2 ⟨o + r.val, by have := r.isLt; omega⟩ j) := by
  refine extractStridedSlice_apply _ _ _ (ix2 r j) _ fun a => ?_
  match a with
  | ⟨0, _⟩ => rfl
  | ⟨1, _⟩ => show j.val = 0 + j.val; omega

abbrev shifts (md : FVec Ideal S8x1x6144 .f32) : FVec Ideal S8x1024 .f32 :=
  shapeCast S8x1024 (extractStridedSlice S8x1x1024 ![0, 0, 0] md slices_S8x1x6144_S8x1x1024_0_0_0) shapeCasts_S8x1x1024_S8x1024
abbrev gains (md : FVec Ideal S8x1x6144 .f32) : FVec Ideal S8x1024 .f32 :=
  shapeCast S8x1024 (extractStridedSlice S8x1x1024 ![0, 0, 1024] md slices_S8x1x6144_S8x1x1024_0_0_1024) shapeCasts_S8x1x1024_S8x1024

/-- The rows of the first half. -/
abbrev lower (x : FVec Ideal S8192x1024 .f32) (g : FVec Ideal S1024 .f32) (md : FVec Ideal S8x1x6144 .f32) : FVec Ideal S4096x1024 .f32 :=
  addf (mulf (extractStridedSlice S4096x1024 ![0, 0] (normed x g) slices_S8192x1024_S4096x1024_0_0)
      (broadcastInDim S4096x1024 ![0, 1] bcast_S1x1024_S4096x1024_0_1 (addf (broadcastInDim S1x1024 ![] bcast_S_S1x1024 (constant S_ .f32 0x3F800000#32)) (extractStridedSlice S1x1024 ![0, 0] (gains md) slices_S8x1024_S1x1024_0_0))))
    (broadcastInDim S4096x1024 ![0, 1] bcast_S1x1024_S4096x1024_0_1 (extractStridedSlice S1x1024 ![0, 0] (shifts md) slices_S8x1024_S1x1024_0_0))

/-- The rows of the second half. -/
abbrev upper (x : FVec Ideal S8192x1024 .f32) (g : FVec Ideal S1024 .f32) (md : FVec Ideal S8x1x6144 .f32) : FVec Ideal S4096x1024 .f32 :=
  addf (mulf (extractStridedSlice S4096x1024 ![4096, 0] (normed x g) slices_S8192x1024_S4096x1024_4096_0)
      (addf (broadcastInDim S4096x1024 ![] bcast_S_S4096x1024 (constant S_ .f32 0x3F800000#32))
        (shapeCast S4096x1024 (broadcastInDim S4x1024x1024 ![0, 2] bcast_S4x1024_S4x1024x1024_0_2 (extractStridedSlice S4x1024 ![1, 0] (gains md) slices_S8x1024_S4x1024_1_0)) shapeCasts_S4x1024x1024_S4096x1024)))
    (shapeCast S4096x1024 (broadcastInDim S4x1024x1024 ![0, 2] bcast_S4x1024_S4x1024x1024_0_2 (extractStridedSlice S4x1024 ![1, 0] (shifts md) slices_S8x1024_S4x1024_1_0)) shapeCasts_S4x1024x1024_S4096x1024)

theorem lower_apply (x : FVec Ideal S8192x1024 .f32) (g : FVec Ideal S1024 .f32) (md : FVec Ideal S8x1x6144 .f32) (r : Fin 4096) (k : Fin 1024) (n : Fin 8192) (hn : n.val = r.val) :
    lower x g md (ix2 r k) = tokenRow x g md n k := by
  have hr := r.isLt
  have e : (⟨0 + r.val, by omega⟩ : Fin 8192) = n := Fin.ext (by show 0 + r.val = n.val; omega)
  have hg : (0 : Fin 8) = grp n := Fin.ext (by
    show 0 = if n.val < 4096 then 0 else 1 + (n.val - 4096) / 1024
    rw [if_pos (by omega)])
  have h1 : extractStridedSlice S4096x1024 ![0, 0] (normed x g) slices_S8192x1024_S4096x1024_0_0 (ix2 r k) = normed x g (ix2 n k) :=
    (half_apply (normed x g) 0 (by decide) _ r k).trans (by rw [e])
  have h2 : extractStridedSlice S1x1024 ![0, 0] (gains md) slices_S8x1024_S1x1024_0_0 (ix2 (0 : Fin 1) k) = md (ix3 (grp n) (0 : Fin 1) ⟨1024 + k.val, by have := k.isLt; omega⟩) := by
    rw [← hg]
    exact (first_apply _ k).trans (part_apply md 1024 (by decide) _ 0 k)
  have h3 : extractStridedSlice S1x1024 ![0, 0] (shifts md) slices_S8x1024_S1x1024_0_0 (ix2 (0 : Fin 1) k) = md (ix3 (grp n) (0 : Fin 1) ⟨k.val, by have := k.isLt; omega⟩) := by
    rw [← hg]
    refine ((first_apply _ k).trans (part_apply md 0 (by decide) _ 0 k)).trans ?_
    simp only [Nat.zero_add]
  refine congrArg₂ (· + ·) (congrArg₂ (· * ·) (h1.trans (normed_apply x g n k)) ((row_apply _ r k).trans (congrArg (Ideal.ofBits .f32 0x3F800000#32 + ·) h2))) ((row_apply _ r k).trans h3)

theorem upper_apply (x : FVec Ideal S8192x1024 .f32) (g : FVec Ideal S1024 .f32) (md : FVec Ideal S8x1x6144 .f32) (r : Fin 4096) (k : Fin 1024) (n : Fin 8192) (hn : n.val = 4096 + r.val) :
    upper x g md (ix2 r k) = tokenRow x g md n k := by
  have hr := r.isLt
  have e : (⟨4096 + r.val, by omega⟩ : Fin 8192) = n := Fin.ext (by show 4096 + r.val = n.val; omega)
  have hg : (⟨1 + r.val / 1024, by omega⟩ : Fin 8) = grp n := Fin.ext (by
    show 1 + r.val / 1024 = if n.val < 4096 then 0 else 1 + (n.val - 4096) / 1024
    rw [if_neg (by omega)]; omega)
  have h1 : extractStridedSlice S4096x1024 ![4096, 0] (normed x g) slices_S8192x1024_S4096x1024_4096_0 (ix2 r k) = normed x g (ix2 n k) :=
    (half_apply (normed x g) 4096 (by decide) _ r k).trans (by rw [e])
  have h2 := (repeat_apply (gains md) r k).trans (part_apply md 1024 (by decide) _ _ k)
  have h3 := (repeat_apply (shifts md) r k).trans (part_apply md 0 (by decide) _ _ k)
  rw [hg] at h2 h3
  simp only [Nat.zero_add] at h3
  refine congrArg₂ (· + ·) (congrArg₂ (· * ·) (h1.trans (normed_apply x g n k)) (congrArg (Ideal.ofBits .f32 0x3F800000#32 + ·) h2)) h3

/-! ## The projection -/

/-- All rows. -/
abbrev rows (x : FVec Ideal S8192x1024 .f32) (g : FVec Ideal S1024 .f32) (md : FVec Ideal S8x1x6144 .f32) : FVec Ideal S8192x1024 .f32 :=
  concatenate S8192x1024 0 [⟨S4096x1024, lower x g md⟩, ⟨S4096x1024, upper x g md⟩] concatenates_S4096x1024_S4096x1024_S8192x1024_d0

theorem rows_apply (x : FVec Ideal S8192x1024 .f32) (g : FVec Ideal S1024 .f32) (md : FVec Ideal S8x1x6144 .f32) (n : Fin 8192) (k : Fin 1024) :
    rows x g md (ix2 n k) = tokenRow x g md n k := by
  have hn := n.isLt
  by_cases h : n.val < 4096
  · refine (concatenate_pair_apply_left (t := S8192x1024) (s₁ := S4096x1024) (s₂ := S4096x1024) 0 (lower x g md) (upper x g md) _ (ix2 n k) rfl (ix2 (⟨n.val, h⟩ : Fin 4096) k) fun b => ?_).trans (lower_apply x g md _ k n rfl)
    match b with
    | ⟨0, _⟩ => rfl
    | ⟨1, _⟩ => rfl
  · refine (concatenate_pair_apply_right (t := S8192x1024) (s₁ := S4096x1024) (s₂ := S4096x1024) 0 (lower x g md) (upper x g md) _ (ix2 n k) rfl rfl (ix2 (⟨n.val - 4096, by omega⟩ : Fin 4096) k) (fun b hb => ?_) ?_).trans
      (upper_apply x g md _ k n (by show n.val = 4096 + (n.val - 4096); omega))
    · match b with
      | ⟨0, _⟩ => exact absurd rfl hb
      | ⟨1, _⟩ => rfl
    · show n.val - 4096 + 4096 = n.val
      omega

/-- A result: the projection's columns from `o` on. -/
abbrev out (x : FVec Ideal S8192x1024 .f32) (g : FVec Ideal S1024 .f32) (md : FVec Ideal S8x1x6144 .f32) (w : FVec Ideal S1024x3072 .f32) (o : ℕ) (h : S8192x3072.Slices ![0, o] S8192x1536) : FVec Ideal S8192x1536 .f32 :=
  extractStridedSlice S8192x1536 ![0, o] (Host.dotGeneral dot_S8192x1024_S1024x3072_S8192x3072_1_0_0_1_n_n none (rows x g md) w) h

theorem out_apply (x : FVec Ideal S8192x1024 .f32) (g : FVec Ideal S1024 .f32) (md : FVec Ideal S8x1x6144 .f32) (w : FVec Ideal S1024x3072 .f32) (o : ℕ) (ho : o + 1536 ≤ 3072) (h : S8192x3072.Slices ![0, o] S8192x1536) (n : Fin 8192) (j : Fin 1536) :
    out x g md w o h (ix2 n j)
      = proj x g md w n ⟨o + j.val, by have := j.isLt; omega⟩ := by
  refine (extractStridedSlice_apply _ _ _ (ix2 n j) (ix2 n (⟨o + j.val, by have := j.isLt; omega⟩ : Fin 3072)) fun a => ?_).trans
    ((StackMember.dotGeneral_plain_apply (m := 8192) (k := 1024) (n := 3072) none (rows x g md) w n _).trans (Finset.sum_congr rfl fun k _ => congrArg (· * _) (rows_apply x g md n k)))
  match a with
  | ⟨0, _⟩ => show n.val = 0 + n.val; omega
  | ⟨1, _⟩ => rfl

end Cert.Projection.Ref

end
-- ==== Proof.InProjClaims.lean ====
/- The claims about the projection call, from its run and the reference's. Hand-written. -/
module

public import proofs.«01_k».proof.Defs
public import proofs.«01_k».proof.Proof.InProjRef
public import proofs.«01_k».proof.Proof.Gen.InProj.Frame

@[expose] public section

set_option maxRecDepth 16384

noncomputable section

namespace Cert.Proof

open Idealize.ShloMosaic Idealize.ShloMosaic.TcCoe Idealize.ShloMosaic.ValueIdx
open Idealize.SL.Sem
open Cert.Projection

theorem frame_inProj : Cert.quiescent_InProj := fun m ρ _ => Cert.InProj.Gen.frame m ρ

theorem frame_inProjIdeal : Cert.quiescent_InProjIdeal := fun m ρ _ => Cert.InProjIdeal.Gen.frame m ρ

theorem frame_inProjReference : Cert.quiescent_InProjReferenceIdeal := fun m ρ _ =>
  (θ_run Cert.InProjReferenceIdeal.defs _ _).mono (fun r h => ⟨fun c => (h c).2.2, sem_eq_zero_of_no_sems (by decide) r.2⟩)
    (Cert.InProjReferenceIdeal.Value.run (F := Ideal) m ρ)

theorem algebraic_inProj : Cert.algebraic_InProjIdeal_InProjReferenceIdeal := by
  intro m ρ m' ρ' _ hagree
  refine ⟨outOf m 0 (by decide), outOf m 1536 (by decide),
    (θ_run Cert.InProjIdeal.defs _ _).mono (fun _ h c => ⟨(h c).1.trans (arr4 m c), (h c).2.1.trans (arr5 m c), (h c).2.2⟩) (Cert.InProjIdeal.Value.run_blocks (F := Ideal) m ρ),
    (θ_run Cert.InProjReferenceIdeal.defs _ _).mono (fun r h c => ⟨(h c).1.trans ?_, (h c).2.1.trans ?_, (h c).2.2⟩) (Cert.InProjReferenceIdeal.Value.run (F := Ideal) m' ρ')⟩
  · obtain ⟨e0, e1, e2, e3⟩ := hagree c
    rw [e0, e1, e2, e3]
    refine funext fun (i : Cert.InProjIdeal.S8192x1536.Idx) => ?_
    exact (congrArg (Projection.Ref.out (xOf m c) (gOf m c) (modOf m c) (wOf m c) 0 Cert.InProjReferenceIdeal.Gen.slices_S8192x3072_S8192x1536_0_0) (eq_ix2 i)).trans
      (Projection.Ref.out_apply (xOf m c) (gOf m c) (modOf m c) (wOf m c) 0 (by decide) _ (i 0) (i 1))
  · obtain ⟨e0, e1, e2, e3⟩ := hagree c
    rw [e0, e1, e2, e3]
    refine funext fun (i : Cert.InProjIdeal.S8192x1536.Idx) => ?_
    exact (congrArg (Projection.Ref.out (xOf m c) (gOf m c) (modOf m c) (wOf m c) 1536 Cert.InProjReferenceIdeal.Gen.slices_S8192x3072_S8192x1536_0_1536) (eq_ix2 i)).trans
      (Projection.Ref.out_apply (xOf m c) (gOf m c) (modOf m c) (wOf m c) 1536 (by decide) _ (i 0) (i 1))

end Cert.Proof

end
-- ==== Proof.OddPrepSum.lean ====
/- Mean squares by a product with a block diagonal of ones: the sums over the 64 columns of a head's half. Hand-written. -/
module

public import Idealize.ShloMosaic.PureOps.Ideal.Laws
public import Idealize.ShloMosaic.Lib.IdealHost
public import Idealize.ShloMosaic.Lib.MatmulPlain

@[expose] public section

set_option maxRecDepth 16384

noncomputable section

namespace Cert.Keys

open Idealize.ShloMosaic

/-- Column `k` of the group that column `j` lies in. -/
def inGroup (j : Fin 512) (k : Fin 64) : Fin 512 := ⟨j.val / 64 * 64 + k.val, by have := j.isLt; have := k.isLt; omega⟩

/-- An entry of the block diagonal of ones. -/
def diag (k j : Fin 512) : EReal := if k.val / 64 = j.val / 64 then 1 else 0

/-- A sum against a column of the block diagonal is the sum over the column's group. -/
theorem sum_diag (f : Fin 512 → EReal) (j : Fin 512) : ∑ k : Fin 512, f k * diag k j = ∑ k : Fin 64, f (inGroup j k) := by
  have hj := j.isLt
  rw [← (finProdFinEquiv (m := 8) (n := 64)).sum_comp, Fintype.sum_prod_type, Finset.sum_eq_single (⟨j.val / 64, by omega⟩ : Fin 8)]
  · refine Finset.sum_congr rfl fun k _ => ?_
    have hk := k.isLt
    have e : finProdFinEquiv ((⟨j.val / 64, by omega⟩ : Fin 8), k) = inGroup j k := Fin.ext (by
      show k.val + 64 * (j.val / 64) = j.val / 64 * 64 + k.val
      omega)
    have h : (j.val / 64 * 64 + k.val) / 64 = j.val / 64 := by omega
    rw [e]
    unfold diag inGroup
    rw [if_pos h, mul_one]
  · intro a _ ha
    refine Finset.sum_eq_zero fun k _ => ?_
    have hk := k.isLt
    have ha' : a.val ≠ j.val / 64 := fun h => ha (Fin.ext h)
    have h : ¬ ((finProdFinEquiv (a, k)).val / 64 = j.val / 64) := by
      show ¬ ((k.val + 64 * a.val) / 64 = j.val / 64)
      omega
    unfold diag
    rw [if_neg h, mul_zero]
  · intro h
    exact absurd (Finset.mem_univ _) h

/-- A finite value's square less itself is 0. -/
theorem square_sub_self (x : EReal) (ht : x ≠ ⊤) (hb : x ≠ ⊥) : x * x - x * x = 0 := by
  lift x to ℝ using ⟨ht, hb⟩
  rw [← EReal.coe_mul, ← EReal.coe_sub, sub_self, EReal.coe_zero]

/-- The two products, of the squares' leading parts and of what these leave, at finite values: the group's sum of squares. -/
theorem group_sum (x : Fin 512 → EReal) (hx : ∀ k, x k ≠ ⊤ ∧ x k ≠ ⊥) (j : Fin 512) :
    (∑ k : Fin 512, x k * x k * diag k j) + ∑ k : Fin 512, (x k * x k - x k * x k) * diag k j = ∑ k : Fin 64, x (inGroup j k) * x (inGroup j k) := by
  rw [sum_diag (fun k => x k * x k) j]
  have h : ∀ k : Fin 512, (x k * x k - x k * x k) * diag k j = 0 := fun k => by
    rw [square_sub_self _ (hx k).1 (hx k).2, zero_mul]
  simp only [h, Finset.sum_const_zero, add_zero]

theorem sixtyfourth : Ideal.ofBits .f32 0x3C800000#32 = (((1 : ℝ) / 64 : ℝ) : EReal) := by
  simp [Ideal.ofBits, Ideal.ieee, -EReal.coe_mul]; norm_num
theorem sixtyfour : Ideal.ofBits .f32 0x42800000#32 = ((64 : ℝ) : EReal) := by
  simp [Ideal.ofBits, Ideal.ieee, -EReal.coe_mul]; norm_num

/-- A mean by the product with 1/64 is the mean by the quotient. -/
theorem mean_eq (s : EReal) : s * Ideal.ofBits .f32 0x3C800000#32 = Ideal.div s (Ideal.ofBits .f32 0x42800000#32) := by
  rw [sixtyfourth, sixtyfour]
  unfold Ideal.div
  have h : ((64 : ℝ) : EReal) ≠ 0 := by
    rw [← EReal.coe_zero, Ne, EReal.coe_eq_coe_iff]
    norm_num
  rw [if_neg h, ← EReal.coe_inv, one_div]

/-- What is smaller than infinity in absolute value is finite. -/
theorem finite_of_abs (x : EReal) (h : max x (-x) < ⊤) : x ≠ ⊤ ∧ x ≠ ⊥ := by
  refine ⟨fun e => ?_, fun e => ?_⟩
  · subst e
    exact absurd (lt_of_le_of_lt (le_max_left _ _) h) (lt_irrefl _)
  · subst e
    exact absurd (lt_of_le_of_lt (le_max_right _ _) h) (by rw [EReal.neg_bot]; exact lt_irrefl _)

end Cert.Keys

end
-- ==== Proof.OddPrepRef.lean ====
/- The reference's keys, element by element, at the ideal values. Hand-written. -/
module

public import proofs.«01_k».proof.Proof.OddPrepSum
public import proofs.«01_k».proof.Proof.Gen.OddPrepReferenceIdeal.Run
public import Idealize.ShloMosaic.Lib.Pipeline.ValueKit.Geometry
public import Idealize.ShloMosaic.Lib.StableHlo.Run

@[expose] public section

set_option maxRecDepth 16384

noncomputable section

namespace Cert.Keys

open Idealize.ShloMosaic
open Idealize.ShloMosaic.TcCoe Idealize.ShloMosaic.ValueIdx

/-- The scale that brings a group of 64 to unit mean square. -/
def unitScale (x : Fin 64 → EReal) : EReal :=
  Ideal.rsqrt (Ideal.div (∑ k : Fin 64, x k * x k) (Ideal.ofBits .f32 0x42800000#32) + Ideal.ofBits .f32 0x358637BD#32)

/-- Column `j` of the keys. -/
def keyCol (j : Fin 512) : Fin 1536 := ⟨512 + j.val, by have := j.isLt; omega⟩

/-- One element of the normed keys. -/
def key (zc : (⟨2, ![8192, 1536]⟩ : Shape).Idx → EReal) (g : (⟨2, ![2, 64]⟩ : Shape).Idx → EReal) (n : Fin 8192) (j : Fin 512) : EReal :=
  zc (ix2 n (keyCol j)) * unitScale (fun k => zc (ix2 n (keyCol (inGroup j k)))) * g (ix2 (1 : Fin 2) ⟨j.val % 64, Nat.mod_lt _ (by decide)⟩)

namespace Ref

open Cert.OddPrepReferenceIdeal Cert.OddPrepReferenceIdeal.Gen

/-- The keys by heads' halves. -/
abbrev halves (zc : FVec Ideal S8192x1536 .f32) : FVec Ideal S8192x8x64 .f32 :=
  shapeCast S8192x8x64 (extractStridedSlice S8192x512 ![0, 512] zc slices_S8192x1536_S8192x512_0_512) shapeCasts_S8192x512_S8192x8x64

theorem halves_apply (zc : FVec Ideal S8192x1536 .f32) (n : Fin 8192) (j : Fin 512) (h : Fin 8) (k : Fin 64) (e : h.val = j.val / 64) :
    halves zc (ix3 n h k) = zc (ix2 n (keyCol (inGroup j k))) := by
  have hk := k.isLt
  refine (shapeCast_apply _ _ (ix3 n h k) (ix2 n (inGroup j k)) ?_).trans
    (extractStridedSlice_apply ![0, 512] _ _ (ix2 n (inGroup j k)) (ix2 n (keyCol (inGroup j k))) fun a => ?_)
  · rw [Shape.rowMajor_val_two, Shape.rowMajor_val_three]
    show n.val * 512 + (j.val / 64 * 64 + k.val) = (n.val * 8 + h.val) * 64 + k.val
    omega
  · match a with
    | ⟨0, _⟩ => show n.val = 0 + n.val; omega
    | ⟨1, _⟩ => rfl

/-- The scale of each half. -/
abbrev scales (x : FVec Ideal S8192x8x64 .f32) : FVec Ideal S8192x8x1 .f32 :=
  Host.rsqrt (addf (Host.divf (broadcastInDim S8192x8x1 ![0, 1] bcast_S8192x8_S8192x8x1_0_1 (Host.reduceAdd (mulf x x) (constant S_ .f32 0x00000000#32) reducesTo_S8192x8x64_S8192x8_d2 h_S_)) (broadcastInDim S8192x8x1 ![] bcast_S_S8192x8x1 (constant S_ .f32 0x42800000#32)))
    (broadcastInDim S8192x8x1 ![] bcast_S_S8192x8x1 (constant S_ .f32 0x358637BD#32)))

theorem sums_apply (x : FVec Ideal S8192x8x64 .f32) (n : Fin 8192) (h : Fin 8) :
    broadcastInDim S8192x8x1 ![0, 1] bcast_S8192x8_S8192x8x1_0_1 (Host.reduceAdd (mulf x x) (constant S_ .f32 0x00000000#32) reducesTo_S8192x8x64_S8192x8_d2 h_S_) (ix3 n h (0 : Fin 1))
      = ∑ k : Fin 64, x (ix3 n h k) * x (ix3 n h k) := by
  refine (broadcastInDim_apply _ _ _ (ix3 n h (0 : Fin 1)) (ix2 n h) fun a => ?_).trans ?_
  · match a with
    | ⟨0, _⟩ => rfl
    | ⟨1, _⟩ => rfl
  · refine (hostReduceAdd_apply _ _ _ _ (ix2 n h)).trans ((Ideal.hostReduceAdd_single _ (by decide) _ _ (ix2 n h)).trans ((congrArg (· + _) Ideal.ofBits_zero_f32).trans ((zero_add _).trans ?_)))
    refine Finset.sum_congr rfl fun (k : Fin 64) _ => ?_
    have e : (show S8192x8x64.Reduces [2] S8192x8 by decide).lift (ix2 n h) k = ix3 n h k := by
      funext a; refine Fin.ext ?_
      match a with
      | ⟨0, _⟩ => rfl
      | ⟨1, _⟩ => rfl
      | ⟨2, _⟩ => rfl
    rw [e]
    rfl

theorem scales_apply (x : FVec Ideal S8192x8x64 .f32) (n : Fin 8192) (h : Fin 8) : scales x (ix3 n h (0 : Fin 1)) = unitScale (fun k => x (ix3 n h k)) := by
  have e := sums_apply x n h
  unfold unitScale
  rw [← e]
  rfl

/-- The gain of the keys, over every half. -/
abbrev gains (g : FVec Ideal S2x64 .f32) : FVec Ideal S8192x8x64 .f32 :=
  broadcastInDim S8192x8x64 ![0, 1, 2] bcast_S1x1x64_S8192x8x64_0_1_2 (broadcastInDim S1x1x64 ![2] bcast_S64_S1x1x64_2 (shapeCast S64 (extractStridedSlice S1x64 ![1, 0] g slices_S2x64_S1x64_1_0) shapeCasts_S1x64_S64))

theorem gains_apply (g : FVec Ideal S2x64 .f32) (n : Fin 8192) (h : Fin 8) (k : Fin 64) : gains g (ix3 n h k) = g (ix2 (1 : Fin 2) k) := by
  refine (broadcastInDim_apply _ _ _ (ix3 n h k) (ix3 (0 : Fin 1) (0 : Fin 1) k) fun a => ?_).trans
    ((broadcastInDim_apply _ _ _ (ix3 (0 : Fin 1) (0 : Fin 1) k) (ix1 k) fun a => ?_).trans
      ((shapeCast_apply _ _ (ix1 k) (ix2 (0 : Fin 1) k) ?_).trans (extractStridedSlice_apply ![1, 0] _ _ (ix2 (0 : Fin 1) k) (ix2 (1 : Fin 2) k) fun a => ?_)))
  · match a with
    | ⟨0, _⟩ => rfl
    | ⟨1, _⟩ => rfl
    | ⟨2, _⟩ => rfl
  · match a with
    | ⟨0, _⟩ => rfl
  · rw [Shape.rowMajor_val_one, Shape.rowMajor_val_two]
    show 0 * 64 + k.val = k.val
    omega
  · match a with
    | ⟨0, _⟩ => rfl
    | ⟨1, _⟩ => show k.val = 0 + k.val; omega

/-- The reference's result. -/
abbrev out (zc : FVec Ideal S8192x1536 .f32) (g : FVec Ideal S2x64 .f32) : FVec Ideal S8192x512 .f32 :=
  shapeCast S8192x512 (mulf (mulf (halves zc) (broadcastInDim S8192x8x64 ![0, 1, 2] bcast_S8192x8x1_S8192x8x64_0_1_2 (scales (halves zc)))) (gains g)) shapeCasts_S8192x8x64_S8192x512

theorem out_apply (zc : FVec Ideal S8192x1536 .f32) (g : FVec Ideal S2x64 .f32) (n : Fin 8192) (j : Fin 512) : out zc g (ix2 n j) = key zc g n j := by
  have hj := j.isLt
  have hm : j.val % 64 < 64 := Nat.mod_lt _ (by decide)
  let h : Fin 8 := ⟨j.val / 64, by omega⟩
  let k : Fin 64 := ⟨j.val % 64, hm⟩
  have ek : inGroup j k = j := Fin.ext (by show j.val / 64 * 64 + j.val % 64 = j.val; omega)
  refine (shapeCast_apply _ _ (ix2 n j) (ix3 n h k) ?_).trans ?_
  · rw [Shape.rowMajor_val_two, Shape.rowMajor_val_three]
    show (n.val * 8 + j.val / 64) * 64 + j.val % 64 = n.val * 512 + j.val
    omega
  · refine congrArg₂ (· * ·) (congrArg₂ (· * ·) ((halves_apply zc n j h k rfl).trans (by rw [ek])) ?_) (gains_apply g n h k)
    refine (broadcastInDim_apply _ _ _ (ix3 n h k) (ix3 n h (0 : Fin 1)) fun a => ?_).trans ((scales_apply _ n h).trans
      (congrArg unitScale (funext fun k' => halves_apply zc n j h k' rfl)))
    match a with
    | ⟨0, _⟩ => rfl
    | ⟨1, _⟩ => rfl
    | ⟨2, _⟩ => rfl

end Ref

end Cert.Keys

end
-- ==== Proof.OddPrepPay.lean ====
/- The keys that a grid point computes, element by element, at the ideal values. Hand-written. -/
module

public import proofs.«01_k».proof.Proof.OddPrepRef
public import proofs.«01_k».proof.Proof.Gen.OddPrepIdeal.Skeleton
public import Idealize.ShloMosaic.Lib.Pipeline.ValueKit.Geometry
public import Idealize.ShloMosaic.Lib.MatmulPlain
public import Idealize.ShloMosaic.PureOps.Ideal.Laws

@[expose] public section

set_option maxRecDepth 16384

noncomputable section

namespace Cert.Keys

open Cert.OddPrepIdeal Cert.OddPrepIdeal.Gen
open Idealize.ShloMosaic Idealize.ShloMosaic.TcCoe Idealize.ShloMosaic.ValueIdx

theorem prod_apply (A : FVec Ideal S256x512 .bf16) (B : FVec Ideal S512x512 .bf16) (hB : ∀ k j : Fin 512, B (ix2 k j) = diag k j) (r : Fin 256) (j : Fin 512) :
    matmul dot_S256x512_S512x512_S256x512_1_0_0_1_n_n none A B (constant S256x512 .f32 0x00000000#32) (ix2 r j)
      = ∑ k : Fin 512, A (ix2 r k) * diag k j :=
  (Ideal.matmul_plain_apply (M := 256) (K := 512) (N := 512) none A B (constant S256x512 .f32 0x00000000#32) r j).trans
    ((congrArg (· + _) Ideal.ofBits_zero_f32).trans ((zero_add _).trans (Finset.sum_congr rfl fun k _ => congrArg (_ * ·) (hB k j))))

theorem down_apply {α : Type} (v : S1x512.Idx → α) (r : Fin 256) (j : Fin 512) :
    broadcastTo S256x512 v broadcasts_S1x512_S256x512 (ix2 r j) = v (ix2 (0 : Fin 1) j) := by
  refine broadcastTo_apply _ _ (ix2 r j) (ix2 (0 : Fin 1) j) fun a => ?_
  match a with
  | ⟨0, _⟩ => rfl
  | ⟨1, _⟩ => rfl

theorem sums_apply (X : FVec Ideal S256x512 .f32) (B : FVec Ideal S512x512 .bf16) (hB : ∀ k j : Fin 512, B (ix2 k j) = diag k j) (r : Fin 256)
    (hX : ∀ k : Fin 512, X (ix2 r k) ≠ ⊤ ∧ X (ix2 r k) ≠ ⊥) (j : Fin 512) :
    addf (matmul dot_S256x512_S512x512_S256x512_1_0_0_1_n_n none (truncf .bf16 (mulf X X) bitsLt_bf16_f32) B (constant S256x512 .f32 0x00000000#32))
        (matmul dot_S256x512_S512x512_S256x512_1_0_0_1_n_n none (truncf .bf16 (subf (mulf X X) (extf .f32 (truncf .bf16 (mulf X X) bitsLt_bf16_f32) bitsLt_bf16_f32)) bitsLt_bf16_f32) B (constant S256x512 .f32 0x00000000#32)) (ix2 r j)
      = ∑ k : Fin 64, X (ix2 r (inGroup j k)) * X (ix2 r (inGroup j k)) :=
  (congrArg₂ (· + ·) (prod_apply _ B hB r j) (prod_apply _ B hB r j)).trans (group_sum (fun k => X (ix2 r k)) hX j)

theorem ones_cast (B : Vec Ideal S512x512 .bf16) (k j : Fin 512) : k0_pay1 (F := Ideal) B (ix2 k j) = B (ix2 k j) :=
  shapeCast_apply B shapeCasts_S512x512_S512x512 (ix2 k j) (ix2 k j) rfl

theorem pay6_apply (B : Vec Ideal S512x512 .bf16) (X : Vec Ideal S256x512 .f32) (G : Vec Ideal S1x512 .f32) (hB : ∀ k j : Fin 512, B (ix2 k j) = diag k j) (r : Fin 256)
    (hX : ∀ k : Fin 512, X (ix2 r k) ≠ ⊤ ∧ X (ix2 r k) ≠ ⊥) (j : Fin 512) :
    k0_pay6 (F := Ideal) (k0_pay1 B) X G (ix2 r j) = X (ix2 r j) * unitScale (fun k => X (ix2 r (inGroup j k))) * G (ix2 (0 : Fin 1) j) := by
  have hs := sums_apply X (k0_pay1 (F := Ideal) B) (fun k j => (ones_cast B k j).trans (hB k j)) r hX j
  have hd := down_apply G r j
  unfold unitScale
  rw [← mean_eq, ← hs, ← hd]
  rfl

end Cert.Keys

end
-- ==== Proof.OddPrepHost.lean ====
/- The buffers that the call reads, as the host leaves them, at the ideal values. Hand-written. -/
module

public import proofs.«01_k».proof.Proof.OddPrepPay
public import proofs.«01_k».proof.Proof.Gen.OddPrepIdeal.Frame.Runs
public import Idealize.ShloMosaic.Lib.StableHlo.Run

@[expose] public section

set_option maxRecDepth 16384

noncomputable section

namespace Cert.Keys

open Cert.OddPrepIdeal Cert.OddPrepIdeal.Gen
open Idealize.ShloMosaic Idealize.ShloMosaic.TcCoe Idealize.ShloMosaic.Tactic Idealize.ShloMosaic.ValueIdx
open Idealize.SL Idealize.SL.RA Idealize.SL.Sem

variable (m : (ℓ : Loc nD τ sig) → Buf (Elt Ideal) ℓ)

abbrev zcOf (c : Dev nD) : S8192x1536.Idx → EReal := m ((c : Thread nD τ).loc main_arg0)
abbrev gOf (c : Dev nD) : S2x64.Idx → EReal := m ((c : Thread nD τ).loc main_arg2)

/-- 0 to 511. -/
abbrev lane : IVec S512 32 := iotaInDim S512 32 0

/-- 64, in every lane. -/
abbrev width : IVec S512 32 := broadcastInDim S512 ![] bcast_S_S512 (constantI S_ 32 64#32)

/-- The group of a lane, as the host divides. -/
abbrev group : IVec S512 32 :=
  select (andi (cmpi .ne (signi lane) (broadcastInDim S512 ![] bcast_S_S512 (signi (constantI S_ 32 64#32))))
      (cmpi .ne (Host.remsi lane width) (broadcastInDim S512 ![] bcast_S_S512 (constantI S_ 32 0#32))))
    (subi (Host.divsi lane width) (broadcastInDim S512 ![] bcast_S_S512 (constantI S_ 32 1#32))) (Host.divsi lane width)

/-- The table of ones as the host computes it. -/
abbrev onesTab : S512x512.Idx → EReal :=
  (truncf .bf16 (uitofp .f32 (cmpi .eq (broadcastInDim S512x512 ![0, 1] bcast_S512x1_S512x512_0_1 (broadcastInDim S512x1 ![0] bcast_S512_S512x1_0 group))
    (broadcastInDim S512x512 ![0, 1] bcast_S1x512_S512x512_0_1 (broadcastInDim S1x512 ![1] bcast_S512_S1x512_1 group))) : FVec Ideal S512x512 .f32) bitsLt_bf16_f32 : FVec Ideal S512x512 .bf16)

theorem group_apply : ∀ k : Fin 512, group (ix1 k) = BitVec.ofNat 32 (k.val / 64) := by decide +kernel

theorem group_eq : ∀ k j : Fin 512, group (ix1 k) = group (ix1 j) ↔ k.val / 64 = j.val / 64 := by
  intro k j
  rw [group_apply, group_apply]
  have hk := k.isLt
  have hj := j.isLt
  constructor
  · intro h
    have := congrArg BitVec.toNat h
    rw [BitVec.toNat_ofNat, BitVec.toNat_ofNat] at this
    omega
  · intro h
    rw [h]

/-- The ones are the block diagonal. -/
theorem ones_apply (k j : Fin 512) : onesTab (ix2 k j) = diag k j := by
  have ek : broadcastInDim S512x512 ![0, 1] bcast_S512x1_S512x512_0_1 (broadcastInDim S512x1 ![0] bcast_S512_S512x1_0 group) (ix2 k j) = group (ix1 k) :=
    congrArg group (funext fun a => by fin_cases a; rfl)
  have ej : broadcastInDim S512x512 ![0, 1] bcast_S1x512_S512x512_0_1 (broadcastInDim S1x512 ![1] bcast_S512_S1x512_1 group) (ix2 k j) = group (ix1 j) :=
    congrArg group (funext fun a => by fin_cases a; rfl)
  have e : onesTab (ix2 k j) = (((BitVec.ofBool (group (ix1 k) == group (ix1 j))).toNat : ℝ) : EReal) := by
    rw [← ek, ← ej]
    rfl
  rw [e]
  unfold diag
  by_cases h : k.val / 64 = j.val / 64
  · rw [if_pos h, (group_eq k j).mpr h, beq_self_eq_true]
    simp
  · rw [if_neg h, beq_false_of_ne fun he => h ((group_eq k j).mp he)]
    simp

/-- The gains, repeated for each half of a head. -/
abbrev gainTab (g : S2x64.Idx → EReal) : S2x512.Idx → EReal :=
  shapeCast S2x512 (broadcastInDim S1x2x8x64 ![0, 1, 2, 3] bcast_S1x2x1x64_S1x2x8x64_0_1_2_3 (shapeCast S1x2x1x64 g shapeCasts_S2x64_S1x2x1x64)) shapeCasts_S1x2x8x64_S2x512

theorem V_v54 (c : Dev nD) : V m c main_v54 = onesTab := by
  show StableHlo.after (List.flatten [hostOps0, hostOps0_1, hostOps0_2, hostOps0_3, hostOps0_4, hostOps0_5, hostOps0_6]) _ (Proc.devRef .tc main_v54) = _
  simp only [hostOps0, hostOps0_1, hostOps0_2, hostOps0_3, hostOps0_4, hostOps0_5, hostOps0_6, List.flatten_cons, List.flatten_nil, List.append_nil, List.cons_append, List.nil_append]
  after_results
  rfl

theorem V_v45 (c : Dev nD) : V m c main_v45 = gainTab (gOf m c) := by
  show StableHlo.after (List.flatten [hostOps0, hostOps0_1, hostOps0_2, hostOps0_3, hostOps0_4, hostOps0_5, hostOps0_6]) _ (Proc.devRef .tc main_v45) = _
  simp only [hostOps0, hostOps0_1, hostOps0_2, hostOps0_3, hostOps0_4, hostOps0_5, hostOps0_6, List.flatten_cons, List.flatten_nil, List.append_nil, List.cons_append, List.nil_append]
  after_results
  rfl

theorem gainTab_apply (g : S2x64.Idx → EReal) (i : Fin 2) (j : Fin 512) : gainTab g (ix2 i j) = g (ix2 i ⟨j.val % 64, Nat.mod_lt _ (by decide)⟩) := by
  have hj := j.isLt
  have hm : j.val % 64 < 64 := Nat.mod_lt _ (by decide)
  let h : Fin 8 := ⟨j.val / 64, by omega⟩
  let k : Fin 64 := ⟨j.val % 64, hm⟩
  refine (shapeCast_apply _ _ (ix2 i j) (ix4 (0 : Fin 1) i h k) ?_).trans
    ((broadcastInDim_apply _ _ _ (ix4 (0 : Fin 1) i h k) (ix4 (0 : Fin 1) i (0 : Fin 1) k) fun a => ?_).trans (shapeCast_apply _ _ (ix4 (0 : Fin 1) i (0 : Fin 1) k) (ix2 i k) ?_))
  · rw [Shape.rowMajor_val_two, Shape.rowMajor_val_four]
    show ((0 * 2 + i.val) * 8 + j.val / 64) * 64 + j.val % 64 = i.val * 512 + j.val
    omega
  · match a with
    | ⟨0, _⟩ => rfl
    | ⟨1, _⟩ => rfl
    | ⟨2, _⟩ => rfl
    | ⟨3, _⟩ => rfl
  · rw [Shape.rowMajor_val_two, Shape.rowMajor_val_four]
    show i.val * 64 + k.val = ((0 * 2 + i.val) * 1 + 0) * 64 + k.val
    omega

end Cert.Keys

end
-- ==== Proof.OddPrepValue.lean ====
/- What the keys' call leaves in its output of unrotated keys, element by element, at the ideal values. Hand-written. -/
module

public import proofs.«01_k».proof.Proof.OddPrepHost
public import proofs.«01_k».proof.Proof.Gen.OddPrepIdeal.Value
public import Idealize.ShloMosaic.Lib.Pipeline.ValueKit.Geometry
public import Idealize.ShloMosaic.Lib.StableHlo.Run

@[expose] public section

set_option maxRecDepth 16384

noncomputable section

namespace Cert.Keys

open Cert.OddPrepIdeal Cert.OddPrepIdeal.Gen
open Idealize.ShloMosaic Idealize.ShloMosaic.TcCoe Idealize.ShloMosaic.Tactic Idealize.ShloMosaic.ValueIdx
open Idealize.SL Idealize.SL.RA Idealize.SL.Sem

/-! ## What one grid point writes -/

theorem hz : (![0, 0] : Fin 2 → Nat) = fun _ => 0 := funext fun a => by fin_cases a <;> rfl

theorem out_eq (c : Dev nD) (i : grid0.Coords) (arg1 : Memref sig .tc .vmem S256x1024 .f32) (harg1 : arg1.IsWhole) (arg2 : Memref sig .tc .vmem S256x512 .f32) (harg2 : arg2.IsWhole)
    (arg3 : Memref sig .tc .vmem S256x512 .f32) (harg3 : arg3.IsWhole) (arg4 : Memref sig .tc .vmem S256x512 .f32) (harg4 : arg4.IsWhole) (arg5 : Memref sig .tc .vmem S2x512 .f32) (harg5 : arg5.IsWhole)
    (arg6 : Memref sig .tc .vmem S512x512 .bf16) (harg6 : arg6.IsWhole) (arg7 : Memref sig .tc .vmem S256x512 .f32) (harg7 : arg7.IsWhole) (arg8 : Memref sig .tc .vmem S256x512 .f32) (harg8 : arg8.IsWhole)
    (arg9 : Memref sig .tc .vmem S256x512 .f32) (harg9 : arg9.IsWhole) (arg10 : Memref sig .tc .vmem S256x512 .f32) (harg10 : arg10.IsWhole)
    (x0 : Vec Ideal S256x1024 .f32) (x1 : Vec Ideal S256x512 .f32) (x2 : Vec Ideal S256x512 .f32) (x3 : Vec Ideal S256x512 .f32) (x4 : Vec Ideal S2x512 .f32) (x5 : Vec Ideal S512x512 .bf16) :
    out0_A_8 c i arg1 harg1 arg2 harg2 arg3 harg3 arg4 harg4 arg5 harg5 arg6 harg6 arg7 harg7 arg8 harg8 arg9 harg9 arg10 harg10 x0 x1 x2 x3 x4 x5
      = k0_pay6 (k0_pay1 x5) (View.ld x0 (Rect.unit (s := S256x1024) ![0, 512] S256x512.size inb_S256x1024_S256x512_0_512)) (View.ld x4 (Rect.unit (s := S2x512) ![1, 0] S1x512.size inb_S2x512_S1x512_1_0)) := by
  unfold out0_A_8
  rw [View.read_writes_junk_eq_canon]
  show View.canon ([⟨Rect.unit ![0, 0] S256x512.size inb_S256x512_S256x512_0_0,
      k0_pay6
        (k0_pay1 (View.readAt (Elt Ideal) arg6.view (Rect.unit (s := S512x512) ![0, 0] S512x512.size inb_S512x512_S512x512_0_0).toLoadRect (harg6.unread x5)))
        (View.readAt (Elt Ideal) arg1.view (Rect.unit (s := S256x1024) ![0, 512] S256x512.size inb_S256x1024_S256x512_0_512).toLoadRect (harg1.unread x0))
        (View.readAt (Elt Ideal) arg5.view (Rect.unit (s := S2x512) ![1, 0] S1x512.size inb_S2x512_S1x512_1_0).toLoadRect (harg5.unread x4))⟩] :
      List (View.Piece (Elt Ideal) S256x512 .f32)) = _
  rw [View.canon_unit_zero hz, View.readAt_eq_ld, View.readAt_eq_ld, View.readAt_eq_ld, harg6.read_unread, harg1.read_unread, harg5.read_unread, View.ld_unit_zero hz]

/-! ## The windows' blocks, element by element -/

theorem tab0 : ∀ t : Fin grid0.N, ∀ a : Fin 2, cc0_transform_0 (grid0.coords t) a = (![t.val, 0] : Fin 2 → ℕ) a := by decide +kernel
theorem tab8 : ∀ t : Fin grid0.N, ∀ a : Fin 2, cc0_transform_8 (grid0.coords t) a = (![t.val, 0] : Fin 2 → ℕ) a := by decide +kernel
theorem gridN : grid0.N = 32 := by decide +kernel

variable (m : (ℓ : Loc nD τ sig) → Buf (Elt Ideal) ℓ)

/-- Row `r` of block `t` as a token. -/
def tok (t : Fin cfg0.N) (r : Fin 256) : Fin 8192 := ⟨t.val * 256 + r.val, by have h32 : t.val < 32 := gridN ▸ t.isLt; have := r.isLt; omega⟩

theorem blk0_apply (c : Dev nD) (t : Fin cfg0.N) (r : Fin 256) (k : Fin 1024) : X0_0 m c t (ix2 r k) = zcOf m c (ix2 (tok t r) ⟨k.val, by have := k.isLt; omega⟩) := by
  unfold X0_0 Pipeline.Window.fill
  rw [dif_pos (moved0_0 t _)]
  refine Eq.trans (congrArg (V m c main_arg0) (funext fun a => Fin.ext ?_ : _ = ix2 (tok t r) (⟨k.val, by have := k.isLt; omega⟩ : Fin 1536))) (congrFun (V_main_arg0 m c) _)
  refine (Pipeline.Window.rect_emb_val (cfg0.win 0) t _ a).trans ?_
  refine (congrArg (fun z => z * (cfg0.win 0).size a + (ix2 r k a).val) (tab0 t a)).trans ?_
  match a with
  | ⟨0, _⟩ => rfl
  | ⟨1, _⟩ => show 0 * 1024 + k.val = k.val; omega

theorem blk4_apply (c : Dev nD) (t : Fin cfg0.N) (i : Fin 2) (j : Fin 512) : iblk m c 4 t (ix2 i j) = gOf m c (ix2 i ⟨j.val % 64, Nat.mod_lt _ (by decide)⟩) := by
  refine Eq.trans (congrArg (V m c main_v45) (funext fun a => Fin.ext ?_ : _ = ix2 i j)) ((congrFun (V_v45 m c) _).trans (gainTab_apply _ i j))
  refine (Pipeline.Window.rect_emb_val (cfg0.win 4) t (ix2 i j) a).trans ?_
  match a with
  | ⟨0, _⟩ => show 0 * 2 + i.val = i.val; omega
  | ⟨1, _⟩ => show 0 * 512 + j.val = j.val; omega

theorem blk5_apply (c : Dev nD) (t : Fin cfg0.N) (k j : Fin 512) : iblk m c 5 t (ix2 k j) = diag k j := by
  refine Eq.trans (congrArg (V m c main_v54) (funext fun a => Fin.ext ?_ : _ = ix2 k j)) ((congrFun (V_v54 m c) _).trans (ones_apply k j))
  refine (Pipeline.Window.rect_emb_val (cfg0.win 5) t (ix2 k j) a).trans ?_
  match a with
  | ⟨0, _⟩ => show 0 * 512 + k.val = k.val; omega
  | ⟨1, _⟩ => show 0 * 512 + j.val = j.val; omega

/-- What point `t` writes to the unrotated keys. -/
def pt8 (c : Dev nD) (t : Fin cfg0.N) : S256x512.Idx → EReal := (outsAt0 m c t).2.2.1

theorem after8 (c : Dev nD) (t : Fin cfg0.N) : (dats m 0 c).after 8 t = pt8 m c t := after0_8 m c t

theorem pt8_eq (c : Dev nD) (t : Fin cfg0.N) :
    pt8 m c t = k0_pay6 (F := Ideal) (k0_pay1 (F := Ideal) (iblk m c 5 t)) (View.ld (X0_0 m c t : Vec Ideal S256x1024 .f32) (Rect.unit (s := S256x1024) ![0, 512] S256x512.size inb_S256x1024_S256x512_0_512))
      (View.ld (iblk m c 4 t : Vec Ideal S2x512 .f32) (Rect.unit (s := S2x512) ![1, 0] S1x512.size inb_S2x512_S1x512_1_0)) := by
  unfold pt8 outsAt0
  dsimp only
  exact out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (X0_0 m c t) (iblk m c 1 t) (iblk m c 2 t) (iblk m c 3 t) (iblk m c 4 t) (iblk m c 5 t)

theorem keys_apply (c : Dev nD) (t : Fin cfg0.N) (r : Fin 256) (j : Fin 512) :
    View.ld (X0_0 m c t : Vec Ideal S256x1024 .f32) (Rect.unit (s := S256x1024) ![0, 512] S256x512.size inb_S256x1024_S256x512_0_512) (ix2 r j) = zcOf m c (ix2 (tok t r) (keyCol j)) := by
  refine Eq.trans (congrArg (X0_0 m c t) (funext fun a => Fin.ext ?_ : _ = ix2 r (⟨512 + j.val, by have := j.isLt; omega⟩ : Fin 1024))) (blk0_apply m c t r _)
  match a with
  | ⟨0, _⟩ => show 0 + 1 * r.val = r.val; omega
  | ⟨1, _⟩ => show 512 + 1 * j.val = 512 + j.val; omega

theorem gain_apply (c : Dev nD) (t : Fin cfg0.N) (j : Fin 512) :
    View.ld (iblk m c 4 t : Vec Ideal S2x512 .f32) (Rect.unit (s := S2x512) ![1, 0] S1x512.size inb_S2x512_S1x512_1_0) (ix2 (0 : Fin 1) j)
      = gOf m c (ix2 (1 : Fin 2) ⟨j.val % 64, Nat.mod_lt _ (by decide)⟩) := by
  refine Eq.trans (congrArg (iblk m c 4 t) (funext fun a => Fin.ext ?_ : _ = ix2 (1 : Fin 2) j)) (blk4_apply m c t 1 j)
  match a with
  | ⟨0, _⟩ => rfl
  | ⟨1, _⟩ => show 0 + 1 * j.val = j.val; omega

/-- Every entry of the keys' columns is finite. -/
def Finite (c : Dev nD) : Prop := ∀ (n : Fin 8192) (j : Fin 512), zcOf m c (ix2 n (keyCol j)) ≠ ⊤ ∧ zcOf m c (ix2 n (keyCol j)) ≠ ⊥

theorem out8_apply (c : Dev nD) (hf : Finite m c) (t : Fin cfg0.N) (r : Fin 256) (j : Fin 512) : pt8 m c t (ix2 r j) = key (zcOf m c) (gOf m c) (tok t r) j := by
  rw [pt8_eq]
  refine (pay6_apply _ _ _ (blk5_apply m c t) r (fun k => ?_) j).trans ?_
  · rw [keys_apply]
    exact hf _ _
  · exact congrArg₂ (· * ·) (congrArg₂ (· * ·) (keys_apply m c t r j) (congrArg unitScale (funext fun k => keys_apply m c t r (inGroup j k)))) (gain_apply m c t j)

/-! ## The output array after the run -/

/-- The keys, before any rotation. -/
def keysOf (c : Dev nD) : S8192x512.Idx → EReal := fun i => key (zcOf m c) (gOf m c) (i 0) (i 1)

theorem cover8 (i : S8192x512.Idx) : ∃ t : Fin cfg0.N, (cfg0.win 8).flush t = true ∧ i ∈ ((cfg0.win 8).blk t).view.set := by
  have hi0 : (i 0).val < 8192 := (i 0).isLt
  have hi1 : (i 1).val < 512 := (i 1).isLt
  let t : Fin cfg0.N := ⟨(i 0).val / 256, lt_of_lt_of_eq (by omega : (i 0).val / 256 < 32) gridN.symm⟩
  refine ⟨t, flush0_8 t, (Pipeline.Window.emb_mem_blk_iff (cfg0.win 8) t i).mpr fun a => ?_⟩
  have e : (cfg0.win 8).index t a = (![t.val, 0] : Fin 2 → ℕ) a := tab8 t a
  rw [e]
  match a with
  | ⟨0, _⟩ =>
    show (i 0).val / 256 * 256 ≤ (i 0).val ∧ (i 0).val < (i 0).val / 256 * 256 + 256
    omega
  | ⟨1, _⟩ =>
    show 0 * 512 ≤ (i 1).val ∧ (i 1).val < 0 * 512 + 512
    omega

theorem pt8_at (c : Dev nD) (hf : Finite m c) (t : Fin cfg0.N) (y : S256x512.Idx) (x : S8192x512.Idx) (e : ∀ a : Fin 2, (x a).val = (![t.val, 0] : Fin 2 → ℕ) a * (cfg0.win 8).size a + (y a).val) :
    pt8 m c t y = keysOf m c x := by
  have hy : y = ix2 (y 0 : Fin 256) (y 1 : Fin 512) := eq_ix2 _
  refine ((congrArg (pt8 m c t) hy).trans (out8_apply m c hf t (y 0) (y 1))).trans ?_
  have q0 : tok t (y 0) = x 0 := Fin.ext (e 0).symm
  have q1 : (y 1 : Fin 512) = x 1 := Fin.ext (((e 1).trans (by show 0 * 512 + (y 1).val = (y 1).val; omega)).symm)
  unfold keysOf
  rw [← q0, ← q1]

theorem arr8 (c : Dev nD) (hf : Finite m c) : (dats m 0 c).arrAt 8 cfg0.N = keysOf m c := by
  refine (dats m 0 c).arrAt_eq_of_emb 8 (keysOf m c) (fun t _ (y : S256x512.Idx) => ?_) cover8
  rw [after8]
  refine (cast_eq _ _).trans ((congrArg (pt8 m c t) (funext fun a => Fin.ext rfl : _ = y)).trans (pt8_at m c hf t y (((cfg0.win 8).blk t).view.emb y) fun a => ?_))
  exact (Pipeline.Window.rect_emb_val (cfg0.win 8) t y a).trans (congrArg (fun z => z * (cfg0.win 8).size a + (y a).val) (tab8 t a))

end Cert.Keys

end
-- ==== Proof.OddPrepClaims.lean ====
/- The claims about the keys' call, from its run and the reference's. Hand-written. -/
module

public import proofs.«01_k».proof.Defs
public import proofs.«01_k».proof.Proof.OddPrepValue
public import proofs.«01_k».proof.Proof.Gen.OddPrep.Frame
public import proofs.«01_k».proof.Proof.Gen.Pre_keys_finite
public import Idealize.ShloMosaic.Lib.ReduceAll

@[expose] public section

set_option maxRecDepth 16384

noncomputable section

namespace Cert.Keys

open Idealize.ShloMosaic Idealize.ShloMosaic.TcCoe Idealize.ShloMosaic.ValueIdx
open Idealize.SL.Sem

theorem infinity : Ideal.ofBits .f32 0x7F800000#32 = ⊤ := by
  simp [Ideal.ofBits, Ideal.ieee]

theorem ofBool_one (b : Bool) (h : BitVec.ofBool b = 1#1) : b = true := by
  revert h
  cases b <;> decide

/-- What the precondition says of the keys' columns. -/
theorem finite_of_pre (zc zr : FVec Ideal Cert.Pre_keys_finite.S8192x1536 .f32) (g : FVec Ideal Cert.Pre_keys_finite.S2x64 .f32)
    (h : Cert.Pre_keys_finite.fn (F := Ideal) zc zr g = fun _ => 1#1) (n : Fin 8192) (j : Fin 512) :
    zc (ix2 n (keyCol j)) ≠ ⊤ ∧ zc (ix2 n (keyCol j)) ≠ ⊥ := by
  have e := congrFun h (fun a => a.elim0)
  have : Subsingleton Cert.Pre_keys_finite.S_.Idx := ⟨fun a b => funext fun i => i.elim0⟩
  have en := Host.reduce_andi_all _ _ _ _ _ e (ix2 n j)
  have es : extractStridedSlice Cert.Pre_keys_finite.S8192x512 ![0, 512] zc Cert.Pre_keys_finite.Gen.slices_S8192x1536_S8192x512_0_512 (ix2 n j) = zc (ix2 n (keyCol j)) :=
    extractStridedSlice_apply ![0, 512] _ _ (ix2 n j) (ix2 n (keyCol j)) fun a => by
      match a with
      | ⟨0, _⟩ => show n.val = 0 + n.val; omega
      | ⟨1, _⟩ => rfl
  have ec : BitVec.ofBool (decide (max (zc (ix2 n (keyCol j))) (-(zc (ix2 n (keyCol j)))) < ⊤)) = 1#1 := by
    rw [← es, ← infinity]
    exact en
  exact finite_of_abs _ (of_decide_eq_true (ofBool_one _ ec))

end Cert.Keys

namespace Cert.Proof

open Idealize.ShloMosaic Idealize.ShloMosaic.TcCoe Idealize.ShloMosaic.ValueIdx
open Idealize.SL.Sem
open Cert.Keys

theorem frame_oddPrep : Cert.quiescent_OddPrep := fun m ρ _ => Cert.OddPrep.Gen.frame m ρ

theorem frame_oddPrepIdeal : Cert.quiescent_OddPrepIdeal := fun m ρ _ => Cert.OddPrepIdeal.Gen.frame m ρ

theorem frame_oddPrepIdeal_keys_finite : Cert.quiescent_OddPrepIdeal_pre_keys_finite := fun m ρ _ => Cert.OddPrepIdeal.Gen.frame m ρ

theorem frame_oddPrepReference : Cert.quiescent_OddPrepReferenceIdeal := fun m ρ _ =>
  (θ_run Cert.OddPrepReferenceIdeal.defs _ _).mono (fun r h => ⟨fun c => (h c).2, sem_eq_zero_of_no_sems (by decide) r.2⟩)
    (Cert.OddPrepReferenceIdeal.Value.run (F := Ideal) m ρ)

theorem frame_oddPrepReference_keys_finite : Cert.quiescent_OddPrepReferenceIdeal_pre_keys_finite := fun m ρ _ => frame_oddPrepReference m ρ trivial

theorem algebraic_oddPrep : Cert.algebraic_OddPrepIdeal_OddPrepReferenceIdeal_pre_keys_finite := by
  intro m ρ m' ρ' hpre hagree
  have hf : ∀ c, Keys.Finite m c := fun c n j => finite_of_pre _ _ _ (hpre c) n j
  refine ⟨keysOf m,
    (θ_run Cert.OddPrepIdeal.defs _ _).mono (fun _ h c => ⟨(h c).2.2.1.trans (arr8 m c (hf c)), (h c).2.2.2.2⟩) (Cert.OddPrepIdeal.Value.run_blocks (F := Ideal) m ρ),
    (θ_run Cert.OddPrepReferenceIdeal.defs _ _).mono (fun r h c => ⟨(h c).1.trans ?_, (h c).2⟩) (Cert.OddPrepReferenceIdeal.Value.run (F := Ideal) m' ρ')⟩
  obtain ⟨e0, e1, e2⟩ := hagree c
  rw [e0, e2]
  refine funext fun (i : Cert.OddPrepIdeal.S8192x512.Idx) => ?_
  exact (congrArg (Keys.Ref.out (zcOf m c) (gOf m c)) (eq_ix2 i)).trans (Keys.Ref.out_apply (zcOf m c) (gOf m c) (i 0) (i 1))

end Cert.Proof

end
-- ==== Proof.lean ====
module

public import proofs.«01_k».proof.Defs
public import proofs.«01_k».proof.Proof.Claims
public import proofs.«01_k».proof.Proof.ExpertsClaims
public import proofs.«01_k».proof.Proof.InProjClaims
public import proofs.«01_k».proof.Proof.OddPrepClaims
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Loops
public import proofs.«01_k».proof.Proof.Gen.ExpertsReferenceIdeal
public import proofs.«01_k».proof.Proof.Gen.ExpertsReferenceIdeal.Run
public import proofs.«01_k».proof.Proof.Gen.Pre_tiles_ok
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.OddPrep
public import proofs.«01_k».proof.Proof.Gen.OddPrep.Frame
public import proofs.«01_k».proof.Proof.Gen.OddPrepIdeal
public import proofs.«01_k».proof.Proof.Gen.OddPrepIdeal.Frame
public import proofs.«01_k».proof.Proof.Gen.OddPrepIdeal.Value
public import proofs.«01_k».proof.Proof.Gen.OddPrepReferenceIdeal
public import proofs.«01_k».proof.Proof.Gen.OddPrepReferenceIdeal.Run
public import proofs.«01_k».proof.Proof.Gen.Pre_keys_finite

@[expose] public section

theorem Cert.Proof.claim : Cert.Claim :=
  ⟨Cert.Kernel.Gen.facts, Cert.KernelIdeal.Gen.facts, Cert.ReferenceIdeal.Gen.facts, Cert.Experts.Gen.facts, Cert.ExpertsIdeal.Gen.facts, Cert.ExpertsReferenceIdeal.Gen.facts,
    Cert.InProj.Gen.facts, Cert.InProjIdeal.Gen.facts, Cert.InProjReferenceIdeal.Gen.facts,
    Cert.OddPrep.Gen.facts, Cert.OddPrepIdeal.Gen.facts, Cert.OddPrepReferenceIdeal.Gen.facts, Cert.Pre_in_range.Gen.facts, Cert.Pre_tiles_ok.Gen.facts, Cert.Pre_keys_finite.Gen.facts,
    frame_kernel, frame_kernelIdeal, frame_reference, frame_reference_in_range, frame_experts, frame_expertsIdeal, frame_expertsReference, frame_expertsReference_tiles_ok,
    frame_inProj, frame_inProjIdeal, frame_inProjReference,
    frame_oddPrep, frame_oddPrepIdeal, frame_oddPrepIdeal_keys_finite, frame_oddPrepReference, frame_oddPrepReference_keys_finite,
    trivial, algebraic, trivial, algebraic_experts, trivial, algebraic_inProj, trivial, algebraic_oddPrep⟩

end
